-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_finite_swiglu [hPre_finite_swiglu : Cert.Pre_finite_swiglu.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.1 = (fun _ => 1#1)
    ∧ (Cert.Pre_finite_swiglu.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3))).2.2 = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_finite_swiglu [hPre_finite_swiglu : Cert.Pre_finite_swiglu.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.1 = (fun _ => 1#1)
    ∧ (Cert.Pre_finite_swiglu.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))).2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))).2.2 = (fun _ => 1#1)

def Pre_Mixnorm (m : (ℓ : Loc Cert.Mixnorm.nD Cert.Mixnorm.τ Cert.Mixnorm.sig) → Buf (Elt Bits) ℓ) : Prop :=
  True

def Pre_MixnormIdeal (m : (ℓ : Loc Cert.MixnormIdeal.nD Cert.MixnormIdeal.τ Cert.MixnormIdeal.sig) → Buf (Elt Ideal) ℓ) : Prop :=
  True

def Pre_MixnormIdeal_finite_mixnorm [hPre_finite_mixnorm : Cert.Pre_finite_mixnorm.Facts] (m : (ℓ : Loc Cert.MixnormIdeal.nD Cert.MixnormIdeal.τ Cert.MixnormIdeal.sig) → Buf (Elt Ideal) ℓ) : Prop :=
  ∀ c : Dev Cert.MixnormIdeal.nD,
    (Cert.Pre_finite_mixnorm.fn (F := Ideal) (m ((c.tc : Thread Cert.MixnormIdeal.nD Cert.MixnormIdeal.τ).loc Cert.MixnormIdeal.main_arg0)) (m ((c.tc : Thread Cert.MixnormIdeal.nD Cert.MixnormIdeal.τ).loc Cert.MixnormIdeal.main_arg1)) (m ((c.tc : Thread Cert.MixnormIdeal.nD Cert.MixnormIdeal.τ).loc Cert.MixnormIdeal.main_arg2)) (m ((c.tc : Thread Cert.MixnormIdeal.nD Cert.MixnormIdeal.τ).loc Cert.MixnormIdeal.main_arg3))).1 = (fun _ => 1#1)
    ∧ (Cert.Pre_finite_mixnorm.fn (F := Ideal) (m ((c.tc : Thread Cert.MixnormIdeal.nD Cert.MixnormIdeal.τ).loc Cert.MixnormIdeal.main_arg0)) (m ((c.tc : Thread Cert.MixnormIdeal.nD Cert.MixnormIdeal.τ).loc Cert.MixnormIdeal.main_arg1)) (m ((c.tc : Thread Cert.MixnormIdeal.nD Cert.MixnormIdeal.τ).loc Cert.MixnormIdeal.main_arg2)) (m ((c.tc : Thread Cert.MixnormIdeal.nD Cert.MixnormIdeal.τ).loc Cert.MixnormIdeal.main_arg3))).2.1 = (fun _ => 1#1)
    ∧ (Cert.Pre_finite_mixnorm.fn (F := Ideal) (m ((c.tc : Thread Cert.MixnormIdeal.nD Cert.MixnormIdeal.τ).loc Cert.MixnormIdeal.main_arg0)) (m ((c.tc : Thread Cert.MixnormIdeal.nD Cert.MixnormIdeal.τ).loc Cert.MixnormIdeal.main_arg1)) (m ((c.tc : Thread Cert.MixnormIdeal.nD Cert.MixnormIdeal.τ).loc Cert.MixnormIdeal.main_arg2)) (m ((c.tc : Thread Cert.MixnormIdeal.nD Cert.MixnormIdeal.τ).loc Cert.MixnormIdeal.main_arg3))).2.2 = (fun _ => 1#1)

def Pre_MixnormRefIdeal (m : (ℓ : Loc Cert.MixnormRefIdeal.nD Cert.MixnormRefIdeal.τ Cert.MixnormRefIdeal.sig) → Buf (Elt Ideal) ℓ) : Prop :=
  True

def Pre_MixnormRefIdeal_finite_mixnorm [hPre_finite_mixnorm : Cert.Pre_finite_mixnorm.Facts] (m : (ℓ : Loc Cert.MixnormRefIdeal.nD Cert.MixnormRefIdeal.τ Cert.MixnormRefIdeal.sig) → Buf (Elt Ideal) ℓ) : Prop :=
  ∀ c : Dev Cert.MixnormRefIdeal.nD,
    (Cert.Pre_finite_mixnorm.fn (F := Ideal) (m ((c.tc : Thread Cert.MixnormRefIdeal.nD Cert.MixnormRefIdeal.τ).loc Cert.MixnormRefIdeal.main_arg0)) (m ((c.tc : Thread Cert.MixnormRefIdeal.nD Cert.MixnormRefIdeal.τ).loc Cert.MixnormRefIdeal.main_arg1)) (m ((c.tc : Thread Cert.MixnormRefIdeal.nD Cert.MixnormRefIdeal.τ).loc Cert.MixnormRefIdeal.main_arg2)) (m ((c.tc : Thread Cert.MixnormRefIdeal.nD Cert.MixnormRefIdeal.τ).loc Cert.MixnormRefIdeal.main_arg3))).1 = (fun _ => 1#1)
    ∧ (Cert.Pre_finite_mixnorm.fn (F := Ideal) (m ((c.tc : Thread Cert.MixnormRefIdeal.nD Cert.MixnormRefIdeal.τ).loc Cert.MixnormRefIdeal.main_arg0)) (m ((c.tc : Thread Cert.MixnormRefIdeal.nD Cert.MixnormRefIdeal.τ).loc Cert.MixnormRefIdeal.main_arg1)) (m ((c.tc : Thread Cert.MixnormRefIdeal.nD Cert.MixnormRefIdeal.τ).loc Cert.MixnormRefIdeal.main_arg2)) (m ((c.tc : Thread Cert.MixnormRefIdeal.nD Cert.MixnormRefIdeal.τ).loc Cert.MixnormRefIdeal.main_arg3))).2.1 = (fun _ => 1#1)
    ∧ (Cert.Pre_finite_mixnorm.fn (F := Ideal) (m ((c.tc : Thread Cert.MixnormRefIdeal.nD Cert.MixnormRefIdeal.τ).loc Cert.MixnormRefIdeal.main_arg0)) (m ((c.tc : Thread Cert.MixnormRefIdeal.nD Cert.MixnormRefIdeal.τ).loc Cert.MixnormRefIdeal.main_arg1)) (m ((c.tc : Thread Cert.MixnormRefIdeal.nD Cert.MixnormRefIdeal.τ).loc Cert.MixnormRefIdeal.main_arg2)) (m ((c.tc : Thread Cert.MixnormRefIdeal.nD Cert.MixnormRefIdeal.τ).loc Cert.MixnormRefIdeal.main_arg3))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfIdeal_finite_attnf [hPre_finite_attnf : Cert.Pre_finite_attnf.Facts] (m : (ℓ : Loc Cert.AttnfIdeal.nD Cert.AttnfIdeal.τ Cert.AttnfIdeal.sig) → Buf (Elt Ideal) ℓ) : Prop :=
  ∀ c : Dev Cert.AttnfIdeal.nD,
    (Cert.Pre_finite_attnf.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1))).1 = (fun _ => 1#1)
    ∧ (Cert.Pre_finite_attnf.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1))).2 = (fun _ => 1#1)

def Pre_AttnfRefIdeal (m : (ℓ : Loc Cert.AttnfRefIdeal.nD Cert.AttnfRefIdeal.τ Cert.AttnfRefIdeal.sig) → Buf (Elt Ideal) ℓ) : Prop :=
  True

def Pre_AttnfRefIdeal_finite_attnf [hPre_finite_attnf : Cert.Pre_finite_attnf.Facts] (m : (ℓ : Loc Cert.AttnfRefIdeal.nD Cert.AttnfRefIdeal.τ Cert.AttnfRefIdeal.sig) → Buf (Elt Ideal) ℓ) : Prop :=
  ∀ c : Dev Cert.AttnfRefIdeal.nD,
    (Cert.Pre_finite_attnf.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1))).1 = (fun _ => 1#1)
    ∧ (Cert.Pre_finite_attnf.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1))).2 = (fun _ => 1#1)

def Pre_Convf (m : (ℓ : Loc Cert.Convf.nD Cert.Convf.τ Cert.Convf.sig) → Buf (Elt Bits) ℓ) : Prop :=
  True

def Pre_ConvfIdeal (m : (ℓ : Loc Cert.ConvfIdeal.nD Cert.ConvfIdeal.τ Cert.ConvfIdeal.sig) → Buf (Elt Ideal) ℓ) : Prop :=
  True

def Pre_ConvfRefIdeal (m : (ℓ : Loc Cert.ConvfRefIdeal.nD Cert.ConvfRefIdeal.τ Cert.ConvfRefIdeal.sig) → Buf (Elt Ideal) ℓ) : Prop :=
  True

def Pre_Mergef (m : (ℓ : Loc Cert.Mergef.nD Cert.Mergef.τ Cert.Mergef.sig) → Buf (Elt Bits) ℓ) : Prop :=
  True

def Pre_MergefIdeal (m : (ℓ : Loc Cert.MergefIdeal.nD Cert.MergefIdeal.τ Cert.MergefIdeal.sig) → Buf (Elt Ideal) ℓ) : Prop :=
  True

def Pre_MergefRefIdeal (m : (ℓ : Loc Cert.MergefRefIdeal.nD Cert.MergefRefIdeal.τ Cert.MergefRefIdeal.sig) → Buf (Elt Ideal) ℓ) : Prop :=
  True

def Pre_Swigluf (m : (ℓ : Loc Cert.Swigluf.nD Cert.Swigluf.τ Cert.Swigluf.sig) → Buf (Elt Bits) ℓ) : Prop :=
  True

def Pre_SwiglufIdeal (m : (ℓ : Loc Cert.SwiglufIdeal.nD Cert.SwiglufIdeal.τ Cert.SwiglufIdeal.sig) → Buf (Elt Ideal) ℓ) : Prop :=
  True

def Pre_SwiglufRefIdeal (m : (ℓ : Loc Cert.SwiglufRefIdeal.nD Cert.SwiglufRefIdeal.τ Cert.SwiglufRefIdeal.sig) → Buf (Elt Ideal) ℓ) : Prop :=
  True

def Pre_Normf (m : (ℓ : Loc Cert.Normf.nD Cert.Normf.τ Cert.Normf.sig) → Buf (Elt Bits) ℓ) : Prop :=
  True

def Pre_NormfIdeal (m : (ℓ : Loc Cert.NormfIdeal.nD Cert.NormfIdeal.τ Cert.NormfIdeal.sig) → Buf (Elt Ideal) ℓ) : Prop :=
  True

def Pre_NormfRefIdeal (m : (ℓ : Loc Cert.NormfRefIdeal.nD Cert.NormfRefIdeal.τ Cert.NormfRefIdeal.sig) → Buf (Elt Ideal) ℓ) : Prop :=
  True

def Pre_Outnorm (m : (ℓ : Loc Cert.Outnorm.nD Cert.Outnorm.τ Cert.Outnorm.sig) → Buf (Elt Bits) ℓ) : Prop :=
  True

def Pre_OutnormIdeal (m : (ℓ : Loc Cert.OutnormIdeal.nD Cert.OutnormIdeal.τ Cert.OutnormIdeal.sig) → Buf (Elt Ideal) ℓ) : Prop :=
  True

def Pre_OutnormRefIdeal (m : (ℓ : Loc Cert.OutnormRefIdeal.nD Cert.OutnormRefIdeal.τ Cert.OutnormRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wgateup (m : (ℓ : Loc Cert.Wgateup.nD Cert.Wgateup.τ Cert.Wgateup.sig) → Buf (Elt Bits) ℓ) : Prop :=
  True

def Pre_WgateupIdeal (m : (ℓ : Loc Cert.WgateupIdeal.nD Cert.WgateupIdeal.τ Cert.WgateupIdeal.sig) → Buf (Elt Ideal) ℓ) : Prop :=
  True

def Pre_WgateupRefIdeal (m : (ℓ : Loc Cert.WgateupRefIdeal.nD Cert.WgateupRefIdeal.τ Cert.WgateupRefIdeal.sig) → Buf (Elt Ideal) ℓ) : Prop :=
  True

def Pre_Hin (m : (ℓ : Loc Cert.Hin.nD Cert.Hin.τ Cert.Hin.sig) → Buf (Elt Bits) ℓ) : Prop :=
  True

def Pre_HinIdeal (m : (ℓ : Loc Cert.HinIdeal.nD Cert.HinIdeal.τ Cert.HinIdeal.sig) → Buf (Elt Ideal) ℓ) : Prop :=
  True

def Pre_HinRefIdeal (m : (ℓ : Loc Cert.HinRefIdeal.nD Cert.HinRefIdeal.τ Cert.HinRefIdeal.sig) → Buf (Elt Ideal) ℓ) : Prop :=
  True

def Pre_Hgateup (m : (ℓ : Loc Cert.Hgateup.nD Cert.Hgateup.τ Cert.Hgateup.sig) → Buf (Elt Bits) ℓ) : Prop :=
  True

def Pre_HgateupIdeal (m : (ℓ : Loc Cert.HgateupIdeal.nD Cert.HgateupIdeal.τ Cert.HgateupIdeal.sig) → Buf (Elt Ideal) ℓ) : Prop :=
  True

def Pre_HgateupRefIdeal (m : (ℓ : Loc Cert.HgateupRefIdeal.nD Cert.HgateupRefIdeal.τ Cert.HgateupRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Ssum (m : (ℓ : Loc Cert.Ssum.nD Cert.Ssum.τ Cert.Ssum.sig) → Buf (Elt Bits) ℓ) : Prop :=
  True

def Pre_SsumIdeal (m : (ℓ : Loc Cert.SsumIdeal.nD Cert.SsumIdeal.τ Cert.SsumIdeal.sig) → Buf (Elt Ideal) ℓ) : Prop :=
  True

def Pre_SsumRefIdeal (m : (ℓ : Loc Cert.SsumRefIdeal.nD Cert.SsumRefIdeal.τ Cert.SsumRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluIdeal_pre_finite_swiglu [hSwigluIdeal : Cert.SwigluIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_finite_swiglu m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_SwigluRefIdeal_pre_finite_swiglu [hSwigluRefIdeal : Cert.SwigluRefIdeal.Facts] [hPre_finite_swiglu : Cert.Pre_finite_swiglu.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_finite_swiglu m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Mixnorm [hMixnorm : Cert.Mixnorm.Facts] : Prop :=
  ∀ (m : (ℓ : Loc Cert.Mixnorm.nD Cert.Mixnorm.τ Cert.Mixnorm.sig) → Buf (Elt Bits) ℓ) (g : Dev Cert.Mixnorm.nD → PrngReg), Pre_Mixnorm m →
    θ_run (Cert.Mixnorm.defs (F := Bits)) (onTc (τ := Cert.Mixnorm.τ) (Cert.Mixnorm.main (F := Bits))) ⟨m, fun _ => 0, g⟩ (fun r => (∀ c : Dev Cert.Mixnorm.nD,
      r.2.mem ((c.tc : Thread Cert.Mixnorm.nD Cert.Mixnorm.τ).loc Cert.Mixnorm.main_arg0) = m ((c.tc : Thread Cert.Mixnorm.nD Cert.Mixnorm.τ).loc Cert.Mixnorm.main_arg0)
      ∧ r.2.mem ((c.tc : Thread Cert.Mixnorm.nD Cert.Mixnorm.τ).loc Cert.Mixnorm.main_arg1) = m ((c.tc : Thread Cert.Mixnorm.nD Cert.Mixnorm.τ).loc Cert.Mixnorm.main_arg1)
      ∧ r.2.mem ((c.tc : Thread Cert.Mixnorm.nD Cert.Mixnorm.τ).loc Cert.Mixnorm.main_arg2) = m ((c.tc : Thread Cert.Mixnorm.nD Cert.Mixnorm.τ).loc Cert.Mixnorm.main_arg2)
      ∧ r.2.mem ((c.tc : Thread Cert.Mixnorm.nD Cert.Mixnorm.τ).loc Cert.Mixnorm.main_arg3) = m ((c.tc : Thread Cert.Mixnorm.nD Cert.Mixnorm.τ).loc Cert.Mixnorm.main_arg3))
      ∧ r.2.sem = fun _ => 0)

def quiescent_MixnormIdeal [hMixnormIdeal : Cert.MixnormIdeal.Facts] : Prop :=
  ∀ (m : (ℓ : Loc Cert.MixnormIdeal.nD Cert.MixnormIdeal.τ Cert.MixnormIdeal.sig) → Buf (Elt Ideal) ℓ) (g : Dev Cert.MixnormIdeal.nD → PrngReg), Pre_MixnormIdeal m →
    θ_run (Cert.MixnormIdeal.defs (F := Ideal)) (onTc (τ := Cert.MixnormIdeal.τ) (Cert.MixnormIdeal.main (F := Ideal))) ⟨m, fun _ => 0, g⟩ (fun r => (∀ c : Dev Cert.MixnormIdeal.nD,
      r.2.mem ((c.tc : Thread Cert.MixnormIdeal.nD Cert.MixnormIdeal.τ).loc Cert.MixnormIdeal.main_arg0) = m ((c.tc : Thread Cert.MixnormIdeal.nD Cert.MixnormIdeal.τ).loc Cert.MixnormIdeal.main_arg0)
      ∧ r.2.mem ((c.tc : Thread Cert.MixnormIdeal.nD Cert.MixnormIdeal.τ).loc Cert.MixnormIdeal.main_arg1) = m ((c.tc : Thread Cert.MixnormIdeal.nD Cert.MixnormIdeal.τ).loc Cert.MixnormIdeal.main_arg1)
      ∧ r.2.mem ((c.tc : Thread Cert.MixnormIdeal.nD Cert.MixnormIdeal.τ).loc Cert.MixnormIdeal.main_arg2) = m ((c.tc : Thread Cert.MixnormIdeal.nD Cert.MixnormIdeal.τ).loc Cert.MixnormIdeal.main_arg2)
      ∧ r.2.mem ((c.tc : Thread Cert.MixnormIdeal.nD Cert.MixnormIdeal.τ).loc Cert.MixnormIdeal.main_arg3) = m ((c.tc : Thread Cert.MixnormIdeal.nD Cert.MixnormIdeal.τ).loc Cert.MixnormIdeal.main_arg3))
      ∧ r.2.sem = fun _ => 0)

def quiescent_MixnormIdeal_pre_finite_mixnorm [hMixnormIdeal : Cert.MixnormIdeal.Facts] [hPre_finite_mixnorm : Cert.Pre_finite_mixnorm.Facts] : Prop :=
  ∀ (m : (ℓ : Loc Cert.MixnormIdeal.nD Cert.MixnormIdeal.τ Cert.MixnormIdeal.sig) → Buf (Elt Ideal) ℓ) (g : Dev Cert.MixnormIdeal.nD → PrngReg), Pre_MixnormIdeal_finite_mixnorm m →
    θ_run (Cert.MixnormIdeal.defs (F := Ideal)) (onTc (τ := Cert.MixnormIdeal.τ) (Cert.MixnormIdeal.main (F := Ideal))) ⟨m, fun _ => 0, g⟩ (fun r => (∀ c : Dev Cert.MixnormIdeal.nD,
      r.2.mem ((c.tc : Thread Cert.MixnormIdeal.nD Cert.MixnormIdeal.τ).loc Cert.MixnormIdeal.main_arg0) = m ((c.tc : Thread Cert.MixnormIdeal.nD Cert.MixnormIdeal.τ).loc Cert.MixnormIdeal.main_arg0)
      ∧ r.2.mem ((c.tc : Thread Cert.MixnormIdeal.nD Cert.MixnormIdeal.τ).loc Cert.MixnormIdeal.main_arg1) = m ((c.tc : Thread Cert.MixnormIdeal.nD Cert.MixnormIdeal.τ).loc Cert.MixnormIdeal.main_arg1)
      ∧ r.2.mem ((c.tc : Thread Cert.MixnormIdeal.nD Cert.MixnormIdeal.τ).loc Cert.MixnormIdeal.main_arg2) = m ((c.tc : Thread Cert.MixnormIdeal.nD Cert.MixnormIdeal.τ).loc Cert.MixnormIdeal.main_arg2)
      ∧ r.2.mem ((c.tc : Thread Cert.MixnormIdeal.nD Cert.MixnormIdeal.τ).loc Cert.MixnormIdeal.main_arg3) = m ((c.tc : Thread Cert.MixnormIdeal.nD Cert.MixnormIdeal.τ).loc Cert.MixnormIdeal.main_arg3))
      ∧ r.2.sem = fun _ => 0)

def quiescent_MixnormRefIdeal [hMixnormRefIdeal : Cert.MixnormRefIdeal.Facts] : Prop :=
  ∀ (m : (ℓ : Loc Cert.MixnormRefIdeal.nD Cert.MixnormRefIdeal.τ Cert.MixnormRefIdeal.sig) → Buf (Elt Ideal) ℓ) (g : Dev Cert.MixnormRefIdeal.nD → PrngReg), Pre_MixnormRefIdeal m →
    θ_run (Cert.MixnormRefIdeal.defs (F := Ideal)) (onTc (τ := Cert.MixnormRefIdeal.τ) (Cert.MixnormRefIdeal.main (F := Ideal))) ⟨m, fun _ => 0, g⟩ (fun r => (∀ c : Dev Cert.MixnormRefIdeal.nD,
      r.2.mem ((c.tc : Thread Cert.MixnormRefIdeal.nD Cert.MixnormRefIdeal.τ).loc Cert.MixnormRefIdeal.main_arg0) = m ((c.tc : Thread Cert.MixnormRefIdeal.nD Cert.MixnormRefIdeal.τ).loc Cert.MixnormRefIdeal.main_arg0)
      ∧ r.2.mem ((c.tc : Thread Cert.MixnormRefIdeal.nD Cert.MixnormRefIdeal.τ).loc Cert.MixnormRefIdeal.main_arg1) = m ((c.tc : Thread Cert.MixnormRefIdeal.nD Cert.MixnormRefIdeal.τ).loc Cert.MixnormRefIdeal.main_arg1)
      ∧ r.2.mem ((c.tc : Thread Cert.MixnormRefIdeal.nD Cert.MixnormRefIdeal.τ).loc Cert.MixnormRefIdeal.main_arg2) = m ((c.tc : Thread Cert.MixnormRefIdeal.nD Cert.MixnormRefIdeal.τ).loc Cert.MixnormRefIdeal.main_arg2)
      ∧ r.2.mem ((c.tc : Thread Cert.MixnormRefIdeal.nD Cert.MixnormRefIdeal.τ).loc Cert.MixnormRefIdeal.main_arg3) = m ((c.tc : Thread Cert.MixnormRefIdeal.nD Cert.MixnormRefIdeal.τ).loc Cert.MixnormRefIdeal.main_arg3))
      ∧ r.2.sem = fun _ => 0)

def quiescent_MixnormRefIdeal_pre_finite_mixnorm [hMixnormRefIdeal : Cert.MixnormRefIdeal.Facts] [hPre_finite_mixnorm : Cert.Pre_finite_mixnorm.Facts] : Prop :=
  ∀ (m : (ℓ : Loc Cert.MixnormRefIdeal.nD Cert.MixnormRefIdeal.τ Cert.MixnormRefIdeal.sig) → Buf (Elt Ideal) ℓ) (g : Dev Cert.MixnormRefIdeal.nD → PrngReg), Pre_MixnormRefIdeal_finite_mixnorm m →
    θ_run (Cert.MixnormRefIdeal.defs (F := Ideal)) (onTc (τ := Cert.MixnormRefIdeal.τ) (Cert.MixnormRefIdeal.main (F := Ideal))) ⟨m, fun _ => 0, g⟩ (fun r => (∀ c : Dev Cert.MixnormRefIdeal.nD,
      r.2.mem ((c.tc : Thread Cert.MixnormRefIdeal.nD Cert.MixnormRefIdeal.τ).loc Cert.MixnormRefIdeal.main_arg0) = m ((c.tc : Thread Cert.MixnormRefIdeal.nD Cert.MixnormRefIdeal.τ).loc Cert.MixnormRefIdeal.main_arg0)
      ∧ r.2.mem ((c.tc : Thread Cert.MixnormRefIdeal.nD Cert.MixnormRefIdeal.τ).loc Cert.MixnormRefIdeal.main_arg1) = m ((c.tc : Thread Cert.MixnormRefIdeal.nD Cert.MixnormRefIdeal.τ).loc Cert.MixnormRefIdeal.main_arg1)
      ∧ r.2.mem ((c.tc : Thread Cert.MixnormRefIdeal.nD Cert.MixnormRefIdeal.τ).loc Cert.MixnormRefIdeal.main_arg2) = m ((c.tc : Thread Cert.MixnormRefIdeal.nD Cert.MixnormRefIdeal.τ).loc Cert.MixnormRefIdeal.main_arg2)
      ∧ r.2.mem ((c.tc : Thread Cert.MixnormRefIdeal.nD Cert.MixnormRefIdeal.τ).loc Cert.MixnormRefIdeal.main_arg3) = m ((c.tc : Thread Cert.MixnormRefIdeal.nD Cert.MixnormRefIdeal.τ).loc Cert.MixnormRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ r.2.sem = fun _ => 0)

def quiescent_AttnfIdeal_pre_finite_attnf [hAttnfIdeal : Cert.AttnfIdeal.Facts] [hPre_finite_attnf : Cert.Pre_finite_attnf.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal_finite_attnf m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1))
      ∧ r.2.sem = fun _ => 0)

def quiescent_AttnfRefIdeal_pre_finite_attnf [hAttnfRefIdeal : Cert.AttnfRefIdeal.Facts] [hPre_finite_attnf : Cert.Pre_finite_attnf.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal_finite_attnf m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1))
      ∧ r.2.sem = fun _ => 0)

def quiescent_Convf [hConvf : Cert.Convf.Facts] : Prop :=
  ∀ (m : (ℓ : Loc Cert.Convf.nD Cert.Convf.τ Cert.Convf.sig) → Buf (Elt Bits) ℓ) (g : Dev Cert.Convf.nD → PrngReg), Pre_Convf m →
    θ_run (Cert.Convf.defs (F := Bits)) (onTc (τ := Cert.Convf.τ) (Cert.Convf.main (F := Bits))) ⟨m, fun _ => 0, g⟩ (fun r => (∀ c : Dev Cert.Convf.nD,
      r.2.mem ((c.tc : Thread Cert.Convf.nD Cert.Convf.τ).loc Cert.Convf.main_arg0) = m ((c.tc : Thread Cert.Convf.nD Cert.Convf.τ).loc Cert.Convf.main_arg0)
      ∧ r.2.mem ((c.tc : Thread Cert.Convf.nD Cert.Convf.τ).loc Cert.Convf.main_arg1) = m ((c.tc : Thread Cert.Convf.nD Cert.Convf.τ).loc Cert.Convf.main_arg1))
      ∧ r.2.sem = fun _ => 0)

def quiescent_ConvfIdeal [hConvfIdeal : Cert.ConvfIdeal.Facts] : Prop :=
  ∀ (m : (ℓ : Loc Cert.ConvfIdeal.nD Cert.ConvfIdeal.τ Cert.ConvfIdeal.sig) → Buf (Elt Ideal) ℓ) (g : Dev Cert.ConvfIdeal.nD → PrngReg), Pre_ConvfIdeal m →
    θ_run (Cert.ConvfIdeal.defs (F := Ideal)) (onTc (τ := Cert.ConvfIdeal.τ) (Cert.ConvfIdeal.main (F := Ideal))) ⟨m, fun _ => 0, g⟩ (fun r => (∀ c : Dev Cert.ConvfIdeal.nD,
      r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
      ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1))
      ∧ r.2.sem = fun _ => 0)

def quiescent_ConvfRefIdeal [hConvfRefIdeal : Cert.ConvfRefIdeal.Facts] : Prop :=
  ∀ (m : (ℓ : Loc Cert.ConvfRefIdeal.nD Cert.ConvfRefIdeal.τ Cert.ConvfRefIdeal.sig) → Buf (Elt Ideal) ℓ) (g : Dev Cert.ConvfRefIdeal.nD → PrngReg), Pre_ConvfRefIdeal m →
    θ_run (Cert.ConvfRefIdeal.defs (F := Ideal)) (onTc (τ := Cert.ConvfRefIdeal.τ) (Cert.ConvfRefIdeal.main (F := Ideal))) ⟨m, fun _ => 0, g⟩ (fun r => (∀ c : Dev Cert.ConvfRefIdeal.nD,
      r.2.mem ((c.tc : Thread Cert.ConvfRefIdeal.nD Cert.ConvfRefIdeal.τ).loc Cert.ConvfRefIdeal.main_arg0) = m ((c.tc : Thread Cert.ConvfRefIdeal.nD Cert.ConvfRefIdeal.τ).loc Cert.ConvfRefIdeal.main_arg0)
      ∧ r.2.mem ((c.tc : Thread Cert.ConvfRefIdeal.nD Cert.ConvfRefIdeal.τ).loc Cert.ConvfRefIdeal.main_arg1) = m ((c.tc : Thread Cert.ConvfRefIdeal.nD Cert.ConvfRefIdeal.τ).loc Cert.ConvfRefIdeal.main_arg1))
      ∧ r.2.sem = fun _ => 0)

def quiescent_Mergef [hMergef : Cert.Mergef.Facts] : Prop :=
  ∀ (m : (ℓ : Loc Cert.Mergef.nD Cert.Mergef.τ Cert.Mergef.sig) → Buf (Elt Bits) ℓ) (g : Dev Cert.Mergef.nD → PrngReg), Pre_Mergef m →
    θ_run (Cert.Mergef.defs (F := Bits)) (onTc (τ := Cert.Mergef.τ) (Cert.Mergef.main (F := Bits))) ⟨m, fun _ => 0, g⟩ (fun r => (∀ c : Dev Cert.Mergef.nD,
      r.2.mem ((c.tc : Thread Cert.Mergef.nD Cert.Mergef.τ).loc Cert.Mergef.main_arg0) = m ((c.tc : Thread Cert.Mergef.nD Cert.Mergef.τ).loc Cert.Mergef.main_arg0)
      ∧ r.2.mem ((c.tc : Thread Cert.Mergef.nD Cert.Mergef.τ).loc Cert.Mergef.main_arg1) = m ((c.tc : Thread Cert.Mergef.nD Cert.Mergef.τ).loc Cert.Mergef.main_arg1)
      ∧ r.2.mem ((c.tc : Thread Cert.Mergef.nD Cert.Mergef.τ).loc Cert.Mergef.main_arg2) = m ((c.tc : Thread Cert.Mergef.nD Cert.Mergef.τ).loc Cert.Mergef.main_arg2)
      ∧ r.2.mem ((c.tc : Thread Cert.Mergef.nD Cert.Mergef.τ).loc Cert.Mergef.main_arg3) = m ((c.tc : Thread Cert.Mergef.nD Cert.Mergef.τ).loc Cert.Mergef.main_arg3)
      ∧ r.2.mem ((c.tc : Thread Cert.Mergef.nD Cert.Mergef.τ).loc Cert.Mergef.main_arg4) = m ((c.tc : Thread Cert.Mergef.nD Cert.Mergef.τ).loc Cert.Mergef.main_arg4))
      ∧ r.2.sem = fun _ => 0)

def quiescent_MergefIdeal [hMergefIdeal : Cert.MergefIdeal.Facts] : Prop :=
  ∀ (m : (ℓ : Loc Cert.MergefIdeal.nD Cert.MergefIdeal.τ Cert.MergefIdeal.sig) → Buf (Elt Ideal) ℓ) (g : Dev Cert.MergefIdeal.nD → PrngReg), Pre_MergefIdeal m →
    θ_run (Cert.MergefIdeal.defs (F := Ideal)) (onTc (τ := Cert.MergefIdeal.τ) (Cert.MergefIdeal.main (F := Ideal))) ⟨m, fun _ => 0, g⟩ (fun r => (∀ c : Dev Cert.MergefIdeal.nD,
      r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
      ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
      ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
      ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
      ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4))
      ∧ r.2.sem = fun _ => 0)

def quiescent_MergefRefIdeal [hMergefRefIdeal : Cert.MergefRefIdeal.Facts] : Prop :=
  ∀ (m : (ℓ : Loc Cert.MergefRefIdeal.nD Cert.MergefRefIdeal.τ Cert.MergefRefIdeal.sig) → Buf (Elt Ideal) ℓ) (g : Dev Cert.MergefRefIdeal.nD → PrngReg), Pre_MergefRefIdeal m →
    θ_run (Cert.MergefRefIdeal.defs (F := Ideal)) (onTc (τ := Cert.MergefRefIdeal.τ) (Cert.MergefRefIdeal.main (F := Ideal))) ⟨m, fun _ => 0, g⟩ (fun r => (∀ c : Dev Cert.MergefRefIdeal.nD,
      r.2.mem ((c.tc : Thread Cert.MergefRefIdeal.nD Cert.MergefRefIdeal.τ).loc Cert.MergefRefIdeal.main_arg0) = m ((c.tc : Thread Cert.MergefRefIdeal.nD Cert.MergefRefIdeal.τ).loc Cert.MergefRefIdeal.main_arg0)
      ∧ r.2.mem ((c.tc : Thread Cert.MergefRefIdeal.nD Cert.MergefRefIdeal.τ).loc Cert.MergefRefIdeal.main_arg1) = m ((c.tc : Thread Cert.MergefRefIdeal.nD Cert.MergefRefIdeal.τ).loc Cert.MergefRefIdeal.main_arg1)
      ∧ r.2.mem ((c.tc : Thread Cert.MergefRefIdeal.nD Cert.MergefRefIdeal.τ).loc Cert.MergefRefIdeal.main_arg2) = m ((c.tc : Thread Cert.MergefRefIdeal.nD Cert.MergefRefIdeal.τ).loc Cert.MergefRefIdeal.main_arg2)
      ∧ r.2.mem ((c.tc : Thread Cert.MergefRefIdeal.nD Cert.MergefRefIdeal.τ).loc Cert.MergefRefIdeal.main_arg3) = m ((c.tc : Thread Cert.MergefRefIdeal.nD Cert.MergefRefIdeal.τ).loc Cert.MergefRefIdeal.main_arg3)
      ∧ r.2.mem ((c.tc : Thread Cert.MergefRefIdeal.nD Cert.MergefRefIdeal.τ).loc Cert.MergefRefIdeal.main_arg4) = m ((c.tc : Thread Cert.MergefRefIdeal.nD Cert.MergefRefIdeal.τ).loc Cert.MergefRefIdeal.main_arg4))
      ∧ r.2.sem = fun _ => 0)

def quiescent_Swigluf [hSwigluf : Cert.Swigluf.Facts] : Prop :=
  ∀ (m : (ℓ : Loc Cert.Swigluf.nD Cert.Swigluf.τ Cert.Swigluf.sig) → Buf (Elt Bits) ℓ) (g : Dev Cert.Swigluf.nD → PrngReg), Pre_Swigluf m →
    θ_run (Cert.Swigluf.defs (F := Bits)) (onTc (τ := Cert.Swigluf.τ) (Cert.Swigluf.main (F := Bits))) ⟨m, fun _ => 0, g⟩ (fun r => (∀ c : Dev Cert.Swigluf.nD,
      r.2.mem ((c.tc : Thread Cert.Swigluf.nD Cert.Swigluf.τ).loc Cert.Swigluf.main_arg0) = m ((c.tc : Thread Cert.Swigluf.nD Cert.Swigluf.τ).loc Cert.Swigluf.main_arg0)
      ∧ r.2.mem ((c.tc : Thread Cert.Swigluf.nD Cert.Swigluf.τ).loc Cert.Swigluf.main_arg1) = m ((c.tc : Thread Cert.Swigluf.nD Cert.Swigluf.τ).loc Cert.Swigluf.main_arg1))
      ∧ r.2.sem = fun _ => 0)

def quiescent_SwiglufIdeal [hSwiglufIdeal : Cert.SwiglufIdeal.Facts] : Prop :=
  ∀ (m : (ℓ : Loc Cert.SwiglufIdeal.nD Cert.SwiglufIdeal.τ Cert.SwiglufIdeal.sig) → Buf (Elt Ideal) ℓ) (g : Dev Cert.SwiglufIdeal.nD → PrngReg), Pre_SwiglufIdeal m →
    θ_run (Cert.SwiglufIdeal.defs (F := Ideal)) (onTc (τ := Cert.SwiglufIdeal.τ) (Cert.SwiglufIdeal.main (F := Ideal))) ⟨m, fun _ => 0, g⟩ (fun r => (∀ c : Dev Cert.SwiglufIdeal.nD,
      r.2.mem ((c.tc : Thread Cert.SwiglufIdeal.nD Cert.SwiglufIdeal.τ).loc Cert.SwiglufIdeal.main_arg0) = m ((c.tc : Thread Cert.SwiglufIdeal.nD Cert.SwiglufIdeal.τ).loc Cert.SwiglufIdeal.main_arg0)
      ∧ r.2.mem ((c.tc : Thread Cert.SwiglufIdeal.nD Cert.SwiglufIdeal.τ).loc Cert.SwiglufIdeal.main_arg1) = m ((c.tc : Thread Cert.SwiglufIdeal.nD Cert.SwiglufIdeal.τ).loc Cert.SwiglufIdeal.main_arg1))
      ∧ r.2.sem = fun _ => 0)

def quiescent_SwiglufRefIdeal [hSwiglufRefIdeal : Cert.SwiglufRefIdeal.Facts] : Prop :=
  ∀ (m : (ℓ : Loc Cert.SwiglufRefIdeal.nD Cert.SwiglufRefIdeal.τ Cert.SwiglufRefIdeal.sig) → Buf (Elt Ideal) ℓ) (g : Dev Cert.SwiglufRefIdeal.nD → PrngReg), Pre_SwiglufRefIdeal m →
    θ_run (Cert.SwiglufRefIdeal.defs (F := Ideal)) (onTc (τ := Cert.SwiglufRefIdeal.τ) (Cert.SwiglufRefIdeal.main (F := Ideal))) ⟨m, fun _ => 0, g⟩ (fun r => (∀ c : Dev Cert.SwiglufRefIdeal.nD,
      r.2.mem ((c.tc : Thread Cert.SwiglufRefIdeal.nD Cert.SwiglufRefIdeal.τ).loc Cert.SwiglufRefIdeal.main_arg0) = m ((c.tc : Thread Cert.SwiglufRefIdeal.nD Cert.SwiglufRefIdeal.τ).loc Cert.SwiglufRefIdeal.main_arg0)
      ∧ r.2.mem ((c.tc : Thread Cert.SwiglufRefIdeal.nD Cert.SwiglufRefIdeal.τ).loc Cert.SwiglufRefIdeal.main_arg1) = m ((c.tc : Thread Cert.SwiglufRefIdeal.nD Cert.SwiglufRefIdeal.τ).loc Cert.SwiglufRefIdeal.main_arg1))
      ∧ r.2.sem = fun _ => 0)

def quiescent_Normf [hNormf : Cert.Normf.Facts] : Prop :=
  ∀ (m : (ℓ : Loc Cert.Normf.nD Cert.Normf.τ Cert.Normf.sig) → Buf (Elt Bits) ℓ) (g : Dev Cert.Normf.nD → PrngReg), Pre_Normf m →
    θ_run (Cert.Normf.defs (F := Bits)) (onTc (τ := Cert.Normf.τ) (Cert.Normf.main (F := Bits))) ⟨m, fun _ => 0, g⟩ (fun r => (∀ c : Dev Cert.Normf.nD,
      r.2.mem ((c.tc : Thread Cert.Normf.nD Cert.Normf.τ).loc Cert.Normf.main_arg0) = m ((c.tc : Thread Cert.Normf.nD Cert.Normf.τ).loc Cert.Normf.main_arg0)
      ∧ r.2.mem ((c.tc : Thread Cert.Normf.nD Cert.Normf.τ).loc Cert.Normf.main_arg1) = m ((c.tc : Thread Cert.Normf.nD Cert.Normf.τ).loc Cert.Normf.main_arg1))
      ∧ r.2.sem = fun _ => 0)

def quiescent_NormfIdeal [hNormfIdeal : Cert.NormfIdeal.Facts] : Prop :=
  ∀ (m : (ℓ : Loc Cert.NormfIdeal.nD Cert.NormfIdeal.τ Cert.NormfIdeal.sig) → Buf (Elt Ideal) ℓ) (g : Dev Cert.NormfIdeal.nD → PrngReg), Pre_NormfIdeal m →
    θ_run (Cert.NormfIdeal.defs (F := Ideal)) (onTc (τ := Cert.NormfIdeal.τ) (Cert.NormfIdeal.main (F := Ideal))) ⟨m, fun _ => 0, g⟩ (fun r => (∀ c : Dev Cert.NormfIdeal.nD,
      r.2.mem ((c.tc : Thread Cert.NormfIdeal.nD Cert.NormfIdeal.τ).loc Cert.NormfIdeal.main_arg0) = m ((c.tc : Thread Cert.NormfIdeal.nD Cert.NormfIdeal.τ).loc Cert.NormfIdeal.main_arg0)
      ∧ r.2.mem ((c.tc : Thread Cert.NormfIdeal.nD Cert.NormfIdeal.τ).loc Cert.NormfIdeal.main_arg1) = m ((c.tc : Thread Cert.NormfIdeal.nD Cert.NormfIdeal.τ).loc Cert.NormfIdeal.main_arg1))
      ∧ r.2.sem = fun _ => 0)

def quiescent_NormfRefIdeal [hNormfRefIdeal : Cert.NormfRefIdeal.Facts] : Prop :=
  ∀ (m : (ℓ : Loc Cert.NormfRefIdeal.nD Cert.NormfRefIdeal.τ Cert.NormfRefIdeal.sig) → Buf (Elt Ideal) ℓ) (g : Dev Cert.NormfRefIdeal.nD → PrngReg), Pre_NormfRefIdeal m →
    θ_run (Cert.NormfRefIdeal.defs (F := Ideal)) (onTc (τ := Cert.NormfRefIdeal.τ) (Cert.NormfRefIdeal.main (F := Ideal))) ⟨m, fun _ => 0, g⟩ (fun r => (∀ c : Dev Cert.NormfRefIdeal.nD,
      r.2.mem ((c.tc : Thread Cert.NormfRefIdeal.nD Cert.NormfRefIdeal.τ).loc Cert.NormfRefIdeal.main_arg0) = m ((c.tc : Thread Cert.NormfRefIdeal.nD Cert.NormfRefIdeal.τ).loc Cert.NormfRefIdeal.main_arg0)
      ∧ r.2.mem ((c.tc : Thread Cert.NormfRefIdeal.nD Cert.NormfRefIdeal.τ).loc Cert.NormfRefIdeal.main_arg1) = m ((c.tc : Thread Cert.NormfRefIdeal.nD Cert.NormfRefIdeal.τ).loc Cert.NormfRefIdeal.main_arg1))
      ∧ r.2.sem = fun _ => 0)

def quiescent_Outnorm [hOutnorm : Cert.Outnorm.Facts] : Prop :=
  ∀ (m : (ℓ : Loc Cert.Outnorm.nD Cert.Outnorm.τ Cert.Outnorm.sig) → Buf (Elt Bits) ℓ) (g : Dev Cert.Outnorm.nD → PrngReg), Pre_Outnorm m →
    θ_run (Cert.Outnorm.defs (F := Bits)) (onTc (τ := Cert.Outnorm.τ) (Cert.Outnorm.main (F := Bits))) ⟨m, fun _ => 0, g⟩ (fun r => (∀ c : Dev Cert.Outnorm.nD,
      r.2.mem ((c.tc : Thread Cert.Outnorm.nD Cert.Outnorm.τ).loc Cert.Outnorm.main_arg0) = m ((c.tc : Thread Cert.Outnorm.nD Cert.Outnorm.τ).loc Cert.Outnorm.main_arg0)
      ∧ r.2.mem ((c.tc : Thread Cert.Outnorm.nD Cert.Outnorm.τ).loc Cert.Outnorm.main_arg1) = m ((c.tc : Thread Cert.Outnorm.nD Cert.Outnorm.τ).loc Cert.Outnorm.main_arg1)
      ∧ r.2.mem ((c.tc : Thread Cert.Outnorm.nD Cert.Outnorm.τ).loc Cert.Outnorm.main_arg2) = m ((c.tc : Thread Cert.Outnorm.nD Cert.Outnorm.τ).loc Cert.Outnorm.main_arg2)
      ∧ r.2.mem ((c.tc : Thread Cert.Outnorm.nD Cert.Outnorm.τ).loc Cert.Outnorm.main_arg3) = m ((c.tc : Thread Cert.Outnorm.nD Cert.Outnorm.τ).loc Cert.Outnorm.main_arg3))
      ∧ r.2.sem = fun _ => 0)

def quiescent_OutnormIdeal [hOutnormIdeal : Cert.OutnormIdeal.Facts] : Prop :=
  ∀ (m : (ℓ : Loc Cert.OutnormIdeal.nD Cert.OutnormIdeal.τ Cert.OutnormIdeal.sig) → Buf (Elt Ideal) ℓ) (g : Dev Cert.OutnormIdeal.nD → PrngReg), Pre_OutnormIdeal m →
    θ_run (Cert.OutnormIdeal.defs (F := Ideal)) (onTc (τ := Cert.OutnormIdeal.τ) (Cert.OutnormIdeal.main (F := Ideal))) ⟨m, fun _ => 0, g⟩ (fun r => (∀ c : Dev Cert.OutnormIdeal.nD,
      r.2.mem ((c.tc : Thread Cert.OutnormIdeal.nD Cert.OutnormIdeal.τ).loc Cert.OutnormIdeal.main_arg0) = m ((c.tc : Thread Cert.OutnormIdeal.nD Cert.OutnormIdeal.τ).loc Cert.OutnormIdeal.main_arg0)
      ∧ r.2.mem ((c.tc : Thread Cert.OutnormIdeal.nD Cert.OutnormIdeal.τ).loc Cert.OutnormIdeal.main_arg1) = m ((c.tc : Thread Cert.OutnormIdeal.nD Cert.OutnormIdeal.τ).loc Cert.OutnormIdeal.main_arg1)
      ∧ r.2.mem ((c.tc : Thread Cert.OutnormIdeal.nD Cert.OutnormIdeal.τ).loc Cert.OutnormIdeal.main_arg2) = m ((c.tc : Thread Cert.OutnormIdeal.nD Cert.OutnormIdeal.τ).loc Cert.OutnormIdeal.main_arg2)
      ∧ r.2.mem ((c.tc : Thread Cert.OutnormIdeal.nD Cert.OutnormIdeal.τ).loc Cert.OutnormIdeal.main_arg3) = m ((c.tc : Thread Cert.OutnormIdeal.nD Cert.OutnormIdeal.τ).loc Cert.OutnormIdeal.main_arg3))
      ∧ r.2.sem = fun _ => 0)

def quiescent_OutnormRefIdeal [hOutnormRefIdeal : Cert.OutnormRefIdeal.Facts] : Prop :=
  ∀ (m : (ℓ : Loc Cert.OutnormRefIdeal.nD Cert.OutnormRefIdeal.τ Cert.OutnormRefIdeal.sig) → Buf (Elt Ideal) ℓ) (g : Dev Cert.OutnormRefIdeal.nD → PrngReg), Pre_OutnormRefIdeal m →
    θ_run (Cert.OutnormRefIdeal.defs (F := Ideal)) (onTc (τ := Cert.OutnormRefIdeal.τ) (Cert.OutnormRefIdeal.main (F := Ideal))) ⟨m, fun _ => 0, g⟩ (fun r => (∀ c : Dev Cert.OutnormRefIdeal.nD,
      r.2.mem ((c.tc : Thread Cert.OutnormRefIdeal.nD Cert.OutnormRefIdeal.τ).loc Cert.OutnormRefIdeal.main_arg0) = m ((c.tc : Thread Cert.OutnormRefIdeal.nD Cert.OutnormRefIdeal.τ).loc Cert.OutnormRefIdeal.main_arg0)
      ∧ r.2.mem ((c.tc : Thread Cert.OutnormRefIdeal.nD Cert.OutnormRefIdeal.τ).loc Cert.OutnormRefIdeal.main_arg1) = m ((c.tc : Thread Cert.OutnormRefIdeal.nD Cert.OutnormRefIdeal.τ).loc Cert.OutnormRefIdeal.main_arg1)
      ∧ r.2.mem ((c.tc : Thread Cert.OutnormRefIdeal.nD Cert.OutnormRefIdeal.τ).loc Cert.OutnormRefIdeal.main_arg2) = m ((c.tc : Thread Cert.OutnormRefIdeal.nD Cert.OutnormRefIdeal.τ).loc Cert.OutnormRefIdeal.main_arg2)
      ∧ r.2.mem ((c.tc : Thread Cert.OutnormRefIdeal.nD Cert.OutnormRefIdeal.τ).loc Cert.OutnormRefIdeal.main_arg3) = m ((c.tc : Thread Cert.OutnormRefIdeal.nD Cert.OutnormRefIdeal.τ).loc Cert.OutnormRefIdeal.main_arg3))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wgateup [hWgateup : Cert.Wgateup.Facts] : Prop :=
  ∀ (m : (ℓ : Loc Cert.Wgateup.nD Cert.Wgateup.τ Cert.Wgateup.sig) → Buf (Elt Bits) ℓ) (g : Dev Cert.Wgateup.nD → PrngReg), Pre_Wgateup m →
    θ_run (Cert.Wgateup.defs (F := Bits)) (onTc (τ := Cert.Wgateup.τ) (Cert.Wgateup.main (F := Bits))) ⟨m, fun _ => 0, g⟩ (fun r => (∀ c : Dev Cert.Wgateup.nD,
      r.2.mem ((c.tc : Thread Cert.Wgateup.nD Cert.Wgateup.τ).loc Cert.Wgateup.main_arg0) = m ((c.tc : Thread Cert.Wgateup.nD Cert.Wgateup.τ).loc Cert.Wgateup.main_arg0)
      ∧ r.2.mem ((c.tc : Thread Cert.Wgateup.nD Cert.Wgateup.τ).loc Cert.Wgateup.main_arg1) = m ((c.tc : Thread Cert.Wgateup.nD Cert.Wgateup.τ).loc Cert.Wgateup.main_arg1)
      ∧ r.2.mem ((c.tc : Thread Cert.Wgateup.nD Cert.Wgateup.τ).loc Cert.Wgateup.main_arg2) = m ((c.tc : Thread Cert.Wgateup.nD Cert.Wgateup.τ).loc Cert.Wgateup.main_arg2))
      ∧ r.2.sem = fun _ => 0)

def quiescent_WgateupIdeal [hWgateupIdeal : Cert.WgateupIdeal.Facts] : Prop :=
  ∀ (m : (ℓ : Loc Cert.WgateupIdeal.nD Cert.WgateupIdeal.τ Cert.WgateupIdeal.sig) → Buf (Elt Ideal) ℓ) (g : Dev Cert.WgateupIdeal.nD → PrngReg), Pre_WgateupIdeal m →
    θ_run (Cert.WgateupIdeal.defs (F := Ideal)) (onTc (τ := Cert.WgateupIdeal.τ) (Cert.WgateupIdeal.main (F := Ideal))) ⟨m, fun _ => 0, g⟩ (fun r => (∀ c : Dev Cert.WgateupIdeal.nD,
      r.2.mem ((c.tc : Thread Cert.WgateupIdeal.nD Cert.WgateupIdeal.τ).loc Cert.WgateupIdeal.main_arg0) = m ((c.tc : Thread Cert.WgateupIdeal.nD Cert.WgateupIdeal.τ).loc Cert.WgateupIdeal.main_arg0)
      ∧ r.2.mem ((c.tc : Thread Cert.WgateupIdeal.nD Cert.WgateupIdeal.τ).loc Cert.WgateupIdeal.main_arg1) = m ((c.tc : Thread Cert.WgateupIdeal.nD Cert.WgateupIdeal.τ).loc Cert.WgateupIdeal.main_arg1)
      ∧ r.2.mem ((c.tc : Thread Cert.WgateupIdeal.nD Cert.WgateupIdeal.τ).loc Cert.WgateupIdeal.main_arg2) = m ((c.tc : Thread Cert.WgateupIdeal.nD Cert.WgateupIdeal.τ).loc Cert.WgateupIdeal.main_arg2))
      ∧ r.2.sem = fun _ => 0)

def quiescent_WgateupRefIdeal [hWgateupRefIdeal : Cert.WgateupRefIdeal.Facts] : Prop :=
  ∀ (m : (ℓ : Loc Cert.WgateupRefIdeal.nD Cert.WgateupRefIdeal.τ Cert.WgateupRefIdeal.sig) → Buf (Elt Ideal) ℓ) (g : Dev Cert.WgateupRefIdeal.nD → PrngReg), Pre_WgateupRefIdeal m →
    θ_run (Cert.WgateupRefIdeal.defs (F := Ideal)) (onTc (τ := Cert.WgateupRefIdeal.τ) (Cert.WgateupRefIdeal.main (F := Ideal))) ⟨m, fun _ => 0, g⟩ (fun r => (∀ c : Dev Cert.WgateupRefIdeal.nD,
      r.2.mem ((c.tc : Thread Cert.WgateupRefIdeal.nD Cert.WgateupRefIdeal.τ).loc Cert.WgateupRefIdeal.main_arg0) = m ((c.tc : Thread Cert.WgateupRefIdeal.nD Cert.WgateupRefIdeal.τ).loc Cert.WgateupRefIdeal.main_arg0)
      ∧ r.2.mem ((c.tc : Thread Cert.WgateupRefIdeal.nD Cert.WgateupRefIdeal.τ).loc Cert.WgateupRefIdeal.main_arg1) = m ((c.tc : Thread Cert.WgateupRefIdeal.nD Cert.WgateupRefIdeal.τ).loc Cert.WgateupRefIdeal.main_arg1)
      ∧ r.2.mem ((c.tc : Thread Cert.WgateupRefIdeal.nD Cert.WgateupRefIdeal.τ).loc Cert.WgateupRefIdeal.main_arg2) = m ((c.tc : Thread Cert.WgateupRefIdeal.nD Cert.WgateupRefIdeal.τ).loc Cert.WgateupRefIdeal.main_arg2))
      ∧ r.2.sem = fun _ => 0)

def quiescent_Hin [hHin : Cert.Hin.Facts] : Prop :=
  ∀ (m : (ℓ : Loc Cert.Hin.nD Cert.Hin.τ Cert.Hin.sig) → Buf (Elt Bits) ℓ) (g : Dev Cert.Hin.nD → PrngReg), Pre_Hin m →
    θ_run (Cert.Hin.defs (F := Bits)) (onTc (τ := Cert.Hin.τ) (Cert.Hin.main (F := Bits))) ⟨m, fun _ => 0, g⟩ (fun r => (∀ c : Dev Cert.Hin.nD,
      r.2.mem ((c.tc : Thread Cert.Hin.nD Cert.Hin.τ).loc Cert.Hin.main_arg0) = m ((c.tc : Thread Cert.Hin.nD Cert.Hin.τ).loc Cert.Hin.main_arg0)
      ∧ r.2.mem ((c.tc : Thread Cert.Hin.nD Cert.Hin.τ).loc Cert.Hin.main_arg1) = m ((c.tc : Thread Cert.Hin.nD Cert.Hin.τ).loc Cert.Hin.main_arg1))
      ∧ r.2.sem = fun _ => 0)

def quiescent_HinIdeal [hHinIdeal : Cert.HinIdeal.Facts] : Prop :=
  ∀ (m : (ℓ : Loc Cert.HinIdeal.nD Cert.HinIdeal.τ Cert.HinIdeal.sig) → Buf (Elt Ideal) ℓ) (g : Dev Cert.HinIdeal.nD → PrngReg), Pre_HinIdeal m →
    θ_run (Cert.HinIdeal.defs (F := Ideal)) (onTc (τ := Cert.HinIdeal.τ) (Cert.HinIdeal.main (F := Ideal))) ⟨m, fun _ => 0, g⟩ (fun r => (∀ c : Dev Cert.HinIdeal.nD,
      r.2.mem ((c.tc : Thread Cert.HinIdeal.nD Cert.HinIdeal.τ).loc Cert.HinIdeal.main_arg0) = m ((c.tc : Thread Cert.HinIdeal.nD Cert.HinIdeal.τ).loc Cert.HinIdeal.main_arg0)
      ∧ r.2.mem ((c.tc : Thread Cert.HinIdeal.nD Cert.HinIdeal.τ).loc Cert.HinIdeal.main_arg1) = m ((c.tc : Thread Cert.HinIdeal.nD Cert.HinIdeal.τ).loc Cert.HinIdeal.main_arg1))
      ∧ r.2.sem = fun _ => 0)

def quiescent_HinRefIdeal [hHinRefIdeal : Cert.HinRefIdeal.Facts] : Prop :=
  ∀ (m : (ℓ : Loc Cert.HinRefIdeal.nD Cert.HinRefIdeal.τ Cert.HinRefIdeal.sig) → Buf (Elt Ideal) ℓ) (g : Dev Cert.HinRefIdeal.nD → PrngReg), Pre_HinRefIdeal m →
    θ_run (Cert.HinRefIdeal.defs (F := Ideal)) (onTc (τ := Cert.HinRefIdeal.τ) (Cert.HinRefIdeal.main (F := Ideal))) ⟨m, fun _ => 0, g⟩ (fun r => (∀ c : Dev Cert.HinRefIdeal.nD,
      r.2.mem ((c.tc : Thread Cert.HinRefIdeal.nD Cert.HinRefIdeal.τ).loc Cert.HinRefIdeal.main_arg0) = m ((c.tc : Thread Cert.HinRefIdeal.nD Cert.HinRefIdeal.τ).loc Cert.HinRefIdeal.main_arg0)
      ∧ r.2.mem ((c.tc : Thread Cert.HinRefIdeal.nD Cert.HinRefIdeal.τ).loc Cert.HinRefIdeal.main_arg1) = m ((c.tc : Thread Cert.HinRefIdeal.nD Cert.HinRefIdeal.τ).loc Cert.HinRefIdeal.main_arg1))
      ∧ r.2.sem = fun _ => 0)

def quiescent_Hgateup [hHgateup : Cert.Hgateup.Facts] : Prop :=
  ∀ (m : (ℓ : Loc Cert.Hgateup.nD Cert.Hgateup.τ Cert.Hgateup.sig) → Buf (Elt Bits) ℓ) (g : Dev Cert.Hgateup.nD → PrngReg), Pre_Hgateup m →
    θ_run (Cert.Hgateup.defs (F := Bits)) (onTc (τ := Cert.Hgateup.τ) (Cert.Hgateup.main (F := Bits))) ⟨m, fun _ => 0, g⟩ (fun r => (∀ c : Dev Cert.Hgateup.nD,
      r.2.mem ((c.tc : Thread Cert.Hgateup.nD Cert.Hgateup.τ).loc Cert.Hgateup.main_arg0) = m ((c.tc : Thread Cert.Hgateup.nD Cert.Hgateup.τ).loc Cert.Hgateup.main_arg0)
      ∧ r.2.mem ((c.tc : Thread Cert.Hgateup.nD Cert.Hgateup.τ).loc Cert.Hgateup.main_arg1) = m ((c.tc : Thread Cert.Hgateup.nD Cert.Hgateup.τ).loc Cert.Hgateup.main_arg1)
      ∧ r.2.mem ((c.tc : Thread Cert.Hgateup.nD Cert.Hgateup.τ).loc Cert.Hgateup.main_arg2) = m ((c.tc : Thread Cert.Hgateup.nD Cert.Hgateup.τ).loc Cert.Hgateup.main_arg2))
      ∧ r.2.sem = fun _ => 0)

def quiescent_HgateupIdeal [hHgateupIdeal : Cert.HgateupIdeal.Facts] : Prop :=
  ∀ (m : (ℓ : Loc Cert.HgateupIdeal.nD Cert.HgateupIdeal.τ Cert.HgateupIdeal.sig) → Buf (Elt Ideal) ℓ) (g : Dev Cert.HgateupIdeal.nD → PrngReg), Pre_HgateupIdeal m →
    θ_run (Cert.HgateupIdeal.defs (F := Ideal)) (onTc (τ := Cert.HgateupIdeal.τ) (Cert.HgateupIdeal.main (F := Ideal))) ⟨m, fun _ => 0, g⟩ (fun r => (∀ c : Dev Cert.HgateupIdeal.nD,
      r.2.mem ((c.tc : Thread Cert.HgateupIdeal.nD Cert.HgateupIdeal.τ).loc Cert.HgateupIdeal.main_arg0) = m ((c.tc : Thread Cert.HgateupIdeal.nD Cert.HgateupIdeal.τ).loc Cert.HgateupIdeal.main_arg0)
      ∧ r.2.mem ((c.tc : Thread Cert.HgateupIdeal.nD Cert.HgateupIdeal.τ).loc Cert.HgateupIdeal.main_arg1) = m ((c.tc : Thread Cert.HgateupIdeal.nD Cert.HgateupIdeal.τ).loc Cert.HgateupIdeal.main_arg1)
      ∧ r.2.mem ((c.tc : Thread Cert.HgateupIdeal.nD Cert.HgateupIdeal.τ).loc Cert.HgateupIdeal.main_arg2) = m ((c.tc : Thread Cert.HgateupIdeal.nD Cert.HgateupIdeal.τ).loc Cert.HgateupIdeal.main_arg2))
      ∧ r.2.sem = fun _ => 0)

def quiescent_HgateupRefIdeal [hHgateupRefIdeal : Cert.HgateupRefIdeal.Facts] : Prop :=
  ∀ (m : (ℓ : Loc Cert.HgateupRefIdeal.nD Cert.HgateupRefIdeal.τ Cert.HgateupRefIdeal.sig) → Buf (Elt Ideal) ℓ) (g : Dev Cert.HgateupRefIdeal.nD → PrngReg), Pre_HgateupRefIdeal m →
    θ_run (Cert.HgateupRefIdeal.defs (F := Ideal)) (onTc (τ := Cert.HgateupRefIdeal.τ) (Cert.HgateupRefIdeal.main (F := Ideal))) ⟨m, fun _ => 0, g⟩ (fun r => (∀ c : Dev Cert.HgateupRefIdeal.nD,
      r.2.mem ((c.tc : Thread Cert.HgateupRefIdeal.nD Cert.HgateupRefIdeal.τ).loc Cert.HgateupRefIdeal.main_arg0) = m ((c.tc : Thread Cert.HgateupRefIdeal.nD Cert.HgateupRefIdeal.τ).loc Cert.HgateupRefIdeal.main_arg0)
      ∧ r.2.mem ((c.tc : Thread Cert.HgateupRefIdeal.nD Cert.HgateupRefIdeal.τ).loc Cert.HgateupRefIdeal.main_arg1) = m ((c.tc : Thread Cert.HgateupRefIdeal.nD Cert.HgateupRefIdeal.τ).loc Cert.HgateupRefIdeal.main_arg1)
      ∧ r.2.mem ((c.tc : Thread Cert.HgateupRefIdeal.nD Cert.HgateupRefIdeal.τ).loc Cert.HgateupRefIdeal.main_arg2) = m ((c.tc : Thread Cert.HgateupRefIdeal.nD Cert.HgateupRefIdeal.τ).loc Cert.HgateupRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Ssum [hSsum : Cert.Ssum.Facts] : Prop :=
  ∀ (m : (ℓ : Loc Cert.Ssum.nD Cert.Ssum.τ Cert.Ssum.sig) → Buf (Elt Bits) ℓ) (g : Dev Cert.Ssum.nD → PrngReg), Pre_Ssum m →
    θ_run (Cert.Ssum.defs (F := Bits)) (onTc (τ := Cert.Ssum.τ) (Cert.Ssum.main (F := Bits))) ⟨m, fun _ => 0, g⟩ (fun r => (∀ c : Dev Cert.Ssum.nD,
      r.2.mem ((c.tc : Thread Cert.Ssum.nD Cert.Ssum.τ).loc Cert.Ssum.main_arg0) = m ((c.tc : Thread Cert.Ssum.nD Cert.Ssum.τ).loc Cert.Ssum.main_arg0))
      ∧ r.2.sem = fun _ => 0)

def quiescent_SsumIdeal [hSsumIdeal : Cert.SsumIdeal.Facts] : Prop :=
  ∀ (m : (ℓ : Loc Cert.SsumIdeal.nD Cert.SsumIdeal.τ Cert.SsumIdeal.sig) → Buf (Elt Ideal) ℓ) (g : Dev Cert.SsumIdeal.nD → PrngReg), Pre_SsumIdeal m →
    θ_run (Cert.SsumIdeal.defs (F := Ideal)) (onTc (τ := Cert.SsumIdeal.τ) (Cert.SsumIdeal.main (F := Ideal))) ⟨m, fun _ => 0, g⟩ (fun r => (∀ c : Dev Cert.SsumIdeal.nD,
      r.2.mem ((c.tc : Thread Cert.SsumIdeal.nD Cert.SsumIdeal.τ).loc Cert.SsumIdeal.main_arg0) = m ((c.tc : Thread Cert.SsumIdeal.nD Cert.SsumIdeal.τ).loc Cert.SsumIdeal.main_arg0))
      ∧ r.2.sem = fun _ => 0)

def quiescent_SsumRefIdeal [hSsumRefIdeal : Cert.SsumRefIdeal.Facts] : Prop :=
  ∀ (m : (ℓ : Loc Cert.SsumRefIdeal.nD Cert.SsumRefIdeal.τ Cert.SsumRefIdeal.sig) → Buf (Elt Ideal) ℓ) (g : Dev Cert.SsumRefIdeal.nD → PrngReg), Pre_SsumRefIdeal m →
    θ_run (Cert.SsumRefIdeal.defs (F := Ideal)) (onTc (τ := Cert.SsumRefIdeal.τ) (Cert.SsumRefIdeal.main (F := Ideal))) ⟨m, fun _ => 0, g⟩ (fun r => (∀ c : Dev Cert.SsumRefIdeal.nD,
      r.2.mem ((c.tc : Thread Cert.SsumRefIdeal.nD Cert.SsumRefIdeal.τ).loc Cert.SsumRefIdeal.main_arg0) = m ((c.tc : Thread Cert.SsumRefIdeal.nD Cert.SsumRefIdeal.τ).loc Cert.SsumRefIdeal.main_arg0))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5))
      ∧ r.2.sem = fun _ => 0)

def preserves_Swiglu_SwigluIdeal : Prop :=
  True

def algebraic_SwigluIdeal_SwigluRefIdeal_pre_finite_swiglu [hSwigluIdeal : Cert.SwigluIdeal.Facts] [hSwigluRefIdeal : Cert.SwigluRefIdeal.Facts] [hPre_finite_swiglu : Cert.Pre_finite_swiglu.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_finite_swiglu m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v2_0)) (v1 : (c : Dev Cert.SwigluIdeal.nD) → Buf (Elt Ideal) ((c.tc : Thread Cert.SwigluIdeal.nD Cert.SwigluIdeal.τ).loc Cert.SwigluIdeal.main_v2_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v2_0) = v0 c
          ∧ r.2.mem ((c.tc : Thread Cert.SwigluIdeal.nD Cert.SwigluIdeal.τ).loc Cert.SwigluIdeal.main_v2_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_v8) = v1 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2_0)) (v1 : (c : Dev Cert.MergeIdeal.nD) → Buf (Elt Ideal) ((c.tc : Thread Cert.MergeIdeal.nD Cert.MergeIdeal.τ).loc Cert.MergeIdeal.main_v2_1)) (v2 : (c : Dev Cert.MergeIdeal.nD) → Buf (Elt Ideal) ((c.tc : Thread Cert.MergeIdeal.nD Cert.MergeIdeal.τ).loc Cert.MergeIdeal.main_v2_2)) (v3 : (c : Dev Cert.MergeIdeal.nD) → Buf (Elt Ideal) ((c.tc : Thread Cert.MergeIdeal.nD Cert.MergeIdeal.τ).loc Cert.MergeIdeal.main_v2_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2_0) = v0 c
          ∧ r.2.mem ((c.tc : Thread Cert.MergeIdeal.nD Cert.MergeIdeal.τ).loc Cert.MergeIdeal.main_v2_1) = v1 c
          ∧ r.2.mem ((c.tc : Thread Cert.MergeIdeal.nD Cert.MergeIdeal.τ).loc Cert.MergeIdeal.main_v2_2) = v2 c
          ∧ r.2.mem ((c.tc : Thread Cert.MergeIdeal.nD Cert.MergeIdeal.τ).loc Cert.MergeIdeal.main_v2_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v37) = v0 c
          ∧ r.2.mem ((c.tc : Thread Cert.MergeRefIdeal.nD Cert.MergeRefIdeal.τ).loc Cert.MergeRefIdeal.main_v38) = v1 c
          ∧ r.2.mem ((c.tc : Thread Cert.MergeRefIdeal.nD Cert.MergeRefIdeal.τ).loc Cert.MergeRefIdeal.main_v39) = v2 c
          ∧ r.2.mem ((c.tc : Thread Cert.MergeRefIdeal.nD Cert.MergeRefIdeal.τ).loc Cert.MergeRefIdeal.main_v40) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)) (v2 : (c : Dev Cert.ConvIdeal.nD) → Buf (Elt Ideal) ((c.tc : Thread Cert.ConvIdeal.nD Cert.ConvIdeal.τ).loc Cert.ConvIdeal.main_v2_2)) (v3 : (c : Dev Cert.ConvIdeal.nD) → Buf (Elt Ideal) ((c.tc : Thread Cert.ConvIdeal.nD Cert.ConvIdeal.τ).loc Cert.ConvIdeal.main_v2_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_v2_2) = v2 c
          ∧ r.2.mem ((c.tc : Thread Cert.ConvIdeal.nD Cert.ConvIdeal.τ).loc Cert.ConvIdeal.main_v2_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v72) = v0 c
          ∧ r.2.mem ((c.tc : Thread Cert.ConvRefIdeal.nD Cert.ConvRefIdeal.τ).loc Cert.ConvRefIdeal.main_v73) = v1 c
          ∧ r.2.mem ((c.tc : Thread Cert.ConvRefIdeal.nD Cert.ConvRefIdeal.τ).loc Cert.ConvRefIdeal.main_v74) = v2 c
          ∧ r.2.mem ((c.tc : Thread Cert.ConvRefIdeal.nD Cert.ConvRefIdeal.τ).loc Cert.ConvRefIdeal.main_v67) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v36_0)) (v1 : (c : Dev Cert.AttnIdeal.nD) → Buf (Elt Ideal) ((c.tc : Thread Cert.AttnIdeal.nD Cert.AttnIdeal.τ).loc Cert.AttnIdeal.main_v36_1)) (v2 : (c : Dev Cert.AttnIdeal.nD) → Buf (Elt Ideal) ((c.tc : Thread Cert.AttnIdeal.nD Cert.AttnIdeal.τ).loc Cert.AttnIdeal.main_v36_2)) (v3 : (c : Dev Cert.AttnIdeal.nD) → Buf (Elt Ideal) ((c.tc : Thread Cert.AttnIdeal.nD Cert.AttnIdeal.τ).loc Cert.AttnIdeal.main_v36_3)) (v4 : (c : Dev Cert.AttnIdeal.nD) → Buf (Elt Ideal) ((c.tc : Thread Cert.AttnIdeal.nD Cert.AttnIdeal.τ).loc Cert.AttnIdeal.main_v36_4)) (v5 : (c : Dev Cert.AttnIdeal.nD) → Buf (Elt Ideal) ((c.tc : Thread Cert.AttnIdeal.nD Cert.AttnIdeal.τ).loc Cert.AttnIdeal.main_v36_5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v36_0) = v0 c
          ∧ r.2.mem ((c.tc : Thread Cert.AttnIdeal.nD Cert.AttnIdeal.τ).loc Cert.AttnIdeal.main_v36_1) = v1 c
          ∧ r.2.mem ((c.tc : Thread Cert.AttnIdeal.nD Cert.AttnIdeal.τ).loc Cert.AttnIdeal.main_v36_2) = v2 c
          ∧ r.2.mem ((c.tc : Thread Cert.AttnIdeal.nD Cert.AttnIdeal.τ).loc Cert.AttnIdeal.main_v36_3) = v3 c
          ∧ r.2.mem ((c.tc : Thread Cert.AttnIdeal.nD Cert.AttnIdeal.τ).loc Cert.AttnIdeal.main_v36_4) = v4 c
          ∧ r.2.mem ((c.tc : Thread Cert.AttnIdeal.nD Cert.AttnIdeal.τ).loc Cert.AttnIdeal.main_v36_5) = v5 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v251) = v0 c
          ∧ r.2.mem ((c.tc : Thread Cert.AttnRefIdeal.nD Cert.AttnRefIdeal.τ).loc Cert.AttnRefIdeal.main_v228) = v1 c
          ∧ r.2.mem ((c.tc : Thread Cert.AttnRefIdeal.nD Cert.AttnRefIdeal.τ).loc Cert.AttnRefIdeal.main_v227) = v2 c
          ∧ r.2.mem ((c.tc : Thread Cert.AttnRefIdeal.nD Cert.AttnRefIdeal.τ).loc Cert.AttnRefIdeal.main_v226) = v3 c
          ∧ r.2.mem ((c.tc : Thread Cert.AttnRefIdeal.nD Cert.AttnRefIdeal.τ).loc Cert.AttnRefIdeal.main_v225) = v4 c
          ∧ r.2.mem ((c.tc : Thread Cert.AttnRefIdeal.nD Cert.AttnRefIdeal.τ).loc Cert.AttnRefIdeal.main_v252) = v5 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v34)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v34) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v65) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_v39) = v1 c
          ∧ r.2.mem ((c.tc : Thread Cert.NormRefIdeal.nD Cert.NormRefIdeal.τ).loc Cert.NormRefIdeal.main_v38) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Mixnorm_MixnormIdeal : Prop :=
  True

def algebraic_MixnormIdeal_MixnormRefIdeal_pre_finite_mixnorm [hMixnormIdeal : Cert.MixnormIdeal.Facts] [hMixnormRefIdeal : Cert.MixnormRefIdeal.Facts] [hPre_finite_mixnorm : Cert.Pre_finite_mixnorm.Facts] : Prop :=
  ∀ (m : (ℓ : Loc Cert.MixnormIdeal.nD Cert.MixnormIdeal.τ Cert.MixnormIdeal.sig) → Buf (Elt Ideal) ℓ) (g : Dev Cert.MixnormIdeal.nD → PrngReg)
    (m' : (ℓ : Loc Cert.MixnormRefIdeal.nD Cert.MixnormRefIdeal.τ Cert.MixnormRefIdeal.sig) → Buf (Elt Ideal) ℓ) (g' : Dev Cert.MixnormRefIdeal.nD → PrngReg), Pre_MixnormIdeal_finite_mixnorm m →
    (∀ c : Dev Cert.MixnormIdeal.nD,
      m' ((c.tc : Thread Cert.MixnormRefIdeal.nD Cert.MixnormRefIdeal.τ).loc Cert.MixnormRefIdeal.main_arg0) = m ((c.tc : Thread Cert.MixnormIdeal.nD Cert.MixnormIdeal.τ).loc Cert.MixnormIdeal.main_arg0)
      ∧ m' ((c.tc : Thread Cert.MixnormRefIdeal.nD Cert.MixnormRefIdeal.τ).loc Cert.MixnormRefIdeal.main_arg1) = m ((c.tc : Thread Cert.MixnormIdeal.nD Cert.MixnormIdeal.τ).loc Cert.MixnormIdeal.main_arg1)
      ∧ m' ((c.tc : Thread Cert.MixnormRefIdeal.nD Cert.MixnormRefIdeal.τ).loc Cert.MixnormRefIdeal.main_arg2) = m ((c.tc : Thread Cert.MixnormIdeal.nD Cert.MixnormIdeal.τ).loc Cert.MixnormIdeal.main_arg2)
      ∧ m' ((c.tc : Thread Cert.MixnormRefIdeal.nD Cert.MixnormRefIdeal.τ).loc Cert.MixnormRefIdeal.main_arg3) = m ((c.tc : Thread Cert.MixnormIdeal.nD Cert.MixnormIdeal.τ).loc Cert.MixnormIdeal.main_arg3)) →
    ∃ (v0 : (c : Dev Cert.MixnormIdeal.nD) → Buf (Elt Ideal) ((c.tc : Thread Cert.MixnormIdeal.nD Cert.MixnormIdeal.τ).loc Cert.MixnormIdeal.main_v0_0)) (v1 : (c : Dev Cert.MixnormIdeal.nD) → Buf (Elt Ideal) ((c.tc : Thread Cert.MixnormIdeal.nD Cert.MixnormIdeal.τ).loc Cert.MixnormIdeal.main_v0_1)),
      θ_run (Cert.MixnormIdeal.defs (F := Ideal)) (onTc (τ := Cert.MixnormIdeal.τ) (Cert.MixnormIdeal.main (F := Ideal))) ⟨m, fun _ => 0, g⟩ (fun r => ∀ c : Dev Cert.MixnormIdeal.nD,
          r.2.mem ((c.tc : Thread Cert.MixnormIdeal.nD Cert.MixnormIdeal.τ).loc Cert.MixnormIdeal.main_v0_0) = v0 c
          ∧ r.2.mem ((c.tc : Thread Cert.MixnormIdeal.nD Cert.MixnormIdeal.τ).loc Cert.MixnormIdeal.main_v0_1) = v1 c
          ∧ r.2.mem ((c.tc : Thread Cert.MixnormIdeal.nD Cert.MixnormIdeal.τ).loc Cert.MixnormIdeal.main_arg0) = m ((c.tc : Thread Cert.MixnormIdeal.nD Cert.MixnormIdeal.τ).loc Cert.MixnormIdeal.main_arg0)
          ∧ r.2.mem ((c.tc : Thread Cert.MixnormIdeal.nD Cert.MixnormIdeal.τ).loc Cert.MixnormIdeal.main_arg1) = m ((c.tc : Thread Cert.MixnormIdeal.nD Cert.MixnormIdeal.τ).loc Cert.MixnormIdeal.main_arg1)
          ∧ r.2.mem ((c.tc : Thread Cert.MixnormIdeal.nD Cert.MixnormIdeal.τ).loc Cert.MixnormIdeal.main_arg2) = m ((c.tc : Thread Cert.MixnormIdeal.nD Cert.MixnormIdeal.τ).loc Cert.MixnormIdeal.main_arg2)
          ∧ r.2.mem ((c.tc : Thread Cert.MixnormIdeal.nD Cert.MixnormIdeal.τ).loc Cert.MixnormIdeal.main_arg3) = m ((c.tc : Thread Cert.MixnormIdeal.nD Cert.MixnormIdeal.τ).loc Cert.MixnormIdeal.main_arg3))
      ∧ θ_run (Cert.MixnormRefIdeal.defs (F := Ideal)) (onTc (τ := Cert.MixnormRefIdeal.τ) (Cert.MixnormRefIdeal.main (F := Ideal))) ⟨m', fun _ => 0, g'⟩ (fun r => ∀ c : Dev Cert.MixnormRefIdeal.nD,
          r.2.mem ((c.tc : Thread Cert.MixnormRefIdeal.nD Cert.MixnormRefIdeal.τ).loc Cert.MixnormRefIdeal.main_v37) = v0 c
          ∧ r.2.mem ((c.tc : Thread Cert.MixnormRefIdeal.nD Cert.MixnormRefIdeal.τ).loc Cert.MixnormRefIdeal.main_v38) = v1 c
          ∧ r.2.mem ((c.tc : Thread Cert.MixnormRefIdeal.nD Cert.MixnormRefIdeal.τ).loc Cert.MixnormRefIdeal.main_arg0) = m' ((c.tc : Thread Cert.MixnormRefIdeal.nD Cert.MixnormRefIdeal.τ).loc Cert.MixnormRefIdeal.main_arg0)
          ∧ r.2.mem ((c.tc : Thread Cert.MixnormRefIdeal.nD Cert.MixnormRefIdeal.τ).loc Cert.MixnormRefIdeal.main_arg1) = m' ((c.tc : Thread Cert.MixnormRefIdeal.nD Cert.MixnormRefIdeal.τ).loc Cert.MixnormRefIdeal.main_arg1)
          ∧ r.2.mem ((c.tc : Thread Cert.MixnormRefIdeal.nD Cert.MixnormRefIdeal.τ).loc Cert.MixnormRefIdeal.main_arg2) = m' ((c.tc : Thread Cert.MixnormRefIdeal.nD Cert.MixnormRefIdeal.τ).loc Cert.MixnormRefIdeal.main_arg2)
          ∧ r.2.mem ((c.tc : Thread Cert.MixnormRefIdeal.nD Cert.MixnormRefIdeal.τ).loc Cert.MixnormRefIdeal.main_arg3) = m' ((c.tc : Thread Cert.MixnormRefIdeal.nD Cert.MixnormRefIdeal.τ).loc Cert.MixnormRefIdeal.main_arg3))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Attnf_AttnfIdeal : Prop :=
  IdealRules.named_const.Statement Cert.AttnfIdeal.κ "mask" .f32 0xF149F2CA#32 ⊥

def algebraic_AttnfIdeal_AttnfRefIdeal_pre_finite_attnf [hAttnfIdeal : Cert.AttnfIdeal.Facts] [hAttnfRefIdeal : Cert.AttnfRefIdeal.Facts] [hPre_finite_attnf : Cert.Pre_finite_attnf.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal_finite_attnf m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)) →
    ∃ (v0 : (c : Dev Cert.AttnfIdeal.nD) → Buf (Elt Ideal) ((c.tc : Thread Cert.AttnfIdeal.nD Cert.AttnfIdeal.τ).loc Cert.AttnfIdeal.main_v34)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v34) = v0 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v153) = v0 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1))

def preserves_Convf_ConvfIdeal : Prop :=
  True

def algebraic_ConvfIdeal_ConvfRefIdeal [hConvfIdeal : Cert.ConvfIdeal.Facts] [hConvfRefIdeal : Cert.ConvfRefIdeal.Facts] : Prop :=
  ∀ (m : (ℓ : Loc Cert.ConvfIdeal.nD Cert.ConvfIdeal.τ Cert.ConvfIdeal.sig) → Buf (Elt Ideal) ℓ) (g : Dev Cert.ConvfIdeal.nD → PrngReg)
    (m' : (ℓ : Loc Cert.ConvfRefIdeal.nD Cert.ConvfRefIdeal.τ Cert.ConvfRefIdeal.sig) → Buf (Elt Ideal) ℓ) (g' : Dev Cert.ConvfRefIdeal.nD → PrngReg), Pre_ConvfIdeal m →
    (∀ c : Dev Cert.ConvfIdeal.nD,
      m' ((c.tc : Thread Cert.ConvfRefIdeal.nD Cert.ConvfRefIdeal.τ).loc Cert.ConvfRefIdeal.main_arg0) = m ((c.tc : Thread Cert.ConvfIdeal.nD Cert.ConvfIdeal.τ).loc Cert.ConvfIdeal.main_arg0)
      ∧ m' ((c.tc : Thread Cert.ConvfRefIdeal.nD Cert.ConvfRefIdeal.τ).loc Cert.ConvfRefIdeal.main_arg1) = m ((c.tc : Thread Cert.ConvfIdeal.nD Cert.ConvfIdeal.τ).loc Cert.ConvfIdeal.main_arg1)) →
    ∃ (v0 : (c : Dev Cert.ConvfIdeal.nD) → Buf (Elt Ideal) ((c.tc : Thread Cert.ConvfIdeal.nD Cert.ConvfIdeal.τ).loc Cert.ConvfIdeal.main_v0)),
      θ_run (Cert.ConvfIdeal.defs (F := Ideal)) (onTc (τ := Cert.ConvfIdeal.τ) (Cert.ConvfIdeal.main (F := Ideal))) ⟨m, fun _ => 0, g⟩ (fun r => ∀ c : Dev Cert.ConvfIdeal.nD,
          r.2.mem ((c.tc : Thread Cert.ConvfIdeal.nD Cert.ConvfIdeal.τ).loc Cert.ConvfIdeal.main_v0) = v0 c
          ∧ r.2.mem ((c.tc : Thread Cert.ConvfIdeal.nD Cert.ConvfIdeal.τ).loc Cert.ConvfIdeal.main_arg0) = m ((c.tc : Thread Cert.ConvfIdeal.nD Cert.ConvfIdeal.τ).loc Cert.ConvfIdeal.main_arg0)
          ∧ r.2.mem ((c.tc : Thread Cert.ConvfIdeal.nD Cert.ConvfIdeal.τ).loc Cert.ConvfIdeal.main_arg1) = m ((c.tc : Thread Cert.ConvfIdeal.nD Cert.ConvfIdeal.τ).loc Cert.ConvfIdeal.main_arg1))
      ∧ θ_run (Cert.ConvfRefIdeal.defs (F := Ideal)) (onTc (τ := Cert.ConvfRefIdeal.τ) (Cert.ConvfRefIdeal.main (F := Ideal))) ⟨m', fun _ => 0, g'⟩ (fun r => ∀ c : Dev Cert.ConvfRefIdeal.nD,
          r.2.mem ((c.tc : Thread Cert.ConvfRefIdeal.nD Cert.ConvfRefIdeal.τ).loc Cert.ConvfRefIdeal.main_v32) = v0 c
          ∧ r.2.mem ((c.tc : Thread Cert.ConvfRefIdeal.nD Cert.ConvfRefIdeal.τ).loc Cert.ConvfRefIdeal.main_arg0) = m' ((c.tc : Thread Cert.ConvfRefIdeal.nD Cert.ConvfRefIdeal.τ).loc Cert.ConvfRefIdeal.main_arg0)
          ∧ r.2.mem ((c.tc : Thread Cert.ConvfRefIdeal.nD Cert.ConvfRefIdeal.τ).loc Cert.ConvfRefIdeal.main_arg1) = m' ((c.tc : Thread Cert.ConvfRefIdeal.nD Cert.ConvfRefIdeal.τ).loc Cert.ConvfRefIdeal.main_arg1))

def preserves_Mergef_MergefIdeal : Prop :=
  True

def algebraic_MergefIdeal_MergefRefIdeal [hMergefIdeal : Cert.MergefIdeal.Facts] [hMergefRefIdeal : Cert.MergefRefIdeal.Facts] : Prop :=
  ∀ (m : (ℓ : Loc Cert.MergefIdeal.nD Cert.MergefIdeal.τ Cert.MergefIdeal.sig) → Buf (Elt Ideal) ℓ) (g : Dev Cert.MergefIdeal.nD → PrngReg)
    (m' : (ℓ : Loc Cert.MergefRefIdeal.nD Cert.MergefRefIdeal.τ Cert.MergefRefIdeal.sig) → Buf (Elt Ideal) ℓ) (g' : Dev Cert.MergefRefIdeal.nD → PrngReg), Pre_MergefIdeal m →
    (∀ c : Dev Cert.MergefIdeal.nD,
      m' ((c.tc : Thread Cert.MergefRefIdeal.nD Cert.MergefRefIdeal.τ).loc Cert.MergefRefIdeal.main_arg0) = m ((c.tc : Thread Cert.MergefIdeal.nD Cert.MergefIdeal.τ).loc Cert.MergefIdeal.main_arg0)
      ∧ m' ((c.tc : Thread Cert.MergefRefIdeal.nD Cert.MergefRefIdeal.τ).loc Cert.MergefRefIdeal.main_arg1) = m ((c.tc : Thread Cert.MergefIdeal.nD Cert.MergefIdeal.τ).loc Cert.MergefIdeal.main_arg1)
      ∧ m' ((c.tc : Thread Cert.MergefRefIdeal.nD Cert.MergefRefIdeal.τ).loc Cert.MergefRefIdeal.main_arg2) = m ((c.tc : Thread Cert.MergefIdeal.nD Cert.MergefIdeal.τ).loc Cert.MergefIdeal.main_arg2)
      ∧ m' ((c.tc : Thread Cert.MergefRefIdeal.nD Cert.MergefRefIdeal.τ).loc Cert.MergefRefIdeal.main_arg3) = m ((c.tc : Thread Cert.MergefIdeal.nD Cert.MergefIdeal.τ).loc Cert.MergefIdeal.main_arg3)
      ∧ m' ((c.tc : Thread Cert.MergefRefIdeal.nD Cert.MergefRefIdeal.τ).loc Cert.MergefRefIdeal.main_arg4) = m ((c.tc : Thread Cert.MergefIdeal.nD Cert.MergefIdeal.τ).loc Cert.MergefIdeal.main_arg4)) →
    ∃ (v0 : (c : Dev Cert.MergefIdeal.nD) → Buf (Elt Ideal) ((c.tc : Thread Cert.MergefIdeal.nD Cert.MergefIdeal.τ).loc Cert.MergefIdeal.main_v4_0)) (v1 : (c : Dev Cert.MergefIdeal.nD) → Buf (Elt Ideal) ((c.tc : Thread Cert.MergefIdeal.nD Cert.MergefIdeal.τ).loc Cert.MergefIdeal.main_v4_1)) (v2 : (c : Dev Cert.MergefIdeal.nD) → Buf (Elt Ideal) ((c.tc : Thread Cert.MergefIdeal.nD Cert.MergefIdeal.τ).loc Cert.MergefIdeal.main_v4_2)),
      θ_run (Cert.MergefIdeal.defs (F := Ideal)) (onTc (τ := Cert.MergefIdeal.τ) (Cert.MergefIdeal.main (F := Ideal))) ⟨m, fun _ => 0, g⟩ (fun r => ∀ c : Dev Cert.MergefIdeal.nD,
          r.2.mem ((c.tc : Thread Cert.MergefIdeal.nD Cert.MergefIdeal.τ).loc Cert.MergefIdeal.main_v4_0) = v0 c
          ∧ r.2.mem ((c.tc : Thread Cert.MergefIdeal.nD Cert.MergefIdeal.τ).loc Cert.MergefIdeal.main_v4_1) = v1 c
          ∧ r.2.mem ((c.tc : Thread Cert.MergefIdeal.nD Cert.MergefIdeal.τ).loc Cert.MergefIdeal.main_v4_2) = v2 c
          ∧ r.2.mem ((c.tc : Thread Cert.MergefIdeal.nD Cert.MergefIdeal.τ).loc Cert.MergefIdeal.main_arg0) = m ((c.tc : Thread Cert.MergefIdeal.nD Cert.MergefIdeal.τ).loc Cert.MergefIdeal.main_arg0)
          ∧ r.2.mem ((c.tc : Thread Cert.MergefIdeal.nD Cert.MergefIdeal.τ).loc Cert.MergefIdeal.main_arg1) = m ((c.tc : Thread Cert.MergefIdeal.nD Cert.MergefIdeal.τ).loc Cert.MergefIdeal.main_arg1)
          ∧ r.2.mem ((c.tc : Thread Cert.MergefIdeal.nD Cert.MergefIdeal.τ).loc Cert.MergefIdeal.main_arg2) = m ((c.tc : Thread Cert.MergefIdeal.nD Cert.MergefIdeal.τ).loc Cert.MergefIdeal.main_arg2)
          ∧ r.2.mem ((c.tc : Thread Cert.MergefIdeal.nD Cert.MergefIdeal.τ).loc Cert.MergefIdeal.main_arg3) = m ((c.tc : Thread Cert.MergefIdeal.nD Cert.MergefIdeal.τ).loc Cert.MergefIdeal.main_arg3)
          ∧ r.2.mem ((c.tc : Thread Cert.MergefIdeal.nD Cert.MergefIdeal.τ).loc Cert.MergefIdeal.main_arg4) = m ((c.tc : Thread Cert.MergefIdeal.nD Cert.MergefIdeal.τ).loc Cert.MergefIdeal.main_arg4))
      ∧ θ_run (Cert.MergefRefIdeal.defs (F := Ideal)) (onTc (τ := Cert.MergefRefIdeal.τ) (Cert.MergefRefIdeal.main (F := Ideal))) ⟨m', fun _ => 0, g'⟩ (fun r => ∀ c : Dev Cert.MergefRefIdeal.nD,
          r.2.mem ((c.tc : Thread Cert.MergefRefIdeal.nD Cert.MergefRefIdeal.τ).loc Cert.MergefRefIdeal.main_v8) = v0 c
          ∧ r.2.mem ((c.tc : Thread Cert.MergefRefIdeal.nD Cert.MergefRefIdeal.τ).loc Cert.MergefRefIdeal.main_v9) = v1 c
          ∧ r.2.mem ((c.tc : Thread Cert.MergefRefIdeal.nD Cert.MergefRefIdeal.τ).loc Cert.MergefRefIdeal.main_v25) = v2 c
          ∧ r.2.mem ((c.tc : Thread Cert.MergefRefIdeal.nD Cert.MergefRefIdeal.τ).loc Cert.MergefRefIdeal.main_arg0) = m' ((c.tc : Thread Cert.MergefRefIdeal.nD Cert.MergefRefIdeal.τ).loc Cert.MergefRefIdeal.main_arg0)
          ∧ r.2.mem ((c.tc : Thread Cert.MergefRefIdeal.nD Cert.MergefRefIdeal.τ).loc Cert.MergefRefIdeal.main_arg1) = m' ((c.tc : Thread Cert.MergefRefIdeal.nD Cert.MergefRefIdeal.τ).loc Cert.MergefRefIdeal.main_arg1)
          ∧ r.2.mem ((c.tc : Thread Cert.MergefRefIdeal.nD Cert.MergefRefIdeal.τ).loc Cert.MergefRefIdeal.main_arg2) = m' ((c.tc : Thread Cert.MergefRefIdeal.nD Cert.MergefRefIdeal.τ).loc Cert.MergefRefIdeal.main_arg2)
          ∧ r.2.mem ((c.tc : Thread Cert.MergefRefIdeal.nD Cert.MergefRefIdeal.τ).loc Cert.MergefRefIdeal.main_arg3) = m' ((c.tc : Thread Cert.MergefRefIdeal.nD Cert.MergefRefIdeal.τ).loc Cert.MergefRefIdeal.main_arg3)
          ∧ r.2.mem ((c.tc : Thread Cert.MergefRefIdeal.nD Cert.MergefRefIdeal.τ).loc Cert.MergefRefIdeal.main_arg4) = m' ((c.tc : Thread Cert.MergefRefIdeal.nD Cert.MergefRefIdeal.τ).loc Cert.MergefRefIdeal.main_arg4))

def preserves_Swigluf_SwiglufIdeal : Prop :=
  True

def algebraic_SwiglufIdeal_SwiglufRefIdeal [hSwiglufIdeal : Cert.SwiglufIdeal.Facts] [hSwiglufRefIdeal : Cert.SwiglufRefIdeal.Facts] : Prop :=
  ∀ (m : (ℓ : Loc Cert.SwiglufIdeal.nD Cert.SwiglufIdeal.τ Cert.SwiglufIdeal.sig) → Buf (Elt Ideal) ℓ) (g : Dev Cert.SwiglufIdeal.nD → PrngReg)
    (m' : (ℓ : Loc Cert.SwiglufRefIdeal.nD Cert.SwiglufRefIdeal.τ Cert.SwiglufRefIdeal.sig) → Buf (Elt Ideal) ℓ) (g' : Dev Cert.SwiglufRefIdeal.nD → PrngReg), Pre_SwiglufIdeal m →
    (∀ c : Dev Cert.SwiglufIdeal.nD,
      m' ((c.tc : Thread Cert.SwiglufRefIdeal.nD Cert.SwiglufRefIdeal.τ).loc Cert.SwiglufRefIdeal.main_arg0) = m ((c.tc : Thread Cert.SwiglufIdeal.nD Cert.SwiglufIdeal.τ).loc Cert.SwiglufIdeal.main_arg0)
      ∧ m' ((c.tc : Thread Cert.SwiglufRefIdeal.nD Cert.SwiglufRefIdeal.τ).loc Cert.SwiglufRefIdeal.main_arg1) = m ((c.tc : Thread Cert.SwiglufIdeal.nD Cert.SwiglufIdeal.τ).loc Cert.SwiglufIdeal.main_arg1)) →
    ∃ (v0 : (c : Dev Cert.SwiglufIdeal.nD) → Buf (Elt Ideal) ((c.tc : Thread Cert.SwiglufIdeal.nD Cert.SwiglufIdeal.τ).loc Cert.SwiglufIdeal.main_v2_0)) (v1 : (c : Dev Cert.SwiglufIdeal.nD) → Buf (Elt Ideal) ((c.tc : Thread Cert.SwiglufIdeal.nD Cert.SwiglufIdeal.τ).loc Cert.SwiglufIdeal.main_v2_1)) (v2 : (c : Dev Cert.SwiglufIdeal.nD) → Buf (Elt Ideal) ((c.tc : Thread Cert.SwiglufIdeal.nD Cert.SwiglufIdeal.τ).loc Cert.SwiglufIdeal.main_v2_2)),
      θ_run (Cert.SwiglufIdeal.defs (F := Ideal)) (onTc (τ := Cert.SwiglufIdeal.τ) (Cert.SwiglufIdeal.main (F := Ideal))) ⟨m, fun _ => 0, g⟩ (fun r => ∀ c : Dev Cert.SwiglufIdeal.nD,
          r.2.mem ((c.tc : Thread Cert.SwiglufIdeal.nD Cert.SwiglufIdeal.τ).loc Cert.SwiglufIdeal.main_v2_0) = v0 c
          ∧ r.2.mem ((c.tc : Thread Cert.SwiglufIdeal.nD Cert.SwiglufIdeal.τ).loc Cert.SwiglufIdeal.main_v2_1) = v1 c
          ∧ r.2.mem ((c.tc : Thread Cert.SwiglufIdeal.nD Cert.SwiglufIdeal.τ).loc Cert.SwiglufIdeal.main_v2_2) = v2 c
          ∧ r.2.mem ((c.tc : Thread Cert.SwiglufIdeal.nD Cert.SwiglufIdeal.τ).loc Cert.SwiglufIdeal.main_arg0) = m ((c.tc : Thread Cert.SwiglufIdeal.nD Cert.SwiglufIdeal.τ).loc Cert.SwiglufIdeal.main_arg0)
          ∧ r.2.mem ((c.tc : Thread Cert.SwiglufIdeal.nD Cert.SwiglufIdeal.τ).loc Cert.SwiglufIdeal.main_arg1) = m ((c.tc : Thread Cert.SwiglufIdeal.nD Cert.SwiglufIdeal.τ).loc Cert.SwiglufIdeal.main_arg1))
      ∧ θ_run (Cert.SwiglufRefIdeal.defs (F := Ideal)) (onTc (τ := Cert.SwiglufRefIdeal.τ) (Cert.SwiglufRefIdeal.main (F := Ideal))) ⟨m', fun _ => 0, g'⟩ (fun r => ∀ c : Dev Cert.SwiglufRefIdeal.nD,
          r.2.mem ((c.tc : Thread Cert.SwiglufRefIdeal.nD Cert.SwiglufRefIdeal.τ).loc Cert.SwiglufRefIdeal.main_v1) = v0 c
          ∧ r.2.mem ((c.tc : Thread Cert.SwiglufRefIdeal.nD Cert.SwiglufRefIdeal.τ).loc Cert.SwiglufRefIdeal.main_v2) = v1 c
          ∧ r.2.mem ((c.tc : Thread Cert.SwiglufRefIdeal.nD Cert.SwiglufRefIdeal.τ).loc Cert.SwiglufRefIdeal.main_v5) = v2 c
          ∧ r.2.mem ((c.tc : Thread Cert.SwiglufRefIdeal.nD Cert.SwiglufRefIdeal.τ).loc Cert.SwiglufRefIdeal.main_arg0) = m' ((c.tc : Thread Cert.SwiglufRefIdeal.nD Cert.SwiglufRefIdeal.τ).loc Cert.SwiglufRefIdeal.main_arg0)
          ∧ r.2.mem ((c.tc : Thread Cert.SwiglufRefIdeal.nD Cert.SwiglufRefIdeal.τ).loc Cert.SwiglufRefIdeal.main_arg1) = m' ((c.tc : Thread Cert.SwiglufRefIdeal.nD Cert.SwiglufRefIdeal.τ).loc Cert.SwiglufRefIdeal.main_arg1))

def preserves_Normf_NormfIdeal : Prop :=
  True

def algebraic_NormfIdeal_NormfRefIdeal [hNormfIdeal : Cert.NormfIdeal.Facts] [hNormfRefIdeal : Cert.NormfRefIdeal.Facts] : Prop :=
  ∀ (m : (ℓ : Loc Cert.NormfIdeal.nD Cert.NormfIdeal.τ Cert.NormfIdeal.sig) → Buf (Elt Ideal) ℓ) (g : Dev Cert.NormfIdeal.nD → PrngReg)
    (m' : (ℓ : Loc Cert.NormfRefIdeal.nD Cert.NormfRefIdeal.τ Cert.NormfRefIdeal.sig) → Buf (Elt Ideal) ℓ) (g' : Dev Cert.NormfRefIdeal.nD → PrngReg), Pre_NormfIdeal m →
    (∀ c : Dev Cert.NormfIdeal.nD,
      m' ((c.tc : Thread Cert.NormfRefIdeal.nD Cert.NormfRefIdeal.τ).loc Cert.NormfRefIdeal.main_arg0) = m ((c.tc : Thread Cert.NormfIdeal.nD Cert.NormfIdeal.τ).loc Cert.NormfIdeal.main_arg0)
      ∧ m' ((c.tc : Thread Cert.NormfRefIdeal.nD Cert.NormfRefIdeal.τ).loc Cert.NormfRefIdeal.main_arg1) = m ((c.tc : Thread Cert.NormfIdeal.nD Cert.NormfIdeal.τ).loc Cert.NormfIdeal.main_arg1)) →
    ∃ (v0 : (c : Dev Cert.NormfIdeal.nD) → Buf (Elt Ideal) ((c.tc : Thread Cert.NormfIdeal.nD Cert.NormfIdeal.τ).loc Cert.NormfIdeal.main_v0)),
      θ_run (Cert.NormfIdeal.defs (F := Ideal)) (onTc (τ := Cert.NormfIdeal.τ) (Cert.NormfIdeal.main (F := Ideal))) ⟨m, fun _ => 0, g⟩ (fun r => ∀ c : Dev Cert.NormfIdeal.nD,
          r.2.mem ((c.tc : Thread Cert.NormfIdeal.nD Cert.NormfIdeal.τ).loc Cert.NormfIdeal.main_v0) = v0 c
          ∧ r.2.mem ((c.tc : Thread Cert.NormfIdeal.nD Cert.NormfIdeal.τ).loc Cert.NormfIdeal.main_arg0) = m ((c.tc : Thread Cert.NormfIdeal.nD Cert.NormfIdeal.τ).loc Cert.NormfIdeal.main_arg0)
          ∧ r.2.mem ((c.tc : Thread Cert.NormfIdeal.nD Cert.NormfIdeal.τ).loc Cert.NormfIdeal.main_arg1) = m ((c.tc : Thread Cert.NormfIdeal.nD Cert.NormfIdeal.τ).loc Cert.NormfIdeal.main_arg1))
      ∧ θ_run (Cert.NormfRefIdeal.defs (F := Ideal)) (onTc (τ := Cert.NormfRefIdeal.τ) (Cert.NormfRefIdeal.main (F := Ideal))) ⟨m', fun _ => 0, g'⟩ (fun r => ∀ c : Dev Cert.NormfRefIdeal.nD,
          r.2.mem ((c.tc : Thread Cert.NormfRefIdeal.nD Cert.NormfRefIdeal.τ).loc Cert.NormfRefIdeal.main_v14) = v0 c
          ∧ r.2.mem ((c.tc : Thread Cert.NormfRefIdeal.nD Cert.NormfRefIdeal.τ).loc Cert.NormfRefIdeal.main_arg0) = m' ((c.tc : Thread Cert.NormfRefIdeal.nD Cert.NormfRefIdeal.τ).loc Cert.NormfRefIdeal.main_arg0)
          ∧ r.2.mem ((c.tc : Thread Cert.NormfRefIdeal.nD Cert.NormfRefIdeal.τ).loc Cert.NormfRefIdeal.main_arg1) = m' ((c.tc : Thread Cert.NormfRefIdeal.nD Cert.NormfRefIdeal.τ).loc Cert.NormfRefIdeal.main_arg1))

def preserves_Outnorm_OutnormIdeal : Prop :=
  True

def algebraic_OutnormIdeal_OutnormRefIdeal [hOutnormIdeal : Cert.OutnormIdeal.Facts] [hOutnormRefIdeal : Cert.OutnormRefIdeal.Facts] : Prop :=
  ∀ (m : (ℓ : Loc Cert.OutnormIdeal.nD Cert.OutnormIdeal.τ Cert.OutnormIdeal.sig) → Buf (Elt Ideal) ℓ) (g : Dev Cert.OutnormIdeal.nD → PrngReg)
    (m' : (ℓ : Loc Cert.OutnormRefIdeal.nD Cert.OutnormRefIdeal.τ Cert.OutnormRefIdeal.sig) → Buf (Elt Ideal) ℓ) (g' : Dev Cert.OutnormRefIdeal.nD → PrngReg), Pre_OutnormIdeal m →
    (∀ c : Dev Cert.OutnormIdeal.nD,
      m' ((c.tc : Thread Cert.OutnormRefIdeal.nD Cert.OutnormRefIdeal.τ).loc Cert.OutnormRefIdeal.main_arg0) = m ((c.tc : Thread Cert.OutnormIdeal.nD Cert.OutnormIdeal.τ).loc Cert.OutnormIdeal.main_arg0)
      ∧ m' ((c.tc : Thread Cert.OutnormRefIdeal.nD Cert.OutnormRefIdeal.τ).loc Cert.OutnormRefIdeal.main_arg1) = m ((c.tc : Thread Cert.OutnormIdeal.nD Cert.OutnormIdeal.τ).loc Cert.OutnormIdeal.main_arg1)
      ∧ m' ((c.tc : Thread Cert.OutnormRefIdeal.nD Cert.OutnormRefIdeal.τ).loc Cert.OutnormRefIdeal.main_arg2) = m ((c.tc : Thread Cert.OutnormIdeal.nD Cert.OutnormIdeal.τ).loc Cert.OutnormIdeal.main_arg2)
      ∧ m' ((c.tc : Thread Cert.OutnormRefIdeal.nD Cert.OutnormRefIdeal.τ).loc Cert.OutnormRefIdeal.main_arg3) = m ((c.tc : Thread Cert.OutnormIdeal.nD Cert.OutnormIdeal.τ).loc Cert.OutnormIdeal.main_arg3)) →
    ∃ (v0 : (c : Dev Cert.OutnormIdeal.nD) → Buf (Elt Ideal) ((c.tc : Thread Cert.OutnormIdeal.nD Cert.OutnormIdeal.τ).loc Cert.OutnormIdeal.main_v2_0)) (v1 : (c : Dev Cert.OutnormIdeal.nD) → Buf (Elt Ideal) ((c.tc : Thread Cert.OutnormIdeal.nD Cert.OutnormIdeal.τ).loc Cert.OutnormIdeal.main_v2_1)),
      θ_run (Cert.OutnormIdeal.defs (F := Ideal)) (onTc (τ := Cert.OutnormIdeal.τ) (Cert.OutnormIdeal.main (F := Ideal))) ⟨m, fun _ => 0, g⟩ (fun r => ∀ c : Dev Cert.OutnormIdeal.nD,
          r.2.mem ((c.tc : Thread Cert.OutnormIdeal.nD Cert.OutnormIdeal.τ).loc Cert.OutnormIdeal.main_v2_0) = v0 c
          ∧ r.2.mem ((c.tc : Thread Cert.OutnormIdeal.nD Cert.OutnormIdeal.τ).loc Cert.OutnormIdeal.main_v2_1) = v1 c
          ∧ r.2.mem ((c.tc : Thread Cert.OutnormIdeal.nD Cert.OutnormIdeal.τ).loc Cert.OutnormIdeal.main_arg0) = m ((c.tc : Thread Cert.OutnormIdeal.nD Cert.OutnormIdeal.τ).loc Cert.OutnormIdeal.main_arg0)
          ∧ r.2.mem ((c.tc : Thread Cert.OutnormIdeal.nD Cert.OutnormIdeal.τ).loc Cert.OutnormIdeal.main_arg1) = m ((c.tc : Thread Cert.OutnormIdeal.nD Cert.OutnormIdeal.τ).loc Cert.OutnormIdeal.main_arg1)
          ∧ r.2.mem ((c.tc : Thread Cert.OutnormIdeal.nD Cert.OutnormIdeal.τ).loc Cert.OutnormIdeal.main_arg2) = m ((c.tc : Thread Cert.OutnormIdeal.nD Cert.OutnormIdeal.τ).loc Cert.OutnormIdeal.main_arg2)
          ∧ r.2.mem ((c.tc : Thread Cert.OutnormIdeal.nD Cert.OutnormIdeal.τ).loc Cert.OutnormIdeal.main_arg3) = m ((c.tc : Thread Cert.OutnormIdeal.nD Cert.OutnormIdeal.τ).loc Cert.OutnormIdeal.main_arg3))
      ∧ θ_run (Cert.OutnormRefIdeal.defs (F := Ideal)) (onTc (τ := Cert.OutnormRefIdeal.τ) (Cert.OutnormRefIdeal.main (F := Ideal))) ⟨m', fun _ => 0, g'⟩ (fun r => ∀ c : Dev Cert.OutnormRefIdeal.nD,
          r.2.mem ((c.tc : Thread Cert.OutnormRefIdeal.nD Cert.OutnormRefIdeal.τ).loc Cert.OutnormRefIdeal.main_v1) = v0 c
          ∧ r.2.mem ((c.tc : Thread Cert.OutnormRefIdeal.nD Cert.OutnormRefIdeal.τ).loc Cert.OutnormRefIdeal.main_v16) = v1 c
          ∧ r.2.mem ((c.tc : Thread Cert.OutnormRefIdeal.nD Cert.OutnormRefIdeal.τ).loc Cert.OutnormRefIdeal.main_arg0) = m' ((c.tc : Thread Cert.OutnormRefIdeal.nD Cert.OutnormRefIdeal.τ).loc Cert.OutnormRefIdeal.main_arg0)
          ∧ r.2.mem ((c.tc : Thread Cert.OutnormRefIdeal.nD Cert.OutnormRefIdeal.τ).loc Cert.OutnormRefIdeal.main_arg1) = m' ((c.tc : Thread Cert.OutnormRefIdeal.nD Cert.OutnormRefIdeal.τ).loc Cert.OutnormRefIdeal.main_arg1)
          ∧ r.2.mem ((c.tc : Thread Cert.OutnormRefIdeal.nD Cert.OutnormRefIdeal.τ).loc Cert.OutnormRefIdeal.main_arg2) = m' ((c.tc : Thread Cert.OutnormRefIdeal.nD Cert.OutnormRefIdeal.τ).loc Cert.OutnormRefIdeal.main_arg2)
          ∧ r.2.mem ((c.tc : Thread Cert.OutnormRefIdeal.nD Cert.OutnormRefIdeal.τ).loc Cert.OutnormRefIdeal.main_arg3) = m' ((c.tc : Thread Cert.OutnormRefIdeal.nD Cert.OutnormRefIdeal.τ).loc Cert.OutnormRefIdeal.main_arg3))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v2)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v2) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v4) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wgateup_WgateupIdeal : Prop :=
  True

def algebraic_WgateupIdeal_WgateupRefIdeal [hWgateupIdeal : Cert.WgateupIdeal.Facts] [hWgateupRefIdeal : Cert.WgateupRefIdeal.Facts] : Prop :=
  ∀ (m : (ℓ : Loc Cert.WgateupIdeal.nD Cert.WgateupIdeal.τ Cert.WgateupIdeal.sig) → Buf (Elt Ideal) ℓ) (g : Dev Cert.WgateupIdeal.nD → PrngReg)
    (m' : (ℓ : Loc Cert.WgateupRefIdeal.nD Cert.WgateupRefIdeal.τ Cert.WgateupRefIdeal.sig) → Buf (Elt Ideal) ℓ) (g' : Dev Cert.WgateupRefIdeal.nD → PrngReg), Pre_WgateupIdeal m →
    (∀ c : Dev Cert.WgateupIdeal.nD,
      m' ((c.tc : Thread Cert.WgateupRefIdeal.nD Cert.WgateupRefIdeal.τ).loc Cert.WgateupRefIdeal.main_arg0) = m ((c.tc : Thread Cert.WgateupIdeal.nD Cert.WgateupIdeal.τ).loc Cert.WgateupIdeal.main_arg0)
      ∧ m' ((c.tc : Thread Cert.WgateupRefIdeal.nD Cert.WgateupRefIdeal.τ).loc Cert.WgateupRefIdeal.main_arg1) = m ((c.tc : Thread Cert.WgateupIdeal.nD Cert.WgateupIdeal.τ).loc Cert.WgateupIdeal.main_arg1)
      ∧ m' ((c.tc : Thread Cert.WgateupRefIdeal.nD Cert.WgateupRefIdeal.τ).loc Cert.WgateupRefIdeal.main_arg2) = m ((c.tc : Thread Cert.WgateupIdeal.nD Cert.WgateupIdeal.τ).loc Cert.WgateupIdeal.main_arg2)) →
    ∃ (v0 : (c : Dev Cert.WgateupIdeal.nD) → Buf (Elt Ideal) ((c.tc : Thread Cert.WgateupIdeal.nD Cert.WgateupIdeal.τ).loc Cert.WgateupIdeal.main_v3)),
      θ_run (Cert.WgateupIdeal.defs (F := Ideal)) (onTc (τ := Cert.WgateupIdeal.τ) (Cert.WgateupIdeal.main (F := Ideal))) ⟨m, fun _ => 0, g⟩ (fun r => ∀ c : Dev Cert.WgateupIdeal.nD,
          r.2.mem ((c.tc : Thread Cert.WgateupIdeal.nD Cert.WgateupIdeal.τ).loc Cert.WgateupIdeal.main_v3) = v0 c
          ∧ r.2.mem ((c.tc : Thread Cert.WgateupIdeal.nD Cert.WgateupIdeal.τ).loc Cert.WgateupIdeal.main_arg0) = m ((c.tc : Thread Cert.WgateupIdeal.nD Cert.WgateupIdeal.τ).loc Cert.WgateupIdeal.main_arg0)
          ∧ r.2.mem ((c.tc : Thread Cert.WgateupIdeal.nD Cert.WgateupIdeal.τ).loc Cert.WgateupIdeal.main_arg1) = m ((c.tc : Thread Cert.WgateupIdeal.nD Cert.WgateupIdeal.τ).loc Cert.WgateupIdeal.main_arg1)
          ∧ r.2.mem ((c.tc : Thread Cert.WgateupIdeal.nD Cert.WgateupIdeal.τ).loc Cert.WgateupIdeal.main_arg2) = m ((c.tc : Thread Cert.WgateupIdeal.nD Cert.WgateupIdeal.τ).loc Cert.WgateupIdeal.main_arg2))
      ∧ θ_run (Cert.WgateupRefIdeal.defs (F := Ideal)) (onTc (τ := Cert.WgateupRefIdeal.τ) (Cert.WgateupRefIdeal.main (F := Ideal))) ⟨m', fun _ => 0, g'⟩ (fun r => ∀ c : Dev Cert.WgateupRefIdeal.nD,
          r.2.mem ((c.tc : Thread Cert.WgateupRefIdeal.nD Cert.WgateupRefIdeal.τ).loc Cert.WgateupRefIdeal.main_v5) = v0 c
          ∧ r.2.mem ((c.tc : Thread Cert.WgateupRefIdeal.nD Cert.WgateupRefIdeal.τ).loc Cert.WgateupRefIdeal.main_arg0) = m' ((c.tc : Thread Cert.WgateupRefIdeal.nD Cert.WgateupRefIdeal.τ).loc Cert.WgateupRefIdeal.main_arg0)
          ∧ r.2.mem ((c.tc : Thread Cert.WgateupRefIdeal.nD Cert.WgateupRefIdeal.τ).loc Cert.WgateupRefIdeal.main_arg1) = m' ((c.tc : Thread Cert.WgateupRefIdeal.nD Cert.WgateupRefIdeal.τ).loc Cert.WgateupRefIdeal.main_arg1)
          ∧ r.2.mem ((c.tc : Thread Cert.WgateupRefIdeal.nD Cert.WgateupRefIdeal.τ).loc Cert.WgateupRefIdeal.main_arg2) = m' ((c.tc : Thread Cert.WgateupRefIdeal.nD Cert.WgateupRefIdeal.τ).loc Cert.WgateupRefIdeal.main_arg2))

def preserves_Hin_HinIdeal : Prop :=
  True

def algebraic_HinIdeal_HinRefIdeal [hHinIdeal : Cert.HinIdeal.Facts] [hHinRefIdeal : Cert.HinRefIdeal.Facts] : Prop :=
  ∀ (m : (ℓ : Loc Cert.HinIdeal.nD Cert.HinIdeal.τ Cert.HinIdeal.sig) → Buf (Elt Ideal) ℓ) (g : Dev Cert.HinIdeal.nD → PrngReg)
    (m' : (ℓ : Loc Cert.HinRefIdeal.nD Cert.HinRefIdeal.τ Cert.HinRefIdeal.sig) → Buf (Elt Ideal) ℓ) (g' : Dev Cert.HinRefIdeal.nD → PrngReg), Pre_HinIdeal m →
    (∀ c : Dev Cert.HinIdeal.nD,
      m' ((c.tc : Thread Cert.HinRefIdeal.nD Cert.HinRefIdeal.τ).loc Cert.HinRefIdeal.main_arg0) = m ((c.tc : Thread Cert.HinIdeal.nD Cert.HinIdeal.τ).loc Cert.HinIdeal.main_arg0)
      ∧ m' ((c.tc : Thread Cert.HinRefIdeal.nD Cert.HinRefIdeal.τ).loc Cert.HinRefIdeal.main_arg1) = m ((c.tc : Thread Cert.HinIdeal.nD Cert.HinIdeal.τ).loc Cert.HinIdeal.main_arg1)) →
    ∃ (v0 : (c : Dev Cert.HinIdeal.nD) → Buf (Elt Ideal) ((c.tc : Thread Cert.HinIdeal.nD Cert.HinIdeal.τ).loc Cert.HinIdeal.main_v2)),
      θ_run (Cert.HinIdeal.defs (F := Ideal)) (onTc (τ := Cert.HinIdeal.τ) (Cert.HinIdeal.main (F := Ideal))) ⟨m, fun _ => 0, g⟩ (fun r => ∀ c : Dev Cert.HinIdeal.nD,
          r.2.mem ((c.tc : Thread Cert.HinIdeal.nD Cert.HinIdeal.τ).loc Cert.HinIdeal.main_v2) = v0 c
          ∧ r.2.mem ((c.tc : Thread Cert.HinIdeal.nD Cert.HinIdeal.τ).loc Cert.HinIdeal.main_arg0) = m ((c.tc : Thread Cert.HinIdeal.nD Cert.HinIdeal.τ).loc Cert.HinIdeal.main_arg0)
          ∧ r.2.mem ((c.tc : Thread Cert.HinIdeal.nD Cert.HinIdeal.τ).loc Cert.HinIdeal.main_arg1) = m ((c.tc : Thread Cert.HinIdeal.nD Cert.HinIdeal.τ).loc Cert.HinIdeal.main_arg1))
      ∧ θ_run (Cert.HinRefIdeal.defs (F := Ideal)) (onTc (τ := Cert.HinRefIdeal.τ) (Cert.HinRefIdeal.main (F := Ideal))) ⟨m', fun _ => 0, g'⟩ (fun r => ∀ c : Dev Cert.HinRefIdeal.nD,
          r.2.mem ((c.tc : Thread Cert.HinRefIdeal.nD Cert.HinRefIdeal.τ).loc Cert.HinRefIdeal.main_v2) = v0 c
          ∧ r.2.mem ((c.tc : Thread Cert.HinRefIdeal.nD Cert.HinRefIdeal.τ).loc Cert.HinRefIdeal.main_arg0) = m' ((c.tc : Thread Cert.HinRefIdeal.nD Cert.HinRefIdeal.τ).loc Cert.HinRefIdeal.main_arg0)
          ∧ r.2.mem ((c.tc : Thread Cert.HinRefIdeal.nD Cert.HinRefIdeal.τ).loc Cert.HinRefIdeal.main_arg1) = m' ((c.tc : Thread Cert.HinRefIdeal.nD Cert.HinRefIdeal.τ).loc Cert.HinRefIdeal.main_arg1))

def preserves_Hgateup_HgateupIdeal : Prop :=
  True

def algebraic_HgateupIdeal_HgateupRefIdeal [hHgateupIdeal : Cert.HgateupIdeal.Facts] [hHgateupRefIdeal : Cert.HgateupRefIdeal.Facts] : Prop :=
  ∀ (m : (ℓ : Loc Cert.HgateupIdeal.nD Cert.HgateupIdeal.τ Cert.HgateupIdeal.sig) → Buf (Elt Ideal) ℓ) (g : Dev Cert.HgateupIdeal.nD → PrngReg)
    (m' : (ℓ : Loc Cert.HgateupRefIdeal.nD Cert.HgateupRefIdeal.τ Cert.HgateupRefIdeal.sig) → Buf (Elt Ideal) ℓ) (g' : Dev Cert.HgateupRefIdeal.nD → PrngReg), Pre_HgateupIdeal m →
    (∀ c : Dev Cert.HgateupIdeal.nD,
      m' ((c.tc : Thread Cert.HgateupRefIdeal.nD Cert.HgateupRefIdeal.τ).loc Cert.HgateupRefIdeal.main_arg0) = m ((c.tc : Thread Cert.HgateupIdeal.nD Cert.HgateupIdeal.τ).loc Cert.HgateupIdeal.main_arg0)
      ∧ m' ((c.tc : Thread Cert.HgateupRefIdeal.nD Cert.HgateupRefIdeal.τ).loc Cert.HgateupRefIdeal.main_arg1) = m ((c.tc : Thread Cert.HgateupIdeal.nD Cert.HgateupIdeal.τ).loc Cert.HgateupIdeal.main_arg1)
      ∧ m' ((c.tc : Thread Cert.HgateupRefIdeal.nD Cert.HgateupRefIdeal.τ).loc Cert.HgateupRefIdeal.main_arg2) = m ((c.tc : Thread Cert.HgateupIdeal.nD Cert.HgateupIdeal.τ).loc Cert.HgateupIdeal.main_arg2)) →
    ∃ (v0 : (c : Dev Cert.HgateupIdeal.nD) → Buf (Elt Ideal) ((c.tc : Thread Cert.HgateupIdeal.nD Cert.HgateupIdeal.τ).loc Cert.HgateupIdeal.main_v3)),
      θ_run (Cert.HgateupIdeal.defs (F := Ideal)) (onTc (τ := Cert.HgateupIdeal.τ) (Cert.HgateupIdeal.main (F := Ideal))) ⟨m, fun _ => 0, g⟩ (fun r => ∀ c : Dev Cert.HgateupIdeal.nD,
          r.2.mem ((c.tc : Thread Cert.HgateupIdeal.nD Cert.HgateupIdeal.τ).loc Cert.HgateupIdeal.main_v3) = v0 c
          ∧ r.2.mem ((c.tc : Thread Cert.HgateupIdeal.nD Cert.HgateupIdeal.τ).loc Cert.HgateupIdeal.main_arg0) = m ((c.tc : Thread Cert.HgateupIdeal.nD Cert.HgateupIdeal.τ).loc Cert.HgateupIdeal.main_arg0)
          ∧ r.2.mem ((c.tc : Thread Cert.HgateupIdeal.nD Cert.HgateupIdeal.τ).loc Cert.HgateupIdeal.main_arg1) = m ((c.tc : Thread Cert.HgateupIdeal.nD Cert.HgateupIdeal.τ).loc Cert.HgateupIdeal.main_arg1)
          ∧ r.2.mem ((c.tc : Thread Cert.HgateupIdeal.nD Cert.HgateupIdeal.τ).loc Cert.HgateupIdeal.main_arg2) = m ((c.tc : Thread Cert.HgateupIdeal.nD Cert.HgateupIdeal.τ).loc Cert.HgateupIdeal.main_arg2))
      ∧ θ_run (Cert.HgateupRefIdeal.defs (F := Ideal)) (onTc (τ := Cert.HgateupRefIdeal.τ) (Cert.HgateupRefIdeal.main (F := Ideal))) ⟨m', fun _ => 0, g'⟩ (fun r => ∀ c : Dev Cert.HgateupRefIdeal.nD,
          r.2.mem ((c.tc : Thread Cert.HgateupRefIdeal.nD Cert.HgateupRefIdeal.τ).loc Cert.HgateupRefIdeal.main_v3) = v0 c
          ∧ r.2.mem ((c.tc : Thread Cert.HgateupRefIdeal.nD Cert.HgateupRefIdeal.τ).loc Cert.HgateupRefIdeal.main_arg0) = m' ((c.tc : Thread Cert.HgateupRefIdeal.nD Cert.HgateupRefIdeal.τ).loc Cert.HgateupRefIdeal.main_arg0)
          ∧ r.2.mem ((c.tc : Thread Cert.HgateupRefIdeal.nD Cert.HgateupRefIdeal.τ).loc Cert.HgateupRefIdeal.main_arg1) = m' ((c.tc : Thread Cert.HgateupRefIdeal.nD Cert.HgateupRefIdeal.τ).loc Cert.HgateupRefIdeal.main_arg1)
          ∧ r.2.mem ((c.tc : Thread Cert.HgateupRefIdeal.nD Cert.HgateupRefIdeal.τ).loc Cert.HgateupRefIdeal.main_arg2) = m' ((c.tc : Thread Cert.HgateupRefIdeal.nD Cert.HgateupRefIdeal.τ).loc Cert.HgateupRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v0_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v0_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg1) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Ssum_SsumIdeal : Prop :=
  True

def algebraic_SsumIdeal_SsumRefIdeal [hSsumIdeal : Cert.SsumIdeal.Facts] [hSsumRefIdeal : Cert.SsumRefIdeal.Facts] : Prop :=
  ∀ (m : (ℓ : Loc Cert.SsumIdeal.nD Cert.SsumIdeal.τ Cert.SsumIdeal.sig) → Buf (Elt Ideal) ℓ) (g : Dev Cert.SsumIdeal.nD → PrngReg)
    (m' : (ℓ : Loc Cert.SsumRefIdeal.nD Cert.SsumRefIdeal.τ Cert.SsumRefIdeal.sig) → Buf (Elt Ideal) ℓ) (g' : Dev Cert.SsumRefIdeal.nD → PrngReg), Pre_SsumIdeal m →
    (∀ c : Dev Cert.SsumIdeal.nD,
      m' ((c.tc : Thread Cert.SsumRefIdeal.nD Cert.SsumRefIdeal.τ).loc Cert.SsumRefIdeal.main_arg0) = m ((c.tc : Thread Cert.SsumIdeal.nD Cert.SsumIdeal.τ).loc Cert.SsumIdeal.main_arg0)) →
    ∃ (v0 : (c : Dev Cert.SsumIdeal.nD) → Buf (Elt Ideal) ((c.tc : Thread Cert.SsumIdeal.nD Cert.SsumIdeal.τ).loc Cert.SsumIdeal.main_v0)),
      θ_run (Cert.SsumIdeal.defs (F := Ideal)) (onTc (τ := Cert.SsumIdeal.τ) (Cert.SsumIdeal.main (F := Ideal))) ⟨m, fun _ => 0, g⟩ (fun r => ∀ c : Dev Cert.SsumIdeal.nD,
          r.2.mem ((c.tc : Thread Cert.SsumIdeal.nD Cert.SsumIdeal.τ).loc Cert.SsumIdeal.main_v0) = v0 c
          ∧ r.2.mem ((c.tc : Thread Cert.SsumIdeal.nD Cert.SsumIdeal.τ).loc Cert.SsumIdeal.main_arg0) = m ((c.tc : Thread Cert.SsumIdeal.nD Cert.SsumIdeal.τ).loc Cert.SsumIdeal.main_arg0))
      ∧ θ_run (Cert.SsumRefIdeal.defs (F := Ideal)) (onTc (τ := Cert.SsumRefIdeal.τ) (Cert.SsumRefIdeal.main (F := Ideal))) ⟨m', fun _ => 0, g'⟩ (fun r => ∀ c : Dev Cert.SsumRefIdeal.nD,
          r.2.mem ((c.tc : Thread Cert.SsumRefIdeal.nD Cert.SsumRefIdeal.τ).loc Cert.SsumRefIdeal.main_v0) = v0 c
          ∧ r.2.mem ((c.tc : Thread Cert.SsumRefIdeal.nD Cert.SsumRefIdeal.τ).loc Cert.SsumRefIdeal.main_arg0) = m' ((c.tc : Thread Cert.SsumRefIdeal.nD Cert.SsumRefIdeal.τ).loc Cert.SsumRefIdeal.main_arg0))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v3) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5))

def Claim : Prop :=
  ∃ (hSwiglu : Cert.Swiglu.Facts) (hSwigluIdeal : Cert.SwigluIdeal.Facts) (hSwigluRefIdeal : Cert.SwigluRefIdeal.Facts) (hMerge : Cert.Merge.Facts) (hMergeIdeal : Cert.MergeIdeal.Facts) (hMergeRefIdeal : Cert.MergeRefIdeal.Facts) (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hKv : Cert.Kv.Facts) (hKvIdeal : Cert.KvIdeal.Facts) (hKvRefIdeal : Cert.KvRefIdeal.Facts) (hNorm : Cert.Norm.Facts) (hNormIdeal : Cert.NormIdeal.Facts) (hNormRefIdeal : Cert.NormRefIdeal.Facts) (hMixnorm : Cert.Mixnorm.Facts) (hMixnormIdeal : Cert.MixnormIdeal.Facts) (hMixnormRefIdeal : Cert.MixnormRefIdeal.Facts) (hLoss : Cert.Loss.Facts) (hLossIdeal : Cert.LossIdeal.Facts) (hLossRefIdeal : Cert.LossRefIdeal.Facts) (hAttnf : Cert.Attnf.Facts) (hAttnfIdeal : Cert.AttnfIdeal.Facts) (hAttnfRefIdeal : Cert.AttnfRefIdeal.Facts) (hConvf : Cert.Convf.Facts) (hConvfIdeal : Cert.ConvfIdeal.Facts) (hConvfRefIdeal : Cert.ConvfRefIdeal.Facts) (hMergef : Cert.Mergef.Facts) (hMergefIdeal : Cert.MergefIdeal.Facts) (hMergefRefIdeal : Cert.MergefRefIdeal.Facts) (hSwigluf : Cert.Swigluf.Facts) (hSwiglufIdeal : Cert.SwiglufIdeal.Facts) (hSwiglufRefIdeal : Cert.SwiglufRefIdeal.Facts) (hNormf : Cert.Normf.Facts) (hNormfIdeal : Cert.NormfIdeal.Facts) (hNormfRefIdeal : Cert.NormfRefIdeal.Facts) (hOutnorm : Cert.Outnorm.Facts) (hOutnormIdeal : Cert.OutnormIdeal.Facts) (hOutnormRefIdeal : Cert.OutnormRefIdeal.Facts) (hWdown : Cert.Wdown.Facts) (hWdownIdeal : Cert.WdownIdeal.Facts) (hWdownRefIdeal : Cert.WdownRefIdeal.Facts) (hWgateup : Cert.Wgateup.Facts) (hWgateupIdeal : Cert.WgateupIdeal.Facts) (hWgateupRefIdeal : Cert.WgateupRefIdeal.Facts) (hHin : Cert.Hin.Facts) (hHinIdeal : Cert.HinIdeal.Facts) (hHinRefIdeal : Cert.HinRefIdeal.Facts) (hHgateup : Cert.Hgateup.Facts) (hHgateupIdeal : Cert.HgateupIdeal.Facts) (hHgateupRefIdeal : Cert.HgateupRefIdeal.Facts) (hAdamw : Cert.Adamw.Facts) (hAdamwIdeal : Cert.AdamwIdeal.Facts) (hAdamwRefIdeal : Cert.AdamwRefIdeal.Facts) (hSsum : Cert.Ssum.Facts) (hSsumIdeal : Cert.SsumIdeal.Facts) (hSsumRefIdeal : Cert.SsumRefIdeal.Facts) (hPack : Cert.Pack.Facts) (hPackIdeal : Cert.PackIdeal.Facts) (hPackRefIdeal : Cert.PackRefIdeal.Facts) (hPre_finite_swiglu : Cert.Pre_finite_swiglu.Facts) (hPre_finite_attn : Cert.Pre_finite_attn.Facts) (hPre_finite_norm : Cert.Pre_finite_norm.Facts) (hPre_finite_mixnorm : Cert.Pre_finite_mixnorm.Facts) (hPre_finite_loss : Cert.Pre_finite_loss.Facts) (hPre_finite_attnf : Cert.Pre_finite_attnf.Facts),
    quiescent_Swiglu (hSwiglu := hSwiglu)
    ∧ quiescent_SwigluIdeal (hSwigluIdeal := hSwigluIdeal)
    ∧ quiescent_SwigluIdeal_pre_finite_swiglu (hSwigluIdeal := hSwigluIdeal) (hPre_finite_swiglu := hPre_finite_swiglu)
    ∧ quiescent_SwigluRefIdeal (hSwigluRefIdeal := hSwigluRefIdeal)
    ∧ quiescent_SwigluRefIdeal_pre_finite_swiglu (hSwigluRefIdeal := hSwigluRefIdeal) (hPre_finite_swiglu := hPre_finite_swiglu)
    ∧ quiescent_Merge (hMerge := hMerge)
    ∧ quiescent_MergeIdeal (hMergeIdeal := hMergeIdeal)
    ∧ quiescent_MergeRefIdeal (hMergeRefIdeal := hMergeRefIdeal)
    ∧ quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Kv (hKv := hKv)
    ∧ quiescent_KvIdeal (hKvIdeal := hKvIdeal)
    ∧ quiescent_KvRefIdeal (hKvRefIdeal := hKvRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Mixnorm (hMixnorm := hMixnorm)
    ∧ quiescent_MixnormIdeal (hMixnormIdeal := hMixnormIdeal)
    ∧ quiescent_MixnormIdeal_pre_finite_mixnorm (hMixnormIdeal := hMixnormIdeal) (hPre_finite_mixnorm := hPre_finite_mixnorm)
    ∧ quiescent_MixnormRefIdeal (hMixnormRefIdeal := hMixnormRefIdeal)
    ∧ quiescent_MixnormRefIdeal_pre_finite_mixnorm (hMixnormRefIdeal := hMixnormRefIdeal) (hPre_finite_mixnorm := hPre_finite_mixnorm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Attnf (hAttnf := hAttnf)
    ∧ quiescent_AttnfIdeal (hAttnfIdeal := hAttnfIdeal)
    ∧ quiescent_AttnfIdeal_pre_finite_attnf (hAttnfIdeal := hAttnfIdeal) (hPre_finite_attnf := hPre_finite_attnf)
    ∧ quiescent_AttnfRefIdeal (hAttnfRefIdeal := hAttnfRefIdeal)
    ∧ quiescent_AttnfRefIdeal_pre_finite_attnf (hAttnfRefIdeal := hAttnfRefIdeal) (hPre_finite_attnf := hPre_finite_attnf)
    ∧ quiescent_Convf (hConvf := hConvf)
    ∧ quiescent_ConvfIdeal (hConvfIdeal := hConvfIdeal)
    ∧ quiescent_ConvfRefIdeal (hConvfRefIdeal := hConvfRefIdeal)
    ∧ quiescent_Mergef (hMergef := hMergef)
    ∧ quiescent_MergefIdeal (hMergefIdeal := hMergefIdeal)
    ∧ quiescent_MergefRefIdeal (hMergefRefIdeal := hMergefRefIdeal)
    ∧ quiescent_Swigluf (hSwigluf := hSwigluf)
    ∧ quiescent_SwiglufIdeal (hSwiglufIdeal := hSwiglufIdeal)
    ∧ quiescent_SwiglufRefIdeal (hSwiglufRefIdeal := hSwiglufRefIdeal)
    ∧ quiescent_Normf (hNormf := hNormf)
    ∧ quiescent_NormfIdeal (hNormfIdeal := hNormfIdeal)
    ∧ quiescent_NormfRefIdeal (hNormfRefIdeal := hNormfRefIdeal)
    ∧ quiescent_Outnorm (hOutnorm := hOutnorm)
    ∧ quiescent_OutnormIdeal (hOutnormIdeal := hOutnormIdeal)
    ∧ quiescent_OutnormRefIdeal (hOutnormRefIdeal := hOutnormRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Wgateup (hWgateup := hWgateup)
    ∧ quiescent_WgateupIdeal (hWgateupIdeal := hWgateupIdeal)
    ∧ quiescent_WgateupRefIdeal (hWgateupRefIdeal := hWgateupRefIdeal)
    ∧ quiescent_Hin (hHin := hHin)
    ∧ quiescent_HinIdeal (hHinIdeal := hHinIdeal)
    ∧ quiescent_HinRefIdeal (hHinRefIdeal := hHinRefIdeal)
    ∧ quiescent_Hgateup (hHgateup := hHgateup)
    ∧ quiescent_HgateupIdeal (hHgateupIdeal := hHgateupIdeal)
    ∧ quiescent_HgateupRefIdeal (hHgateupRefIdeal := hHgateupRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Ssum (hSsum := hSsum)
    ∧ quiescent_SsumIdeal (hSsumIdeal := hSsumIdeal)
    ∧ quiescent_SsumRefIdeal (hSsumRefIdeal := hSsumRefIdeal)
    ∧ quiescent_Pack (hPack := hPack)
    ∧ quiescent_PackIdeal (hPackIdeal := hPackIdeal)
    ∧ quiescent_PackRefIdeal (hPackRefIdeal := hPackRefIdeal)
    ∧ preserves_Swiglu_SwigluIdeal
    ∧ algebraic_SwigluIdeal_SwigluRefIdeal_pre_finite_swiglu (hSwigluIdeal := hSwigluIdeal) (hSwigluRefIdeal := hSwigluRefIdeal) (hPre_finite_swiglu := hPre_finite_swiglu)
    ∧ preserves_Merge_MergeIdeal
    ∧ algebraic_MergeIdeal_MergeRefIdeal (hMergeIdeal := hMergeIdeal) (hMergeRefIdeal := hMergeRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Kv_KvIdeal
    ∧ algebraic_KvIdeal_KvRefIdeal (hKvIdeal := hKvIdeal) (hKvRefIdeal := hKvRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Mixnorm_MixnormIdeal
    ∧ algebraic_MixnormIdeal_MixnormRefIdeal_pre_finite_mixnorm (hMixnormIdeal := hMixnormIdeal) (hMixnormRefIdeal := hMixnormRefIdeal) (hPre_finite_mixnorm := hPre_finite_mixnorm)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Attnf_AttnfIdeal
    ∧ algebraic_AttnfIdeal_AttnfRefIdeal_pre_finite_attnf (hAttnfIdeal := hAttnfIdeal) (hAttnfRefIdeal := hAttnfRefIdeal) (hPre_finite_attnf := hPre_finite_attnf)
    ∧ preserves_Convf_ConvfIdeal
    ∧ algebraic_ConvfIdeal_ConvfRefIdeal (hConvfIdeal := hConvfIdeal) (hConvfRefIdeal := hConvfRefIdeal)
    ∧ preserves_Mergef_MergefIdeal
    ∧ algebraic_MergefIdeal_MergefRefIdeal (hMergefIdeal := hMergefIdeal) (hMergefRefIdeal := hMergefRefIdeal)
    ∧ preserves_Swigluf_SwiglufIdeal
    ∧ algebraic_SwiglufIdeal_SwiglufRefIdeal (hSwiglufIdeal := hSwiglufIdeal) (hSwiglufRefIdeal := hSwiglufRefIdeal)
    ∧ preserves_Normf_NormfIdeal
    ∧ algebraic_NormfIdeal_NormfRefIdeal (hNormfIdeal := hNormfIdeal) (hNormfRefIdeal := hNormfRefIdeal)
    ∧ preserves_Outnorm_OutnormIdeal
    ∧ algebraic_OutnormIdeal_OutnormRefIdeal (hOutnormIdeal := hOutnormIdeal) (hOutnormRefIdeal := hOutnormRefIdeal)
    ∧ preserves_Wdown_WdownIdeal
    ∧ algebraic_WdownIdeal_WdownRefIdeal (hWdownIdeal := hWdownIdeal) (hWdownRefIdeal := hWdownRefIdeal)
    ∧ preserves_Wgateup_WgateupIdeal
    ∧ algebraic_WgateupIdeal_WgateupRefIdeal (hWgateupIdeal := hWgateupIdeal) (hWgateupRefIdeal := hWgateupRefIdeal)
    ∧ preserves_Hin_HinIdeal
    ∧ algebraic_HinIdeal_HinRefIdeal (hHinIdeal := hHinIdeal) (hHinRefIdeal := hHinRefIdeal)
    ∧ preserves_Hgateup_HgateupIdeal
    ∧ algebraic_HgateupIdeal_HgateupRefIdeal (hHgateupIdeal := hHgateupIdeal) (hHgateupRefIdeal := hHgateupRefIdeal)
    ∧ preserves_Adamw_AdamwIdeal
    ∧ algebraic_AdamwIdeal_AdamwRefIdeal (hAdamwIdeal := hAdamwIdeal) (hAdamwRefIdeal := hAdamwRefIdeal)
    ∧ preserves_Ssum_SsumIdeal
    ∧ algebraic_SsumIdeal_SsumRefIdeal (hSsumIdeal := hSsumIdeal) (hSsumRefIdeal := hSsumRefIdeal)
    ∧ preserves_Pack_PackIdeal
    ∧ algebraic_PackIdeal_PackRefIdeal (hPackIdeal := hPackIdeal) (hPackRefIdeal := hPackRefIdeal)
-- ==== Pre_finite_attn.lean ====
abbrev S2048x6656 : Shape := ⟨2, ![2048, 6656]⟩
abbrev S1x16 : Shape := ⟨2, ![1, 16]⟩
abbrev S1024x1024 : Shape := ⟨2, ![1024, 1024]⟩
abbrev S2048x1024 : Shape := ⟨2, ![2048, 1024]⟩
abbrev S_ : Shape := ⟨0, ![]⟩

class Facts : Prop where
  bcast_S_S2048x6656 : S_.BroadcastsInDim S2048x6656 (![] : Fin 0 → Fin S2048x6656.rank)
  bcast_S_S1x16 : S_.BroadcastsInDim S1x16 (![] : Fin 0 → Fin S1x16.rank)
  bcast_S_S1024x1024 : S_.BroadcastsInDim S1024x1024 (![] : Fin 0 → Fin S1024x1024.rank)
  bcast_S_S2048x1024 : S_.BroadcastsInDim S2048x1024 (![] : Fin 0 → Fin S2048x1024.rank)

variable [Facts]

def fn {F : FTy → Type} [FloatOps F] (main_arg0 : FVec F S2048x6656 .f32) (main_arg1 : FVec F S1x16 .f32) (main_arg2 : FVec F S1024x1024 .f32) (main_arg3 : FVec F S2048x1024 .f32) : IVec S2048x6656 1 × IVec S1x16 1 × IVec S1024x1024 1 × IVec S2048x1024 1 :=
  let main_v0 : FVec F S2048x6656 .f32 := Host.absf main_arg0
  let main_cst : FVec F S_ .f32 := constant S_ .f32 0x7F800000#32
  let main_v1 : FVec F S2048x6656 .f32 := broadcastInDim S2048x6656 ![] bcast_S_S2048x6656 main_cst
  let main_v2 : IVec S2048x6656 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  (main_v2, main_v5, main_v8, main_v11)
-- ==== Pre_finite_attnf.lean ====
abbrev S2048x6656 : Shape := ⟨2, ![2048, 6656]⟩
abbrev S1x16 : Shape := ⟨2, ![1, 16]⟩
abbrev S_ : Shape := ⟨0, ![]⟩

class Facts : Prop where
  bcast_S_S2048x6656 : S_.BroadcastsInDim S2048x6656 (![] : Fin 0 → Fin S2048x6656.rank)
  bcast_S_S1x16 : S_.BroadcastsInDim S1x16 (![] : Fin 0 → Fin S1x16.rank)

variable [Facts]

def fn {F : FTy → Type} [FloatOps F] (main_arg0 : FVec F S2048x6656 .f32) (main_arg1 : FVec F S1x16 .f32) : IVec S2048x6656 1 × IVec S1x16 1 :=
  let main_v0 : FVec F S2048x6656 .f32 := Host.absf main_arg0
  let main_cst : FVec F S_ .f32 := constant S_ .f32 0x7F800000#32
  let main_v1 : FVec F S2048x6656 .f32 := broadcastInDim S2048x6656 ![] bcast_S_S2048x6656 main_cst
  let main_v2 : IVec S2048x6656 1 := cmpf .olt main_v0 main_v1
  let main_v3 : FVec F S1x16 .f32 := Host.absf main_arg1
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  (main_v2, main_v5)
-- ==== Pre_finite_loss.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩

class Facts : Prop where
  bcast_S_S2048x2816 : S_.BroadcastsInDim S2048x2816 (![] : Fin 0 → Fin S2048x2816.rank)
  bcast_S_S2816x1024 : S_.BroadcastsInDim S2816x1024 (![] : Fin 0 → Fin S2816x1024.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2048x2816 .f32) (main_arg1 : FVec F S2816x1024 .f32) (main_arg2 : FVec F S2048x1024 .f32) (main_arg3 : FVec F S1024 .f32) (main_arg4 : FVec F S2048x1024 .f32) : IVec S2048x2816 1 × IVec S2816x1024 1 × IVec S2048x1024 1 × IVec S1024 1 × IVec S2048x1024 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_finite_mixnorm.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) (main_arg3 : FVec F S2048x1024 .f32) : IVec S2048x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_norm.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1x1024 .f32) (main_arg2 : FVec F S2048x1024 .f32) (main_arg3 : FVec F S2048x1024 .f32) : IVec S2048x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Pre_finite_swiglu.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  bcast_S_S2816x1024 : S_.BroadcastsInDim S2816x1024 (![] : Fin 0 → Fin S2816x1024.rank)
  bcast_S_S2048x1024 : S_.BroadcastsInDim S2048x1024 (![] : Fin 0 → Fin S2048x1024.rank)

variable [Facts]

def fn {F : FTy → Type} [FloatOps F] (main_arg0 : FVec F S2048x2816 .f32) (main_arg1 : FVec F S2048x2816 .f32) (main_arg2 : FVec F S2816x1024 .f32) (main_arg3 : FVec F S2048x1024 .f32) : IVec S2048x2816 1 × IVec S2816x1024 1 × IVec S2048x1024 1 :=
  let main_v0 : FVec F S2048x2816 .f32 := Host.absf main_arg1
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S2048x1024 .f32 := Host.absf main_arg3
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  (main_v2, main_v5, main_v8)
-- ==== Swiglu.lean ====
abbrev S2048x2816 : Shape := ⟨2, ![2048, 2816]⟩
abbrev S2816x1024 : Shape := ⟨2, ![2816, 1024]⟩
abbrev S2048x1024 : Shape := ⟨2, ![2048, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S2816x1024, .bf16⟩
  | .hbm, ⟨6, _⟩ => ⟨S2048x2816, .bf16⟩
  | .hbm, ⟨7, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluRefIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .bf16⟩
  | .hbm, ⟨27, _⟩ => ⟨S2048x2816, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Merge.lean ====
abbrev S2048x6656 : Shape := ⟨2, ![2048, 6656]⟩
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S2048x6656, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S2048x6656 : Shape := ⟨2, ![2048, 6656]⟩
abbrev S2048x1024 : Shape := ⟨2, ![2048, 1024]⟩
abbrev S1024x1024 : Shape := ⟨2, ![1024, 1024]⟩
abbrev S2048x256 : Shape := ⟨2, ![2048, 256]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S2048x1024, .f32⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x256, .f32⟩
  | .hbm, ⟨10, _⟩ => ⟨S2048x256, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S2048x1024, .bf16⟩
  | .hbm, ⟨50, _⟩ => ⟨S2048x1024, .bf16⟩
  | .hbm, ⟨51, _⟩ => ⟨S2048x1024, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Conv.lean ====
abbrev S2048x6656 : Shape := ⟨2, ![2048, 6656]⟩
abbrev S3x1024 : Shape := ⟨2, ![3, 1024]⟩
abbrev S1024x1024 : Shape := ⟨2, ![1024, 1024]⟩
abbrev S2048x1024 : Shape := ⟨2, ![2048, 1024]⟩
abbrev S256x1024 : Shape := ⟨2, ![256, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 10
  | .vmem => 19
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S1024x1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S3x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S3x256, .f32⟩
  | .local _ .vmem, ⟨10, _⟩ => ⟨S3x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S3x256, .f32⟩
  | .local _ .vmem, ⟨18, _⟩ => ⟨S3x256, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvRefIdeal.lean ====
abbrev S2048x6656 : Shape := ⟨2, ![2048, 6656]⟩
abbrev S3x1024 : Shape := ⟨2, ![3, 1024]⟩
abbrev S1024x1024 : Shape := ⟨2, ![1024, 1024]⟩
abbrev S2048x1024 : Shape := ⟨2, ![2048, 1024]⟩
abbrev S2048x256 : Shape := ⟨2, ![2048, 256]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2x1024, .f32⟩
  | .hbm, ⟨15, _⟩ => ⟨S2050x1024, .f32⟩
  | .hbm, ⟨16, _⟩ => ⟨S_, .f32⟩
  | .hbm, ⟨17, _⟩ => ⟨S2x1024, .f32⟩
  | .hbm, ⟨18, _⟩ => ⟨S1x1024, .f32⟩
  | .hbm, ⟨19, _⟩ => ⟨S1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S2050x1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S2050x1024, .f32⟩
  | .hbm, ⟨66, _⟩ => ⟨S2050x1024, .f32⟩
  | .hbm, ⟨67, _⟩ => ⟨S1x1024, .f32⟩
  | .hbm, ⟨68, _⟩ => ⟨S_, .f32⟩
  | .hbm, ⟨69, _⟩ => ⟨S3x1024, .f32⟩
  | .hbm, ⟨70, _⟩ => ⟨S3x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S2050x1024, .f32⟩
  | .hbm, ⟨81, _⟩ => ⟨S2050x1024, .f32⟩
  | .hbm, ⟨82, _⟩ => ⟨S1x1024, .f32⟩
  | .hbm, ⟨83, _⟩ => ⟨S_, .f32⟩
  | .hbm, ⟨84, _⟩ => ⟨S3x1024, .f32⟩
  | .hbm, ⟨85, _⟩ => ⟨S3x1024, .f32⟩
  | .hbm, ⟨86, _⟩ => ⟨S2x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .bf16⟩
  | .hbm, ⟨91, _⟩ => ⟨S2048x1024, .bf16⟩
  | .hbm, ⟨92, _⟩ => ⟨S2048x1024, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_9 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Attn.lean ====
abbrev S2048x6656 : Shape := ⟨2, ![2048, 6656]⟩
abbrev S1x16 : Shape := ⟨2, ![1, 16]⟩
abbrev S1024x1024 : Shape := ⟨2, ![1024, 1024]⟩
abbrev S2048x1024 : Shape := ⟨2, ![2048, 1024]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S1x128 : Shape := ⟨2, ![1, 128]⟩
abbrev S128x1024 : Shape := ⟨2, ![128, 1024]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x1 : Shape := ⟨2, ![1, 1]⟩
abbrev S1x256 : Shape := ⟨2, ![1, 256]⟩
abbrev S256 : Shape := ⟨1, ![256]⟩
abbrev S1 : Shape := ⟨1, ![1]⟩

abbrev nBuf : Space → Nat
  | .hbm => 53
  | .vmem => 36
  | .smem => 1
  | _ => 0

abbrev bufTy : (tb : Table) → Fin (tcTables nBuf tb) → BufTy
  | .hbm, ⟨0, _⟩ => ⟨S2048x6656, .f32⟩
  | .hbm, ⟨1, _⟩ => ⟨S1x16, .f32⟩
  | .hbm, ⟨2, _⟩ => ⟨S1024x1024, .f32⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S2048, .f32⟩
  | .hbm, ⟨21, _⟩ => ⟨S2048x1, .f32⟩
  | .hbm, ⟨22, _⟩ => ⟨S1x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x48, .f32⟩
  | .hbm, ⟨32, _⟩ => ⟨S_, .f32⟩
  | .hbm, ⟨33, _⟩ => ⟨S2048x8, .f32⟩
  | .hbm, ⟨34, _⟩ => ⟨S2048x64, .f32⟩
  | .hbm, ⟨35, _⟩ => ⟨S2048x8, .f32⟩
  | .hbm, ⟨36, _⟩ => ⟨S2048x64, .f32⟩
  | .hbm, ⟨37, _⟩ => ⟨S2048x64, .f32⟩
  | .hbm, ⟨38, _⟩ => ⟨S1x2048x1x64, .f32⟩
  | .hbm, ⟨39, _⟩ => ⟨S1x2048x4x64, .f32⟩
  | .hbm, ⟨40, _⟩ => ⟨S2048x256, .f32⟩
  | .hbm, ⟨41, _⟩ => ⟨S1x2048x1x64, .f32⟩
  | .hbm, ⟨42, _⟩ => ⟨S1x2048x4x64, .f32⟩
  | .hbm, ⟨43, _⟩ => ⟨S2048x256, .f32⟩
  | .hbm, ⟨44, _⟩ => ⟨S1x2048x1x64, .f32⟩
  | .hbm, ⟨45, _⟩ => ⟨S1x2048x4x64, .f32⟩
  | .hbm, ⟨46, _⟩ => ⟨S2048x256, .f32⟩
  | .hbm, ⟨47, _⟩ => ⟨S2048x1024, .bf16⟩
  | .hbm, ⟨48, _⟩ => ⟨S2048x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x1024, .bf16⟩
  | .local _ .vmem, ⟨23, _⟩ => ⟨S128x1024, .bf16⟩
  | .local _ .vmem, ⟨24, _⟩ => ⟨S1024x1024, .bf16⟩
  | .local _ .vmem, ⟨25, _⟩ => ⟨S128x1024, .bf16⟩
  | .local _ .vmem, ⟨26, _⟩ => ⟨S128x1024, .bf16⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S1x128, .f32⟩
  | .local _ .smem, ⟨0, _⟩ => ⟨S1x16, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev main_v36_5 : Ref sig .tc := ⟨.hbm, 52, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_357 : BitVec 32 := 0#32
  let v959 : BitVec 1 := Scalar.cmpi .eq arg0 c0_i32_357
  let v960 : BitVec 32 := Scalar.extui v959
  let c0_i32_358 : BitVec 32 := 0#32
  let v961 : BitVec 1 := Scalar.cmpi .ne v960 c0_i32_358
  v961

def k0_cond2 (i : grid0.Coords) : BitVec 1 :=
  let arg0 : BitVec 32 := BitVec.ofNat 32 (i 0).val
  let c0_i32_359 : BitVec 32 := 0#32
  let v962 : BitVec 1 := Scalar.cmpi .sgt arg0 c0_i32_359
  let v963 : BitVec 32 := Scalar.extui v962
  let c0_i32_360 : BitVec 32 := 0#32
  let v964 : BitVec 1 := Scalar.cmpi .ne v963 c0_i32_360
  v964

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S2048x6656 : Shape := ⟨2, ![2048, 6656]⟩
abbrev S1x16 : Shape := ⟨2, ![1, 16]⟩
abbrev S1024x1024 : Shape := ⟨2, ![1024, 1024]⟩
abbrev S2048x1024 : Shape := ⟨2, ![2048, 1024]⟩
abbrev S2048x256 : Shape := ⟨2, ![2048, 256]⟩
abbrev S2048x4x64 : Shape := ⟨3, ![2048, 4, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x4x16 : Shape := ⟨3, ![2048, 4, 16]⟩
abbrev S2048x4x48 : Shape := ⟨3, ![2048, 4, 48]⟩
abbrev S2048x4x8 : Shape := ⟨3, ![2048, 4, 8]⟩
abbrev S2048x1x8 : Shape := ⟨3, ![2048, 1, 8]⟩
abbrev S2048x16x64 : Shape := ⟨3, ![2048, 16, 64]⟩
abbrev S2048x16x16 : Shape := ⟨3, ![2048, 16, 16]⟩
abbrev S2048x16x48 : Shape := ⟨3, ![2048, 16, 48]⟩
abbrev S2048x16x8 : Shape := ⟨3, ![2048, 16, 8]⟩
abbrev S16 : Shape := ⟨1, ![16]⟩
abbrev S16x128x4x4x64 : Shape := ⟨5, ![16, 128, 4, 4, 64]⟩
abbrev S128x4x64 : Shape := ⟨3, ![128, 4, 64]⟩
abbrev S2176x4x64 : Shape := ⟨3, ![2176, 4, 64]⟩
abbrev S17x128x4x64 : Shape := ⟨4, ![17, 128, 4, 64]⟩
abbrev S16x128x4x64 : Shape := ⟨4, ![16, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x4x4x1x1 : Shape := ⟨5, ![1, 4, 4, 1, 1]⟩
abbrev S16x4x4x128x1 : Shape := ⟨5, ![16, 4, 4, 128, 1]⟩
abbrev S16x4x4x128x257 : Shape := ⟨5, ![16, 4, 4, 128, 257]⟩
abbrev S16x4x4x128 : Shape := ⟨4, ![16, 4, 4, 128]⟩
abbrev S16x4x64x4x128 : Shape := ⟨5, ![16, 4, 64, 4, 128]⟩
abbrev S16x4x64x256 : Shape := ⟨4, ![16, 4, 64, 256]⟩
abbrev S4x4 : Shape := ⟨2, ![4, 4]⟩
abbrev S16x4x128x4x64 : Shape := ⟨5, ![16, 4, 128, 4, 64]⟩
abbrev S16x4x256x64 : Shape := ⟨4, ![16, 4, 256, 64]⟩
abbrev S1x128 : Shape := ⟨2, ![1, 128]⟩

abbrev nBuf : Space → Nat
  | .hbm => 307
  | .vmem => 0
  | .smem => 0
  | _ => 0

abbrev hbmTy0_0 (i : Nat) : BufTy := match i % 128 with
  | 0 => ⟨S2048x6656, .f32⟩
  | 1 => ⟨S1x16, .f32⟩
  | 2 => ⟨S1024x1024, .f32⟩
  | 3 => ⟨S2048x1024, .f32⟩
  | 4 => ⟨S2048x1024, .f32⟩
  | 5 => ⟨S2048x1024, .f32⟩
  | 6 => ⟨S2048x1024, .f32⟩
  | 7 => ⟨S2048x1024, .f32⟩
  | 8 => ⟨S2048x256, .f32⟩
  | 9 => ⟨S2048x256, .f32⟩
  | 10 => ⟨S2048x1024, .f32⟩
  | 11 => ⟨S2048x1024, .f32⟩
  | 12 => ⟨S2048x4x64, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S2048, .f32⟩
  | 28 => ⟨S2048x1, .f32⟩
  | 29 => ⟨S1x8, .f32⟩
  | 30 => ⟨S2048x8, .f32⟩
  | 31 => ⟨S2048x8, .f32⟩
  | 32 => ⟨S2048x8, .f32⟩
  | 33 => ⟨S2048x8, .f32⟩
  | 34 => ⟨S2048x8, .f32⟩
  | 35 => ⟨S2048x4x16, .f32⟩
  | 36 => ⟨S2048x4x48, .f32⟩
  | 37 => ⟨S2048x4x8, .f32⟩
  | 38 => ⟨S2048x4x8, .f32⟩
  | 39 => ⟨S2048x1x8, .f32⟩
  | 40 => ⟨S2048x1x8, .f32⟩
  | 41 => ⟨S2048x4x8, .f32⟩
  | 42 => ⟨S2048x4x8, .f32⟩
  | 43 => ⟨S2048x4x8, .f32⟩
  | 44 => ⟨S2048x4x8, .f32⟩
  | 45 => ⟨S2048x4x8, .f32⟩
  | 46 => ⟨S2048x4x8, .f32⟩
  | 47 => ⟨S2048x4x8, .f32⟩
  | 48 => ⟨S2048x4x8, .f32⟩
  | 49 => ⟨S2048x4x8, .f32⟩
  | 50 => ⟨S2048x4x8, .f32⟩
  | 51 => ⟨S2048x4x16, .f32⟩
  | 52 => ⟨S2048x4x64, .f32⟩
  | 53 => ⟨S2048x256, .f32⟩
  | 54 => ⟨S2048x16x64, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S2048, .f32⟩
  | 70 => ⟨S2048x1, .f32⟩
  | 71 => ⟨S1x8, .f32⟩
  | 72 => ⟨S2048x8, .f32⟩
  | 73 => ⟨S2048x8, .f32⟩
  | 74 => ⟨S2048x8, .f32⟩
  | 75 => ⟨S2048x8, .f32⟩
  | 76 => ⟨S2048x8, .f32⟩
  | 77 => ⟨S2048x16x16, .f32⟩
  | 78 => ⟨S2048x16x48, .f32⟩
  | 79 => ⟨S2048x16x8, .f32⟩
  | 80 => ⟨S2048x16x8, .f32⟩
  | 81 => ⟨S2048x1x8, .f32⟩
  | 82 => ⟨S2048x1x8, .f32⟩
  | 83 => ⟨S2048x16x8, .f32⟩
  | 84 => ⟨S2048x16x8, .f32⟩
  | 85 => ⟨S2048x16x8, .f32⟩
  | 86 => ⟨S2048x16x8, .f32⟩
  | 87 => ⟨S2048x16x8, .f32⟩
  | 88 => ⟨S2048x16x8, .f32⟩
  | 89 => ⟨S2048x16x8, .f32⟩
  | 90 => ⟨S2048x16x8, .f32⟩
  | 91 => ⟨S2048x16x8, .f32⟩
  | 92 => ⟨S2048x16x8, .f32⟩
  | 93 => ⟨S2048x16x16, .f32⟩
  | 94 => ⟨S2048x16x64, .f32⟩
  | 95 => ⟨S2048x4x64, .f32⟩
  | 96 => ⟨S2048x4x64, .f32⟩
  | 97 => ⟨S2048x4x64, .f32⟩
  | 98 => ⟨S2048x4x64, .f32⟩
  | 99 => ⟨S16, .f32⟩
  | 100 => ⟨S16x128x4x4x64, .f32⟩
  | 101 => ⟨S_, .f32⟩
  | 102 => ⟨S128x4x64, .f32⟩
  | 103 => ⟨S2176x4x64, .f32⟩
  | 104 => ⟨S_, .f32⟩
  | 105 => ⟨S128x4x64, .f32⟩
  | 106 => ⟨S17x128x4x64, .f32⟩
  | 107 => ⟨S16x128x4x64, .f32⟩
  | 108 => ⟨S16x128x4x64, .f32⟩
  | 109 => ⟨S16x256x4x64, .f32⟩
  | 110 => ⟨S_, .f32⟩
  | 111 => ⟨S128x4x64, .f32⟩
  | 112 => ⟨S2176x4x64, .f32⟩
  | 113 => ⟨S_, .f32⟩
  | 114 => ⟨S128x4x64, .f32⟩
  | 115 => ⟨S17x128x4x64, .f32⟩
  | 116 => ⟨S16x128x4x64, .f32⟩
  | 117 => ⟨S16x128x4x64, .f32⟩
  | 118 => ⟨S16x256x4x64, .f32⟩
  | 119 => ⟨S16x4x256x128x4, .f32⟩
  | 120 => ⟨S16x4x4x128x256, .f32⟩
  | 121 => ⟨S_, .f32⟩
  | 122 => ⟨S16x4x4x128x256, .f32⟩
  | 123 => ⟨S16x4x4x128x256, .f32⟩
  | 124 => ⟨S128, .i32⟩
  | 125 => ⟨S128x1, .i32⟩
  | 126 => ⟨S256, .i32⟩
  | 127 => ⟨S1x256, .i32⟩
  | _ => ⟨S2048x6656, .f32⟩

abbrev hbmTy0_1 (i : Nat) : BufTy := match i % 128 with
  | 0 => ⟨S_, .i32⟩
  | 1 => ⟨S128x1, .i32⟩
  | 2 => ⟨S128x1, .i32⟩
  | 3 => ⟨S128x256, .i32⟩
  | 4 => ⟨S128x256, .i32⟩
  | 5 => ⟨S128x256, .i32⟩
  | 6 => ⟨S_, .i32⟩
  | 7 => ⟨S128x256, .i32⟩
  | 8 => ⟨S128x256, .i1⟩
  | 9 => ⟨S_, .i32⟩
  | 10 => ⟨S128x256, .i32⟩
  | 11 => ⟨S128x256, .i1⟩
  | 12 => ⟨S128x256, .i1⟩
  | 13 => ⟨S16, .i32⟩
  | 14 => ⟨S16x1, .i32⟩
  | 15 => ⟨S_, .i32⟩
  | 16 => ⟨S16x1, .i32⟩
  | 17 => ⟨S16x1, .i32⟩
  | 18 => ⟨S_, .i32⟩
  | 19 => ⟨S16x1, .i32⟩
  | 20 => ⟨S16x1, .i32⟩
  | 21 => ⟨S256, .i32⟩
  | 22 => ⟨S1x256, .i32⟩
  | 23 => ⟨S16x256, .i32⟩
  | 24 => ⟨S16x256, .i32⟩
  | 25 => ⟨S16x256, .i32⟩
  | 26 => ⟨S1x128x256, .i1⟩
  | 27 => ⟨S_, .i32⟩
  | 28 => ⟨S16x256, .i32⟩
  | 29 => ⟨S16x256, .i1⟩
  | 30 => ⟨S16x1x256, .i1⟩
  | 31 => ⟨S16x128x256, .i1⟩
  | 32 => ⟨S16x128x256, .i1⟩
  | 33 => ⟨S16x128x256, .i1⟩
  | 34 => ⟨S16x1x1x128x256, .i1⟩
  | 35 => ⟨S_, .f32⟩
  | 36 => ⟨S_, .f32⟩
  | 37 => ⟨S16x4x4x128x256, .i1⟩
  | 38 => ⟨S16x4x4x128x256, .f32⟩
  | 39 => ⟨S16x4x4x128x256, .f32⟩
  | 40 => ⟨S_, .f32⟩
  | 41 => ⟨S16x4x4x128x256, .f32⟩
  | 42 => ⟨S1x4x4x1x1, .f32⟩
  | 43 => ⟨S16x4x4x128x1, .f32⟩
  | 44 => ⟨S16x4x4x128x257, .f32⟩
  | 45 => ⟨S_, .f32⟩
  | 46 => ⟨S16x4x4x128, .f32⟩
  | 47 => ⟨S16x4x4x128x1, .f32⟩
  | 48 => ⟨S16x4x4x128x257, .f32⟩
  | 49 => ⟨S16x4x4x128x257, .i1⟩
  | 50 => ⟨S16x4x4x128x257, .f32⟩
  | 51 => ⟨S_, .f32⟩
  | 52 => ⟨S16x4x4x128, .f32⟩
  | 53 => ⟨S_, .f32⟩
  | 54 => ⟨S16x4x4x128, .f32⟩
  | 55 => ⟨S16x4x4x128, .f32⟩
  | 56 => ⟨S_, .f32⟩
  | 57 => ⟨S16x4x4x128, .f32⟩
  | 58 => ⟨S16x4x4x128, .i1⟩
  | 59 => ⟨S_, .f32⟩
  | 60 => ⟨S16x4x4x128, .f32⟩
  | 61 => ⟨S16x4x4x128, .i1⟩
  | 62 => ⟨S_, .f32⟩
  | 63 => ⟨S16x4x4x128, .f32⟩
  | 64 => ⟨S_, .f32⟩
  | 65 => ⟨S16x4x4x128, .f32⟩
  | 66 => ⟨S_, .f32⟩
  | 67 => ⟨S16x4x4x128, .f32⟩
  | 68 => ⟨S16x4x4x128, .f32⟩
  | 69 => ⟨S16x4x4x128, .f32⟩
  | 70 => ⟨S16x4x4x128x1, .f32⟩
  | 71 => ⟨S16x4x4x128x257, .f32⟩
  | 72 => ⟨S16x4x4x128x257, .f32⟩
  | 73 => ⟨S16x4x4x128x257, .f32⟩
  | 74 => ⟨S_, .f32⟩
  | 75 => ⟨S16x4x4x128, .f32⟩
  | 76 => ⟨S16x4x4x128x1, .f32⟩
  | 77 => ⟨S16x4x4x128x257, .f32⟩
  | 78 => ⟨S16x4x4x128x257, .f32⟩
  | 79 => ⟨S16x4x4x128x1, .f32⟩
  | 80 => ⟨S_, .f32⟩
  | 81 => ⟨S16x4x4x128x1, .f32⟩
  | 82 => ⟨S16x4x4x128x1, .f32⟩
  | 83 => ⟨S16x4x4x128x256, .f32⟩
  | 84 => ⟨S16x4x64x4x128, .f32⟩
  | 85 => ⟨S16x128x4x4x64, .f32⟩
  | 86 => ⟨S2048x1024, .f32⟩
  | 87 => ⟨S2048x1024, .f32⟩
  | 88 => ⟨S2048x1024, .f32⟩
  | 89 => ⟨S16x128x4x4x64, .f32⟩
  | 90 => ⟨S16x4x64x4x128, .f32⟩
  | 91 => ⟨S16x4x4x128x256, .f32⟩
  | 92 => ⟨S16x4x64x256, .f32⟩
  | 93 => ⟨S16x256x4x64, .f32⟩
  | 94 => ⟨S_, .f32⟩
  | 95 => ⟨S16x4x4x128x257, .f32⟩
  | 96 => ⟨S16x4x4x128x257, .f32⟩
  | 97 => ⟨S16x4x4x128x257, .f32⟩
  | 98 => ⟨S16x4x4x128x257, .f32⟩
  | 99 => ⟨S_, .f32⟩
  | 100 => ⟨S16x4x4x128, .f32⟩
  | 101 => ⟨S16x4x4x128x1, .f32⟩
  | 102 => ⟨S16x4x4x128x1, .f32⟩
  | 103 => ⟨S16x4x4x128x257, .f32⟩
  | 104 => ⟨S16x4x4x128x257, .f32⟩
  | 105 => ⟨S_, .f32⟩
  | 106 => ⟨S16x4x4x128, .f32⟩
  | 107 => ⟨S16x4x4x128x257, .f32⟩
  | 108 => ⟨S16x4x4x128x257, .f32⟩
  | 109 => ⟨S16x4x4x128x257, .f32⟩
  | 110 => ⟨S16x4x4x128x256, .f32⟩
  | 111 => ⟨S16x4x4x128x1, .f32⟩
  | 112 => ⟨S_, .f32⟩
  | 113 => ⟨S4x4, .f32⟩
  | 114 => ⟨S1x4x4x1x1, .f32⟩
  | 115 => ⟨S16, .f32⟩
  | 116 => ⟨S_, .f32⟩
  | 117 => ⟨S16x4x4x128x256, .f32⟩
  | 118 => ⟨S16x4x4x128x256, .f32⟩
  | 119 => ⟨S_, .f32⟩
  | 120 => ⟨S16x4x4x128x256, .f32⟩
  | 121 => ⟨S16x4x4x128x256, .f32⟩
  | 122 => ⟨S16x4x256x128x4, .f32⟩
  | 123 => ⟨S16x4x128x4x64, .f32⟩
  | 124 => ⟨S16x128x4x4x64, .f32⟩
  | 125 => ⟨S16x4x256x64, .f32⟩
  | 126 => ⟨S16x256x4x64, .f32⟩
  | 127 => ⟨S16x128x4x64, .f32⟩
  | _ => ⟨S2048x6656, .f32⟩

abbrev hbmTy0_2 (i : Nat) : BufTy := match i % 128 with
  | 0 => ⟨S16x128x4x64, .f32⟩
  | 1 => ⟨S2048x4x64, .f32⟩
  | 2 => ⟨S_, .f32⟩
  | 3 => ⟨S17x128x4x64, .f32⟩
  | 4 => ⟨S2176x4x64, .f32⟩
  | 5 => ⟨S128x4x64, .f32⟩
  | 6 => ⟨S2048x4x64, .f32⟩
  | 7 => ⟨S16x128x4x64, .f32⟩
  | 8 => ⟨S16x128x4x64, .f32⟩
  | 9 => ⟨S2048x4x64, .f32⟩
  | 10 => ⟨S_, .f32⟩
  | 11 => ⟨S17x128x4x64, .f32⟩
  | 12 => ⟨S2176x4x64, .f32⟩
  | 13 => ⟨S128x4x64, .f32⟩
  | 14 => ⟨S2048x4x64, .f32⟩
  | 15 => ⟨S2048x16x64, .f32⟩
  | 16 => ⟨S1x16, .f32⟩
  | 17 => ⟨S2048x256, .f32⟩
  | 18 => ⟨S2048x256, .f32⟩
  | 19 => ⟨S2048x256, .f32⟩
  | 20 => ⟨S2048x256, .f32⟩
  | 21 => ⟨S2048x16x16, .f32⟩
  | 22 => ⟨S2048x16x48, .f32⟩
  | 23 => ⟨S2048x16x8, .f32⟩
  | 24 => ⟨S2048x16x8, .f32⟩
  | 25 => ⟨S2048x16x8, .f32⟩
  | 26 => ⟨S2048x16x8, .f32⟩
  | 27 => ⟨S2048x16x8, .f32⟩
  | 28 => ⟨S2048x16x8, .f32⟩
  | 29 => ⟨S2048x16x8, .f32⟩
  | 30 => ⟨S2048x16x8, .f32⟩
  | 31 => ⟨S2048x16x8, .f32⟩
  | 32 => ⟨S2048x16x8, .f32⟩
  | 33 => ⟨S2048x16x8, .f32⟩
  | 34 => ⟨S2048x16x8, .f32⟩
  | 35 => ⟨S2048x16x8, .f32⟩
  | 36 => ⟨S_, .f32⟩
  | 37 => ⟨S2048x16x16, .f32⟩
  | 38 => ⟨S_, .f32⟩
  | 39 => ⟨S2048x16x16, .f32⟩
  | 40 => ⟨S2048x16x16, .f32⟩
  | 41 => ⟨S_, .f32⟩
  | 42 => ⟨S2048x16x64, .f32⟩
  | 43 => ⟨S_, .f32⟩
  | 44 => ⟨S2048x16x64, .f32⟩
  | 45 => ⟨S2048x16x64, .f32⟩
  | 46 => ⟨S2048x1024, .f32⟩
  | 47 => ⟨S2048x1024, .bf16⟩
  | 48 => ⟨S_, .i32⟩
  | 49 => ⟨S_, .f32⟩
  | 50 => ⟨S1x128, .f32⟩
  | _ => ⟨S2048x6656, .f32⟩

abbrev hbmTy (i : Nat) : BufTy := match i / 128 with
  | 0 => hbmTy0_0 i
  | 1 => hbmTy0_1 i
  | 2 => hbmTy0_2 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_cst_4 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_cst_7 : Ref sig .tc := ⟨.hbm, 101, rfl⟩
abbrev main_v89 : Ref sig .tc := ⟨.hbm, 102, rfl⟩
abbrev main_v90 : Ref sig .tc := ⟨.hbm, 103, rfl⟩
abbrev main_cst_8 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_9 : Ref sig .tc := ⟨.hbm, 110, rfl⟩
abbrev main_v96 : Ref sig .tc := ⟨.hbm, 111, rfl⟩
abbrev main_v97 : Ref sig .tc := ⟨.hbm, 112, rfl⟩
abbrev main_cst_10 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_11 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_c : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_c_12 : Ref sig .tc := ⟨.hbm, 134, rfl⟩
abbrev main_v116 : Ref sig .tc := ⟨.hbm, 135, rfl⟩
abbrev main_v117 : Ref sig .tc := ⟨.hbm, 136, rfl⟩
abbrev main_c_13 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_c_14 : Ref sig .tc := ⟨.hbm, 143, rfl⟩
abbrev main_v123 : Ref sig .tc := ⟨.hbm, 144, rfl⟩
abbrev main_v124 : Ref sig .tc := ⟨.hbm, 145, rfl⟩
abbrev main_c_15 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_c_16 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_cst_17 : Ref sig .tc := ⟨.hbm, 163, rfl⟩
abbrev main_call0_v0 : Ref sig .tc := ⟨.hbm, 164, rfl⟩
abbrev main_v140_1 : Ref sig .tc := ⟨.hbm, 165, rfl⟩
abbrev main_call0_v2 : Ref sig .tc := ⟨.hbm, 166, rfl⟩
abbrev main_v140_0 : Ref sig .tc := ⟨.hbm, 167, rfl⟩
abbrev main_call0_cst : Ref sig .tc := ⟨.hbm, 168, rfl⟩
abbrev main_v140_2 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_18 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_19 : Ref sig .tc := ⟨.hbm, 179, rfl⟩
abbrev main_v149 : Ref sig .tc := ⟨.hbm, 180, rfl⟩
abbrev main_cst_20 : Ref sig .tc := ⟨.hbm, 181, rfl⟩
abbrev main_v150 : Ref sig .tc := ⟨.hbm, 182, rfl⟩
abbrev main_v151 : Ref sig .tc := ⟨.hbm, 183, rfl⟩
abbrev main_cst_21 : Ref sig .tc := ⟨.hbm, 184, rfl⟩
abbrev main_v152 : Ref sig .tc := ⟨.hbm, 185, rfl⟩
abbrev main_v153 : Ref sig .tc := ⟨.hbm, 186, rfl⟩
abbrev main_cst_22 : Ref sig .tc := ⟨.hbm, 187, rfl⟩
abbrev main_v154 : Ref sig .tc := ⟨.hbm, 188, rfl⟩
abbrev main_v155 : Ref sig .tc := ⟨.hbm, 189, rfl⟩
abbrev main_cst_23 : Ref sig .tc := ⟨.hbm, 190, rfl⟩
abbrev main_v156 : Ref sig .tc := ⟨.hbm, 191, rfl⟩
abbrev main_cst_24 : Ref sig .tc := ⟨.hbm, 192, rfl⟩
abbrev main_v157 : Ref sig .tc := ⟨.hbm, 193, rfl⟩
abbrev main_cst_25 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_26 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_27 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_cst_28 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_29 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_cst_30 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_cst_31 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_call1_cst : Ref sig .tc := ⟨.hbm, 244, rfl⟩
abbrev main_call1_v0 : Ref sig .tc := ⟨.hbm, 245, rfl⟩
abbrev main_v201 : Ref sig .tc := ⟨.hbm, 246, rfl⟩
abbrev main_cst_32 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_33 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_cst_34 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_cst_35 : Ref sig .tc := ⟨.hbm, 292, rfl⟩
abbrev main_v244 : Ref sig .tc := ⟨.hbm, 293, rfl⟩
abbrev main_cst_36 : Ref sig .tc := ⟨.hbm, 294, rfl⟩
abbrev main_v245 : Ref sig .tc := ⟨.hbm, 295, rfl⟩
abbrev main_v246 : Ref sig .tc := ⟨.hbm, 296, rfl⟩
abbrev main_cst_37 : Ref sig .tc := ⟨.hbm, 297, rfl⟩
abbrev main_v247 : Ref sig .tc := ⟨.hbm, 298, rfl⟩
abbrev main_cst_38 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_c_39 : Ref sig .tc := ⟨.hbm, 304, rfl⟩
abbrev main_call2_v0 : Ref sig .tc := ⟨.hbm, 305, rfl⟩
abbrev main_v252 : Ref sig .tc := ⟨.hbm, 306, rfl⟩

abbrev nD : Nat := 1
abbrev τ : Topo := Topo.v7x

variable {F : FTy → Type} [FloatOps F]
-- ==== Kv.lean ====
abbrev S2048x256 : Shape := ⟨2, ![2048, 256]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x512 : Shape := ⟨2, ![2048, 512]⟩
abbrev S512x256 : Shape := ⟨2, ![512, 256]⟩
abbrev S512x512 : Shape := ⟨2, ![512, 512]⟩

abbrev nBuf : Space → Nat
  | .hbm => 46
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S2048, .f32⟩
  | .hbm, ⟨19, _⟩ => ⟨S2048x1, .f32⟩
  | .hbm, ⟨20, _⟩ => ⟨S1x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x8, .f32⟩
  | .hbm, ⟨32, _⟩ => ⟨S2048x64, .f32⟩
  | .hbm, ⟨33, _⟩ => ⟨S2048x8, .f32⟩
  | .hbm, ⟨34, _⟩ => ⟨S2048x64, .f32⟩
  | .hbm, ⟨35, _⟩ => ⟨S2048x64, .f32⟩
  | .hbm, ⟨36, _⟩ => ⟨S1x2048x1x64, .f32⟩
  | .hbm, ⟨37, _⟩ => ⟨S1x2048x4x64, .f32⟩
  | .hbm, ⟨38, _⟩ => ⟨S2048x256, .f32⟩
  | .hbm, ⟨39, _⟩ => ⟨S1x2048x1x64, .f32⟩
  | .hbm, ⟨40, _⟩ => ⟨S1x2048x4x64, .f32⟩
  | .hbm, ⟨41, _⟩ => ⟨S2048x256, .f32⟩
  | .hbm, ⟨42, _⟩ => ⟨S1x2048x1x64, .f32⟩
  | .hbm, ⟨43, _⟩ => ⟨S1x2048x4x64, .f32⟩
  | .hbm, ⟨44, _⟩ => ⟨S2048x256, .f32⟩
  | .hbm, ⟨45, _⟩ => ⟨S2048x512, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .bf16⟩
  | .local _ .vmem, ⟨15, _⟩ => ⟨S512x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvRefIdeal.lean ====
abbrev S2048x256 : Shape := ⟨2, ![2048, 256]⟩
abbrev S_ : Shape := ⟨0, ![]⟩
abbrev S2048x4x64 : Shape := ⟨3, ![2048, 4, 64]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x4x16 : Shape := ⟨3, ![2048, 4, 16]⟩
abbrev S2048x4x48 : Shape := ⟨3, ![2048, 4, 48]⟩
abbrev S2048x4x8 : Shape := ⟨3, ![2048, 4, 8]⟩
abbrev S2048x1x8 : Shape := ⟨3, ![2048, 1, 8]⟩
abbrev S2048x512 : Shape := ⟨2, ![2048, 512]⟩

abbrev nBuf : Space → Nat
  | .hbm => 79
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x4x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048, .f32⟩
  | .hbm, ⟨22, _⟩ => ⟨S2048x1, .f32⟩
  | .hbm, ⟨23, _⟩ => ⟨S1x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S2048x8, .f32⟩
  | .hbm, ⟨29, _⟩ => ⟨S2048x4x16, .f32⟩
  | .hbm, ⟨30, _⟩ => ⟨S2048x4x48, .f32⟩
  | .hbm, ⟨31, _⟩ => ⟨S2048x4x8, .f32⟩
  | .hbm, ⟨32, _⟩ => ⟨S2048x4x8, .f32⟩
  | .hbm, ⟨33, _⟩ => ⟨S2048x1x8, .f32⟩
  | .hbm, ⟨34, _⟩ => ⟨S2048x1x8, .f32⟩
  | .hbm, ⟨35, _⟩ => ⟨S2048x4x8, .f32⟩
  | .hbm, ⟨36, _⟩ => ⟨S2048x4x8, .f32⟩
  | .hbm, ⟨37, _⟩ => ⟨S2048x4x8, .f32⟩
  | .hbm, ⟨38, _⟩ => ⟨S2048x4x8, .f32⟩
  | .hbm, ⟨39, _⟩ => ⟨S2048x4x8, .f32⟩
  | .hbm, ⟨40, _⟩ => ⟨S2048x4x8, .f32⟩
  | .hbm, ⟨41, _⟩ => ⟨S2048x4x8, .f32⟩
  | .hbm, ⟨42, _⟩ => ⟨S2048x4x8, .f32⟩
  | .hbm, ⟨43, _⟩ => ⟨S2048x4x8, .f32⟩
  | .hbm, ⟨44, _⟩ => ⟨S2048x4x8, .f32⟩
  | .hbm, ⟨45, _⟩ => ⟨S2048x4x16, .f32⟩
  | .hbm, ⟨46, _⟩ => ⟨S2048x4x64, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x4x64, .f32⟩
  | .hbm, ⟨51, _⟩ => ⟨S2048x4x16, .f32⟩
  | .hbm, ⟨52, _⟩ => ⟨S2048x4x48, .f32⟩
  | .hbm, ⟨53, _⟩ => ⟨S2048x4x8, .f32⟩
  | .hbm, ⟨54, _⟩ => ⟨S2048x4x8, .f32⟩
  | .hbm, ⟨55, _⟩ => ⟨S2048x4x8, .f32⟩
  | .hbm, ⟨56, _⟩ => ⟨S2048x4x8, .f32⟩
  | .hbm, ⟨57, _⟩ => ⟨S2048x4x8, .f32⟩
  | .hbm, ⟨58, _⟩ => ⟨S2048x4x8, .f32⟩
  | .hbm, ⟨59, _⟩ => ⟨S2048x4x8, .f32⟩
  | .hbm, ⟨60, _⟩ => ⟨S2048x4x8, .f32⟩
  | .hbm, ⟨61, _⟩ => ⟨S2048x4x8, .f32⟩
  | .hbm, ⟨62, _⟩ => ⟨S2048x4x8, .f32⟩
  | .hbm, ⟨63, _⟩ => ⟨S2048x4x8, .f32⟩
  | .hbm, ⟨64, _⟩ => ⟨S2048x4x8, .f32⟩
  | .hbm, ⟨65, _⟩ => ⟨S2048x4x8, .f32⟩
  | .hbm, ⟨66, _⟩ => ⟨S_, .f32⟩
  | .hbm, ⟨67, _⟩ => ⟨S2048x4x16, .f32⟩
  | .hbm, ⟨68, _⟩ => ⟨S_, .f32⟩
  | .hbm, ⟨69, _⟩ => ⟨S2048x4x16, .f32⟩
  | .hbm, ⟨70, _⟩ => ⟨S2048x4x16, .f32⟩
  | .hbm, ⟨71, _⟩ => ⟨S_, .f32⟩
  | .hbm, ⟨72, _⟩ => ⟨S2048x4x64, .f32⟩
  | .hbm, ⟨73, _⟩ => ⟨S_, .f32⟩
  | .hbm, ⟨74, _⟩ => ⟨S2048x4x64, .f32⟩
  | .hbm, ⟨75, _⟩ => ⟨S2048x4x64, .f32⟩
  | .hbm, ⟨76, _⟩ => ⟨S2048x256, .f32⟩
  | .hbm, ⟨77, _⟩ => ⟨S2048x512, .f32⟩
  | .hbm, ⟨78, _⟩ => ⟨S2048x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Mixnorm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixnormRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Loss.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 12
  | .vmem => 14
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x2816, .bf16⟩
  | .hbm, ⟨6, _⟩ => ⟨S2816x1024, .bf16⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_25 : BitVec 32 := 0#32
  let v59 : BitVec 1 := Scalar.cmpi .eq arg0 c0_i32_25
  let v60 : BitVec 32 := Scalar.extui v59
  let c0_i32_26 : BitVec 32 := 0#32
  let v61 : BitVec 1 := Scalar.cmpi .ne v60 c0_i32_26
  v61

def k0_cond2 (i : grid0.Coords) : BitVec 1 :=
  let arg0 : BitVec 32 := BitVec.ofNat 32 (i 0).val
  let c0_i32_27 : BitVec 32 := 0#32
  let v62 : BitVec 1 := Scalar.cmpi .sgt arg0 c0_i32_27
  let v63 : BitVec 32 := Scalar.extui v62
  let c0_i32_28 : BitVec 32 := 0#32
  let v64 : BitVec 1 := Scalar.cmpi .ne v63 c0_i32_28
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S1x1 : Shape := ⟨2, ![1, 1]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .bf16⟩
  | .hbm, ⟨76, _⟩ => ⟨S1x1024, .f32⟩
  | .hbm, ⟨77, _⟩ => ⟨S1x1, .f32⟩
  | .hbm, ⟨78, _⟩ => ⟨S_, .i32⟩
  | .hbm, ⟨79, _⟩ => ⟨S_, .f32⟩
  | .hbm, ⟨80, _⟩ => ⟨S1x128, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c : Ref sig .tc := ⟨.hbm, 78, rfl⟩
abbrev main_call0_v0 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Attnf.lean ====
abbrev S2048x6656 : Shape := ⟨2, ![2048, 6656]⟩
abbrev S1x16 : Shape := ⟨2, ![1, 16]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S2048x1024 : Shape := ⟨2, ![2048, 1024]⟩
abbrev S128x1024 : Shape := ⟨2, ![128, 1024]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x1 : Shape := ⟨2, ![1, 1]⟩
abbrev S1x128 : Shape := ⟨2, ![1, 128]⟩
abbrev S1x256 : Shape := ⟨2, ![1, 256]⟩
abbrev S256 : Shape := ⟨1, ![256]⟩

abbrev nBuf : Space → Nat
  | .hbm => 44
  | .vmem => 24
  | .smem => 1
  | _ => 0

abbrev bufTy : (tb : Table) → Fin (tcTables nBuf tb) → BufTy
  | .hbm, ⟨0, _⟩ => ⟨S2048x6656, .f32⟩
  | .hbm, ⟨1, _⟩ => ⟨S1x16, .f32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S2048, .f32⟩
  | .hbm, ⟨17, _⟩ => ⟨S2048x1, .f32⟩
  | .hbm, ⟨18, _⟩ => ⟨S1x8, .f32⟩
  | .hbm, ⟨19, _⟩ => ⟨S2048x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S_, .f32⟩
  | .hbm, ⟨25, _⟩ => ⟨S2048x48, .f32⟩
  | .hbm, ⟨26, _⟩ => ⟨S_, .f32⟩
  | .hbm, ⟨27, _⟩ => ⟨S2048x48, .f32⟩
  | .hbm, ⟨28, _⟩ => ⟨S_, .f32⟩
  | .hbm, ⟨29, _⟩ => ⟨S2048x8, .f32⟩
  | .hbm, ⟨30, _⟩ => ⟨S2048x64, .f32⟩
  | .hbm, ⟨31, _⟩ => ⟨S2048x8, .f32⟩
  | .hbm, ⟨32, _⟩ => ⟨S2048x64, .f32⟩
  | .hbm, ⟨33, _⟩ => ⟨S2048x64, .f32⟩
  | .hbm, ⟨34, _⟩ => ⟨S1x2048x1x64, .f32⟩
  | .hbm, ⟨35, _⟩ => ⟨S1x2048x4x64, .f32⟩
  | .hbm, ⟨36, _⟩ => ⟨S2048x256, .f32⟩
  | .hbm, ⟨37, _⟩ => ⟨S1x2048x1x64, .f32⟩
  | .hbm, ⟨38, _⟩ => ⟨S1x2048x4x64, .f32⟩
  | .hbm, ⟨39, _⟩ => ⟨S2048x256, .f32⟩
  | .hbm, ⟨40, _⟩ => ⟨S1x2048x1x64, .f32⟩
  | .hbm, ⟨41, _⟩ => ⟨S1x2048x4x64, .f32⟩
  | .hbm, ⟨42, _⟩ => ⟨S2048x256, .f32⟩
  | .hbm, ⟨43, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x1024, .bf16⟩
  | .local _ .vmem, ⟨23, _⟩ => ⟨S128x1024, .bf16⟩
  | .local _ .smem, ⟨0, _⟩ => ⟨S1x16, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnfIdeal.lean ====
variable {F : FTy → Type} [FloatOps F] [Named F]
def κ : String → Option EReal := fun
  | "mask" => some ⊥
  | _ => none
-- ==== AttnfRefIdeal.lean ====
abbrev S2048x6656 : Shape := ⟨2, ![2048, 6656]⟩
abbrev S1x16 : Shape := ⟨2, ![1, 16]⟩
abbrev S2048x1024 : Shape := ⟨2, ![2048, 1024]⟩
abbrev S2048x256 : Shape := ⟨2, ![2048, 256]⟩
abbrev S2048x16x64 : Shape := ⟨3, ![2048, 16, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x16x16 : Shape := ⟨3, ![2048, 16, 16]⟩
abbrev S2048x16x48 : Shape := ⟨3, ![2048, 16, 48]⟩
abbrev S2048x16x8 : Shape := ⟨3, ![2048, 16, 8]⟩
abbrev S2048x1x8 : Shape := ⟨3, ![2048, 1, 8]⟩
abbrev S2048x4x64 : Shape := ⟨3, ![2048, 4, 64]⟩
abbrev S2048x4x16 : Shape := ⟨3, ![2048, 4, 16]⟩
abbrev S2048x4x48 : Shape := ⟨3, ![2048, 4, 48]⟩
abbrev S2048x4x8 : Shape := ⟨3, ![2048, 4, 8]⟩
abbrev S16 : Shape := ⟨1, ![16]⟩
abbrev S16x128x4x4x64 : Shape := ⟨5, ![16, 128, 4, 4, 64]⟩
abbrev S128x4x64 : Shape := ⟨3, ![128, 4, 64]⟩
abbrev S2176x4x64 : Shape := ⟨3, ![2176, 4, 64]⟩
abbrev S17x128x4x64 : Shape := ⟨4, ![17, 128, 4, 64]⟩
abbrev S16x128x4x64 : Shape := ⟨4, ![16, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x4x4x1x1 : Shape := ⟨5, ![1, 4, 4, 1, 1]⟩
abbrev S16x4x4x128x1 : Shape := ⟨5, ![16, 4, 4, 128, 1]⟩
abbrev S16x4x4x128x257 : Shape := ⟨5, ![16, 4, 4, 128, 257]⟩
abbrev S16x4x4x128 : Shape := ⟨4, ![16, 4, 4, 128]⟩
abbrev S16x4x64x4x128 : Shape := ⟨5, ![16, 4, 64, 4, 128]⟩

abbrev nBuf : Space → Nat
  | .hbm => 180
  | .vmem => 0
  | .smem => 0
  | _ => 0

abbrev hbmTy0_0 (i : Nat) : BufTy := match i % 128 with
  | 0 => ⟨S2048x6656, .f32⟩
  | 1 => ⟨S1x16, .f32⟩
  | 2 => ⟨S2048x1024, .f32⟩
  | 3 => ⟨S2048x1024, .f32⟩
  | 4 => ⟨S2048x1024, .f32⟩
  | 5 => ⟨S2048x1024, .f32⟩
  | 6 => ⟨S2048x256, .f32⟩
  | 7 => ⟨S2048x256, .f32⟩
  | 8 => ⟨S2048x1024, .f32⟩
  | 9 => ⟨S2048x1024, .f32⟩
  | 10 => ⟨S2048x16x64, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S_, .f32⟩
  | 20 => ⟨S8, .f32⟩
  | 21 => ⟨S8, .f32⟩
  | 22 => ⟨S_, .f32⟩
  | 23 => ⟨S8, .f32⟩
  | 24 => ⟨S8, .f32⟩
  | 25 => ⟨S2048, .f32⟩
  | 26 => ⟨S2048x1, .f32⟩
  | 27 => ⟨S1x8, .f32⟩
  | 28 => ⟨S2048x8, .f32⟩
  | 29 => ⟨S2048x8, .f32⟩
  | 30 => ⟨S2048x8, .f32⟩
  | 31 => ⟨S2048x8, .f32⟩
  | 32 => ⟨S2048x8, .f32⟩
  | 33 => ⟨S2048x16x16, .f32⟩
  | 34 => ⟨S2048x16x48, .f32⟩
  | 35 => ⟨S2048x16x8, .f32⟩
  | 36 => ⟨S2048x16x8, .f32⟩
  | 37 => ⟨S2048x1x8, .f32⟩
  | 38 => ⟨S2048x1x8, .f32⟩
  | 39 => ⟨S2048x16x8, .f32⟩
  | 40 => ⟨S2048x16x8, .f32⟩
  | 41 => ⟨S2048x16x8, .f32⟩
  | 42 => ⟨S2048x16x8, .f32⟩
  | 43 => ⟨S2048x16x8, .f32⟩
  | 44 => ⟨S2048x16x8, .f32⟩
  | 45 => ⟨S2048x16x8, .f32⟩
  | 46 => ⟨S2048x16x8, .f32⟩
  | 47 => ⟨S2048x16x8, .f32⟩
  | 48 => ⟨S2048x16x8, .f32⟩
  | 49 => ⟨S2048x16x16, .f32⟩
  | 50 => ⟨S2048x16x64, .f32⟩
  | 51 => ⟨S2048x4x64, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8, .f32⟩
  | 60 => ⟨S_, .f32⟩
  | 61 => ⟨S8, .f32⟩
  | 62 => ⟨S8, .f32⟩
  | 63 => ⟨S_, .f32⟩
  | 64 => ⟨S8, .f32⟩
  | 65 => ⟨S8, .f32⟩
  | 66 => ⟨S2048, .f32⟩
  | 67 => ⟨S2048x1, .f32⟩
  | 68 => ⟨S1x8, .f32⟩
  | 69 => ⟨S2048x8, .f32⟩
  | 70 => ⟨S2048x8, .f32⟩
  | 71 => ⟨S2048x8, .f32⟩
  | 72 => ⟨S2048x8, .f32⟩
  | 73 => ⟨S2048x8, .f32⟩
  | 74 => ⟨S2048x4x16, .f32⟩
  | 75 => ⟨S2048x4x48, .f32⟩
  | 76 => ⟨S2048x4x8, .f32⟩
  | 77 => ⟨S2048x4x8, .f32⟩
  | 78 => ⟨S2048x1x8, .f32⟩
  | 79 => ⟨S2048x1x8, .f32⟩
  | 80 => ⟨S2048x4x8, .f32⟩
  | 81 => ⟨S2048x4x8, .f32⟩
  | 82 => ⟨S2048x4x8, .f32⟩
  | 83 => ⟨S2048x4x8, .f32⟩
  | 84 => ⟨S2048x4x8, .f32⟩
  | 85 => ⟨S2048x4x8, .f32⟩
  | 86 => ⟨S2048x4x8, .f32⟩
  | 87 => ⟨S2048x4x8, .f32⟩
  | 88 => ⟨S2048x4x8, .f32⟩
  | 89 => ⟨S2048x4x8, .f32⟩
  | 90 => ⟨S2048x4x16, .f32⟩
  | 91 => ⟨S2048x4x64, .f32⟩
  | 92 => ⟨S2048x4x64, .f32⟩
  | 93 => ⟨S16, .f32⟩
  | 94 => ⟨S16x128x4x4x64, .f32⟩
  | 95 => ⟨S_, .f32⟩
  | 96 => ⟨S128x4x64, .f32⟩
  | 97 => ⟨S2176x4x64, .f32⟩
  | 98 => ⟨S17x128x4x64, .f32⟩
  | 99 => ⟨S16x128x4x64, .f32⟩
  | 100 => ⟨S16x128x4x64, .f32⟩
  | 101 => ⟨S16x256x4x64, .f32⟩
  | 102 => ⟨S_, .f32⟩
  | 103 => ⟨S128x4x64, .f32⟩
  | 104 => ⟨S2176x4x64, .f32⟩
  | 105 => ⟨S17x128x4x64, .f32⟩
  | 106 => ⟨S16x128x4x64, .f32⟩
  | 107 => ⟨S16x128x4x64, .f32⟩
  | 108 => ⟨S16x256x4x64, .f32⟩
  | 109 => ⟨S16x4x256x128x4, .f32⟩
  | 110 => ⟨S16x4x4x128x256, .f32⟩
  | 111 => ⟨S_, .f32⟩
  | 112 => ⟨S16x4x4x128x256, .f32⟩
  | 113 => ⟨S16x4x4x128x256, .f32⟩
  | 114 => ⟨S128, .i32⟩
  | 115 => ⟨S128x1, .i32⟩
  | 116 => ⟨S256, .i32⟩
  | 117 => ⟨S1x256, .i32⟩
  | 118 => ⟨S_, .i32⟩
  | 119 => ⟨S128x1, .i32⟩
  | 120 => ⟨S128x1, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i1⟩
  | 127 => ⟨S_, .i32⟩
  | _ => ⟨S2048x6656, .f32⟩

abbrev hbmTy0_1 (i : Nat) : BufTy := match i % 128 with
  | 0 => ⟨S128x256, .i32⟩
  | 1 => ⟨S128x256, .i1⟩
  | 2 => ⟨S128x256, .i1⟩
  | 3 => ⟨S16, .i32⟩
  | 4 => ⟨S16x1, .i32⟩
  | 5 => ⟨S_, .i32⟩
  | 6 => ⟨S16x1, .i32⟩
  | 7 => ⟨S16x1, .i32⟩
  | 8 => ⟨S_, .i32⟩
  | 9 => ⟨S16x1, .i32⟩
  | 10 => ⟨S16x1, .i32⟩
  | 11 => ⟨S256, .i32⟩
  | 12 => ⟨S1x256, .i32⟩
  | 13 => ⟨S16x256, .i32⟩
  | 14 => ⟨S16x256, .i32⟩
  | 15 => ⟨S16x256, .i32⟩
  | 16 => ⟨S1x128x256, .i1⟩
  | 17 => ⟨S_, .i32⟩
  | 18 => ⟨S16x256, .i32⟩
  | 19 => ⟨S16x256, .i1⟩
  | 20 => ⟨S16x1x256, .i1⟩
  | 21 => ⟨S16x128x256, .i1⟩
  | 22 => ⟨S16x128x256, .i1⟩
  | 23 => ⟨S16x128x256, .i1⟩
  | 24 => ⟨S16x1x1x128x256, .i1⟩
  | 25 => ⟨S_, .f32⟩
  | 26 => ⟨S_, .f32⟩
  | 27 => ⟨S16x4x4x128x256, .i1⟩
  | 28 => ⟨S16x4x4x128x256, .f32⟩
  | 29 => ⟨S16x4x4x128x256, .f32⟩
  | 30 => ⟨S1x4x4x1x1, .f32⟩
  | 31 => ⟨S16x4x4x128x1, .f32⟩
  | 32 => ⟨S16x4x4x128x257, .f32⟩
  | 33 => ⟨S_, .f32⟩
  | 34 => ⟨S16x4x4x128, .f32⟩
  | 35 => ⟨S_, .f32⟩
  | 36 => ⟨S16x4x4x128, .f32⟩
  | 37 => ⟨S16x4x4x128, .f32⟩
  | 38 => ⟨S16x4x4x128x1, .f32⟩
  | 39 => ⟨S16x4x4x128x257, .f32⟩
  | 40 => ⟨S16x4x4x128x257, .f32⟩
  | 41 => ⟨S16x4x4x128x257, .f32⟩
  | 42 => ⟨S_, .f32⟩
  | 43 => ⟨S16x4x4x128, .f32⟩
  | 44 => ⟨S16x4x4x128x1, .f32⟩
  | 45 => ⟨S16x4x4x128x257, .f32⟩
  | 46 => ⟨S16x4x4x128x257, .f32⟩
  | 47 => ⟨S16x4x4x128x256, .f32⟩
  | 48 => ⟨S16x4x64x4x128, .f32⟩
  | 49 => ⟨S16x128x4x4x64, .f32⟩
  | 50 => ⟨S2048x1024, .f32⟩
  | 51 => ⟨S2048x1024, .bf16⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_cst_4 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_5 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_7 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_8 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_9 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_c : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_c_10 : Ref sig .tc := ⟨.hbm, 124, rfl⟩
abbrev main_v110 : Ref sig .tc := ⟨.hbm, 125, rfl⟩
abbrev main_v111 : Ref sig .tc := ⟨.hbm, 126, rfl⟩
abbrev main_c_11 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_c_12 : Ref sig .tc := ⟨.hbm, 133, rfl⟩
abbrev main_v117 : Ref sig .tc := ⟨.hbm, 134, rfl⟩
abbrev main_v118 : Ref sig .tc := ⟨.hbm, 135, rfl⟩
abbrev main_c_13 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_c_14 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_cst_15 : Ref sig .tc := ⟨.hbm, 153, rfl⟩
abbrev main_call0_v0 : Ref sig .tc := ⟨.hbm, 154, rfl⟩
abbrev main_call0_v1 : Ref sig .tc := ⟨.hbm, 155, rfl⟩
abbrev main_call0_v2 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_cst_16 : Ref sig .tc := ⟨.hbm, 161, rfl⟩
abbrev main_v138 : Ref sig .tc := ⟨.hbm, 162, rfl⟩
abbrev main_cst_17 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_cst_18 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩

abbrev nD : Nat := 1
abbrev τ : Topo := Topo.v7x

variable {F : FTy → Type} [FloatOps F]
-- ==== Convf.lean ====
abbrev S2048x6656 : Shape := ⟨2, ![2048, 6656]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvfRefIdeal.lean ====
abbrev S2048x6656 : Shape := ⟨2, ![2048, 6656]⟩
abbrev S3x1024 : Shape := ⟨2, ![3, 1024]⟩
abbrev S2048x1024 : Shape := ⟨2, ![2048, 1024]⟩
abbrev S2048x256 : Shape := ⟨2, ![2048, 256]⟩
abbrev S_ : Shape := ⟨0, ![]⟩
abbrev S2x1024 : Shape := ⟨2, ![2, 1024]⟩
abbrev S2050x1024 : Shape := ⟨2, ![2050, 1024]⟩
abbrev S1x1024 : Shape := ⟨2, ![1, 1024]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x256, .f32⟩
  | .hbm, ⟨7, _⟩ => ⟨S2048x256, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2x1024, .f32⟩
  | .hbm, ⟨13, _⟩ => ⟨S2050x1024, .f32⟩
  | .hbm, ⟨14, _⟩ => ⟨S1x1024, .f32⟩
  | .hbm, ⟨15, _⟩ => ⟨S1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== Mergef.lean ====
abbrev S2048x1024 : Shape := ⟨2, ![2048, 1024]⟩
abbrev S1024x1024 : Shape := ⟨2, ![1024, 1024]⟩
abbrev S2048x6656 : Shape := ⟨2, ![2048, 6656]⟩
abbrev S1024x512 : Shape := ⟨2, ![1024, 512]⟩

abbrev nBuf : Space → Nat
  | .hbm => 12
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S2048x6656, .f32⟩
  | .hbm, ⟨5, _⟩ => ⟨S2048x1024, .bf16⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S2048x1024, .f32⟩
  | .hbm, ⟨10, _⟩ => ⟨S2048x1024, .f32⟩
  | .hbm, ⟨11, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergefRefIdeal.lean ====
abbrev S2048x1024 : Shape := ⟨2, ![2048, 1024]⟩
abbrev S1024x1024 : Shape := ⟨2, ![1024, 1024]⟩
abbrev S2048x6656 : Shape := ⟨2, ![2048, 6656]⟩
abbrev S2048x256 : Shape := ⟨2, ![2048, 256]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024x1024, .f32⟩
  | .hbm, ⟨4, _⟩ => ⟨S2048x6656, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x256, .f32⟩
  | .hbm, ⟨10, _⟩ => ⟨S2048x256, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Swigluf.lean ====
abbrev S2048x1024 : Shape := ⟨2, ![2048, 1024]⟩
abbrev S1024x5632 : Shape := ⟨2, ![1024, 5632]⟩
abbrev S2048x2816 : Shape := ⟨2, ![2048, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x1024, .bf16⟩
  | .hbm, ⟨3, _⟩ => ⟨S1024x5632, .bf16⟩
  | .hbm, ⟨4, _⟩ => ⟨S2048x2816, .f32⟩
  | .hbm, ⟨5, _⟩ => ⟨S2048x2816, .f32⟩
  | .hbm, ⟨6, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwiglufRefIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Normf.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormfRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Outnorm.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1024x1024, .bf16⟩
  | .hbm, ⟨6, _⟩ => ⟨S2048x1024, .f32⟩
  | .hbm, ⟨7, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutnormRefIdeal.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wdown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x2816, .bf16⟩
  | .hbm, ⟨3, _⟩ => ⟨S2048x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wgateup.lean ====
abbrev S2048x1024 : Shape := ⟨2, ![2048, 1024]⟩
abbrev S2048x2816 : Shape := ⟨2, ![2048, 2816]⟩
abbrev S1024x5632 : Shape := ⟨2, ![1024, 5632]⟩
abbrev S2048x1408 : Shape := ⟨2, ![2048, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x1024, .bf16⟩
  | .hbm, ⟨4, _⟩ => ⟨S2048x2816, .bf16⟩
  | .hbm, ⟨5, _⟩ => ⟨S2048x2816, .bf16⟩
  | .hbm, ⟨6, _⟩ => ⟨S1024x5632, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S1024x1408, .bf16⟩
  | .local _ .vmem, ⟨6, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WgateupRefIdeal.lean ====
abbrev S2048x1024 : Shape := ⟨2, ![2048, 1024]⟩
abbrev S2048x2816 : Shape := ⟨2, ![2048, 2816]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S_, .f32⟩
  | .hbm, ⟨4, _⟩ => ⟨S1024x5632, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Hin.lean ====
abbrev S2048x6656 : Shape := ⟨2, ![2048, 6656]⟩
abbrev S1024x6656 : Shape := ⟨2, ![1024, 6656]⟩
abbrev S2048x1024 : Shape := ⟨2, ![2048, 1024]⟩
abbrev S1024x1664 : Shape := ⟨2, ![1024, 1664]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x6656, .f32⟩
  | .hbm, ⟨1, _⟩ => ⟨S1024x6656, .f32⟩
  | .hbm, ⟨2, _⟩ => ⟨S2048x6656, .bf16⟩
  | .hbm, ⟨3, _⟩ => ⟨S1024x6656, .bf16⟩
  | .hbm, ⟨4, _⟩ => ⟨S2048x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HinRefIdeal.lean ====
abbrev S2048x6656 : Shape := ⟨2, ![2048, 6656]⟩
abbrev S1024x6656 : Shape := ⟨2, ![1024, 6656]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S1024x6656, .f32⟩
  | .hbm, ⟨2, _⟩ => ⟨S_, .f32⟩
  | .hbm, ⟨3, _⟩ => ⟨S2048x1024, .f32⟩
  | .hbm, ⟨4, _⟩ => ⟨S2048x6656, .f32⟩
  | .hbm, ⟨5, _⟩ => ⟨S2048x1024, .f32⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Hgateup.lean ====
abbrev S2048x2816 : Shape := ⟨2, ![2048, 2816]⟩
abbrev S1024x5632 : Shape := ⟨2, ![1024, 5632]⟩
abbrev S2048x1024 : Shape := ⟨2, ![2048, 1024]⟩
abbrev S1024x1408 : Shape := ⟨2, ![1024, 1408]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S2048x2816, .bf16⟩
  | .hbm, ⟨4, _⟩ => ⟨S2048x2816, .bf16⟩
  | .hbm, ⟨5, _⟩ => ⟨S1024x5632, .bf16⟩
  | .hbm, ⟨6, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== HgateupRefIdeal.lean ====
abbrev S2048x2816 : Shape := ⟨2, ![2048, 2816]⟩
abbrev S1024x5632 : Shape := ⟨2, ![1024, 5632]⟩
abbrev S_ : Shape := ⟨0, ![]⟩
abbrev S2048x1024 : Shape := ⟨2, ![2048, 1024]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S1024x5632, .f32⟩
  | .hbm, ⟨3, _⟩ => ⟨S_, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Adamw.lean ====
abbrev S1024x1664 : Shape := ⟨2, ![1024, 1664]⟩
abbrev S256x1664 : Shape := ⟨2, ![256, 1664]⟩

abbrev nBuf : Space → Nat
  | .hbm => 8
  | .vmem => 16
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .local _ .vmem, ⟨0, _⟩ => ⟨S256x1664, .f32⟩
  | .local _ .vmem, ⟨1, _⟩ => ⟨S256x1664, .f32⟩
  | .local _ .vmem, ⟨2, _⟩ => ⟨S256x1664, .f32⟩
  | .local _ .vmem, ⟨3, _⟩ => ⟨S256x1664, .f32⟩
  | .local _ .vmem, ⟨4, _⟩ => ⟨S256x1664, .f32⟩
  | .local _ .vmem, ⟨5, _⟩ => ⟨S256x1664, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S256x1664, .f32⟩
  | .local _ .vmem, ⟨11, _⟩ => ⟨S256x1664, .f32⟩
  | .local _ .vmem, ⟨12, _⟩ => ⟨S256x1664, .f32⟩
  | .local _ .vmem, ⟨13, _⟩ => ⟨S256x1664, .f32⟩
  | .local _ .vmem, ⟨14, _⟩ => ⟨S256x1664, .f32⟩
  | .local _ .vmem, ⟨15, _⟩ => ⟨S256x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwRefIdeal.lean ====
abbrev S1024x1664 : Shape := ⟨2, ![1024, 1664]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S_, .f32⟩
  | .hbm, ⟨5, _⟩ => ⟨S1024x1664, .f32⟩
  | .hbm, ⟨6, _⟩ => ⟨S1024x1664, .f32⟩
  | .hbm, ⟨7, _⟩ => ⟨S_, .f32⟩
  | .hbm, ⟨8, _⟩ => ⟨S1024x1664, .f32⟩
  | .hbm, ⟨9, _⟩ => ⟨S1024x1664, .f32⟩
  | .hbm, ⟨10, _⟩ => ⟨S1024x1664, .f32⟩
  | .hbm, ⟨11, _⟩ => ⟨S_, .f32⟩
  | .hbm, ⟨12, _⟩ => ⟨S1024x1664, .f32⟩
  | .hbm, ⟨13, _⟩ => ⟨S1024x1664, .f32⟩
  | .hbm, ⟨14, _⟩ => ⟨S1024x1664, .f32⟩
  | .hbm, ⟨15, _⟩ => ⟨S_, .f32⟩
  | .hbm, ⟨16, _⟩ => ⟨S1024x1664, .f32⟩
  | .hbm, ⟨17, _⟩ => ⟨S1024x1664, .f32⟩
  | .hbm, ⟨18, _⟩ => ⟨S1024x1664, .f32⟩
  | .hbm, ⟨19, _⟩ => ⟨S_, .f32⟩
  | .hbm, ⟨20, _⟩ => ⟨S1024x1664, .f32⟩
  | .hbm, ⟨21, _⟩ => ⟨S1024x1664, .f32⟩
  | .hbm, ⟨22, _⟩ => ⟨S_, .f32⟩
  | .hbm, ⟨23, _⟩ => ⟨S1024x1664, .f32⟩
  | .hbm, ⟨24, _⟩ => ⟨S1024x1664, .f32⟩
  | .hbm, ⟨25, _⟩ => ⟨S1024x1664, .f32⟩
  | .hbm, ⟨26, _⟩ => ⟨S_, .f32⟩
  | .hbm, ⟨27, _⟩ => ⟨S1024x1664, .f32⟩
  | .hbm, ⟨28, _⟩ => ⟨S1024x1664, .f32⟩
  | .hbm, ⟨29, _⟩ => ⟨S1024x1664, .f32⟩
  | .hbm, ⟨30, _⟩ => ⟨S_, .f32⟩
  | .hbm, ⟨31, _⟩ => ⟨S1024x1664, .f32⟩
  | .hbm, ⟨32, _⟩ => ⟨S1024x1664, .f32⟩
  | .hbm, ⟨33, _⟩ => ⟨S1024x1664, .f32⟩
  | .hbm, ⟨34, _⟩ => ⟨S_, .f32⟩
  | .hbm, ⟨35, _⟩ => ⟨S1024x1664, .f32⟩
  | .hbm, ⟨36, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Ssum.lean ====
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x8x1024, .f32⟩
  | .hbm, ⟨1, _⟩ => ⟨S8x1024, .f32⟩
  | .local _ .vmem, ⟨0, _⟩ => ⟨S8x8x1024, .f32⟩
  | .local _ .vmem, ⟨1, _⟩ => ⟨S8x1024, .f32⟩
  | _, _ => ⟨S8x8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SsumRefIdeal.lean ====
abbrev S8x8x1024 : Shape := ⟨3, ![8, 8, 1024]⟩
abbrev S_ : Shape := ⟨0, ![]⟩
abbrev S8x1024 : Shape := ⟨2, ![8, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x8x1024, .f32⟩
  | .hbm, ⟨1, _⟩ => ⟨S_, .f32⟩
  | .hbm, ⟨2, _⟩ => ⟨S8x1024, .f32⟩
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pack.lean ====
abbrev S1x1024 : Shape := ⟨2, ![1, 1024]⟩
abbrev S3x1024 : Shape := ⟨2, ![3, 1024]⟩
abbrev S1x128 : Shape := ⟨2, ![1, 128]⟩
abbrev S8x1024 : Shape := ⟨2, ![8, 1024]⟩
abbrev S1x896 : Shape := ⟨2, ![1, 896]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S3x1024, .f32⟩
  | .hbm, ⟨4, _⟩ => ⟨S1x128, .f32⟩
  | .hbm, ⟨5, _⟩ => ⟨S1x128, .f32⟩
  | .hbm, ⟨6, _⟩ => ⟨S8x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S3x1024, .f32⟩
  | .local _ .vmem, ⟨4, _⟩ => ⟨S1x128, .f32⟩
  | .local _ .vmem, ⟨5, _⟩ => ⟨S1x128, .f32⟩
  | .local _ .vmem, ⟨6, _⟩ => ⟨S8x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== PackRefIdeal.lean ====
abbrev S1x1024 : Shape := ⟨2, ![1, 1024]⟩
abbrev S3x1024 : Shape := ⟨2, ![3, 1024]⟩
abbrev S1x128 : Shape := ⟨2, ![1, 128]⟩
abbrev S_ : Shape := ⟨0, ![]⟩
abbrev S1x896 : Shape := ⟨2, ![1, 896]⟩
abbrev S8x1024 : Shape := ⟨2, ![8, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S3x1024, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S1x896, .f32⟩
  | .hbm, ⟨8, _⟩ => ⟨S1x1024, .f32⟩
  | .hbm, ⟨9, _⟩ => ⟨S1x1024, .f32⟩
  | .hbm, ⟨10, _⟩ => ⟨S8x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩

abbrev nD : Nat := 1
abbrev τ : Topo := Topo.v7x

variable {F : FTy → Type} [FloatOps F]
-- ==== Proof.Swiglu.Value.lean ====
/-
  The gated unit's backward call: its two results are, element by element, the derivative of
  `w_down · (silu(gate) · up)` with respect to `gate` and `up`.
-/
module

public import proofs.«01_k».proof.Proof.Gen.SwigluIdeal.Value
public import proofs.«01_k».proof.Proof.Gen.SwigluRefIdeal.Run
public import proofs.«01_k».proof.Proof.Gen.SwigluRefIdeal.Read
public import Idealize.ShloMosaic.Lib.Pipeline.ValueKit
public import Idealize.ShloMosaic.Lib.Claim

@[expose] public section

set_option maxRecDepth 16384

noncomputable section

namespace Cert.SwigluIdeal.Value

open Cert.SwigluIdeal Cert.SwigluIdeal.Gen Idealize.ShloMosaic Idealize.ShloMosaic.TcCoe Idealize.SL.Sem
open Idealize.ShloMosaic.Pipeline (Dat)
open Cert.SwigluRefIdeal.Read

variable (m : (ℓ : Loc nD τ sig) → Buf (Elt Ideal) ℓ)

/-- Where each window's block sits at a grid point: the point's row tile and column tile. -/
theorem idx : ∀ t : Fin cfg0.N,
    win0_0.index t = ![t.val / 2, 0] ∧ win0_1.index t = ![t.val % 2, 0] ∧ win0_2.index t = ![t.val / 2, t.val % 2]
      ∧ win0_3.index t = ![t.val / 2, t.val % 2] ∧ win0_4.index t = ![t.val / 2, t.val % 2]
      ∧ win0_5.index t = ![t.val / 2, t.val % 2] ∧ t.val / 2 < 4 :=
  (by decide +kernel : ∀ t : Fin grid0.N, _)

/-- The reference's sigmoid of the gate is the logistic function. -/
theorem sigmoid (g : FVec Ideal S2048x2816 .f32) (i : S2048x2816.Idx) :
    val_main_v0_2 (F := Ideal) g i = Ideal.logistic (g i) := by
  pointwise [val_main_v0_2, val_main_call0_v4, val_main_call0_v3, val_main_call0_v2, val_main_call0_v1, val_main_call0_v0,
    val_main_call0_cst, val_main_call0_cst_0, Ideal.logistic]

/-- The gate's cotangent as the call computes it: the cotangent of `silu(gate)` times the derivative of the gate's function. -/
def dgate (g u : FVec Ideal S2048x2816 .f32) (w : FVec Ideal S2816x1024 .f32) (dx : FVec Ideal S2048x1024 .f32) : FVec Ideal S2048x2816 .bf16 :=
  fun i => val_main_v5 (F := Ideal) u w dx i * (Ideal.logistic (g i) * (1 + g i * (1 - Ideal.logistic (g i))))

theorem final4 (c : Dev nD) : (dats m 0 c).arrAt 4 (cfgs 0).N
    = dgate (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay3, k0_pay1, k0_pay2, dgate, val_main_v5, val_main_v3]
  blk_point [iblk, V, idx t]

/-- The second factor's cotangent. -/
theorem final5 (c : Dev nD) : (dats m 0 c).arrAt 5 (cfgs 0).N
    = val_main_v8 (F := Ideal) (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay4, k0_pay1, k0_pay2, val_main_v8, val_main_v4, val_main_v0_0, val_main_v3, sigmoid]
  blk_point [iblk, V, idx t]

end Cert.SwigluIdeal.Value

end
-- ==== Proof.RealValues.lean ====
/-
  Extended reals that are real numbers: they are closed under the operations the gradients use, and the precondition's
  mask `|x| < ∞` says of an element that it is one.
-/
module

public import Idealize.ShloMosaic.PureOps
public import Idealize.ShloMosaic.PureOps.Ideal.Laws
public import Mathlib.Data.EReal.Operations

@[expose] public section

noncomputable section

namespace Cert.RealValues

open Idealize.ShloMosaic

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- A finite sum of real numbers is one. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The mask `|x| < ∞` holds of real numbers only. -/
theorem isReal_of_mask {x : EReal} (h : Ideal.cmp .olt (max x (-x)) (Ideal.ofBits .f32 0x7F800000#32) = 1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The logistic function's value is a real number everywhere. -/
theorem isReal_logistic (x : EReal) : IsReal (Ideal.logistic x) := by
  induction x with
  | bot => rw [Ideal.logistic_bot]; exact isReal_zero
  | top => rw [Ideal.logistic_top]; exact isReal_one
  | coe r => rw [Ideal.logistic_coe]; exact ⟨_, rfl⟩

/-- The derivative of `x · logistic x`, factored against the product rule's two terms; `X` has to be a real number, `g` has not. -/
theorem silu_derivative {X : EReal} (hX : IsReal X) (g : EReal) :
    X * (Ideal.logistic g * (1 + g * (1 - Ideal.logistic g)))
      = X * Ideal.logistic g + g * X * (Ideal.logistic g * (1 - Ideal.logistic g)) := by
  obtain ⟨x, rfl⟩ := hX
  induction g with
  | bot => simp
  | top => simp [show (1 : EReal) - 1 = 0 from by rw [← EReal.coe_one, ← EReal.coe_sub, sub_self, EReal.coe_zero]]
  | coe r =>
    rw [Ideal.logistic_coe]
    generalize (1 + Real.exp (-r))⁻¹ = s
    rw [← EReal.coe_one]
    norm_cast
    ring

end Cert.RealValues

end
-- ==== Proof.Swiglu.Pair.lean ====
/-
  The gradient of the gated product, with the down projection's: the kernel's two results are the reference's.
-/
module

public import proofs.«01_k».proof.Defs
public import proofs.«01_k».proof.Proof.Swiglu.Value
public import proofs.«01_k».proof.Proof.RealValues

@[expose] public section

set_option maxRecDepth 16384

noncomputable section

namespace Cert.SwigluPair

open Cert.RealValues Cert.SwigluRefIdeal.Read
open Idealize.ShloMosaic Idealize.SL.Sem Idealize.ShloMosaic.TcCoe

/-- The precondition's shape facts. -/
instance preFacts : Cert.Pre_finite_swiglu.Facts where
  bcast_S_S2048x2816 := by decide
  bcast_S_S2816x1024 := by decide
  bcast_S_S2048x1024 := by decide

/-- The gate's cotangent factored as the kernel has it is the reference's, where the second factor, the weight and the cotangent are finite. -/
theorem dgate_eq (g u : FVec Ideal Cert.SwigluIdeal.S2048x2816 .f32) (w : FVec Ideal Cert.SwigluIdeal.S2816x1024 .f32) (dx : FVec Ideal Cert.SwigluIdeal.S2048x1024 .f32)
    (hu : ∀ i, IsReal (u i)) (hw : ∀ i, IsReal (w i)) (hdx : ∀ i, IsReal (dx i)) :
    Cert.SwigluIdeal.Value.dgate g u w dx = val_main_v7 (F := Ideal) g u w dx := by
  funext i
  have hX : IsReal (val_main_v5 (F := Ideal) u w dx i) := by
    pointwise [val_main_v5, val_main_v3]
    exact (IsReal.sum _ _ fun k _ => (hdx _).mul (hw _)).mul (hu _)
  have key := silu_derivative hX (g i)
  pointwise [Cert.SwigluIdeal.Value.dgate, val_main_v7, val_main_v6, val_main_call1_v1, val_main_call1_v2, val_main_call1_v0, val_main_v0_1, val_main_call0_v7, val_main_call0_v6,
    val_main_call0_cst_1, Cert.SwigluIdeal.Value.sigmoid]
  exact key

/-- From the same arguments the kernel and the reference end with equal results. -/
theorem algebraic : algebraic_SwigluIdeal_SwigluRefIdeal_pre_finite_swiglu := by
  pair_intro
  · run_from Cert.SwigluIdeal.Value.run_blocks m g
  · run_from Cert.SwigluRefIdeal.Value.run m' g'
    · refine ((Cert.SwigluIdeal.Value.final4 m c).trans (dgate_eq _ _ _ _ ?_ ?_ ?_)).symm
      · exact fun i => isReal_of_mask (congrFun (hpre c).1 i)
      · exact fun i => isReal_of_mask (congrFun (hpre c).2.1 i)
      · exact fun i => isReal_of_mask (congrFun (hpre c).2.2 i)
    · exact (Cert.SwigluIdeal.Value.final5 m c).symm

end Cert.SwigluPair

end
-- ==== Proof.Merge.Value.lean ====
/-
  The output projection's backward call: its four results are, element by element, the derivative of the gated sum of
  the two branches. Every product of three or four factors is only regrouped, so no number has to be finite.
-/
module

public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.ValueKit
public import Idealize.ShloMosaic.Lib.Claim

@[expose] public section

set_option maxRecDepth 16384

noncomputable section

namespace Cert.MergeIdeal.Value

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- Where each window's block sits at a grid point: the point's row tile and column tile. -/
theorem idx : ∀ t : Fin cfg0.N,
    win0_0.index t = ![t.val / 2, 0] ∧ win0_1.index t = ![t.val % 2, 0] ∧ win0_2.index t = ![t.val / 2, t.val % 2]
      ∧ win0_3.index t = ![t.val / 2, t.val % 2] ∧ win0_4.index t = ![t.val / 2, t.val % 2 + 9]
      ∧ win0_5.index t = ![t.val / 2, t.val % 2 + 11] ∧ win0_6.index t = ![t.val / 2, t.val % 2]
      ∧ win0_7.index t = ![t.val / 2, t.val % 2] ∧ win0_8.index t = ![t.val / 2, t.val % 2]
      ∧ win0_9.index t = ![t.val / 2, t.val % 2] ∧ t.val / 2 < 2 :=
  (by decide +kernel : ∀ t : Fin grid0.N, _)

/-- The reference's gate of the convolution branch is the logistic function of its projection column. -/
theorem gate_c (P : FVec Ideal S2048x6656 .f32) (i : S2048x1024.Idx) :
    val_main_v13 (F := Ideal) P i = Ideal.logistic (val_main_v6 (F := Ideal) P i) := by
  pointwise [val_main_v13, val_main_v12, val_main_v11, val_main_v10, val_main_v9, val_main_v8, val_main_cst, val_main_cst_0,
    Ideal.logistic]

/-- The reference's gate of the attention branch likewise. -/
theorem gate_a (P : FVec Ideal S2048x6656 .f32) (i : S2048x1024.Idx) :
    val_main_v23 (F := Ideal) P i = Ideal.logistic (val_main_v7 (F := Ideal) P i) := by
  pointwise [val_main_v23, val_main_v22, val_main_v21, val_main_v20, val_main_v19, val_main_v18, val_main_cst_2, val_main_cst_3,
    Ideal.logistic]

/-- The convolution branch's cotangent. -/
theorem final6 (c : Dev nD) : (dats m 0 c).arrAt 6 (cfgs 0).N
    = val_main_v37 (F := Ideal) (m ((c : Thread nD τ).loc main_arg0)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay4, k0_pay1, k0_pay2, val_main_v37, val_main_v34, val_main_v30, gate_c, val_main_v6]
  blk_point [iblk, V, idx t]

/-- The attention branch's cotangent. -/
theorem final7 (c : Dev nD) : (dats m 0 c).arrAt 7 (cfgs 0).N
    = val_main_v38 (F := Ideal) (m ((c : Thread nD τ).loc main_arg0)) (m ((c : Thread nD τ).loc main_arg3)) (m ((c : Thread nD τ).loc main_arg4)) := by
  refine (dats m 0 c).arrAt_eq_of_covers 7 _ (by decide +kernel) fun t _ y => ?_
  blk_simp
  rw [after0_7]; frame_out
  pointwise [k0_pay5, k0_pay1, k0_pay3, val_main_v38, val_main_v31, val_main_v30, gate_a, val_main_v7]
  blk_point [iblk, V, idx t]

/-- The convolution gate's cotangent, before its logistic function. -/
theorem final8 (c : Dev nD) : (dats m 0 c).arrAt 8 (cfgs 0).N
    = val_main_v39 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t _ y => ?_
  blk_simp
  rw [after0_8]; frame_out
  pointwise [k0_pay6, k0_pay1, k0_pay2, val_main_v39, val_main_v36, val_main_v35, val_main_v30, val_main_v16, val_main_v15,
    val_main_v14, val_main_cst_1, gate_c, val_main_v6]
  blk_point [iblk, V, idx t]

/-- The attention gate's cotangent, before its logistic function. -/
theorem final9 (c : Dev nD) : (dats m 0 c).arrAt 9 (cfgs 0).N
    = val_main_v40 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  pointwise [k0_pay7, k0_pay1, k0_pay3, val_main_v40, val_main_v33, val_main_v32, val_main_v30, val_main_v26, val_main_v25,
    val_main_v24, val_main_cst_4, gate_a, val_main_v7]
  blk_point [iblk, V, idx t]

end Cert.MergeIdeal.Value

end
-- ==== Proof.Merge.Pair.lean ====
/-
  The merge gradient: the kernel's four results are the reference's.
-/
module

public import proofs.«01_k».proof.Defs
public import proofs.«01_k».proof.Proof.Merge.Value

@[expose] public section

set_option maxRecDepth 16384

noncomputable section

namespace Cert.MergePair

open Idealize.ShloMosaic Idealize.SL.Sem Idealize.ShloMosaic.TcCoe

/-- From the same arguments the kernel and the reference end with equal results. -/
theorem algebraic : algebraic_MergeIdeal_MergeRefIdeal := by
  pair_intro
  · run_from Cert.MergeIdeal.Value.run_blocks m g
  · run_from Cert.MergeRefIdeal.Value.run m' g'
    · exact (Cert.MergeIdeal.Value.final6 m c).symm
    · exact (Cert.MergeIdeal.Value.final7 m c).symm
    · exact (Cert.MergeIdeal.Value.final8 m c).symm
    · exact (Cert.MergeIdeal.Value.final9 m c).symm

end Cert.MergePair

end
-- ==== Proof.Conv.Value.lean ====
/-
  The short convolution's backward call.
-/
module

public import proofs.«01_k».proof.Proof.Gen.ConvIdeal.Value
public import proofs.«01_k».proof.Proof.Gen.ConvRefIdeal.Run
public import proofs.«01_k».proof.Proof.Gen.ConvRefIdeal.Read
public import Idealize.ShloMosaic.Lib.Pipeline.ValueKit
public import Idealize.ShloMosaic.Lib.Claim

@[expose] public section

set_option maxRecDepth 16384

noncomputable section

namespace Cert.ConvIdeal.Value

open Cert.ConvIdeal Cert.ConvIdeal.Gen Idealize.ShloMosaic Idealize.ShloMosaic.TcCoe Idealize.SL.Sem
open Idealize.ShloMosaic.Pipeline (Dat)
open Cert.ConvRefIdeal.Read

variable (m : (ℓ : Loc nD τ sig) → Buf (Elt Ideal) ℓ)

/-- Where each window's block sits at a grid point: a column tile of its array. -/
theorem idx : ∀ t : Fin cfg0.N,
    win0_0.index t = ![0, 0] ∧ win0_1.index t = ![t.val, 0] ∧ win0_2.index t = ![0, t.val]
      ∧ win0_3.index t = ![0, t.val + 4] ∧ win0_4.index t = ![0, t.val + 8] ∧ win0_5.index t = ![0, t.val]
      ∧ win0_6.index t = ![0, t.val] ∧ win0_7.index t = ![0, t.val] ∧ win0_8.index t = ![0, t.val]
      ∧ win0_9.index t = ![0, t.val] ∧ t.val < 4 :=
  (by decide +kernel : ∀ t : Fin grid0.N, _)

theorem toInt_small (n : ℕ) (hn : n < 2048) : (BitVec.ofNat 32 n).toInt = n := by
  rw [BitVec.toInt_eq_toNat_of_lt (by rw [BitVec.toNat_ofNat]; omega), BitVec.toNat_ofNat]; omega

/-- A row's test "at least `k`", made on words, is the test on numbers. -/
theorem row_ge (n k : ℕ) (hn : n < 2048) (hk : k < 2048) (a b : EReal) :
    Scalar.select (IntOp.cmpi CmpIPredicate.sge (BitVec.ofNat 32 n) (BitVec.ofNat 32 k)) a b = if n < k then b else a := by
  rcases Nat.lt_or_ge n k with h | h
  · have : IntOp.cmpi CmpIPredicate.sge (BitVec.ofNat 32 n) (BitVec.ofNat 32 k) = 0#1 := by
      simp only [IntOp.cmpi, BitVec.sle, BitVec.slt, toInt_small n hn, toInt_small k hk]
      rw [decide_eq_false (by omega)]; rfl
    rw [this, if_pos h]; rfl
  · have : IntOp.cmpi CmpIPredicate.sge (BitVec.ofNat 32 n) (BitVec.ofNat 32 k) = 1#1 := by
      simp only [IntOp.cmpi, BitVec.sle, BitVec.slt, toInt_small n hn, toInt_small k hk]
      rw [decide_eq_true (by omega)]; rfl
    rw [this, if_neg (by omega)]; rfl

/-- A row's test "less than `k`", made on words, is the test on numbers. -/
theorem row_lt (n k : ℕ) (hn : n < 2048) (hk : k < 2048) (a b : EReal) :
    Scalar.select (IntOp.cmpi CmpIPredicate.slt (BitVec.ofNat 32 n) (BitVec.ofNat 32 k)) a b = if n < k then a else b := by
  rcases Nat.lt_or_ge n k with h | h
  · have : IntOp.cmpi CmpIPredicate.slt (BitVec.ofNat 32 n) (BitVec.ofNat 32 k) = 1#1 := by
      simp only [IntOp.cmpi, BitVec.sle, BitVec.slt, toInt_small n hn, toInt_small k hk]
      rw [decide_eq_true (by omega)]; rfl
    rw [this, if_pos h]; rfl
  · have : IntOp.cmpi CmpIPredicate.slt (BitVec.ofNat 32 n) (BitVec.ofNat 32 k) = 0#1 := by
      simp only [IntOp.cmpi, BitVec.sle, BitVec.slt, toInt_small n hn, toInt_small k hk]
      rw [decide_eq_false (by omega)]; rfl
    rw [this, if_neg (by omega)]; rfl

/-- A column moved down by `k` rows, as a rotation masked above row `k`. -/
abbrev down (k : ℕ) (u : Fin 2048 → EReal) (r : Fin 2048) : EReal :=
  if r.val < k then 0 else u ⟨(r.val + 2048 - k) % 2048, Nat.mod_lt _ (by norm_num)⟩

/-- A column moved up, as a rotation by `k` rows masked from row `k` on. -/
abbrev up (k : ℕ) (u : Fin 2048 → EReal) (r : Fin 2048) : EReal :=
  if r.val < k then u ⟨(r.val + 2048 - k) % 2048, Nat.mod_lt _ (by norm_num)⟩ else 0

/-- The convolution's input: the product of the projection's second and third column groups. -/
abbrev U (P : FVec Ideal S2048x6656 .f32) (r : Fin 2048) (c : Fin 1024) : EReal :=
  P (ix2 r ⟨1024 + c.val, by omega⟩) * P (ix2 r ⟨2048 + c.val, by omega⟩)

/-- The cotangent of the convolution's output: that of the projected output through the projection, times the first group. -/
abbrev DC (P : FVec Ideal S2048x6656 .f32) (W : FVec Ideal S1024x1024 .f32) (D : FVec Ideal S2048x1024 .f32) (r : Fin 2048) (c : Fin 1024) : EReal :=
  (∑ x : Fin 1024, D (ix2 r x) * W (ix2 c x)) * P (ix2 r ⟨0 + c.val, by omega⟩)

/-- The first column group's cotangent, as the call computes it. -/
def dcb (P : FVec Ideal S2048x6656 .f32) (w : FVec Ideal S3x1024 .f32) (W : FVec Ideal S1024x1024 .f32) (D : FVec Ideal S2048x1024 .f32) :
    FVec Ideal S2048x1024 .bf16 := fun i =>
  (∑ x : Fin 1024, D (ix2 (i 0) x) * W (ix2 (i 1) x))
    * (down 2 (fun r => w (ix2 0 (i 1)) * U P r (i 1)) (i 0) + down 1 (fun r => w (ix2 1 (i 1)) * U P r (i 1)) (i 0)
      + w (ix2 2 (i 1)) * U P (i 0) (i 1))

/-- The column of the whole array that a block's column is. -/
abbrev col (t : Fin cfg0.N) (q : Fin 256) : Fin 1024 := ⟨t.val * 256 + q.val, by have := t.isLt; have : cfg0.N = 4 := rfl; omega⟩

theorem in0 (c : Dev nD) (t : Fin cfg0.N) (r : Fin 2048) (x : Fin 1024) :
    iblk m c 0 t (ix2 r x) = m ((c : Thread nD τ).loc main_arg3) (ix2 r x) := by
  blk_point [iblk, V, idx t]
theorem in1 (c : Dev nD) (t : Fin cfg0.N) (q : Fin 256) (x : Fin 1024) :
    iblk m c 1 t (ix2 q x) = m ((c : Thread nD τ).loc main_arg2) (ix2 (col t q) x) := by
  blk_point [iblk, V, idx t]
theorem in2 (c : Dev nD) (t : Fin cfg0.N) (r : Fin 2048) (q : Fin 256) :
    iblk m c 2 t (ix2 r q) = m ((c : Thread nD τ).loc main_arg0) (ix2 r ⟨0 + (col t q).val, by omega⟩) := by
  blk_point [iblk, V, idx t]
theorem in3 (c : Dev nD) (t : Fin cfg0.N) (r : Fin 2048) (q : Fin 256) :
    iblk m c 3 t (ix2 r q) = m ((c : Thread nD τ).loc main_arg0) (ix2 r ⟨1024 + (col t q).val, by omega⟩) := by
  blk_point [iblk, V, idx t]
theorem in4 (c : Dev nD) (t : Fin cfg0.N) (r : Fin 2048) (q : Fin 256) :
    iblk m c 4 t (ix2 r q) = m ((c : Thread nD τ).loc main_arg0) (ix2 r ⟨2048 + (col t q).val, by omega⟩) := by
  blk_point [iblk, V, idx t]
theorem in5 (c : Dev nD) (t : Fin cfg0.N) (k : Fin 3) (q : Fin 256) :
    iblk m c 5 t (ix2 k q) = m ((c : Thread nD τ).loc main_arg1) (ix2 k (col t q)) := by
  blk_point [iblk, V, idx t]

theorem at0 (r : Fin 2048) (q : Fin 256) : (ix2 r q : S2048x256.Idx) 0 = r := rfl
theorem at1 (r : Fin 2048) (q : Fin 256) : (ix2 r q : S2048x256.Idx) 1 = q := rfl

/-- The cotangent of the convolution's input: every tap's share, moved up. -/
abbrev DU (P : FVec Ideal S2048x6656 .f32) (w : FVec Ideal S3x1024 .f32) (W : FVec Ideal S1024x1024 .f32) (D : FVec Ideal S2048x1024 .f32) (r : Fin 2048) (c : Fin 1024) : EReal :=
  w (ix2 2 c) * DC P W D r c + up 2047 (fun r => w (ix2 1 c) * DC P W D r c) r + up 2046 (fun r => w (ix2 0 c) * DC P W D r c) r

/-- The second and third column groups' cotangents, as the call computes them. -/
def dcc (P : FVec Ideal S2048x6656 .f32) (w : FVec Ideal S3x1024 .f32) (W : FVec Ideal S1024x1024 .f32) (D : FVec Ideal S2048x1024 .f32) :
    FVec Ideal S2048x1024 .bf16 := fun i => DU P w W D (i 0) (i 1) * P (ix2 (i 0) ⟨2048 + (i 1).val, by have := ValueIdx.idx2_lt1 i; omega⟩)
def dcx (P : FVec Ideal S2048x6656 .f32) (w : FVec Ideal S3x1024 .f32) (W : FVec Ideal S1024x1024 .f32) (D : FVec Ideal S2048x1024 .f32) :
    FVec Ideal S2048x1024 .bf16 := fun i => DU P w W D (i 0) (i 1) * P (ix2 (i 0) ⟨1024 + (i 1).val, by have := ValueIdx.idx2_lt1 i; omega⟩)

/-- The taps' cotangents, as the call computes them: row `k` sums the output's cotangent against the input moved down by `2 - k`. -/
def dtap (P : FVec Ideal S2048x6656 .f32) (W : FVec Ideal S1024x1024 .f32) (D : FVec Ideal S2048x1024 .f32) : FVec Ideal S3x1024 .f32 := fun i =>
  if (i 0).val = 0 then ∑ r : Fin 2048, DC P W D r (i 1) * down 2 (fun r => U P r (i 1)) r
  else if (i 0).val = 1 then ∑ r : Fin 2048, DC P W D r (i 1) * down 1 (fun r => U P r (i 1)) r
  else ∑ r : Fin 2048, DC P W D r (i 1) * U P r (i 1)

theorem out6 (t : Fin cfg0.N) (y : ((cfg0.win 6).xblock (cfg0.grid.coords t)).Idx) :
    ((cfg0.win 6).blk t).view.emb y = ix2 (y 0 : Fin 2048) (col t (y 1)) := by
  apply Shape.idx_ext₂ <;> blk_simp [idx t]

theorem final6 (c : Dev nD) : (dats m 0 c).arrAt 6 (cfgs 0).N
    = dcb (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [out6 t y]
  blk_simp
  rw [after0_6]; frame_out
  pointwise [k0_pay9, k0_pay5, k0_pay6, k0_pay7, k0_pay8]
  generalize y = z
  obtain ⟨r, q, rfl⟩ : ∃ (r : Fin 2048) (q : Fin 256), z = ix2 r q := ⟨z 0, z 1, ValueIdx.eq_ix2 z⟩
  simp only [at0, at1, in0, in1, in2, in3, in4, in5]
  rw [row_ge _ 2 r.isLt (by norm_num), row_ge _ 1 r.isLt (by norm_num)]
  rfl

theorem out7 (t : Fin cfg0.N) (y : ((cfg0.win 7).xblock (cfg0.grid.coords t)).Idx) :
    ((cfg0.win 7).blk t).view.emb y = ix2 (y 0 : Fin 2048) (col t (y 1)) := by
  apply Shape.idx_ext₂ <;> blk_simp [idx t]

theorem final7 (c : Dev nD) : (dats m 0 c).arrAt 7 (cfgs 0).N
    = dcc (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  rw [out7 t y]
  blk_simp
  rw [after0_7]; frame_out
  pointwise [k0_pay2, k0_pay1, k0_pay11, k0_pay10, k0_pay8]
  generalize y = z
  obtain ⟨r, q, rfl⟩ : ∃ (r : Fin 2048) (q : Fin 256), z = ix2 r q := ⟨z 0, z 1, ValueIdx.eq_ix2 z⟩
  simp only [at0, at1, in0, in1, in2, in3, in4, in5]
  rw [row_lt _ 2047 r.isLt (by norm_num), row_lt _ 2046 r.isLt (by norm_num)]
  rfl

theorem out8 (t : Fin cfg0.N) (y : ((cfg0.win 8).xblock (cfg0.grid.coords t)).Idx) :
    ((cfg0.win 8).blk t).view.emb y = ix2 (y 0 : Fin 2048) (col t (y 1)) := by
  apply Shape.idx_ext₂ <;> blk_simp [idx t]

theorem final8 (c : Dev nD) : (dats m 0 c).arrAt 8 (cfgs 0).N
    = dcx (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  rw [out8 t y]
  blk_simp
  rw [after0_8]; frame_out
  pointwise [k0_pay3, k0_pay1, k0_pay11, k0_pay10, k0_pay8]
  generalize y = z
  obtain ⟨r, q, rfl⟩ : ∃ (r : Fin 2048) (q : Fin 256), z = ix2 r q := ⟨z 0, z 1, ValueIdx.eq_ix2 z⟩
  simp only [at0, at1, in0, in1, in2, in3, in4, in5]
  rw [row_lt _ 2047 r.isLt (by norm_num), row_lt _ 2046 r.isLt (by norm_num)]
  rfl

/-- The stored taps' rows, from the four columns they are summed from. -/
theorem taps0 (v2 v9 v15 v36 : FVec Ideal S2048x256 .f32) (q : Fin 256) :
    k0_pay4 v2 v9 v15 v36 (ix2 0 q) = ∑ r : Fin 2048, v36 (ix2 r q) * v15 (ix2 r q) := by pointwise [k0_pay4]
theorem taps1 (v2 v9 v15 v36 : FVec Ideal S2048x256 .f32) (q : Fin 256) :
    k0_pay4 v2 v9 v15 v36 (ix2 1 q) = ∑ r : Fin 2048, v36 (ix2 r q) * v9 (ix2 r q) := by pointwise [k0_pay4]
theorem taps2 (v2 v9 v15 v36 : FVec Ideal S2048x256 .f32) (q : Fin 256) :
    k0_pay4 v2 v9 v15 v36 (ix2 2 q) = ∑ r : Fin 2048, v36 (ix2 r q) * v2 (ix2 r q) := by pointwise [k0_pay4]

theorem moved1 (v0 v1 : FVec Ideal S2048x256 .f32) (r : Fin 2048) (q : Fin 256) :
    k0_pay6 (F := Ideal) v0 v1 (ix2 r q) = down 1 (fun r => v0 (ix2 r q) * v1 (ix2 r q)) r := by
  pointwise [k0_pay6, k0_pay5]
  rw [row_ge _ 1 r.isLt (by norm_num)]
theorem moved2 (v0 v1 : FVec Ideal S2048x256 .f32) (r : Fin 2048) (q : Fin 256) :
    k0_pay7 (F := Ideal) v0 v1 (ix2 r q) = down 2 (fun r => v0 (ix2 r q) * v1 (ix2 r q)) r := by
  pointwise [k0_pay7, k0_pay5]
  rw [row_ge _ 2 r.isLt (by norm_num)]
theorem dco (x0 : FVec Ideal S2048x1024 .bf16) (x1 : FVec Ideal S256x1024 .bf16) (x2 x3 x4 : FVec Ideal S2048x256 .f32) (x5 : FVec Ideal S3x256 .f32) (r : Fin 2048) (q : Fin 256) :
    k0_pay11 (F := Ideal) x0 x1 x2 x3 x4 x5 (ix2 r q) = (∑ x : Fin 1024, x0 (ix2 r x) * x1 (ix2 q x)) * x2 (ix2 r q) := by
  pointwise [k0_pay11, k0_pay10, k0_pay8]

theorem out9 (t : Fin cfg0.N) (y : ((cfg0.win 9).xblock (cfg0.grid.coords t)).Idx) :
    ((cfg0.win 9).blk t).view.emb y = ix2 (y 0 : Fin 3) (col t (y 1)) := by
  apply Shape.idx_ext₂ <;> blk_simp [idx t]

theorem final9 (c : Dev nD) : (dats m 0 c).arrAt 9 (cfgs 0).N
    = dtap (m ((c : Thread nD τ).loc main_arg0)) (m ((c : Thread nD τ).loc main_arg2)) (m ((c : Thread nD τ).loc main_arg3)) := by
  refine (dats m 0 c).arrAt_eq_of_covers 9 _ (by decide +kernel) fun t _ y => ?_
  rw [out9 t y]
  blk_simp
  rw [after0_9]; frame_out
  generalize y = z
  obtain ⟨k, q, rfl⟩ : ∃ (k : Fin 3) (q : Fin 256), z = ix2 k q := ⟨z 0, z 1, ValueIdx.eq_ix2 z⟩
  have hk : k = 0 ∨ k = 1 ∨ k = 2 := by fin_cases k <;> simp
  rcases hk with rfl | rfl | rfl
  · rw [taps0]; simp only [moved2, dco, in0, in1, in2, in3, in4]; rfl
  · rw [taps1]; simp only [moved1, dco, in0, in1, in2, in3, in4]; rfl
  · rw [taps2]; pointwise [k0_pay5]; simp only [dco, in0, in1, in2, in3, in4]; rfl

theorem down_of_lt {k : ℕ} (u : Fin 2048 → EReal) {r : Fin 2048} (h : r.val < k) : down k u r = 0 := if_pos h
theorem down_of_ge {k : ℕ} (u : Fin 2048 → EReal) {r : Fin 2048} (h : k ≤ r.val) : down k u r = u ⟨r.val - k, by omega⟩ := by
  unfold down; rw [if_neg (by omega)]; congr 2; omega
theorem up_of_ge {k : ℕ} (u : Fin 2048 → EReal) {r : Fin 2048} (h : k ≤ r.val) : up k u r = 0 := if_neg (by omega)
theorem up_of_lt {k : ℕ} (u : Fin 2048 → EReal) {r : Fin 2048} (h : r.val < k) (hk : k ≤ 2048) : up k u r = u ⟨r.val + 2048 - k, by omega⟩ := by
  unfold up; rw [if_pos h]; congr 2; omega

theorem mul_down (k : ℕ) (a : EReal) (u : Fin 2048 → EReal) (r : Fin 2048) : a * down k u r = down k (fun r => a * u r) r := by
  unfold down; split_ifs <;> simp

/-- The reference's three slices of the padded input are the input and its two moves. -/
theorem slice2 (P : FVec Ideal S2048x6656 .f32) (r : Fin 2048) (c : Fin 1024) :
    val_main_v14 (F := Ideal) P (ix2 r c) = down 2 (fun r => U P r c) r := by
  pointwise [val_main_v14, val_main_v10, val_main_v9, val_main_cst, val_main_v8, val_main_v1, val_main_v2]
  rcases Nat.lt_or_ge r 2 with h | h
  · rw [down_of_lt _ h, dif_pos h]
  · rw [down_of_ge _ h, dif_neg (by omega)]
theorem slice1 (P : FVec Ideal S2048x6656 .f32) (r : Fin 2048) (c : Fin 1024) :
    val_main_v20 (F := Ideal) P (ix2 r c) = down 1 (fun r => U P r c) r := by
  pointwise [val_main_v20, val_main_v10, val_main_v9, val_main_cst, val_main_v8, val_main_v1, val_main_v2]
  rcases Nat.lt_or_ge r 1 with h | h
  · rw [down_of_lt _ h, dif_pos (by omega)]
  · rw [down_of_ge _ h, dif_neg (by omega)]
    simp only [U, show 1 + r.val - 2 = r.val - 1 by omega]
theorem slice0 (P : FVec Ideal S2048x6656 .f32) (r : Fin 2048) (c : Fin 1024) :
    val_main_v27 (F := Ideal) P (ix2 r c) = U P r c := by
  pointwise [val_main_v27, val_main_v10, val_main_v9, val_main_cst, val_main_v8, val_main_v1, val_main_v2, U]

theorem dcb_eq (P : FVec Ideal S2048x6656 .f32) (w : FVec Ideal S3x1024 .f32) (W : FVec Ideal S1024x1024 .f32) (D : FVec Ideal S2048x1024 .f32) :
    dcb P w W D = val_main_v72 (F := Ideal) P w W D := by
  funext i
  obtain ⟨r, c, rfl⟩ : ∃ (r : Fin 2048) (c : Fin 1024), i = ix2 r c := ⟨i 0, i 1, ValueIdx.eq_ix2 i⟩
  pointwise [val_main_v72, val_main_v36, val_main_v34, val_main_v31, val_main_v24, val_main_v30, val_main_v17, val_main_v23, val_main_v16, val_main_v22,
    val_main_v29, val_main_v15, val_main_v13, val_main_v12, val_main_v21, val_main_v19, val_main_v18, val_main_v28, val_main_v26, val_main_v25, dcb]
  rw [slice0, slice1, slice2, mul_down, mul_down]

theorem dc_eq (P : FVec Ideal S2048x6656 .f32) (W : FVec Ideal S1024x1024 .f32) (D : FVec Ideal S2048x1024 .f32) (r : Fin 2048) (c : Fin 1024) :
    val_main_v35 (F := Ideal) P W D (ix2 r c) = DC P W D r c := by
  pointwise [val_main_v35, val_main_v0, val_main_v34, DC]
  exact mul_comm _ _

theorem du_eq (P : FVec Ideal S2048x6656 .f32) (w : FVec Ideal S3x1024 .f32) (W : FVec Ideal S1024x1024 .f32) (D : FVec Ideal S2048x1024 .f32) (r : Fin 2048) (c : Fin 1024) :
    val_main_v69 (F := Ideal) P w W D (ix2 r c) = DU P w W D r c := by
  pointwise [val_main_v69, val_main_v64, val_main_v53, val_main_v63, val_main_v43, val_main_v52, val_main_v38, val_main_v47, val_main_v58, val_main_v37, val_main_v46, val_main_v57, val_main_v15, val_main_v13, val_main_v12, val_main_v21, val_main_v19, val_main_v18, val_main_v28, val_main_v26, val_main_v25, val_main_cst_3, val_main_cst_7, val_main_cst_11]
  simp only [dc_eq]
  unfold DU
  congr 1
  · congr 1
    rcases Nat.lt_or_ge r 2047 with h | h
    · rw [up_of_lt _ h (by norm_num), dif_pos (by omega)]
      simp only [show 2 + r.val - 1 = r.val + 2048 - 2047 by omega]
    · rw [up_of_ge _ h, dif_neg (by omega)]
  · rcases Nat.lt_or_ge r 2046 with h | h
    · rw [up_of_lt _ h (by norm_num), dif_pos (by omega)]
      simp only [show 2 + r.val = r.val + 2048 - 2046 by omega]
    · rw [up_of_ge _ h, dif_neg (by omega)]

theorem dcc_eq (P : FVec Ideal S2048x6656 .f32) (w : FVec Ideal S3x1024 .f32) (W : FVec Ideal S1024x1024 .f32) (D : FVec Ideal S2048x1024 .f32) :
    dcc P w W D = val_main_v73 (F := Ideal) P w W D := by
  funext i
  obtain ⟨r, c, rfl⟩ : ∃ (r : Fin 2048) (c : Fin 1024), i = ix2 r c := ⟨i 0, i 1, ValueIdx.eq_ix2 i⟩
  pointwise [val_main_v73, val_main_v71, val_main_v70, dcc, val_main_v1, val_main_v2]
  rw [du_eq]

theorem dcx_eq (P : FVec Ideal S2048x6656 .f32) (w : FVec Ideal S3x1024 .f32) (W : FVec Ideal S1024x1024 .f32) (D : FVec Ideal S2048x1024 .f32) :
    dcx P w W D = val_main_v74 (F := Ideal) P w W D := by
  funext i
  obtain ⟨r, c, rfl⟩ : ∃ (r : Fin 2048) (c : Fin 1024), i = ix2 r c := ⟨i 0, i 1, ValueIdx.eq_ix2 i⟩
  pointwise [val_main_v74, val_main_v71, val_main_v70, dcx, val_main_v1, val_main_v2]
  rw [du_eq, mul_comm]

theorem dtap_eq (P : FVec Ideal S2048x6656 .f32) (W : FVec Ideal S1024x1024 .f32) (D : FVec Ideal S2048x1024 .f32) :
    dtap P W D = val_main_v67 (F := Ideal) P W D := by
  funext i
  obtain ⟨k, c, rfl⟩ : ∃ (r : Fin 3) (c : Fin 1024), i = ix2 r c := ⟨i 0, i 1, ValueIdx.eq_ix2 i⟩
  pointwise [val_main_v67, val_main_v56, val_main_v66, val_main_v45, val_main_v55, val_main_v44, val_main_v54, val_main_v65, val_main_v42, val_main_v51, val_main_v62, val_main_v41, val_main_v40, val_main_v50, val_main_v49, val_main_v61, val_main_v60, val_main_v39, val_main_v48, val_main_v59, val_main_cst_1, val_main_cst_2, val_main_cst_4, val_main_cst_5, val_main_cst_6, val_main_cst_8, val_main_cst_9, val_main_cst_10, val_main_cst_12]
  simp only [dc_eq, slice0, slice1, slice2]
  have hk : k = 0 ∨ k = 1 ∨ k = 2 := by fin_cases k <;> simp
  rcases hk with rfl | rfl | rfl <;> simp [dtap]

end Cert.ConvIdeal.Value

end
-- ==== Proof.Conv.Pair.lean ====
/-
  The convolution gradient: the kernel's four results are the reference's.
-/
module

public import proofs.«01_k».proof.Defs
public import proofs.«01_k».proof.Proof.Conv.Value

@[expose] public section

set_option maxRecDepth 16384

noncomputable section

namespace Cert.ConvPair

open Idealize.ShloMosaic Idealize.SL.Sem Idealize.ShloMosaic.TcCoe

/-- From the same arguments the kernel and the reference end with equal results. -/
theorem algebraic : algebraic_ConvIdeal_ConvRefIdeal := by
  pair_intro
  · run_from Cert.ConvIdeal.Value.run_blocks m g
  · run_from Cert.ConvRefIdeal.Value.run m' g'
    · exact ((Cert.ConvIdeal.Value.final6 m c).trans (Cert.ConvIdeal.Value.dcb_eq ..)).symm
    · exact ((Cert.ConvIdeal.Value.final7 m c).trans (Cert.ConvIdeal.Value.dcc_eq ..)).symm
    · exact ((Cert.ConvIdeal.Value.final8 m c).trans (Cert.ConvIdeal.Value.dcx_eq ..)).symm
    · exact ((Cert.ConvIdeal.Value.final9 m c).trans (Cert.ConvIdeal.Value.dtap_eq ..)).symm

end Cert.ConvPair

end
-- ==== Proof.Attn.Row.lean ====
/-
  One query's softmax over its band and the sink, and its gradient: the two forms in which the programs write it agree
  on real values.
-/
module

public import proofs.«01_k».proof.Proof.RealValues
public import Idealize.ShloMosaic.Lib.Pipeline.ValueKit
public import Idealize.ShloMosaic.Lib.Claim

@[expose] public section

noncomputable section

namespace Cert.AttnRow

open Cert.RealValues Idealize.ShloMosaic

variable (s : Fin 256 → EReal) (z : EReal) (dp : Fin 256 → EReal)

/-- The largest of the scores and the sink. -/
def peak : EReal := max (Finset.univ.fold max ⊥ s) z
/-- The exponentials below it, of a key and of the sink. -/
def ex (k : Fin 256) : EReal := Ideal.exp (s k - peak s z)
def exz : EReal := Ideal.exp (z - peak s z)
/-- One over their sum. -/
def inv : EReal := Ideal.div 1 ((∑ k, ex s z k) + exz s z)
/-- The probabilities. -/
def prob (k : Fin 256) : EReal := ex s z k * inv s z
def probz : EReal := exz s z * inv s z
/-- The mean of a gradient under them. -/
def delta : EReal := ∑ k, prob s z k * dp k
/-- The gradient of a score and of the sink. -/
def ds (k : Fin 256) : EReal := prob s z k * (dp k - delta s z dp) * Ideal.ofBits .f32 0x3E000000#32
def dz : EReal := probz s z * delta s z dp

/-- A row with its sink after it. -/
def withSink (s : Fin 256 → EReal) (z : EReal) (k : Fin 257) : EReal := if h : k.val < 256 then s ⟨k.val, h⟩ else z

theorem withSink_castSucc (s : Fin 256 → EReal) (z : EReal) (k : Fin 256) : withSink s z k.castSucc = s k := dif_pos k.isLt
theorem withSink_last (s : Fin 256 → EReal) (z : EReal) : withSink s z (Fin.last 256) = z := dif_neg (by decide)

theorem sum_withSink (f : Fin 257 → EReal) : ∑ k, f k = (∑ k : Fin 256, f k.castSucc) + f (Fin.last 256) := Fin.sum_univ_castSucc f

theorem fold_max_eq_sup {n : ℕ} (f : Fin n → EReal) : Finset.univ.fold max ⊥ f = Finset.univ.sup f := rfl

theorem sup_withSink : (Finset.univ.sup fun k => withSink s z k) = peak s z := by
  unfold peak
  rw [fold_max_eq_sup]
  apply le_antisymm
  · refine Finset.sup_le fun k _ => ?_
    unfold withSink
    split
    · exact le_max_of_le_left (Finset.le_sup (f := s) (Finset.mem_univ _))
    · exact le_max_right _ _
  · refine max_le (Finset.sup_le fun k _ => ?_) ?_
    · rw [← withSink_castSucc s z k]; exact Finset.le_sup (f := withSink s z) (Finset.mem_univ _)
    · rw [← withSink_last s z]; exact Finset.le_sup (f := withSink s z) (Finset.mem_univ _)

variable {s z dp} (hs : ∀ k, s k = ⊥ ∨ IsReal (s k)) (hz : IsReal z) (hd : ∀ k, IsReal (dp k))
include hs hz

theorem isReal_peak : IsReal (peak s z) := by
  obtain ⟨c, rfl⟩ := hz
  have htop : peak s c ≠ ⊤ := by
    unfold peak
    rw [fold_max_eq_sup]
    refine ne_of_lt (max_lt ((Finset.sup_lt_iff (by exact bot_lt_top)).2 fun k _ => ?_) (EReal.coe_lt_top c))
    rcases hs k with h | ⟨r, h⟩ <;> rw [h]
    · exact bot_lt_top
    · exact EReal.coe_lt_top r
  have hbot : peak s c ≠ ⊥ := ne_of_gt (lt_of_lt_of_le (EReal.bot_lt_coe c) (le_max_right _ _))
  exact ⟨(peak s c).toReal, (EReal.coe_toReal htop hbot).symm⟩

theorem reals : ∃ (a : Fin 256 → ℝ) (b : ℝ), 0 < (∑ k, a k) + b ∧ (∀ k, ex s z k = a k) ∧ exz s z = b ∧ (∀ k, s k = ⊥ → a k = 0) := by
  obtain ⟨M, hM⟩ := isReal_peak hs hz
  obtain ⟨c, hc⟩ := hz
  have hk : ∀ k, ∃ a : ℝ, 0 ≤ a ∧ ex s z k = a ∧ (s k = ⊥ → a = 0) := fun k => by
    unfold ex
    rw [hM]
    rcases hs k with h | ⟨r, h⟩ <;> rw [h]
    · exact ⟨0, le_refl _, by rw [EReal.bot_sub]; exact Ideal.exp_bot, fun _ => rfl⟩
    · exact ⟨Real.exp (r - M), (Real.exp_pos _).le, by rw [← EReal.coe_sub, Ideal.exp_coe], fun h => absurd h (EReal.coe_ne_bot r)⟩
  choose a ha he h0 using hk
  refine ⟨a, Real.exp (c - M), add_pos_of_nonneg_of_pos (Finset.sum_nonneg fun k _ => ha k) (Real.exp_pos _), he, ?_, h0⟩
  unfold exz
  rw [hM, hc, ← EReal.coe_sub, Ideal.exp_coe]

omit hs hz in
theorem scale_eq : Ideal.ofBits .f32 0x3E000000#32 = ((1 / 8 : ℝ) : EReal) := by
  simp [Ideal.ofBits, Ideal.ieee]; rw [← EReal.coe_mul]; norm_num

omit hs hz in
theorem coe_sum {n : ℕ} (f : Fin n → ℝ) : ∑ k, (f k : EReal) = ((∑ k, f k : ℝ) : EReal) :=
  (map_sum (⟨⟨fun r : ℝ => (r : EReal), EReal.coe_zero⟩, EReal.coe_add⟩ : ℝ →+ EReal) f Finset.univ).symm

/-- The exponentials of a row with its sink, their sum, and the mean the quotient's derivative subtracts. -/
def exs (s : Fin 256 → EReal) (z : EReal) (k : Fin 257) : EReal := Ideal.exp (withSink s z k - peak s z)
def total (s : Fin 256 → EReal) (z : EReal) : EReal := ∑ k, exs s z k
def mean (s : Fin 256 → EReal) (z : EReal) (dp : Fin 256 → EReal) : EReal :=
  ∑ k, withSink dp 0 k * Ideal.div 1 (total s z * total s z) * exs s z k

omit hs hz in
theorem exs_castSucc (k : Fin 256) : exs s z k.castSucc = ex s z k := by unfold exs ex; rw [withSink_castSucc]
omit hs hz in
theorem exs_last : exs s z (Fin.last 256) = exz s z := by unfold exs exz; rw [withSink_last]
omit hs hz in
theorem total_eq : total s z = (∑ k, ex s z k) + exz s z := by
  unfold total; rw [sum_withSink, exs_last]; simp only [exs_castSucc]

theorem prob_eq (k : Fin 256) : Ideal.div (exs s z k.castSucc) (total s z) = prob s z k := by
  obtain ⟨a, b, hpos, ha, hb, h0⟩ := reals hs hz
  rw [exs_castSucc, total_eq]
  unfold prob inv
  simp only [ha, hb, coe_sum, ← EReal.coe_add]
  rw [Ideal.div_coe hpos.ne', Ideal.div_coe hpos.ne', one_mul]

theorem prob_unseen (k : Fin 256) (h : s k = ⊥) : prob s z k = 0 := by
  obtain ⟨a, b, hpos, ha, hb, h0⟩ := reals hs hz
  unfold prob
  rw [ha, h0 k h]; simp

include hd
theorem isReal_dz : IsReal (dz s z dp) := by
  obtain ⟨a, b, hpos, ha, hb, h0⟩ := reals hs hz
  unfold dz probz delta prob inv
  simp only [ha, hb, coe_sum, ← EReal.coe_add]
  rw [Ideal.div_coe hpos.ne', one_mul]
  exact ((isReal_coe _).mul (isReal_coe _)).mul (IsReal.sum _ _ fun k _ => ((isReal_coe _).mul (isReal_coe _)).mul (hd k))

theorem mean_real : ∃ (a d : Fin 256 → ℝ) (b : ℝ), 0 < (∑ k, a k) + b ∧ (∀ k, ex s z k = a k) ∧ exz s z = b ∧ (∀ k, dp k = d k)
    ∧ total s z = (((∑ k, a k) + b : ℝ) : EReal)
    ∧ mean s z dp = (((∑ k, d k * a k) * (1 / (((∑ k, a k) + b) * ((∑ k, a k) + b))) : ℝ) : EReal)
    ∧ delta s z dp = (((∑ k, d k * a k) * (1 / ((∑ k, a k) + b)) : ℝ) : EReal) := by
  obtain ⟨a, b, hpos, ha, hb, h0⟩ := reals hs hz
  choose d hdd using hd
  have ht : total s z = (((∑ k, a k) + b : ℝ) : EReal) := by
    rw [total_eq]; simp only [ha, hb, coe_sum, ← EReal.coe_add]
  refine ⟨a, d, b, hpos, ha, hb, hdd, ht, ?_, ?_⟩
  · unfold mean
    rw [sum_withSink, withSink_last, zero_mul, zero_mul, add_zero, ht, ← EReal.coe_mul, Ideal.div_coe (mul_pos hpos hpos).ne', one_mul]
    simp only [withSink_castSucc, exs_castSucc, ha, hdd, ← EReal.coe_mul, coe_sum]
    congr 1
    rw [Finset.sum_mul]
    exact Finset.sum_congr rfl fun k _ => by ring
  · unfold delta prob inv
    simp only [ha, hb, hdd, coe_sum, ← EReal.coe_add]
    rw [Ideal.div_coe hpos.ne', one_mul]
    simp only [← EReal.coe_mul, coe_sum]
    congr 1
    rw [Finset.sum_mul]
    exact Finset.sum_congr rfl fun k _ => by ring

theorem ds_eq (k : Fin 256) :
    (Ideal.div (dp k) (total s z) + -mean s z dp) * exs s z k.castSucc * Ideal.ofBits .f32 0x3E000000#32 = ds s z dp k := by
  obtain ⟨a, d, b, hpos, ha, hb, hdd, ht, hm, hδ⟩ := mean_real hs hz hd
  unfold ds prob inv
  rw [← total_eq, ht, hm, hδ, exs_castSucc, hdd, ha, scale_eq, Ideal.div_coe hpos.ne', Ideal.div_coe hpos.ne', one_mul]
  simp only [← EReal.coe_mul, ← EReal.coe_neg, ← EReal.coe_add, ← EReal.coe_sub]
  congr 1
  field_simp
  ring

theorem dz_eq : (Ideal.div 0 (total s z) + -mean s z dp) * exs s z (Fin.last 256) = -dz s z dp := by
  obtain ⟨a, d, b, hpos, ha, hb, hdd, ht, hm, hδ⟩ := mean_real hs hz hd
  unfold dz probz inv
  rw [← total_eq, ht, hm, hδ, exs_last, hb, Ideal.div_coe hpos.ne', Ideal.div_coe hpos.ne', one_mul, zero_mul, zero_add]
  simp only [← EReal.coe_mul, ← EReal.coe_neg]
  congr 1
  field_simp

omit hd in
/-- A gradient at a key that is not seen does not matter. -/
theorem delta_congr {dp' : Fin 256 → EReal} (h : ∀ k, s k ≠ ⊥ → dp' k = dp k) : delta s z dp' = delta s z dp := by
  unfold delta
  refine Finset.sum_congr rfl fun k _ => ?_
  by_cases hk : s k = ⊥
  · rw [prob_unseen hs hz k hk, zero_mul, zero_mul]
  · rw [h k hk]

omit hd in
theorem ds_congr {dp' : Fin 256 → EReal} (h : ∀ k, s k ≠ ⊥ → dp' k = dp k) (k : Fin 256) : ds s z dp' k = ds s z dp k := by
  unfold ds
  rw [delta_congr hs hz h]
  by_cases hk : s k = ⊥
  · simp only [prob_unseen hs hz k hk, zero_mul]
  · rw [h k hk]

omit hd in
theorem ds_unseen (k : Fin 256) (h : s k = ⊥) : ds s z dp k = 0 := by
  unfold ds
  rw [prob_unseen hs hz k h, zero_mul, zero_mul]

end Cert.AttnRow

end
-- ==== Proof.Attn.Reference.lean ====
/-
  The attention's backward call: what the reference's program computes, read at an index.
-/
module

public import proofs.«01_k».proof.Proof.Gen.AttnRefIdeal.Run
public import proofs.«01_k».proof.Proof.Gen.AttnRefIdeal.Read
public import proofs.«01_k».proof.Proof.Attn.Row
public import Idealize.ShloMosaic.Lib.Pipeline.ValueKit
public import Idealize.ShloMosaic.Lib.Claim

@[expose] public section

set_option maxRecDepth 16384

noncomputable section

namespace Cert.AttnRefIdeal.Meaning

open Cert.AttnRefIdeal Idealize.ShloMosaic Idealize.ShloMosaic.TcCoe Idealize.SL.Sem
open Cert.AttnRefIdeal.Read Cert.RealValues Cert.AttnRow

/-- The rotary tables: the cosine and the sine of every position's angles. -/
abbrev cosT : FVec Ideal S2048x8 .f32 := val_main_v25 (F := Ideal)
abbrev sinT : FVec Ideal S2048x8 .f32 := val_main_v26 (F := Ideal)

/-- A head's vector with its first sixteen lanes rotated. -/
def rot (x : Fin 64 → EReal) (c s : Fin 8 → EReal) (d : Fin 64) : EReal :=
  if h : d.val < 8 then x d * c ⟨d.val, h⟩ - x ⟨d.val + 8, by omega⟩ * s ⟨d.val, h⟩
  else if h : d.val < 16 then x d * c ⟨d.val - 8, by omega⟩ + x ⟨d.val - 8, by omega⟩ * s ⟨d.val - 8, by omega⟩
  else x d

theorem rot_ladder (x : Fin 64 → EReal) (c s : Fin 8 → EReal) (d : Fin 64) :
    (if h₁ : d.val < 16 then
      if h₂ : d.val < 8 then x ⟨d.val, by omega⟩ * c ⟨d.val, h₂⟩ - x ⟨8 + d.val, by omega⟩ * s ⟨d.val, h₂⟩
      else x ⟨8 + (d.val - 8), by omega⟩ * c ⟨d.val - 8, by omega⟩ + x ⟨d.val - 8, by omega⟩ * s ⟨d.val - 8, by omega⟩
    else x ⟨16 + (d.val - 16), by omega⟩) = rot x c s d := by
  unfold rot
  have e8 : ∀ h : 8 + (d.val - 8) < 64, ¬ d.val < 8 → (⟨8 + (d.val - 8), h⟩ : Fin 64) = d := fun h h' => Fin.ext (by show 8 + (d.val - 8) = d.val; omega)
  have e16 : ∀ h : 16 + (d.val - 16) < 64, ¬ d.val < 16 → (⟨16 + (d.val - 16), h⟩ : Fin 64) = d := fun h h' => Fin.ext (by show 16 + (d.val - 16) = d.val; omega)
  by_cases h₂ : d.val < 8
  · rw [dif_pos (by omega : d.val < 16), dif_pos h₂, dif_pos h₂]
    simp only [Nat.add_comm 8 d.val]
  · by_cases h₁ : d.val < 16
    · rw [dif_pos h₁, dif_neg h₂, dif_neg h₂, dif_pos h₁, e8 _ h₂]
    · rw [dif_neg h₁, dif_neg h₂, dif_neg h₁, e16 _ h₁]

theorem isReal_angle (r : Fin 2048) (j : Fin 8) : IsReal (val_main_v24 (F := Ideal) (ix2 r j)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2]
  have h2 : Ideal.ofBits .f32 0x40000000#32 = ((2 : ℝ) : EReal) := by simp [Ideal.ofBits, Ideal.ieee]; rw [← EReal.coe_mul]; norm_num
  have h16 : Ideal.ofBits .f32 0x41800000#32 = ((16 : ℝ) : EReal) := by simp [Ideal.ofBits, Ideal.ieee]; rw [← EReal.coe_mul]; norm_num
  have h5 : Ideal.ofBits .f32 0x48F42400#32 = ((500000 : ℝ) : EReal) := by simp [Ideal.ofBits, Ideal.ieee]; rw [← EReal.coe_mul]; norm_num
  rw [h2, h16, h5, Ideal.div_coe (by norm_num)]
  have hs : ∀ n : ℕ, FloatOps.sitofp (F := Ideal) .f32 (BitVec.ofNat 32 n) = (((BitVec.ofNat 32 n).toInt : ℝ) : EReal) := fun _ => rfl
  rw [hs, hs, ← EReal.coe_mul, ← EReal.coe_neg, ← EReal.coe_mul, Ideal.pow_coe_coe, ← EReal.coe_mul]
  exact ⟨_, rfl⟩

theorem isReal_cos (r : Fin 2048) (j : Fin 8) : IsReal (cosT (ix2 r j)) := by
  obtain ⟨x, hx⟩ := isReal_angle r j
  exact ⟨Real.cos x, by show Ideal.cos _ = _; rw [hx, Ideal.cos_coe]⟩
theorem isReal_sin (r : Fin 2048) (j : Fin 8) : IsReal (sinT (ix2 r j)) := by
  obtain ⟨x, hx⟩ := isReal_angle r j
  exact ⟨Real.sin x, by show Ideal.sin _ = _; rw [hx, Ideal.sin_coe]⟩

/-- A key head's and a query head's rotated vector at a row. -/
abbrev keyR (P : FVec Ideal S2048x6656 .f32) (r : Fin 2048) (h : Fin 4) (d : Fin 64) : EReal :=
  rot (fun d => P (ix2 r ⟨4096 + (h.val * 64 + d.val), by omega⟩)) (fun j => cosT (ix2 r j)) (fun j => sinT (ix2 r j)) d
abbrev queryR (P : FVec Ideal S2048x6656 .f32) (r : Fin 2048) (h : Fin 16) (d : Fin 64) : EReal :=
  rot (fun d => P (ix2 r ⟨3072 + (h.val * 64 + d.val), by omega⟩)) (fun j => cosT (ix2 r j)) (fun j => sinT (ix2 r j)) d
abbrev valueR (P : FVec Ideal S2048x6656 .f32) (r : Fin 2048) (h : Fin 4) (d : Fin 64) : EReal :=
  P (ix2 r ⟨4352 + (h.val * 64 + d.val), by omega⟩)

/-- The band of rows a block of queries sees: the block before it, zero before the first block, and its own. -/
abbrev band (f : Fin 2048 → EReal) (n : Fin 16) (k : Fin 256) : EReal :=
  if h : n.val * 128 + k.val < 128 then 0 else f ⟨n.val * 128 + k.val - 128, by omega⟩

theorem band_ladder (f : Fin 2048 → EReal) (n : Fin 16) (k : Fin 256) :
    (if h₁ : k.val < 128 then if h : n.val * 128 + k.val < 128 then 0 else f ⟨n.val * 128 + k.val - 128, by omega⟩
      else f ⟨n.val * 128 + (k.val - 128), by omega⟩) = band f n k := by
  unfold band
  by_cases h₁ : k.val < 128
  · rw [dif_pos h₁]
  · rw [dif_neg h₁, dif_neg (by omega)]
    exact congrArg f (Fin.ext (by show n.val * 128 + (k.val - 128) = n.val * 128 + k.val - 128; omega))

theorem key_at (x0 : FVec Ideal S2048x6656 .f32) (r : Fin 2048) (h : Fin 4) (d : Fin 64) :
    val_main_v44 (F := Ideal) x0 (ix3 r h d) = keyR x0 r h d := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v8, val_main_v4]
  exact rot_ladder (fun d => x0 (ix2 r ⟨4096 + (h.val * 64 + d.val), by omega⟩)) (fun j => cosT (ix2 r j)) (fun j => sinT (ix2 r j)) d

theorem keys_at (x0 : FVec Ideal S2048x6656 .f32) (n : Fin 16) (k : Fin 256) (h : Fin 4) (d : Fin 64) :
    val_main_v95 (F := Ideal) x0 (ix4 n k h d) = band (fun r => keyR x0 r h d) n k := by
  pointwise [val_main_v95, val_main_v94, val_main_v93, val_main_v92, val_main_v90, val_main_v89, val_main_cst_7, val_main_v84, val_main_v83, val_main_v45, key_at]
  exact band_ladder (fun r => keyR x0 r h d) n k

theorem vals_at (x0 : FVec Ideal S2048x6656 .f32) (n : Fin 16) (k : Fin 256) (h : Fin 4) (d : Fin 64) :
    val_main_v102 (F := Ideal) x0 (ix4 n k h d) = band (fun r => valueR x0 r h d) n k := by
  pointwise [val_main_v102, val_main_v101, val_main_v100, val_main_v99, val_main_v97, val_main_v96, val_main_cst_9, val_main_v86, val_main_v85, val_main_v5]
  exact band_ladder (fun r => valueR x0 r h d) n k

theorem query_at (x0 : FVec Ideal S2048x6656 .f32) (n : Fin 16) (i : Fin 128) (h g : Fin 4) (d : Fin 64) :
    val_main_v88 (F := Ideal) x0 (ix5 n i h g d) = queryR x0 ⟨n.val * 128 + i.val, by omega⟩ ⟨h.val * 4 + g.val, by omega⟩ d := by
  pointwise [val_main_v88, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v46, val_main_v3]
  exact rot_ladder (fun d => x0 (ix2 ⟨n.val * 128 + i.val, by omega⟩ ⟨3072 + ((h.val * 4 + g.val) * 64 + d.val), by omega⟩))
    (fun j => cosT (ix2 ⟨n.val * 128 + i.val, by omega⟩ j)) (fun j => sinT (ix2 ⟨n.val * 128 + i.val, by omega⟩ j)) d

/-- Whether query `i` of block `n` sees key `k` of its band. -/
abbrev seen (n : Fin 16) (i : Fin 128) (k : Fin 256) : Prop := k.val ≤ i.val + 128 ∧ i.val < k.val ∧ 128 ≤ n.val * 128 + k.val

theorem toInt_small (n : ℕ) (hn : n < 4096) : (BitVec.ofNat 32 n).toInt = n := by
  rw [BitVec.toInt_eq_toNat_of_lt (by rw [BitVec.toNat_ofNat]; omega), BitVec.toNat_ofNat]; omega

/-- The difference of two small numbers, made on words. -/
theorem toInt_diff (a b : ℕ) (ha : a < 4096) (hb : b < 4096) :
    (IntOp.subi (BitVec.ofNat 32 a) (BitVec.ofNat 32 b)).toInt = (a : ℤ) - b := by
  show (BitVec.ofNat 32 a - BitVec.ofNat 32 b).toInt = _
  rw [BitVec.toInt_sub, toInt_small a ha, toInt_small b hb]
  exact Int.bmod_eq_of_le (by omega) (by omega)

theorem word_sum (a b : ℕ) : IntOp.addi (BitVec.ofNat 32 a) (BitVec.ofNat 32 b) = BitVec.ofNat 32 (a + b) :=
  (BitVec.ofNat_add a b).symm

theorem word_ge {a b : BitVec 32} : IntOp.cmpi CmpIPredicate.sge a b = if b.toInt ≤ a.toInt then 1#1 else 0#1 := by
  simp only [IntOp.cmpi, BitVec.sle]
  split <;> rename_i h <;> simp [h]
theorem word_lt {a b : BitVec 32} : IntOp.cmpi CmpIPredicate.slt a b = if a.toInt < b.toInt then 1#1 else 0#1 := by
  simp only [IntOp.cmpi, BitVec.slt]
  split <;> rename_i h <;> simp [h]
theorem word_and {p q : Prop} [Decidable p] [Decidable q] :
    IntOp.andi (if p then 1#1 else 0#1) (if q then 1#1 else 0#1) = if p ∧ q then 1#1 else 0#1 := by
  by_cases hp : p <;> by_cases hq : q <;> simp [hp, hq, IntOp.andi]

theorem mask_at (n : Fin 16) (i : Fin 128) (k : Fin 256) :
    val_main_v138 (F := Ideal) (ix3 n i k) = if seen n i k then 1#1 else 0#1 := by
  pointwise [val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_c, val_main_c_12, val_main_c_13, val_main_c_14, val_main_c_15, val_main_c_16]
  have hm : IntOp.muli (BitVec.ofNat 32 n.val) 128#32 = BitVec.ofNat 32 (n.val * 128) := (BitVec.ofNat_mul n.val 128).symm
  have hp : (IntOp.addi (IntOp.subi (BitVec.ofNat 32 (n.val * 128)) 128#32) (BitVec.ofNat 32 k.val)).toInt = (n.val : ℤ) * 128 - 128 + k.val := by
    show (IntOp.subi (BitVec.ofNat 32 (n.val * 128)) (BitVec.ofNat 32 128) + BitVec.ofNat 32 k.val).toInt = _
    rw [BitVec.toInt_add, toInt_diff _ _ (by omega) (by omega), toInt_small _ (by omega), Int.bmod_eq_of_le (by omega) (by omega)]
    push_cast; ring
  rw [hm, word_sum, word_ge, word_ge, word_lt, hp, toInt_diff _ _ (by omega) (by omega), word_and, word_and]
  refine if_congr ?_ rfl rfl
  rw [show (0#32).toInt = 0 from rfl, show (128#32).toInt = 128 from rfl]
  push_cast
  unfold seen
  omega

/-- A query's scores over its band, unseen keys at −∞. -/
abbrev score (P : FVec Ideal S2048x6656 .f32) (n : Fin 16) (i : Fin 128) (h g : Fin 4) (k : Fin 256) : EReal :=
  if seen n i k then (∑ d : Fin 64, band (fun r => keyR P r h d) n k * queryR P ⟨n.val * 128 + i.val, by omega⟩ ⟨h.val * 4 + g.val, by omega⟩ d)
    * Ideal.ofBits .f32 0x3E000000#32 else ⊥

theorem score_at (x0 : FVec Ideal S2048x6656 .f32) (n : Fin 16) (h g : Fin 4) (i : Fin 128) (k : Fin 256) :
    val_main_v140_0 (F := Ideal) x0 (ix5 n h g i k) = score x0 n i h g k := by
  pointwise [val_main_v140_0, val_main_v140_1, val_main_call0_v2, val_main_call0_v0, val_main_cst_17, val_main_v139, mask_at, val_main_v106, val_main_v105, val_main_cst_11, val_main_v104, val_main_v103, keys_at, query_at]
  show Scalar.select _ _ (Ideal.ofBits .f32 0xFF800000#32) = _
  rw [show Ideal.ofBits .f32 0xFF800000#32 = ⊥ by simp [Ideal.ofBits, Ideal.ieee]]
  unfold score
  by_cases hs : seen n i k
  · rw [if_pos hs, if_pos hs]; rfl
  · rw [if_neg hs, if_neg hs]; rfl

end Cert.AttnRefIdeal.Meaning

end
-- ==== Proof.Attn.Rows.lean ====
/-
  The attention's backward call: the reference's rows of the softmax and its gradient, read at an index.
-/
module

public import proofs.«01_k».proof.Proof.Attn.Reference

@[expose] public section

set_option maxRecDepth 16384

noncomputable section

namespace Cert.AttnRefIdeal.Meaning

open Cert.AttnRefIdeal Idealize.ShloMosaic Idealize.ShloMosaic.TcCoe Idealize.SL.Sem
open Cert.AttnRefIdeal.Read Cert.RealValues Cert.AttnRow

variable (x0 : FVec Ideal S2048x6656 .f32) (x1 : FVec Ideal S1x16 .f32) (x2 : FVec Ideal S1024x1024 .f32) (x3 : FVec Ideal S2048x1024 .f32)
  (n : Fin 16) (i : Fin 128) (h g : Fin 4)

/-- A head's sink. -/
abbrev sinkR : EReal := x1 (ix2 0 ⟨h.val * 4 + g.val, by omega⟩)
/-- The attention output's gradient, and a probability's. -/
abbrev outR (r : Fin 2048) (c : Fin 1024) : EReal := ∑ j, x3 (ix2 r j) * x2 (ix2 c j)
abbrev probR (k : Fin 256) : EReal :=
  ∑ d : Fin 64, outR x2 x3 ⟨n.val * 128 + i.val, by omega⟩ ⟨(h.val * 4 + g.val) * 64 + d.val, by omega⟩ * band (fun r => valueR x0 r h d) n k

theorem bot_word : Ideal.ofBits .f32 0xFF800000#32 = ⊥ := by simp [Ideal.ofBits, Ideal.ieee]

theorem row_at (k : Fin 257) : val_main_v143 (F := Ideal) x0 x1 (ix5 n h g i k) = withSink (score x0 n i h g) (sinkR x1 h g) k := by
  pointwise [val_main_v143, val_main_v142, val_main_v141, val_main_v87, score_at]
  rfl

theorem top_at : val_main_v144 (F := Ideal) x0 x1 (ix4 n h g i) = Finset.univ.sup fun k => val_main_v143 (F := Ideal) x0 x1 (ix5 n h g i k) := by
  unfold val_main_v144
  generalize val_main_v143 (F := Ideal) x0 x1 = A
  pointwise [val_main_cst_18]
  rw [bot_word]
  rfl

theorem peak_at : val_main_v151 (F := Ideal) x0 x1 (ix4 n h g i) = peak (score x0 n i h g) (sinkR x1 h g) := by
  have hm : val_main_v151 (F := Ideal) x0 x1 (ix4 n h g i) = val_main_v144 (F := Ideal) x0 x1 (ix4 n h g i) := by
    rw [val_main_v151_apply]
    generalize val_main_v144 (F := Ideal) x0 x1 = A
    pointwise [val_main_v150, val_main_cst_20]
    rw [bot_word]
    exact max_eq_right bot_le
  rw [hm, top_at]
  refine (Finset.sup_congr rfl fun k _ => row_at x0 x1 n i h g k).trans ?_
  exact sup_withSink _ _

theorem exs_at (k : Fin 257) : val_main_v164 (F := Ideal) x0 x1 (ix5 n h g i k) = exs (score x0 n i h g) (sinkR x1 h g) k := by
  pointwise [val_main_v164, val_main_v163, val_main_v162, val_main_v161, row_at, peak_at]
  rfl

theorem total_at : val_main_v165 (F := Ideal) x0 x1 (ix4 n h g i) = total (score x0 n i h g) (sinkR x1 h g) := by
  have hm : val_main_v165 (F := Ideal) x0 x1 (ix4 n h g i) = ∑ k, val_main_v164 (F := Ideal) x0 x1 (ix5 n h g i k) := by
    unfold val_main_v165
    generalize val_main_v164 (F := Ideal) x0 x1 = A
    pointwise [val_main_cst_26]
  simp only [exs_at] at hm
  exact hm

theorem prob_at (k : Fin 256) : val_main_v172 (F := Ideal) x0 x1 (ix5 n h g i k)
    = Ideal.div (exs (score x0 n i h g) (sinkR x1 h g) k.castSucc) (total (score x0 n i h g) (sinkR x1 h g)) := by
  pointwise [val_main_v172, val_main_v168, val_main_v167, val_main_v166, exs_at, total_at]
  rfl

theorem grad_at (k : Fin 256) : val_main_v180 (F := Ideal) x0 x2 x3 (ix5 n h g i k) = probR x0 x2 x3 n i h g k := by
  pointwise [val_main_v180, val_main_v179, val_main_v178, val_main_v177, vals_at]
  refine Finset.sum_congr rfl fun d _ => ?_
  have e : ∀ h', (⟨h.val * 256 + g.val * 64 + d.val, h'⟩ : Fin 1024) = ⟨(h.val * 4 + g.val) * 64 + d.val, by omega⟩ := fun _ => Fin.ext (by show h.val * 256 + g.val * 64 + d.val = (h.val * 4 + g.val) * 64 + d.val; ring)
  rw [e]

theorem pad_at (k : Fin 257) : val_main_v183 (F := Ideal) x0 x2 x3 (ix5 n h g i k) = withSink (probR x0 x2 x3 n i h g) 0 k := by
  pointwise [val_main_v183, val_main_cst_28, grad_at]
  rfl

theorem mean_at : val_main_v187 (F := Ideal) x0 x1 x2 x3 (ix4 n h g i) = mean (score x0 n i h g) (sinkR x1 h g) (probR x0 x2 x3 n i h g) := by
  have hm : val_main_v187 (F := Ideal) x0 x1 x2 x3 (ix4 n h g i) = ∑ k, val_main_v186 (F := Ideal) x0 x1 x2 x3 (ix5 n h g i k) := by
    unfold val_main_v187
    generalize val_main_v186 (F := Ideal) x0 x1 x2 x3 = A
    pointwise [val_main_cst_29]
  rw [hm]
  refine Finset.sum_congr rfl fun k _ => ?_
  pointwise [val_main_v186, val_main_v185, val_main_v184, val_main_v171, val_main_v170, val_main_cst_27, val_main_v169, val_main_v166, exs_at, total_at, pad_at]

theorem raw_at (k : Fin 257) : val_main_v195 (F := Ideal) x0 x1 x2 x3 (ix5 n h g i k)
    = (Ideal.div (withSink (probR x0 x2 x3 n i h g) 0 k) (total (score x0 n i h g) (sinkR x1 h g))
      + -mean (score x0 n i h g) (sinkR x1 h g) (probR x0 x2 x3 n i h g)) * exs (score x0 n i h g) (sinkR x1 h g) k := by
  pointwise [val_main_v195, val_main_v194, val_main_v193, val_main_v192, val_main_cst_30, val_main_v191, val_main_v190, val_main_v189, val_main_v188, val_main_v166, exs_at, total_at, pad_at, mean_at]
  rw [Fin.sum_univ_one]

section Real
variable {x0 x1 x2 x3} (hP : ∀ j, IsReal (x0 j)) (hz : ∀ j, IsReal (x1 j)) (hW : ∀ j, IsReal (x2 j)) (hD : ∀ j, IsReal (x3 j))
include hP hz hW hD

omit hz hW hD in
theorem isReal_rot (r : Fin 2048) (x : Fin 64 → EReal) (hx : ∀ d, IsReal (x d)) (d : Fin 64) :
    IsReal (rot x (fun j => cosT (ix2 r j)) (fun j => sinT (ix2 r j)) d) := by
  unfold rot
  have hc := isReal_cos r
  have hs := isReal_sin r
  split
  · exact ((hx _).mul (hc _)).sub ((hx _).mul (hs _))
  · split
    · exact ((hx _).mul (hc _)).add ((hx _).mul (hs _))
    · exact hx _

omit hP hz hW hD in
theorem isReal_band (f : Fin 2048 → EReal) (hf : ∀ r, IsReal (f r)) (n : Fin 16) (k : Fin 256) : IsReal (band f n k) := by
  unfold band
  split
  · exact isReal_zero
  · exact hf _

omit hz hW hD in
theorem isReal_score (k : Fin 256) : score x0 n i h g k = ⊥ ∨ IsReal (score x0 n i h g k) := by
  unfold score
  split
  · right
    rw [scale_eq]
    exact (IsReal.sum _ _ fun d _ => (isReal_band _ (fun r => isReal_rot hP r _ (fun _ => hP _) d) n k).mul (isReal_rot hP _ _ (fun _ => hP _) d)).mul (isReal_coe _)
  · exact Or.inl rfl

omit hz in
theorem isReal_probR (k : Fin 256) : IsReal (probR x0 x2 x3 n i h g k) :=
  IsReal.sum _ _ fun d _ => (IsReal.sum _ _ fun j _ => (hD _).mul (hW _)).mul (isReal_band _ (fun r => hP _) n k)

end Real

/-- The gradient of a score, a probability and the gradient of a query's sink. -/
abbrev dsR (k : Fin 256) : EReal := ds (score x0 n i h g) (sinkR x1 h g) (probR x0 x2 x3 n i h g) k
abbrev pR (k : Fin 256) : EReal := prob (score x0 n i h g) (sinkR x1 h g) k
abbrev dzR : EReal := dz (score x0 n i h g) (sinkR x1 h g) (probR x0 x2 x3 n i h g)

end Cert.AttnRefIdeal.Meaning

end
-- ==== Proof.Attn.Results.lean ====
/-
  The attention's backward call: the reference's six results, read at an index.
-/
module

public import proofs.«01_k».proof.Proof.Attn.Rows

@[expose] public section

set_option maxRecDepth 16384

noncomputable section

namespace Cert.AttnRefIdeal.Meaning

open Cert.AttnRefIdeal Idealize.ShloMosaic Idealize.ShloMosaic.TcCoe Idealize.SL.Sem
open Cert.AttnRefIdeal.Read Cert.RealValues Cert.AttnRow

variable (x0 : FVec Ideal S2048x6656 .f32) (x1 : FVec Ideal S1x16 .f32) (x2 : FVec Ideal S1024x1024 .f32) (x3 : FVec Ideal S2048x1024 .f32)
  (n : Fin 16) (i : Fin 128) (h g : Fin 4)

/-- The gradients of a band's values and keys at a row and of a rotated query. -/
def dvR (n : Fin 16) (k : Fin 256) (h : Fin 4) (d : Fin 64) : EReal :=
  ∑ g : Fin 4, ∑ i : Fin 128, outR x2 x3 ⟨n.val * 128 + i.val, by omega⟩ ⟨(h.val * 4 + g.val) * 64 + d.val, by omega⟩ * pR x0 x1 n i h g k
def dkR (n : Fin 16) (k : Fin 256) (h : Fin 4) (d : Fin 64) : EReal :=
  ∑ i : Fin 128, ∑ g : Fin 4, dsR x0 x1 x2 x3 n i h g k * queryR x0 ⟨n.val * 128 + i.val, by omega⟩ ⟨h.val * 4 + g.val, by omega⟩ d
def dqR (n : Fin 16) (i : Fin 128) (h g : Fin 4) (d : Fin 64) : EReal :=
  ∑ k : Fin 256, dsR x0 x1 x2 x3 n i h g k * band (fun r => keyR x0 r h d) n k

/-- The rotation's transpose. -/
def unrot (x : Fin 64 → EReal) (c s : Fin 8 → EReal) (d : Fin 64) : EReal :=
  if h : d.val < 8 then x ⟨8 + d.val, by omega⟩ * s ⟨d.val, h⟩ + x d * c ⟨d.val, h⟩
  else if h : d.val < 16 then x d * c ⟨d.val - 8, by omega⟩ + -x ⟨d.val - 8, by omega⟩ * s ⟨d.val - 8, by omega⟩
  else x d

/-- A block's gradient of its band's first half, at the rows of the block before: the last block's rows get none. -/
abbrev shifted (f : Fin 16 → Fin 256 → EReal) (r : Fin 2048) : EReal :=
  if h : r.val < 1920 then f ⟨r.val / 128 + 1, by omega⟩ ⟨r.val % 128, by omega⟩ else 0

theorem shifted_pad (f : Fin 16 → Fin 256 → EReal) (r : Fin 2048) (p q : Prop) [Decidable p] [Decidable q] (hp : p) (hq : q) :
    (if h : (128 + r.val) / 128 < 16 ∧ (128 + r.val) % 128 < 128 ∧ p ∧ q then f ⟨(128 + r.val) / 128, h.1⟩ ⟨(128 + r.val) % 128, by omega⟩ else 0) = shifted f r := by
  unfold shifted
  by_cases h : r.val < 1920
  · rw [dif_pos ⟨by omega, by omega, hp, hq⟩, dif_pos h]
    have e1 : (128 + r.val) / 128 = r.val / 128 + 1 := by omega
    have e2 : (128 + r.val) % 128 = r.val % 128 := by omega
    congr 1 <;> exact Fin.ext (by assumption)
  · rw [dif_neg (by omega), dif_neg h]

theorem unrot_ladder (x : Fin 64 → EReal) (c s : Fin 8 → EReal) (d : Fin 64) (p : Prop) [Decidable p] (hp : p) :
    ((if h : p ∧ 16 ≤ d.val ∧ d.val - 16 < 48 then x ⟨16 + (d.val - 16), by omega⟩ else 0)
      + if h : p ∧ d.val < 16 then
          (if h₁ : p ∧ 8 ≤ d.val ∧ d.val - 8 < 8 then
            x ⟨8 + (d.val - 8), by omega⟩ * c ⟨d.val - 8, h₁.2.2⟩ + -x ⟨d.val - 8, by omega⟩ * s ⟨d.val - 8, h₁.2.2⟩ else 0)
          + if h₁ : p ∧ d.val < 8 then x ⟨8 + d.val, by omega⟩ * s ⟨d.val, h₁.2⟩ + x ⟨d.val, d.isLt⟩ * c ⟨d.val, h₁.2⟩ else 0
        else 0) = unrot x c s d := by
  unfold unrot
  have e8 : ∀ h : 8 + (d.val - 8) < 64, ¬ d.val < 8 → (⟨8 + (d.val - 8), h⟩ : Fin 64) = d := fun h h' => Fin.ext (by show 8 + (d.val - 8) = d.val; omega)
  have e16 : ∀ h : 16 + (d.val - 16) < 64, ¬ d.val < 16 → (⟨16 + (d.val - 16), h⟩ : Fin 64) = d := fun h h' => Fin.ext (by show 16 + (d.val - 16) = d.val; omega)
  by_cases h₂ : d.val < 8
  · rw [dif_neg (by omega), dif_pos ⟨hp, by omega⟩, dif_neg (by omega), dif_pos ⟨hp, h₂⟩, dif_pos h₂, zero_add, zero_add]
  · by_cases h₁ : d.val < 16
    · rw [dif_neg (by omega), dif_pos ⟨hp, by omega⟩, dif_pos ⟨hp, by omega, by omega⟩, dif_neg (by omega), dif_neg h₂, dif_pos h₁, zero_add, add_zero, e8 _ h₂]
    · rw [dif_pos ⟨hp, by omega, by omega⟩, dif_neg (by omega), dif_neg h₂, dif_neg h₁, add_zero, e16 _ h₁]

theorem cos_again : val_main_v63 (F := Ideal) = cosT := rfl
theorem sin_again : val_main_v64 (F := Ideal) = sinT := rfl

/-- The positions of the scores' raw gradient that a sink's gradient sums. -/
theorem drop_iff (q : Shape.ReducesTo ⟨5, ![16, 4, 4, 128, 1]⟩ [0, 3, 4] ⟨2, ![4, 4]⟩) (h g : Fin 4) (j : (⟨5, ![16, 4, 4, 128, 1]⟩ : Shape).Idx) :
    q.drop j = ix2 h g ↔ ∃ k : Fin 16 × Fin 128, ix5 k.1 h g k.2 (0 : Fin 1) = j := by
  constructor
  · intro e
    refine ⟨(j 0, j 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
    | ⟨4, _⟩ => have := (j 4).isLt; show 0 = (j 4).val; change (j 4).val < 1 at this; omega
  · rintro ⟨k, rfl⟩
    funext b
    apply Fin.ext
    match b with
    | ⟨0, _⟩ => rfl
    | ⟨1, _⟩ => rfl

theorem sum_sink (q : Shape.ReducesTo ⟨5, ![16, 4, 4, 128, 1]⟩ [0, 3, 4] ⟨2, ![4, 4]⟩) (v : (⟨5, ![16, 4, 4, 128, 1]⟩ : Shape).Idx → EReal) (e : EReal) (h g : Fin 4) :
    Ideal.hostReduceAdd q v e (ix2 h g) = e + ∑ n : Fin 16, ∑ i : Fin 128, v (ix5 n h g i 0) := by
  unfold Ideal.hostReduceAdd
  rw [Finset.sum_filter_eq_sum_of_fiber _ (fun k : Fin 16 × Fin 128 => ix5 k.1 h g k.2 (0 : Fin 1))
    (fun _ _ e => Prod.ext (congrFun e 0) (congrFun e 3)) (drop_iff q h g) v, Fintype.sum_prod_type]

section Results
variable {x0 x1 x2 x3} (hP : ∀ j, IsReal (x0 j)) (hz : ∀ j, IsReal (x1 j)) (hW : ∀ j, IsReal (x2 j)) (hD : ∀ j, IsReal (x3 j))
include hP hz

omit hz in
theorem p_eq (hz : ∀ j, IsReal (x1 j)) (k : Fin 256) : val_main_v172 (F := Ideal) x0 x1 (ix5 n h g i k) = pR x0 x1 n i h g k :=
  (prob_at x0 x1 n i h g k).trans (prob_eq (isReal_score n i h g hP) (hz _) k)

include hW hD
theorem ds_eq_at (k : Fin 256) : val_main_v203 (F := Ideal) x0 x1 x2 x3 (ix5 n h g i k) = dsR x0 x1 x2 x3 n i h g k := by
  have hs := isReal_score n i h g hP
  pointwise [val_main_v203, val_main_v202, val_main_cst_32, val_main_v201, val_main_call1_v0, val_main_call1_cst, val_main_call0_v2, val_main_call0_v0, val_main_cst_17, val_main_v139, val_main_v140_1, val_main_v196, mask_at, raw_at]
  by_cases hk : seen n i k
  · rw [if_pos hk]
    have := ds_eq hs (hz (ix2 0 ⟨h.val * 4 + g.val, by omega⟩)) (isReal_probR n i h g hP hW hD) k
    refine Eq.trans ?_ this
    show (Ideal.div (withSink _ 0 k.castSucc) _ + _) * exs _ _ k.castSucc * _ = _
    rw [withSink_castSucc]
  · rw [if_neg hk]
    exact (ds_unseen hs (hz _) k (if_neg hk)).symm

theorem dvo_at (r : Fin 2048) (c : Fin 256) : val_main_v225 (F := Ideal) x0 x1 x2 x3 (ix2 r c)
    = dvR x0 x1 x2 x3 ⟨r.val / 128, by omega⟩ ⟨128 + r.val % 128, by omega⟩ ⟨c.val / 64, by omega⟩ ⟨c.val % 64, by omega⟩ := by
  have hp := fun n i h g => p_eq n i h g hP hz
  pointwise [val_main_v225, val_main_v211, val_main_v210, val_main_v182, val_main_v181, val_main_v179, val_main_v178, val_main_v177, hp]
  unfold dvR
  refine Finset.sum_congr rfl fun g _ => Finset.sum_congr rfl fun i _ => ?_
  have e : ∀ h', (⟨c.val / 64 * 256 + g.val * 64 + c.val % 64, h'⟩ : Fin 1024) = ⟨(c.val / 64 * 4 + g.val) * 64 + c.val % 64, by omega⟩ := fun _ => Fin.ext (by show c.val / 64 * 256 + g.val * 64 + c.val % 64 = (c.val / 64 * 4 + g.val) * 64 + c.val % 64; ring)
  rw [e]

theorem dvp_at (r : Fin 2048) (c : Fin 256) : val_main_v226 (F := Ideal) x0 x1 x2 x3 (ix2 r c)
    = shifted (fun n k => dvR x0 x1 x2 x3 n k ⟨c.val / 64, by omega⟩ ⟨c.val % 64, by omega⟩) r := by
  have hp := fun n i h g => p_eq n i h g hP hz
  pointwise [val_main_v226, val_main_v215, val_main_v213, val_main_v212, val_main_v209, val_main_cst_33, val_main_v182, val_main_v181, val_main_v179, val_main_v178, val_main_v177, hp]
  unfold dvR
  have e : ∀ (g : Fin 4) h', (⟨c.val / 64 * 256 + g.val * 64 + c.val % 64, h'⟩ : Fin 1024) = ⟨(c.val / 64 * 4 + g.val) * 64 + c.val % 64, by omega⟩ := fun g _ => Fin.ext (by show c.val / 64 * 256 + g.val * 64 + c.val % 64 = (c.val / 64 * 4 + g.val) * 64 + c.val % 64; ring)
  simp only [e]
  exact shifted_pad (fun n k => dvR x0 x1 x2 x3 n k ⟨c.val / 64, by omega⟩ ⟨c.val % 64, by omega⟩) r _ _ (by omega) (by omega)

theorem dko_at (r : Fin 2048) (c : Fin 256) : val_main_v227 (F := Ideal) x0 x1 x2 x3 (ix2 r c)
    = dkR x0 x1 x2 x3 ⟨r.val / 128, by omega⟩ ⟨128 + r.val % 128, by omega⟩ ⟨c.val / 64, by omega⟩ ⟨c.val % 64, by omega⟩ := by
  have hds := fun n i h g => ds_eq_at n i h g hP hz hW hD
  pointwise [val_main_v227, val_main_v218, val_main_v217, val_main_v208, val_main_v207, val_main_v204, query_at, hds]
  rfl

theorem dkp_at (r : Fin 2048) (c : Fin 256) : val_main_v228 (F := Ideal) x0 x1 x2 x3 (ix2 r c)
    = shifted (fun n k => dkR x0 x1 x2 x3 n k ⟨c.val / 64, by omega⟩ ⟨c.val % 64, by omega⟩) r := by
  have hds := fun n i h g => ds_eq_at n i h g hP hz hW hD
  pointwise [val_main_v228, val_main_v222, val_main_v220, val_main_v219, val_main_v216, val_main_cst_34, val_main_v208, val_main_v207, val_main_v204, query_at, hds]
  unfold dkR
  exact shifted_pad (fun n k => dkR x0 x1 x2 x3 n k ⟨c.val / 64, by omega⟩ ⟨c.val % 64, by omega⟩) r _ _ (by omega) (by omega)

theorem dq_at (d : Fin 64) : val_main_v206 (F := Ideal) x0 x1 x2 x3 (ix5 n i h g d) = dqR x0 x1 x2 x3 n i h g d := by
  have hds := fun n i h g => ds_eq_at n i h g hP hz hW hD
  pointwise [val_main_v206, val_main_v205, val_main_v204, keys_at, hds]
  rfl

omit hP hz hW hD in
theorem unrotated (f : Fin 16 → Fin 128 → Fin 4 → Fin 4 → Fin 64 → EReal) (u v : Fin 2048 → Fin 8 → EReal)
    (hf : ∀ n i h g d, val_main_v206 (F := Ideal) x0 x1 x2 x3 (ix5 n i h g d) = f n i h g d)
    (hu : ∀ r j, val_main_v63 (F := Ideal) (ix2 r j) = u r j) (hv : ∀ r j, val_main_v64 (F := Ideal) (ix2 r j) = v r j)
    (r : Fin 2048) (c : Fin 1024) : val_main_v251 (F := Ideal) x0 x1 x2 x3 (ix2 r c)
    = unrot (f ⟨r.val / 128, by omega⟩ ⟨r.val % 128, by omega⟩ ⟨c.val / 64 / 4, by omega⟩ ⟨c.val / 64 % 4, by omega⟩) (u r) (v r) ⟨c.val % 64, by omega⟩ := by
  pointwise [val_main_v251, val_main_v250, val_main_v249, val_main_v248, val_main_v247, val_main_cst_37, val_main_cst_38, val_main_v246, val_main_v245, val_main_cst_36, val_main_v244, val_main_cst_35, val_main_v243, val_main_v242, val_main_v241, val_main_v240, val_main_v239, val_main_v238, val_main_v237, val_main_v236, val_main_v235, val_main_v234, val_main_v233, val_main_v232, val_main_v231, val_main_v230, val_main_v229, val_main_v69, val_main_v70, val_main_v223, hf, hu, hv]
  exact unrot_ladder (f ⟨r.val / 128, by omega⟩ ⟨r.val % 128, by omega⟩ ⟨c.val / 64 / 4, by omega⟩ ⟨c.val / 64 % 4, by omega⟩) (u r) (v r) ⟨c.val % 64, by omega⟩ _ (by omega)

theorem dqr_at (r : Fin 2048) (c : Fin 1024) : val_main_v251 (F := Ideal) x0 x1 x2 x3 (ix2 r c)
    = unrot (dqR x0 x1 x2 x3 ⟨r.val / 128, by omega⟩ ⟨r.val % 128, by omega⟩ ⟨c.val / 64 / 4, by omega⟩ ⟨c.val / 64 % 4, by omega⟩)
        (fun j => cosT (ix2 r j)) (fun j => sinT (ix2 r j)) ⟨c.val % 64, by omega⟩ :=
  unrotated (dqR x0 x1 x2 x3) (fun r j => cosT (ix2 r j)) (fun r j => sinT (ix2 r j)) (fun n i h g d => dq_at n i h g hP hz hW hD d)
    (fun r j => congrFun cos_again (ix2 r j)) (fun r j => congrFun sin_again (ix2 r j)) r c

theorem sinks_at (l : Fin 128) : val_main_v252 (F := Ideal) x0 x1 x2 x3 (ix2 0 l)
    = if h : l.val < 16 then ∑ n : Fin 16, ∑ i : Fin 128, -dzR x0 x1 x2 x3 n i ⟨l.val / 4, by omega⟩ ⟨l.val % 4, by omega⟩ else 0 := by
  pointwise [val_main_v252, val_main_v224, val_main_v200, val_main_v199, val_main_v198, val_main_v197, val_main_cst_31, val_main_call2_v0, val_main_c_39]
  by_cases hl : l.val < 16
  · rw [dif_pos hl, dif_pos hl, sum_sink]
    pointwise
    refine Finset.sum_congr rfl fun n _ => Finset.sum_congr rfl fun i _ => ?_
    refine (raw_at x0 x1 x2 x3 n i ⟨l.val / 4, by omega⟩ ⟨l.val % 4, by omega⟩ (Fin.last 256)).trans ?_
    rw [withSink_last]
    exact dz_eq (fun k => isReal_score n i _ _ hP k) (hz _) fun k => isReal_probR n i _ _ hP hW hD k
  · rw [dif_neg hl, dif_neg hl]
    show (((0#32 : BitVec 32).toInt : ℝ) : EReal) = 0
    simp

end Results

end Cert.AttnRefIdeal.Meaning

end
-- ==== Proof.Attn.Block.lean ====
/-
  The attention's backward kernel: what one block computes for a head, read at an index.
-/
module

public import proofs.«01_k».proof.Proof.Gen.AttnIdeal.Value
public import proofs.«01_k».proof.Proof.Attn.Results
public import Idealize.ShloMosaic.Lib.Pipeline.ValueKit
public import Idealize.ShloMosaic.Lib.Claim

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.AttnRow
open Cert.AttnRefIdeal.Meaning (rot unrot word_ge word_lt word_and word_sum toInt_small toInt_diff)

section Head
variable (M : IVec S256x256 1) (K V Q O : FVec Ideal S256x128 .bf16) (z : FVec Ideal S1x256 .f32)

/-- One query's masked scores and its probabilities' gradients, over the 128 lanes of a tile. -/
abbrev scoreK (r k : Fin 256) : EReal :=
  Scalar.select (M (ix2 k r)) ((∑ l, K (ix2 k l) * Q (ix2 r l)) * Ideal.ofBits .f32 0x3E000000#32) ⊥
abbrev probK (r k : Fin 256) : EReal := ∑ l, V (ix2 k l) * O (ix2 r l)

theorem k0_pay23_at (k r : Fin 256) : k0_pay23 M K Q (ix2 k r) = scoreK M K Q r k := by
  pointwise [k0_pay23]
  rfl
theorem peak_at (r : Fin 256) : k0_pay24 M K Q z (ix2 0 r) = peak (scoreK M K Q r) (z (ix2 0 r)) := by
  pointwise [k0_pay24, k0_pay23_at]
  rw [show Ideal.ofBits .f32 0xFF800000#32 = ⊥ by simp [Ideal.ofBits, Ideal.ieee]]
  rfl
theorem ex_at (k r : Fin 256) : k0_pay25 M K Q z (ix2 k r) = ex (scoreK M K Q r) (z (ix2 0 r)) k := by
  pointwise [k0_pay25, k0_pay23_at, peak_at]
  rfl
theorem exz_at (r : Fin 256) : k0_pay26 M K Q z (ix2 0 r) = exz (scoreK M K Q r) (z (ix2 0 r)) := by
  pointwise [k0_pay26, peak_at]
  rfl
theorem inv_at (r : Fin 256) : k0_pay27 M K Q z (ix2 0 r) = inv (scoreK M K Q r) (z (ix2 0 r)) := by
  pointwise [k0_pay27, ex_at, exz_at]
  rfl
theorem prob_at (k r : Fin 256) : k0_pay28 M K Q z (ix2 k r) = prob (scoreK M K Q r) (z (ix2 0 r)) k := by
  pointwise [k0_pay28, ex_at, inv_at]
  rfl
theorem delta_at (r : Fin 256) : k0_pay30 M K V Q O z (ix2 0 r) = delta (scoreK M K Q r) (z (ix2 0 r)) (probK V O r) := by
  pointwise [k0_pay30, k0_pay29, prob_at]
  rfl
theorem ds_at (k r : Fin 256) : k0_pay31 M K V Q O z (ix2 k r) = ds (scoreK M K Q r) (z (ix2 0 r)) (probK V O r) k := by
  pointwise [k0_pay31, k0_pay29, prob_at, delta_at]
  rfl
theorem dq_at (r : Fin 256) (l : Fin 128) : k0_pay32 M K V Q O z (ix2 r l)
    = ∑ k, ds (scoreK M K Q r) (z (ix2 0 r)) (probK V O r) k * K (ix2 k l) := by
  pointwise [k0_pay32, ds_at]
theorem dk_at (k : Fin 256) (l : Fin 128) : k0_pay33 M K V Q O z (ix2 k l)
    = ∑ r, ds (scoreK M K Q r) (z (ix2 0 r)) (probK V O r) k * Q (ix2 r l) := by
  pointwise [k0_pay33, ds_at]
theorem dv_at (k : Fin 256) (l : Fin 128) : k0_pay34 M K Q O z (ix2 k l)
    = ∑ r, prob (scoreK M K Q r) (z (ix2 0 r)) k * O (ix2 r l) := by
  pointwise [k0_pay34, prob_at]
theorem dz_at (r : Fin 256) : k0_pay35 M K V Q O z (ix2 0 r) = dz (scoreK M K Q r) (z (ix2 0 r)) (probK V O r) := by
  pointwise [k0_pay35, exz_at, inv_at, delta_at]
  rfl
end Head

/-! ## A head's 64 lanes in a tile of 128 -/

/-- The lanes of the half `p` of a tile carry a head, the others are zero. -/
def IsHalf (p : Fin 2) (A : FVec Ideal S256x128 .bf16) (f : Fin 256 → Fin 64 → EReal) : Prop :=
  ∀ k l, A (ix2 k l) = if l.val / 64 = p.val then f k ⟨l.val % 64, by omega⟩ else 0
/-- The queries of two tiles, one under the other: row `r` and lane `l` are query `r % 128` of head `2 * (r / 128) + l / 64`. -/
def IsRows (A : FVec Ideal S256x128 .bf16) (f : Fin 128 → Fin 4 → Fin 64 → EReal) : Prop :=
  ∀ r l, A (ix2 r l) = f ⟨r.val % 128, by omega⟩ ⟨2 * (r.val / 128) + l.val / 64, by omega⟩ ⟨l.val % 64, by omega⟩
def IsSink (p : Fin 2) (z : FVec Ideal S1x256 .f32) (f : Fin 4 → EReal) : Prop :=
  ∀ r : Fin 256, z (ix2 0 r) = f ⟨2 * (r.val / 128) + p.val, by omega⟩
def IsMask (M : IVec S256x256 1) (f : Fin 128 → Fin 256 → Prop) [∀ i k, Decidable (f i k)] : Prop :=
  ∀ k r : Fin 256, M (ix2 k r) = if f ⟨r.val % 128, by omega⟩ k then 1#1 else 0#1

theorem sum_half (p : Fin 2) (f : Fin 64 → EReal) (g : Fin 128 → EReal) :
    ∑ l : Fin 128, (if l.val / 64 = p.val then f ⟨l.val % 64, by omega⟩ else 0) * g l = ∑ d : Fin 64, f d * g ⟨p.val * 64 + d.val, by omega⟩ := by
  rw [show (∑ l : Fin 128, (if l.val / 64 = p.val then f ⟨l.val % 64, by omega⟩ else 0) * g l)
    = ∑ l : Fin (64 + 64), (if l.val / 64 = p.val then f ⟨l.val % 64, by omega⟩ else 0) * g l from rfl, Fin.sum_univ_add]
  have h0 : ∀ d : Fin 64, d.val / 64 = 0 := fun d => by omega
  have h1 : ∀ d : Fin 64, (64 + d.val) / 64 = 1 := fun d => by omega
  have m0 : ∀ (d : Fin 64) h, (⟨d.val % 64, h⟩ : Fin 64) = d := fun d _ => Fin.ext (by show d.val % 64 = d.val; omega)
  have m1 : ∀ (d : Fin 64) h, (⟨(64 + d.val) % 64, h⟩ : Fin 64) = d := fun d _ => Fin.ext (by show (64 + d.val) % 64 = d.val; omega)
  simp only [Fin.val_castAdd, Fin.val_natAdd, h0, h1, m0, m1]
  match p with
  | ⟨0, _⟩ =>
    simp only [if_true, one_ne_zero, if_false, zero_mul, Finset.sum_const_zero, add_zero]
    exact Finset.sum_congr rfl fun d _ => congrArg (f d * g ·) (Fin.ext (by show d.val = 0 * 64 + d.val; omega))
  | ⟨1, _⟩ =>
    simp only [if_true, zero_ne_one, if_false, zero_mul, Finset.sum_const_zero, zero_add]
    exact Finset.sum_congr rfl fun d _ => congrArg (f d * g ·) (Fin.ext (by show 64 + d.val = 1 * 64 + d.val; omega))

/-- A sum over the two tiles of a head's queries and the two halves. -/
theorem sum_rows (f : Fin 128 → Fin 4 → EReal) :
    (∑ r : Fin 256, f ⟨r.val % 128, by omega⟩ ⟨2 * (r.val / 128) + 0, by omega⟩) + (∑ r : Fin 256, f ⟨r.val % 128, by omega⟩ ⟨2 * (r.val / 128) + 1, by omega⟩)
      = ∑ i : Fin 128, ∑ g : Fin 4, f i g := by
  have hs : ∀ (F : Fin 256 → EReal), ∑ r, F r = (∑ i : Fin 128, F ⟨i.val, by omega⟩) + ∑ i : Fin 128, F ⟨128 + i.val, by omega⟩ :=
    fun F => Fin.sum_univ_add (a := 128) (b := 128) F
  rw [hs, hs]
  have e0 : ∀ (i : Fin 128) h, (⟨i.val % 128, h⟩ : Fin 128) = i := fun i _ => Fin.ext (by show i.val % 128 = i.val; omega)
  have e1 : ∀ (i : Fin 128) h, (⟨(128 + i.val) % 128, h⟩ : Fin 128) = i := fun i _ => Fin.ext (by show (128 + i.val) % 128 = i.val; omega)
  have d0 : ∀ i : Fin 128, i.val / 128 = 0 := fun i => by omega
  have d1 : ∀ i : Fin 128, (128 + i.val) / 128 = 1 := fun i => by omega
  simp only [e0, e1, d0, d1, Fin.sum_univ_four, Finset.sum_add_distrib]
  show (∑ i, f i 0) + (∑ i, f i 2) + ((∑ i, f i 1) + ∑ i, f i 3) = _
  ac_rfl

section Rows
variable {M : IVec S256x256 1} {K V Q O : FVec Ideal S256x128 .bf16} {z : FVec Ideal S1x256 .f32} {p : Fin 2}
  {kf vf : Fin 256 → Fin 64 → EReal} {qf wf : Fin 128 → Fin 4 → Fin 64 → EReal} {zf : Fin 4 → EReal} {see : Fin 128 → Fin 256 → Prop} [∀ i k, Decidable (see i k)]
  (hM : IsMask M see) (hK : IsHalf p K kf) (hV : IsHalf p V vf) (hQ : IsRows Q qf) (hO : IsRows O wf) (hz : IsSink p z zf)

/-- A block's masked scores and its probabilities' gradients. -/
def scoreB (see : Fin 128 → Fin 256 → Prop) [∀ i k, Decidable (see i k)] (kf : Fin 256 → Fin 64 → EReal) (qf : Fin 128 → Fin 4 → Fin 64 → EReal)
    (i : Fin 128) (g : Fin 4) (k : Fin 256) : EReal :=
  if see i k then (∑ d, kf k d * qf i g d) * Ideal.ofBits .f32 0x3E000000#32 else ⊥
def probB (vf : Fin 256 → Fin 64 → EReal) (wf : Fin 128 → Fin 4 → Fin 64 → EReal) (i : Fin 128) (g : Fin 4) (k : Fin 256) : EReal :=
  ∑ d, vf k d * wf i g d

theorem half_rows {A B : FVec Ideal S256x128 .bf16} {f : Fin 256 → Fin 64 → EReal} {w : Fin 128 → Fin 4 → Fin 64 → EReal} (hA : IsHalf p A f) (hB : IsRows B w) (k r : Fin 256) :
    ∑ l, A (ix2 k l) * B (ix2 r l) = ∑ d, f k d * w ⟨r.val % 128, by omega⟩ ⟨2 * (r.val / 128) + p.val, by omega⟩ d := by
  simp only [hA k]
  refine (sum_half p (f k) (fun l => B (ix2 r l))).trans (Finset.sum_congr rfl fun d _ => ?_)
  have e1 : ∀ h', (⟨2 * (r.val / 128) + (p.val * 64 + d.val) / 64, h'⟩ : Fin 4) = ⟨2 * (r.val / 128) + p.val, by omega⟩ := fun _ => Fin.ext (by show 2 * (r.val / 128) + (p.val * 64 + d.val) / 64 = 2 * (r.val / 128) + p.val; omega)
  have e2 : ∀ h', (⟨(p.val * 64 + d.val) % 64, h'⟩ : Fin 64) = d := fun _ => Fin.ext (by show (p.val * 64 + d.val) % 64 = d.val; omega)
  rw [hB r]
  simp only [e1, e2]

include hM hK hQ in
theorem scoreK_eq (r : Fin 256) : scoreK M K Q r = scoreB see kf qf ⟨r.val % 128, by omega⟩ ⟨2 * (r.val / 128) + p.val, by omega⟩ := by
  funext k
  unfold scoreK scoreB
  rw [half_rows hK hQ, hM]
  split <;> rfl
include hV hO in
theorem probK_eq (r : Fin 256) : probK V O r = probB vf wf ⟨r.val % 128, by omega⟩ ⟨2 * (r.val / 128) + p.val, by omega⟩ := by
  funext k
  exact half_rows hV hO k r

include hM hK hV hQ hO hz in
theorem dq_half (r : Fin 256) (l : Fin 128) : k0_pay32 M K V Q O z (ix2 r l)
    = if l.val / 64 = p.val then ∑ k, ds (scoreB see kf qf ⟨r.val % 128, by omega⟩ ⟨2 * (r.val / 128) + l.val / 64, by omega⟩) (zf ⟨2 * (r.val / 128) + l.val / 64, by omega⟩)
        (probB vf wf ⟨r.val % 128, by omega⟩ ⟨2 * (r.val / 128) + l.val / 64, by omega⟩) k * kf k ⟨l.val % 64, by omega⟩ else 0 := by
  rw [dq_at, scoreK_eq hM hK hQ, probK_eq hV hO, hz]
  simp only [hK _ l]
  split
  · next e => simp only [e]
  · simp only [mul_zero, Finset.sum_const_zero]
include hM hK hV hQ hO hz in
theorem dk_half (k : Fin 256) (l : Fin 128) (hl : l.val / 64 = p.val) : k0_pay33 M K V Q O z (ix2 k l)
    = ∑ r : Fin 256, ds (scoreB see kf qf ⟨r.val % 128, by omega⟩ ⟨2 * (r.val / 128) + p.val, by omega⟩) (zf ⟨2 * (r.val / 128) + p.val, by omega⟩)
        (probB vf wf ⟨r.val % 128, by omega⟩ ⟨2 * (r.val / 128) + p.val, by omega⟩) k * qf ⟨r.val % 128, by omega⟩ ⟨2 * (r.val / 128) + p.val, by omega⟩ ⟨l.val % 64, by omega⟩ := by
  rw [dk_at]
  refine Finset.sum_congr rfl fun r _ => ?_
  rw [scoreK_eq hM hK hQ, probK_eq hV hO, hz, hQ]
  simp only [hl]
include hM hK hQ hO hz in
theorem dv_half (k : Fin 256) (l : Fin 128) (hl : l.val / 64 = p.val) : k0_pay34 M K Q O z (ix2 k l)
    = ∑ r : Fin 256, prob (scoreB see kf qf ⟨r.val % 128, by omega⟩ ⟨2 * (r.val / 128) + p.val, by omega⟩) (zf ⟨2 * (r.val / 128) + p.val, by omega⟩)
        k * wf ⟨r.val % 128, by omega⟩ ⟨2 * (r.val / 128) + p.val, by omega⟩ ⟨l.val % 64, by omega⟩ := by
  rw [dv_at]
  refine Finset.sum_congr rfl fun r _ => ?_
  rw [scoreK_eq hM hK hQ, hz, hO]
  simp only [hl]
include hM hK hV hQ hO hz in
theorem dz_half (r : Fin 256) : k0_pay35 M K V Q O z (ix2 0 r)
    = dz (scoreB see kf qf ⟨r.val % 128, by omega⟩ ⟨2 * (r.val / 128) + p.val, by omega⟩) (zf ⟨2 * (r.val / 128) + p.val, by omega⟩)
        (probB vf wf ⟨r.val % 128, by omega⟩ ⟨2 * (r.val / 128) + p.val, by omega⟩) := by
  rw [dz_at, scoreK_eq hM hK hQ, probK_eq hV hO, hz]
end Rows

/-! ## The tiles the kernel cuts its arrays into -/

theorem sel_lt (n : ℕ) (hn : n < 4096) (x y : EReal) : Scalar.select (IntOp.cmpi .slt (BitVec.ofNat 32 n) 64#32) x y = if n < 64 then x else y := by
  rw [word_lt, toInt_small n hn, show (64#32 : BitVec 32).toInt = 64 from rfl]
  by_cases h : n < 64
  · rw [if_pos (show (n : ℤ) < 64 by omega), if_pos h]; rfl
  · rw [if_neg (show ¬(n : ℤ) < 64 by omega), if_neg h]; rfl
theorem sel_ge (n : ℕ) (hn : n < 4096) (x y : EReal) : Scalar.select (IntOp.cmpi .sge (BitVec.ofNat 32 n) 64#32) x y = if 64 ≤ n then x else y := by
  rw [word_ge, toInt_small n hn, show (64#32 : BitVec 32).toInt = 64 from rfl]
  by_cases h : 64 ≤ n
  · rw [if_pos (show (64 : ℤ) ≤ n by omega), if_pos h]; rfl
  · rw [if_neg (show ¬(64 : ℤ) ≤ n by omega), if_neg h]; rfl

section Halves
variable (K V : FVec Ideal S256x256 .f32) (W : FVec Ideal S128x1024 .bf16)
abbrev lanes (K : FVec Ideal S256x256 .f32) (h : Fin 4) (k : Fin 256) (d : Fin 64) : EReal := K (ix2 k ⟨h.val * 64 + d.val, by omega⟩)
/-- What the kernel cuts out for a head is the head's lanes. -/
theorem cut_eq (h : Fin 4) (p : Fin 2) (k : Fin 256) (l : Fin 128) (e : Fin 256) (P : Prop) [Decidable P] (hP : P ↔ l.val / 64 = p.val)
    (he : l.val / 64 = p.val → e.val = h.val * 64 + l.val % 64) :
    (if P then K (ix2 k e) else 0) = if l.val / 64 = p.val then lanes K h k ⟨l.val % 64, by omega⟩ else 0 := by
  by_cases hp : l.val / 64 = p.val
  · rw [if_pos (hP.mpr hp), if_pos hp]
    exact congrArg (fun j => K (ix2 k j)) (Fin.ext (he hp))
  · rw [if_neg (fun q => hp (hP.mp q)), if_neg hp]

theorem halfK00 (a : FVec Ideal S128x256 .f32) (b c d e) : IsHalf 0 (k0_pay14 a b c d e) (lanes (k0_pay6 a b c d e) 0) := by
  intro k l
  pointwise [k0_pay14, k0_pay13]
  rw [sel_lt _ (by omega)]
  exact cut_eq (k0_pay6 a b c d e) 0 0 k l _ _ (by show _ ↔ l.val / 64 = 0; omega) (fun (hl : l.val / 64 = 0) => by show _ = 0 * 64 + l.val % 64; simp only []; omega)
theorem halfK01 (a : FVec Ideal S128x256 .f32) (b c d e) : IsHalf 1 (k0_pay15 a b c d e) (lanes (k0_pay6 a b c d e) 0) := by
  intro k l
  pointwise [k0_pay15, k0_pay13]
  rw [sel_lt _ (by omega)]
  exact cut_eq (k0_pay6 a b c d e) 0 1 k l _ _ (by show _ ↔ l.val / 64 = 1; omega) (fun (hl : l.val / 64 = 1) => by show _ = 0 * 64 + l.val % 64; simp only []; omega)
theorem halfV00 (a b) : IsHalf 0 (k0_pay18 (k0_pay16 a b) (iota Kind.tc S256x128 32 [1] iota_S256x128_d1_w32) 64#32) (lanes (k0_pay7 a b) 0) := by
  intro k l
  pointwise [k0_pay18, k0_pay17, k0_pay16]
  rw [sel_lt _ (by omega)]
  exact cut_eq (k0_pay7 a b) 0 0 k l _ _ (by show _ ↔ l.val / 64 = 0; omega) (fun (hl : l.val / 64 = 0) => by show _ = 0 * 64 + l.val % 64; simp only []; omega)
theorem halfV01 (a b) : IsHalf 1 (k0_pay19 (k0_pay16 a b) (iota Kind.tc S256x128 32 [1] iota_S256x128_d1_w32) 64#32) (lanes (k0_pay7 a b) 0) := by
  intro k l
  pointwise [k0_pay19, k0_pay17, k0_pay16]
  rw [sel_lt _ (by omega)]
  exact cut_eq (k0_pay7 a b) 0 1 k l _ _ (by show _ ↔ l.val / 64 = 1; omega) (fun (hl : l.val / 64 = 1) => by show _ = 0 * 64 + l.val % 64; simp only []; omega)
theorem halfK10 : IsHalf 0 (k0_pay65 (k0_pay64 K)) (lanes (K) 1) := by
  intro k l
  pointwise [k0_pay65, k0_pay64]
  rw [sel_ge _ (by omega)]
  exact cut_eq (K) 1 0 k l _ _ (by show _ ↔ l.val / 64 = 0; omega) (fun (hl : l.val / 64 = 0) => by show _ = 1 * 64 + l.val % 64; simp only []; omega)
theorem halfK11 : IsHalf 1 (k0_pay66 (k0_pay64 K)) (lanes (K) 1) := by
  intro k l
  pointwise [k0_pay66, k0_pay64]
  rw [sel_ge _ (by omega)]
  exact cut_eq (K) 1 1 k l _ _ (by show _ ↔ l.val / 64 = 1; omega) (fun (hl : l.val / 64 = 1) => by show _ = 1 * 64 + l.val % 64; simp only []; omega)
theorem halfV10 : IsHalf 0 (k0_pay68 V) (lanes (V) 1) := by
  intro k l
  pointwise [k0_pay68, k0_pay67]
  rw [sel_ge _ (by omega)]
  exact cut_eq (V) 1 0 k l _ _ (by show _ ↔ l.val / 64 = 0; omega) (fun (hl : l.val / 64 = 0) => by show _ = 1 * 64 + l.val % 64; simp only []; omega)
theorem halfV11 : IsHalf 1 (k0_pay69 V) (lanes (V) 1) := by
  intro k l
  pointwise [k0_pay69, k0_pay67]
  rw [sel_ge _ (by omega)]
  exact cut_eq (V) 1 1 k l _ _ (by show _ ↔ l.val / 64 = 1; omega) (fun (hl : l.val / 64 = 1) => by show _ = 1 * 64 + l.val % 64; simp only []; omega)
theorem halfK20 : IsHalf 0 (k0_pay110 K) (lanes (K) 2) := by
  intro k l
  pointwise [k0_pay110, k0_pay109]
  rw [sel_lt _ (by omega)]
  exact cut_eq (K) 2 0 k l _ _ (by show _ ↔ l.val / 64 = 0; omega) (fun (hl : l.val / 64 = 0) => by show _ = 2 * 64 + l.val % 64; simp only []; omega)
theorem halfK21 : IsHalf 1 (k0_pay111 K) (lanes (K) 2) := by
  intro k l
  pointwise [k0_pay111, k0_pay109]
  rw [sel_lt _ (by omega)]
  exact cut_eq (K) 2 1 k l _ _ (by show _ ↔ l.val / 64 = 1; omega) (fun (hl : l.val / 64 = 1) => by show _ = 2 * 64 + l.val % 64; simp only []; omega)
theorem halfV20 : IsHalf 0 (k0_pay113 V) (lanes (V) 2) := by
  intro k l
  pointwise [k0_pay113, k0_pay112]
  rw [sel_lt _ (by omega)]
  exact cut_eq (V) 2 0 k l _ _ (by show _ ↔ l.val / 64 = 0; omega) (fun (hl : l.val / 64 = 0) => by show _ = 2 * 64 + l.val % 64; simp only []; omega)
theorem halfV21 : IsHalf 1 (k0_pay114 V) (lanes (V) 2) := by
  intro k l
  pointwise [k0_pay114, k0_pay112]
  rw [sel_lt _ (by omega)]
  exact cut_eq (V) 2 1 k l _ _ (by show _ ↔ l.val / 64 = 1; omega) (fun (hl : l.val / 64 = 1) => by show _ = 2 * 64 + l.val % 64; simp only []; omega)
theorem halfK30 : IsHalf 0 (k0_pay162 K) (lanes (K) 3) := by
  intro k l
  pointwise [k0_pay162, k0_pay161]
  rw [sel_ge _ (by omega)]
  exact cut_eq (K) 3 0 k l _ _ (by show _ ↔ l.val / 64 = 0; omega) (fun (hl : l.val / 64 = 0) => by show _ = 3 * 64 + l.val % 64; simp only []; omega)
theorem halfK31 : IsHalf 1 (k0_pay163 K) (lanes (K) 3) := by
  intro k l
  pointwise [k0_pay163, k0_pay161]
  rw [sel_ge _ (by omega)]
  exact cut_eq (K) 3 1 k l _ _ (by show _ ↔ l.val / 64 = 1; omega) (fun (hl : l.val / 64 = 1) => by show _ = 3 * 64 + l.val % 64; simp only []; omega)
theorem halfV30 : IsHalf 0 (k0_pay165 V) (lanes (V) 3) := by
  intro k l
  pointwise [k0_pay165, k0_pay164]
  rw [sel_ge _ (by omega)]
  exact cut_eq (V) 3 0 k l _ _ (by show _ ↔ l.val / 64 = 0; omega) (fun (hl : l.val / 64 = 0) => by show _ = 3 * 64 + l.val % 64; simp only []; omega)
theorem halfV31 : IsHalf 1 (k0_pay166 V) (lanes (V) 3) := by
  intro k l
  pointwise [k0_pay166, k0_pay164]
  rw [sel_ge _ (by omega)]
  exact cut_eq (V) 3 1 k l _ _ (by show _ ↔ l.val / 64 = 1; omega) (fun (hl : l.val / 64 = 1) => by show _ = 3 * 64 + l.val % 64; simp only []; omega)

/-- The queries of a head's two tiles. -/
abbrev rowsW (W : FVec Ideal S128x1024 .bf16) (h : Fin 4) (i : Fin 128) (g : Fin 4) (d : Fin 64) : EReal := W (ix2 i ⟨(h.val * 4 + g.val) * 64 + d.val, by omega⟩)
/-- One tile under another is a head's rows. -/
theorem rows_eq (W : FVec Ideal S128x1024 .bf16) (h : Fin 4) (r : Fin 256) (l : Fin 128) (e₀ e₁ : Fin 1024) (h₀ : e₀.val = h.val * 256 + l.val) (h₁ : e₁.val = h.val * 256 + 128 + l.val) (q₁ : ¬r.val < 128 → r.val - 128 < 128) :
    (if q : r.val < 128 then W (ix2 ⟨r.val, q⟩ e₀) else W (ix2 ⟨r.val - 128, q₁ q⟩ e₁))
      = rowsW W h ⟨r.val % 128, by omega⟩ ⟨2 * (r.val / 128) + l.val / 64, by omega⟩ ⟨l.val % 64, by omega⟩ := by
  by_cases q : r.val < 128
  · rw [dif_pos q]
    exact congrArg₂ (fun i j => W (ix2 i j)) (Fin.ext (by show r.val = r.val % 128; omega)) (Fin.ext (by show e₀.val = (h.val * 4 + (2 * (r.val / 128) + l.val / 64)) * 64 + l.val % 64; omega))
  · rw [dif_neg q]
    exact congrArg₂ (fun i j => W (ix2 i j)) (Fin.ext (by show r.val - 128 = r.val % 128; omega)) (Fin.ext (by show e₁.val = (h.val * 4 + (2 * (r.val / 128) + l.val / 64)) * 64 + l.val % 64; omega))
theorem rowsW0 : IsRows (k0_pay21 W) (rowsW W 0) := by
  intro r l
  pointwise [k0_pay21]
  refine rows_eq W 0 r l ⟨l.val, by omega⟩ ⟨128 + l.val, by omega⟩ ?_ ?_ _
  · show l.val = 0 * 256 + l.val; omega
  · show 128 + l.val = 0 * 256 + 128 + l.val; omega
theorem rowsW1 : IsRows (k0_pay71 W) (rowsW W 1) := by
  intro r l
  pointwise [k0_pay71]
  refine rows_eq W 1 r l ⟨256 + l.val, by omega⟩ ⟨384 + l.val, by omega⟩ ?_ ?_ _
  · show 256 + l.val = 1 * 256 + l.val; omega
  · show 384 + l.val = 1 * 256 + 128 + l.val; omega
theorem rowsW2 : IsRows (k0_pay122 W) (rowsW W 2) := by
  intro r l
  pointwise [k0_pay122]
  refine rows_eq W 2 r l ⟨512 + l.val, by omega⟩ ⟨640 + l.val, by omega⟩ ?_ ?_ _
  · show 512 + l.val = 2 * 256 + l.val; omega
  · show 640 + l.val = 2 * 256 + 128 + l.val; omega
theorem rowsW3 : IsRows (k0_pay172 W) (rowsW W 3) := by
  intro r l
  pointwise [k0_pay172]
  refine rows_eq W 3 r l ⟨768 + l.val, by omega⟩ ⟨896 + l.val, by omega⟩ ?_ ?_ _
  · show 768 + l.val = 3 * 256 + l.val; omega
  · show 896 + l.val = 3 * 256 + 128 + l.val; omega
theorem sink_at (p : Fin 2) (f : Fin 4 → EReal) (a b : EReal) (ha : a = f ⟨p.val, by omega⟩) (hb : b = f ⟨2 + p.val, by omega⟩) : IsSink p (k0_pay22 (F := Ideal) a b) f := by
  intro r
  pointwise [k0_pay22]
  by_cases q : r.val < 128
  · rw [dif_pos q, ha]
    exact congrArg f (Fin.ext (by show p.val = 2 * (r.val / 128) + p.val; omega))
  · rw [dif_neg q, hb]
    exact congrArg f (Fin.ext (by show 2 + p.val = 2 * (r.val / 128) + p.val; omega))
theorem word_or {p q : Prop} [Decidable p] [Decidable q] :
    IntOp.ori (if p then 1#1 else 0#1) (if q then 1#1 else 0#1) = if p ∨ q then 1#1 else 0#1 := by
  by_cases hp : p <;> by_cases hq : q <;> simp [hp, hq, IntOp.ori]
theorem mask_word (n q k : ℕ) (hn : n < 16) (hq : q < 128) (hk : k < 256) :
    IntOp.andi
        (IntOp.andi
          (IntOp.cmpi CmpIPredicate.sge (IntOp.subi (IntOp.addi (BitVec.ofNat 32 q) 128#32) (BitVec.ofNat 32 k)) 0#32)
          (IntOp.cmpi CmpIPredicate.slt (IntOp.subi (IntOp.addi (BitVec.ofNat 32 q) 128#32) (BitVec.ofNat 32 k)) 128#32))
        (IntOp.ori (IntOp.cmpi CmpIPredicate.sge (BitVec.ofNat 32 k) 128#32) (Scalar.cmpi CmpIPredicate.sgt (BitVec.ofNat 32 n) 0#32))
      = if k ≤ q + 128 ∧ q < k ∧ 128 ≤ n * 128 + k then 1#1 else 0#1 := by
  rw [word_sum q 128, word_ge, word_lt, word_ge, toInt_diff _ _ (by omega) (by omega), toInt_small k (by omega)]
  rw [show Scalar.cmpi CmpIPredicate.sgt (BitVec.ofNat 32 n) 0#32 = if (0#32 : BitVec 32).toInt < (BitVec.ofNat 32 n).toInt then 1#1 else 0#1 from word_lt (a := 0#32) (b := BitVec.ofNat 32 n), toInt_small n (by omega)]
  rw [word_and, word_or, word_and]
  refine if_congr ?_ rfl rfl
  rw [show (0#32 : BitVec 32).toInt = 0 from rfl, show (128#32 : BitVec 32).toInt = 128 from rfl]
  omega
theorem mask_at (i : grid0.Coords) (n : Fin 16) (hn : (i 0).val = n.val) :
    IsMask (k0_pay2 i) (fun q k => k.val ≤ q.val + 128 ∧ q.val < k.val ∧ 128 ≤ n.val * 128 + k.val) := by
  intro k r
  pointwise [k0_pay2]
  by_cases q : r.val < 128
  · rw [dif_pos q, mask_word _ _ _ (by omega) q k.isLt, hn]
    refine if_congr ?_ rfl rfl
    show _ ↔ k.val ≤ r.val % 128 + 128 ∧ r.val % 128 < k.val ∧ 128 ≤ n.val * 128 + k.val
    omega
  · rw [dif_neg q, mask_word _ _ _ (by omega) (by omega) k.isLt, hn]
    refine if_congr ?_ rfl rfl
    show _ ↔ k.val ≤ r.val % 128 + 128 ∧ r.val % 128 < k.val ∧ 128 ≤ n.val * 128 + k.val
    omega
end Halves

/-! ## The rotation of the queries and keys, and its transpose -/

/-- A head's vector rotated with the kernel's tables: the tables are one and zero outside the rotated lanes. -/
theorem rot_sum (x : Fin 64 → EReal) (cf sf : Fin 8 → EReal) (l : ℕ) (t a b c u v : EReal) (ht : t = x ⟨l % 64, by omega⟩)
    (ha : ∀ h : l % 64 < 8, a = x ⟨l % 64 + 8, by omega⟩) (hb : ∀ h : 8 ≤ l % 64, b = x ⟨l % 64 - 8, by omega⟩)
    (hc : c = if l % 64 < 16 then cf ⟨l % 8, by omega⟩ else 1) (hu : u = if l % 64 < 8 then -sf ⟨l % 8, by omega⟩ else 0)
    (hv : v = if 8 ≤ l % 64 ∧ l % 64 < 16 then sf ⟨l % 8, by omega⟩ else 0) : t * c + a * u + b * v = rot x cf sf ⟨l % 64, by omega⟩ := by
  subst ht hc hu hv
  unfold rot
  by_cases h₁ : l % 64 < 8
  · have e : ∀ h', (⟨l % 64, h'⟩ : Fin 8) = ⟨l % 8, by omega⟩ := fun _ => Fin.ext (by show l % 64 = l % 8; omega)
    rw [ha h₁, if_pos (by omega), if_pos h₁, if_neg (by omega), dif_pos (show l % 64 < 8 from h₁), mul_zero, add_zero, mul_neg, ← sub_eq_add_neg]
    simp only [e]
  · rw [if_neg h₁, mul_zero, add_zero, dif_neg (show ¬l % 64 < 8 from h₁)]
    by_cases h₂ : l % 64 < 16
    · have e : ∀ h', (⟨l % 64 - 8, h'⟩ : Fin 8) = ⟨l % 8, by omega⟩ := fun _ => Fin.ext (by show l % 64 - 8 = l % 8; omega)
      rw [hb (by omega), if_pos h₂, if_pos ⟨by omega, h₂⟩, dif_pos (show l % 64 < 16 from h₂)]
      simp only [e]
    · rw [if_neg h₂, if_neg (fun h => h₂ h.2), mul_zero, add_zero, mul_one, dif_neg (show ¬l % 64 < 16 from h₂)]

/-- The rotation's transpose, with the same tables. -/
theorem unrot_sum (x : Fin 64 → EReal) (cf sf : Fin 8 → EReal) (l : ℕ) (t a b c u v : EReal) (ht : t = x ⟨l % 64, by omega⟩)
    (ha : ∀ h : l % 64 < 8, a = x ⟨l % 64 + 8, by omega⟩) (hb : ∀ h : 8 ≤ l % 64, b = x ⟨l % 64 - 8, by omega⟩)
    (hc : c = if l % 64 < 16 then cf ⟨l % 8, by omega⟩ else 1) (hu : u = if l % 64 < 8 then -sf ⟨l % 8, by omega⟩ else 0)
    (hv : v = if 8 ≤ l % 64 ∧ l % 64 < 16 then sf ⟨l % 8, by omega⟩ else 0) : t * c + a * (0 - u) + b * (0 - v) = unrot x cf sf ⟨l % 64, by omega⟩ := by
  subst ht hc hu hv
  unfold unrot
  by_cases h₁ : l % 64 < 8
  · have e : ∀ h', (⟨l % 64, h'⟩ : Fin 8) = ⟨l % 8, by omega⟩ := fun _ => Fin.ext (by show l % 64 = l % 8; omega)
    have e' : ∀ h', (⟨8 + l % 64, h'⟩ : Fin 64) = ⟨l % 64 + 8, by omega⟩ := fun _ => Fin.ext (by show 8 + l % 64 = l % 64 + 8; omega)
    rw [ha h₁, if_pos (by omega), if_pos h₁, if_neg (by omega), dif_pos (show l % 64 < 8 from h₁), sub_zero, mul_zero, add_zero, zero_sub, neg_neg, add_comm]
    simp only [e, e']
  · rw [if_neg h₁, sub_zero, mul_zero, add_zero, dif_neg (show ¬l % 64 < 8 from h₁)]
    by_cases h₂ : l % 64 < 16
    · have e : ∀ h', (⟨l % 64 - 8, h'⟩ : Fin 8) = ⟨l % 8, by omega⟩ := fun _ => Fin.ext (by show l % 64 - 8 = l % 8; omega)
      rw [hb (by omega), if_pos h₂, if_pos ⟨by omega, h₂⟩, dif_pos (show l % 64 < 16 from h₂), zero_sub, mul_neg, neg_mul]
      simp only [e]
    · rw [if_neg h₂, if_neg (fun h => h₂ h.2), sub_zero, mul_zero, add_zero, mul_one, dif_neg (show ¬l % 64 < 16 from h₂)]

/-- The tables of a block of rows, and the copies of them in the kernel's lanes. -/
def IsTables {w : ℕ} (c u v : (⟨2, ![128, w]⟩ : Shape).Idx → EReal) (cf sf : Fin 128 → Fin 8 → EReal) : Prop :=
  (∀ i l, c (ix2 i l) = if l.val % 64 < 16 then cf i ⟨l.val % 8, by omega⟩ else 1) ∧
  (∀ i l, u (ix2 i l) = if l.val % 64 < 8 then -sf i ⟨l.val % 8, by omega⟩ else 0) ∧
  (∀ i l, v (ix2 i l) = if 8 ≤ l.val % 64 ∧ l.val % 64 < 16 then sf i ⟨l.val % 8, by omega⟩ else 0)

section Rot
variable {c u v : FVec Ideal S128x128 .f32} {cf sf : Fin 128 → Fin 8 → EReal} (hT : IsTables c u v cf sf)
include hT
/-- Two tiles of queries, rotated and put one under the other. -/
theorem rows_q (a b : FVec Ideal S128x128 .f32) (x : Fin 128 → Fin 4 → Fin 64 → EReal)
    (ha : ∀ i l : Fin 128, a (ix2 i l) = x i ⟨l.val / 64, by omega⟩ ⟨l.val % 64, by omega⟩)
    (hb : ∀ i l : Fin 128, b (ix2 i l) = x i ⟨2 + l.val / 64, by omega⟩ ⟨l.val % 64, by omega⟩) :
    IsRows (k0_pay20 c u v a b) (fun i g d => rot (x i g) (cf i) (sf i) d) := by
  intro r l
  pointwise [k0_pay20]
  have hr : ∀ (i : Fin 128) (g : Fin 4), i.val = r.val % 128 → g.val = 2 * (r.val / 128) + l.val / 64 →
      rot (x i g) (cf i) (sf i) ⟨l.val % 64, by omega⟩ = rot (x ⟨r.val % 128, by omega⟩ ⟨2 * (r.val / 128) + l.val / 64, by omega⟩)
        (cf ⟨r.val % 128, by omega⟩) (sf ⟨r.val % 128, by omega⟩) ⟨l.val % 64, by omega⟩ := fun i g hi hg => by
    rw [show i = ⟨r.val % 128, by omega⟩ from Fin.ext hi, show g = ⟨2 * (r.val / 128) + l.val / 64, by omega⟩ from Fin.ext hg]
  have ha' : ∀ (i j : Fin 128) (g : Fin 4) (d : Fin 64), g.val = j.val / 64 → d.val = j.val % 64 → a (ix2 i j) = x i g d := fun i j g d hg hd => by
    rw [ha, show g = ⟨j.val / 64, by omega⟩ from Fin.ext hg, show d = ⟨j.val % 64, by omega⟩ from Fin.ext hd]
  have hb' : ∀ (i j : Fin 128) (g : Fin 4) (d : Fin 64), g.val = 2 + j.val / 64 → d.val = j.val % 64 → b (ix2 i j) = x i g d := fun i j g d hg hd => by
    rw [hb, show g = ⟨2 + j.val / 64, by omega⟩ from Fin.ext hg, show d = ⟨j.val % 64, by omega⟩ from Fin.ext hd]
  by_cases q : r.val < 128
  · rw [dif_pos q]
    refine (rot_sum (x ⟨r.val, q⟩ ⟨l.val / 64, by omega⟩) (cf ⟨r.val, q⟩) (sf ⟨r.val, q⟩) l.val _ _ _ _ _ _ (ha' _ _ _ _ rfl rfl) (fun h => ha' _ _ _ _ ?_ ?_) (fun h => ha' _ _ _ _ ?_ ?_)
      (hT.1 _ l) (hT.2.1 _ l) (hT.2.2 _ l)).trans (hr _ _ ?_ ?_)
    · show l.val / 64 = (l.val + 128 - 120) % 128 / 64; omega
    · show l.val % 64 + 8 = (l.val + 128 - 120) % 128 % 64; omega
    · show l.val / 64 = (l.val + 128 - 8) % 128 / 64; omega
    · show l.val % 64 - 8 = (l.val + 128 - 8) % 128 % 64; omega
    · show r.val = r.val % 128; omega
    · show l.val / 64 = 2 * (r.val / 128) + l.val / 64; omega
  · rw [dif_neg q]
    refine (rot_sum (x ⟨r.val - 128, by omega⟩ ⟨2 + l.val / 64, by omega⟩) (cf ⟨r.val - 128, by omega⟩) (sf ⟨r.val - 128, by omega⟩) l.val _ _ _ _ _ _ (hb' _ _ _ _ rfl rfl) (fun h => hb' _ _ _ _ ?_ ?_) (fun h => hb' _ _ _ _ ?_ ?_)
      (hT.1 _ l) (hT.2.1 _ l) (hT.2.2 _ l)).trans (hr _ _ ?_ ?_)
    · show 2 + l.val / 64 = 2 + (l.val + 128 - 120) % 128 / 64; omega
    · show l.val % 64 + 8 = (l.val + 128 - 120) % 128 % 64; omega
    · show 2 + l.val / 64 = 2 + (l.val + 128 - 8) % 128 / 64; omega
    · show l.val % 64 - 8 = (l.val + 128 - 8) % 128 % 64; omega
    · show r.val - 128 = r.val % 128; omega
    · show 2 + l.val / 64 = 2 * (r.val / 128) + l.val / 64; omega
/-- The transposed rotation of the upper and of the lower tile. -/
theorem top_at (D : FVec Ideal S256x128 .f32) (i l : Fin 128) (y : Fin 64 → EReal) (m : Fin 2) (hl : l.val / 64 = m.val)
    (hD : ∀ d : Fin 64, D (ix2 ⟨i.val, by omega⟩ ⟨m.val * 64 + d.val, by omega⟩) = y d) : k0_pay156 c u v D (ix2 i l) = unrot y (cf i) (sf i) ⟨l.val % 64, by omega⟩ := by
  pointwise [k0_pay156]
  have hD' : ∀ (r : Fin 256) (j : Fin 128) (d : Fin 64), r.val = i.val → j.val = m.val * 64 + d.val → D (ix2 r j) = y d := fun r j d hr hj => by
    rw [← hD d]; exact congrArg₂ (fun p q => D (ix2 p q)) (Fin.ext hr) (Fin.ext hj)
  exact unrot_sum y (cf i) (sf i) l.val _ _ _ _ _ _ (hD' _ _ _ rfl (by show l.val = m.val * 64 + l.val % 64; omega))
    (fun h => hD' _ _ _ rfl (by show (l.val + 128 - 120) % 128 = m.val * 64 + (l.val % 64 + 8); omega))
    (fun h => hD' _ _ _ rfl (by show (l.val + 128 - 8) % 128 = m.val * 64 + (l.val % 64 - 8); omega)) (hT.1 i l) (hT.2.1 i l) (hT.2.2 i l)
theorem bottom_at (D : FVec Ideal S256x128 .f32) (i l : Fin 128) (y : Fin 64 → EReal) (m : Fin 2) (hl : l.val / 64 = m.val)
    (hD : ∀ d : Fin 64, D (ix2 ⟨128 + i.val, by omega⟩ ⟨m.val * 64 + d.val, by omega⟩) = y d) : k0_pay61 c u v D (ix2 i l) = unrot y (cf i) (sf i) ⟨l.val % 64, by omega⟩ := by
  pointwise [k0_pay61]
  have hD' : ∀ (r : Fin 256) (j : Fin 128) (d : Fin 64), r.val = 128 + i.val → j.val = m.val * 64 + d.val → D (ix2 r j) = y d := fun r j d hr hj => by
    rw [← hD d]; exact congrArg₂ (fun p q => D (ix2 p q)) (Fin.ext hr) (Fin.ext hj)
  exact unrot_sum y (cf i) (sf i) l.val _ _ _ _ _ _ (hD' _ _ _ rfl (by show l.val = m.val * 64 + l.val % 64; omega))
    (fun h => hD' _ _ _ rfl (by show (l.val + 128 - 120) % 128 = m.val * 64 + (l.val % 64 + 8); omega))
    (fun h => hD' _ _ _ rfl (by show (l.val + 128 - 8) % 128 = m.val * 64 + (l.val % 64 - 8); omega)) (hT.1 i l) (hT.2.1 i l) (hT.2.2 i l)
end Rot

/-- The keys of the two blocks, rotated and put one under the other. -/
theorem keys_at (a b c u v c' u' v' : FVec Ideal S128x256 .f32) {cf sf cf' sf' : Fin 128 → Fin 8 → EReal} (hT : IsTables c u v cf sf) (hT' : IsTables c' u' v' cf' sf')
    (h : Fin 4) (k : Fin 256) (d : Fin 64) : lanes (k0_pay6 (k0_pay3 a c u v) b (k0_pay4 c') (k0_pay5 u') v') h k d
      = if q : k.val < 128 then rot (fun d => a (ix2 ⟨k.val, q⟩ ⟨h.val * 64 + d.val, by omega⟩)) (cf ⟨k.val, q⟩) (sf ⟨k.val, q⟩) d
        else rot (fun d => b (ix2 ⟨k.val - 128, by omega⟩ ⟨h.val * 64 + d.val, by omega⟩)) (cf' ⟨k.val - 128, by omega⟩) (sf' ⟨k.val - 128, by omega⟩) d := by
  pointwise [lanes, k0_pay6, k0_pay3, k0_pay4, k0_pay5]
  have hd : ∀ (x : Fin 64 → EReal) (c s : Fin 8 → EReal), rot x c s ⟨(h.val * 64 + d.val) % 64, by omega⟩ = rot x c s d := fun x c s =>
    congrArg (rot x c s) (Fin.ext (by show (h.val * 64 + d.val) % 64 = d.val; omega))
  split
  · next q =>
    refine (rot_sum (fun d => a (ix2 ⟨k.val, q⟩ ⟨h.val * 64 + d.val, by omega⟩)) (cf ⟨k.val, q⟩) (sf ⟨k.val, q⟩) (h.val * 64 + d.val) _ _ _ _ _ _ (congrArg (fun j => a (ix2 _ j)) (Fin.ext ?_))
      (fun e => congrArg (fun j => a (ix2 _ j)) (Fin.ext ?_)) (fun e => congrArg (fun j => a (ix2 _ j)) (Fin.ext ?_)) (hT.1 _ _) (hT.2.1 _ _) (hT.2.2 _ _)).trans (hd _ _ _)
    · show h.val * 64 + d.val = h.val * 64 + (h.val * 64 + d.val) % 64; omega
    · show (h.val * 64 + d.val + 256 - 248) % 256 = h.val * 64 + ((h.val * 64 + d.val) % 64 + 8); omega
    · show (h.val * 64 + d.val + 256 - 8) % 256 = h.val * 64 + ((h.val * 64 + d.val) % 64 - 8); omega
  · next q =>
    refine (rot_sum (fun d => b (ix2 ⟨k.val - 128, by omega⟩ ⟨h.val * 64 + d.val, by omega⟩)) (cf' ⟨k.val - 128, by omega⟩) (sf' ⟨k.val - 128, by omega⟩) (h.val * 64 + d.val) _ _ _ _ _ _ (congrArg (fun j => b (ix2 _ j)) (Fin.ext ?_))
      (fun e => congrArg (fun j => b (ix2 _ j)) (Fin.ext ?_)) (fun e => congrArg (fun j => b (ix2 _ j)) (Fin.ext ?_)) (hT'.1 _ _) (hT'.2.1 _ _) (hT'.2.2 _ _)).trans (hd _ _ _)
    · show h.val * 64 + d.val = h.val * 64 + (h.val * 64 + d.val) % 64; omega
    · show (h.val * 64 + d.val + 256 - 248) % 256 = h.val * 64 + ((h.val * 64 + d.val) % 64 + 8); omega
    · show (h.val * 64 + d.val + 256 - 8) % 256 = h.val * 64 + ((h.val * 64 + d.val) % 64 - 8); omega
theorem values_at (a b : FVec Ideal S128x256 .f32) (h : Fin 4) (k : Fin 256) (d : Fin 64) : lanes (k0_pay7 a b) h k d
    = if q : k.val < 128 then a (ix2 ⟨k.val, q⟩ ⟨h.val * 64 + d.val, by omega⟩) else b (ix2 ⟨k.val - 128, by omega⟩ ⟨h.val * 64 + d.val, by omega⟩) := by
  pointwise [lanes, k0_pay7]

/-! ## A tile of two heads' gradients -/

/-- The two halves' parts of a head's gradient, added. -/
def HalfSum (A B : FVec Ideal S256x128 .f32) (g : Fin 256 → Fin 64 → EReal) : Prop :=
  ∀ k (d : Fin 64), A (ix2 k ⟨d.val, by omega⟩) + B (ix2 k ⟨64 + d.val, by omega⟩) = g k d

theorem pair_sum {A B C D : FVec Ideal S256x128 .f32} {g g' : Fin 256 → Fin 64 → EReal} (h : HalfSum A B g) (h' : HalfSum C D g') (k : Fin 256) (l : Fin 128)
    (e e' : Fin 128) (he : l.val < 64 → e.val = 64 + l.val) (he' : 64 ≤ l.val → e'.val = l.val - 64) :
    Scalar.select (IntOp.cmpi .slt (BitVec.ofNat 32 l.val) 64#32) (A (ix2 k l) + B (ix2 k e)) 0
      + Scalar.select (IntOp.cmpi .sge (BitVec.ofNat 32 l.val) 64#32) (D (ix2 k l) + C (ix2 k e')) 0
      = if l.val / 64 = 0 then g k ⟨l.val % 64, by omega⟩ else g' k ⟨l.val % 64, by omega⟩ := by
  rw [sel_lt _ (by omega), sel_ge _ (by omega)]
  by_cases q : l.val < 64
  · rw [if_pos q, if_neg (by omega), if_pos (by omega), add_zero, ← h k]
    refine congrArg₂ (· + ·) (congrArg (fun j => A (ix2 k j)) (Fin.ext ?_)) (congrArg (fun j => B (ix2 k j)) (Fin.ext ?_))
    · show l.val = l.val % 64; omega
    · show e.val = 64 + l.val % 64; rw [he q]; omega
  · rw [if_neg q, if_pos (by omega), if_neg (by omega), zero_add, ← h' k, add_comm]
    refine congrArg₂ (· + ·) (congrArg (fun j => C (ix2 k j)) (Fin.ext ?_)) (congrArg (fun j => D (ix2 k j)) (Fin.ext ?_))
    · show e'.val = l.val % 64; rw [he' (by omega)]; omega
    · show l.val = 64 + l.val % 64; omega
theorem kpair_at {A B C D : FVec Ideal S256x128 .f32} {g g' : Fin 256 → Fin 64 → EReal} (h : HalfSum A B g) (h' : HalfSum C D g') (k : Fin 256) (l : Fin 128) :
    k0_pay106 (k0_pay62 A B) C D (ix2 k l) = if l.val / 64 = 0 then g k ⟨l.val % 64, by omega⟩ else g' k ⟨l.val % 64, by omega⟩ := by
  pointwise [k0_pay106, k0_pay62]
  exact pair_sum h h' k l _ _ (fun q => by show (l.val + 128 - 64) % 128 = 64 + l.val; omega) (fun q => by show (l.val + 128 - 64) % 128 = l.val - 64; omega)
theorem vpair_at {A B C D : FVec Ideal S256x128 .f32} {g g' : Fin 256 → Fin 64 → EReal} (h : HalfSum A B g) (h' : HalfSum C D g') (k : Fin 256) (l : Fin 128) :
    k0_pay108 (k0_pay63 A B) (k0_pay107 C D) (ix2 k l) = if l.val / 64 = 0 then g k ⟨l.val % 64, by omega⟩ else g' k ⟨l.val % 64, by omega⟩ := by
  pointwise [k0_pay108, k0_pay63, k0_pay107]
  exact pair_sum h h' k l _ _ (fun q => by show (l.val + 128 - 64) % 128 = 64 + l.val; omega) (fun q => by show (l.val + 128 - 64) % 128 = l.val - 64; omega)

section Heads
variable {M : IVec S256x256 1} {K K' V V' Q O : FVec Ideal S256x128 .bf16} {z z' : FVec Ideal S1x256 .f32}
  {kf vf : Fin 256 → Fin 64 → EReal} {qf wf : Fin 128 → Fin 4 → Fin 64 → EReal} {zf : Fin 4 → EReal} {see : Fin 128 → Fin 256 → Prop} [∀ i k, Decidable (see i k)]
  (hM : IsMask M see) (hK : IsHalf 0 K kf) (hK' : IsHalf 1 K' kf) (hV : IsHalf 0 V vf) (hV' : IsHalf 1 V' vf) (hQ : IsRows Q qf) (hO : IsRows O wf)
  (hz : IsSink 0 z zf) (hz' : IsSink 1 z' zf)

include hM hK hK' hV hV' hQ hO hz hz' in
/-- A head's queries' gradient before its rotation. -/
theorem dq_sum (r : Fin 256) (l : Fin 128) : k0_pay32 M K V Q O z (ix2 r l) + k0_pay32 M K' V' Q O z' (ix2 r l)
    = ∑ k, ds (scoreB see kf qf ⟨r.val % 128, by omega⟩ ⟨2 * (r.val / 128) + l.val / 64, by omega⟩) (zf ⟨2 * (r.val / 128) + l.val / 64, by omega⟩)
        (probB vf wf ⟨r.val % 128, by omega⟩ ⟨2 * (r.val / 128) + l.val / 64, by omega⟩) k * kf k ⟨l.val % 64, by omega⟩ := by
  rw [dq_half hM hK hV hQ hO hz, dq_half hM hK' hV' hQ hO hz']
  by_cases h : l.val / 64 = 0
  · rw [if_pos (show l.val / 64 = (0 : Fin 2).val from h), if_neg (show ¬l.val / 64 = (1 : Fin 2).val from fun e => by have : l.val / 64 = 1 := e; omega), add_zero]
  · rw [if_neg (show ¬l.val / 64 = (0 : Fin 2).val from h), if_pos (show l.val / 64 = (1 : Fin 2).val from (by omega : l.val / 64 = 1)), zero_add]
include hM hK hK' hV hV' hQ hO hz hz' in
theorem dk_sum : HalfSum (k0_pay33 M K V Q O z) (k0_pay33 M K' V' Q O z')
    (fun k d => ∑ i, ∑ g, ds (scoreB see kf qf i g) (zf g) (probB vf wf i g) k * qf i g d) := by
  intro k d
  rw [dk_half hM hK hV hQ hO hz _ _ (by show d.val / 64 = 0; omega), dk_half hM hK' hV' hQ hO hz' _ _ (by show (64 + d.val) / 64 = 1; omega)]
  have e : ∀ h', (⟨d.val % 64, h'⟩ : Fin 64) = d := fun _ => Fin.ext (by show d.val % 64 = d.val; omega)
  have e' : ∀ h', (⟨(64 + d.val) % 64, h'⟩ : Fin 64) = d := fun _ => Fin.ext (by show (64 + d.val) % 64 = d.val; omega)
  simp only [e, e']
  exact sum_rows (fun i g => ds (scoreB see kf qf i g) (zf g) (probB vf wf i g) k * qf i g d)
include hM hK hK' hQ hO hz hz' in
theorem dv_sum : HalfSum (k0_pay34 M K Q O z) (k0_pay34 M K' Q O z')
    (fun k d => ∑ i, ∑ g, prob (scoreB see kf qf i g) (zf g) k * wf i g d) := by
  intro k d
  rw [dv_half hM hK hQ hO hz _ _ (by show d.val / 64 = 0; omega), dv_half hM hK' hQ hO hz' _ _ (by show (64 + d.val) / 64 = 1; omega)]
  have e : ∀ h', (⟨d.val % 64, h'⟩ : Fin 64) = d := fun _ => Fin.ext (by show d.val % 64 = d.val; omega)
  have e' : ∀ h', (⟨(64 + d.val) % 64, h'⟩ : Fin 64) = d := fun _ => Fin.ext (by show (64 + d.val) % 64 = d.val; omega)
  simp only [e, e']
  exact sum_rows (fun i g => prob (scoreB see kf qf i g) (zf g) k * wf i g d)

/-- A head's gradients in one block: the queries' before their rotation, the keys', the values' and the sinks'. -/
def dqB (see : Fin 128 → Fin 256 → Prop) [∀ i k, Decidable (see i k)] (kf vf : Fin 256 → Fin 64 → EReal) (qf wf : Fin 128 → Fin 4 → Fin 64 → EReal) (zf : Fin 4 → EReal)
    (i : Fin 128) (g : Fin 4) (d : Fin 64) : EReal := ∑ k, ds (scoreB see kf qf i g) (zf g) (probB vf wf i g) k * kf k d
def dkB (see : Fin 128 → Fin 256 → Prop) [∀ i k, Decidable (see i k)] (kf vf : Fin 256 → Fin 64 → EReal) (qf wf : Fin 128 → Fin 4 → Fin 64 → EReal) (zf : Fin 4 → EReal)
    (k : Fin 256) (d : Fin 64) : EReal := ∑ i, ∑ g, ds (scoreB see kf qf i g) (zf g) (probB vf wf i g) k * qf i g d
def dvB (see : Fin 128 → Fin 256 → Prop) [∀ i k, Decidable (see i k)] (kf : Fin 256 → Fin 64 → EReal) (qf wf : Fin 128 → Fin 4 → Fin 64 → EReal) (zf : Fin 4 → EReal)
    (k : Fin 256) (d : Fin 64) : EReal := ∑ i, ∑ g, prob (scoreB see kf qf i g) (zf g) k * wf i g d
def dzB (see : Fin 128 → Fin 256 → Prop) [∀ i k, Decidable (see i k)] (kf vf : Fin 256 → Fin 64 → EReal) (qf wf : Fin 128 → Fin 4 → Fin 64 → EReal) (zf : Fin 4 → EReal)
    (i : Fin 128) (g : Fin 4) : EReal := dz (scoreB see kf qf i g) (zf g) (probB vf wf i g)

variable {c u v : FVec Ideal S128x128 .f32} {cf sf : Fin 128 → Fin 8 → EReal} (hT : IsTables c u v cf sf)
include hM hK hK' hV hV' hQ hO hz hz' hT in
theorem tile_upper (i l : Fin 128) : k0_pay156 c u v (addf (k0_pay32 M K V Q O z) (k0_pay32 M K' V' Q O z')) (ix2 i l)
    = unrot (dqB see kf vf qf wf zf i ⟨l.val / 64, by omega⟩) (cf i) (sf i) ⟨l.val % 64, by omega⟩ := by
  refine top_at hT _ i l _ ⟨l.val / 64, by omega⟩ rfl fun d => (dq_sum hM hK hK' hV hV' hQ hO hz hz' _ _).trans ?_
  have e₁ : ∀ h', (⟨i.val % 128, h'⟩ : Fin 128) = i := fun _ => Fin.ext (by show i.val % 128 = i.val; omega)
  have e₂ : ∀ h', (⟨2 * (i.val / 128) + (l.val / 64 * 64 + d.val) / 64, h'⟩ : Fin 4) = ⟨l.val / 64, by omega⟩ := fun _ => Fin.ext (by show 2 * (i.val / 128) + (l.val / 64 * 64 + d.val) / 64 = l.val / 64; omega)
  have e₃ : ∀ h', (⟨(l.val / 64 * 64 + d.val) % 64, h'⟩ : Fin 64) = d := fun _ => Fin.ext (by show (l.val / 64 * 64 + d.val) % 64 = d.val; omega)
  simp only [e₁, e₂, e₃]
  rfl
include hM hK hK' hV hV' hQ hO hz hz' hT in
theorem tile_lower (i l : Fin 128) : k0_pay61 c u v (addf (k0_pay32 M K V Q O z) (k0_pay32 M K' V' Q O z')) (ix2 i l)
    = unrot (dqB see kf vf qf wf zf i ⟨2 + l.val / 64, by omega⟩) (cf i) (sf i) ⟨l.val % 64, by omega⟩ := by
  refine bottom_at hT _ i l _ ⟨l.val / 64, by omega⟩ rfl fun d => (dq_sum hM hK hK' hV hV' hQ hO hz hz' _ _).trans ?_
  have e₁ : ∀ h', (⟨(128 + i.val) % 128, h'⟩ : Fin 128) = i := fun _ => Fin.ext (by show (128 + i.val) % 128 = i.val; omega)
  have e₂ : ∀ h', (⟨2 * ((128 + i.val) / 128) + (l.val / 64 * 64 + d.val) / 64, h'⟩ : Fin 4) = ⟨2 + l.val / 64, by omega⟩ := fun _ => Fin.ext (by show 2 * ((128 + i.val) / 128) + (l.val / 64 * 64 + d.val) / 64 = 2 + l.val / 64; omega)
  have e₃ : ∀ h', (⟨(l.val / 64 * 64 + d.val) % 64, h'⟩ : Fin 64) = d := fun _ => Fin.ext (by show (l.val / 64 * 64 + d.val) % 64 = d.val; omega)
  simp only [e₁, e₂, e₃]
  rfl
end Heads

theorem tables_cast {c u v : FVec Ideal S128x128 .f32} {cf sf : Fin 128 → Fin 8 → EReal} (hT : IsTables c u v cf sf) : IsTables (w := 128) (k0_pay10 (F := Ideal) c) (k0_pay11 (F := Ideal) u) (k0_pay12 (F := Ideal) v) cf sf := by
  refine ⟨fun i l => ?_, fun i l => ?_, fun i l => ?_⟩
  · pointwise [k0_pay10]; exact hT.1 i l
  · pointwise [k0_pay11]; exact hT.2.1 i l
  · pointwise [k0_pay12]; exact hT.2.2 i l

/-! ## The sinks' gradients, a lane at a time -/

theorem cmp_lane (n c : ℕ) (hn : n < 4096) (hc : c < 4096) (x : EReal) :
    Scalar.select (IntOp.cmpi .eq (BitVec.ofNat 32 n) (BitVec.ofNat 32 c)) x 0 = if n = c then x else 0 := by
  have e : IntOp.cmpi .eq (BitVec.ofNat 32 n) (BitVec.ofNat 32 c) = if n = c then 1#1 else 0#1 := by
    have : (BitVec.ofNat 32 n == BitVec.ofNat 32 c) = decide (n = c) := by
      rw [Bool.eq_iff_iff, beq_iff_eq, decide_eq_true_iff]
      exact ⟨fun h => by have := congrArg BitVec.toNat h; rw [BitVec.toNat_ofNat, BitVec.toNat_ofNat] at this; omega, fun h => by rw [h]⟩
    simp only [IntOp.cmpi, this]
    split <;> rename_i h <;> simp [h]
  rw [e]; split <;> rfl
/-- The part of one sink's gradient that lands in its lane. -/
def atLane (l : Fin 128) (c : ℕ) (D : Fin 128 → EReal) : EReal := if l.val = c then 0 - ∑ x, D x else 0
theorem step_0a (a : FVec Ideal S1x128 .f32) (M K V Q O z) (l : Fin 128) {A : EReal} {D : Fin 256 → EReal} (hA : a (ix2 0 l) = A) (hD : ∀ j, (k0_pay35 M K V Q O z) (ix2 0 j) = D j) :
    k0_pay38 (iota Kind.tc S1x128 32 [1] iota_S1x128_d1_w32) a (k0_pay35 M K V Q O z) (k0_pay36 (iota Kind.tc S1x128 32 [1] iota_S1x128_d1_w32)) (FloatOps.ofBits FTy.f32 0#32) (k0_pay37 M K V Q O z) (ix2 0 l) = A + atLane l 0 (fun x => D ⟨x.val, by omega⟩) + atLane l 2 (fun x => D ⟨128 + x.val, by omega⟩) := by
  subst hA
  obtain rfl := funext hD
  pointwise [k0_pay38, k0_pay37, k0_pay36]
  unfold atLane
  rw [← cmp_lane l.val 0 (by omega) (by omega), ← cmp_lane l.val 2 (by omega) (by omega)]
theorem step_0b (a : FVec Ideal S1x128 .f32) (d e) (l : Fin 128) {A : EReal} {D : Fin 256 → EReal} (hA : a (ix2 0 l) = A) (hD : ∀ j, (mulf d (k0_pay49 e)) (ix2 0 j) = D j) :
    k0_pay54 (iota Kind.tc S1x128 32 [1] iota_S1x128_d1_w32) a d e (ix2 0 l) = A + atLane l 1 (fun x => D ⟨x.val, by omega⟩) + atLane l 3 (fun x => D ⟨128 + x.val, by omega⟩) := by
  subst hA
  obtain rfl := funext hD
  pointwise [k0_pay54]
  unfold atLane
  rw [← cmp_lane l.val 1 (by omega) (by omega), ← cmp_lane l.val 3 (by omega) (by omega)]
theorem step_1a (a : FVec Ideal S1x128 .f32) (M K V Q O z z') (l : Fin 128) {A : EReal} {D : Fin 256 → EReal} (hA : a (ix2 0 l) = A) (hD : ∀ j, (k0_pay85 M K V Q O z z') (ix2 0 j) = D j) :
    k0_pay87 (iota Kind.tc S1x128 32 [1] iota_S1x128_d1_w32) a (k0_pay85 M K V Q O z z') (k0_pay86 M K V Q O z z') (FloatOps.ofBits FTy.f32 0#32) (ix2 0 l) = A + atLane l 4 (fun x => D ⟨x.val, by omega⟩) + atLane l 6 (fun x => D ⟨128 + x.val, by omega⟩) := by
  subst hA
  obtain rfl := funext hD
  pointwise [k0_pay87, k0_pay86]
  unfold atLane
  rw [← cmp_lane l.val 4 (by omega) (by omega), ← cmp_lane l.val 6 (by omega) (by omega)]
theorem step_1b (a : FVec Ideal S1x128 .f32) (v o p q r) (l : Fin 128) {A : EReal} {D : Fin 256 → EReal} (hA : a (ix2 0 l) = A) (hD : ∀ j, (mulf (mulf q r) (k0_pay96 v o p r)) (ix2 0 j) = D j) :
    k0_pay101 (iota Kind.tc S1x128 32 [1] iota_S1x128_d1_w32) v o a p q r (ix2 0 l) = A + atLane l 5 (fun x => D ⟨x.val, by omega⟩) + atLane l 7 (fun x => D ⟨128 + x.val, by omega⟩) := by
  subst hA
  obtain rfl := funext hD
  pointwise [k0_pay101]
  unfold atLane
  rw [← cmp_lane l.val 5 (by omega) (by omega), ← cmp_lane l.val 7 (by omega) (by omega)]
theorem step_2a (a : FVec Ideal S1x128 .f32) (p q) (l : Fin 128) {A : EReal} {D : Fin 256 → EReal} (hA : a (ix2 0 l) = A) (hD : ∀ j, (mulf p q) (ix2 0 j) = D j) :
    k0_pay137 (iota Kind.tc S1x128 32 [1] iota_S1x128_d1_w32) a p q (ix2 0 l) = A + atLane l 8 (fun x => D ⟨x.val, by omega⟩) + atLane l 10 (fun x => D ⟨128 + x.val, by omega⟩) := by
  subst hA
  obtain rfl := funext hD
  pointwise [k0_pay137]
  unfold atLane
  rw [← cmp_lane l.val 8 (by omega) (by omega), ← cmp_lane l.val 10 (by omega) (by omega)]
theorem step_2b (a : FVec Ideal S1x128 .f32) (v o p q r) (l : Fin 128) {A : EReal} {D : Fin 256 → EReal} (hA : a (ix2 0 l) = A) (hD : ∀ j, (k0_pay151 v o p q r) (ix2 0 j) = D j) :
    k0_pay155 (k0_pay152 (iota Kind.tc S1x128 32 [1] iota_S1x128_d1_w32) v o a p q r) (k0_pay153 v o p q r) (k0_pay154 (iota Kind.tc S1x128 32 [1] iota_S1x128_d1_w32)) (ix2 0 l) = A + atLane l 9 (fun x => D ⟨x.val, by omega⟩) + atLane l 11 (fun x => D ⟨128 + x.val, by omega⟩) := by
  subst hA
  obtain rfl := funext hD
  pointwise [k0_pay155, k0_pay152, k0_pay153, k0_pay154]
  unfold atLane
  rw [← cmp_lane l.val 9 (by omega) (by omega), ← cmp_lane l.val 11 (by omega) (by omega)]
theorem step_3a (a : FVec Ideal S1x128 .f32) (p q) (l : Fin 128) {A : EReal} {D : Fin 256 → EReal} (hA : a (ix2 0 l) = A) (hD : ∀ j, (mulf p q) (ix2 0 j) = D j) :
    k0_pay188 (iota Kind.tc S1x128 32 [1] iota_S1x128_d1_w32) a p q (ix2 0 l) = A + atLane l 12 (fun x => D ⟨x.val, by omega⟩) + atLane l 14 (fun x => D ⟨128 + x.val, by omega⟩) := by
  subst hA
  obtain rfl := funext hD
  pointwise [k0_pay188]
  unfold atLane
  rw [← cmp_lane l.val 12 (by omega) (by omega), ← cmp_lane l.val 14 (by omega) (by omega)]
theorem step_3b (a : FVec Ideal S1x128 .f32) (v o p q) (l : Fin 128) {A : EReal} {D : Fin 256 → EReal} (hA : a (ix2 0 l) = A) (hD : ∀ j, (k0_pay202 v o p q) (ix2 0 j) = D j) :
    k0_pay205 (iota Kind.tc S1x128 32 [1] iota_S1x128_d1_w32) (k0_pay203 (iota Kind.tc S1x128 32 [1] iota_S1x128_d1_w32) v o a p q) (k0_pay204 v o p q) (ix2 0 l) = A + atLane l 13 (fun x => D ⟨x.val, by omega⟩) + atLane l 15 (fun x => D ⟨128 + x.val, by omega⟩) := by
  subst hA
  obtain rfl := funext hD
  pointwise [k0_pay205, k0_pay203, k0_pay204]
  unfold atLane
  rw [← cmp_lane l.val 13 (by omega) (by omega), ← cmp_lane l.val 15 (by omega) (by omega)]
/-- The sixteen lanes that carry a sink's gradient. -/
theorem lanes_total (S : Fin 16 → Fin 128 → EReal) (l : Fin 128) (z : EReal) (hz : z = 0) :
    z + atLane l 0 (S 0) + atLane l 2 (S 2) + atLane l 1 (S 1) + atLane l 3 (S 3) + atLane l 4 (S 4) + atLane l 6 (S 6) + atLane l 5 (S 5) + atLane l 7 (S 7)
      + atLane l 8 (S 8) + atLane l 10 (S 10) + atLane l 9 (S 9) + atLane l 11 (S 11) + atLane l 12 (S 12) + atLane l 14 (S 14) + atLane l 13 (S 13) + atLane l 15 (S 15)
      = if h : l.val < 16 then 0 - ∑ x, S ⟨l.val, h⟩ x else 0 := by
  subst hz
  unfold atLane
  obtain ⟨l, hl⟩ := l
  by_cases h : l < 16
  · rw [dif_pos h]
    interval_cases l <;> simp only [reduceIte, Nat.reduceEqDiff, OfNat.ofNat_ne_zero, OfNat.zero_ne_ofNat, zero_ne_one, one_ne_zero, OfNat.ofNat_ne_one, OfNat.one_ne_ofNat, zero_add, add_zero] <;> rfl
  · rw [dif_neg h]
    rw [if_neg (show ¬l = 0 by omega), if_neg (show ¬l = 2 by omega), if_neg (show ¬l = 1 by omega), if_neg (show ¬l = 3 by omega), if_neg (show ¬l = 4 by omega), if_neg (show ¬l = 6 by omega), if_neg (show ¬l = 5 by omega), if_neg (show ¬l = 7 by omega),
      if_neg (show ¬l = 8 by omega), if_neg (show ¬l = 10 by omega), if_neg (show ¬l = 9 by omega), if_neg (show ¬l = 11 by omega), if_neg (show ¬l = 12 by omega), if_neg (show ¬l = 14 by omega), if_neg (show ¬l = 13 by omega), if_neg (show ¬l = 15 by omega)]
    simp only [add_zero]

end Cert.AttnIdeal.Value

end
-- ==== Proof.Attn.Value.lean ====
/-
  The attention's backward kernel: what one grid point leaves in its six output blocks.
-/
module

public import proofs.«01_k».proof.Proof.Attn.Block

@[expose] public section

set_option maxRecDepth 16384

noncomputable section

namespace Cert.AttnIdeal.Value

open Cert.AttnIdeal Cert.AttnIdeal.Gen Idealize.ShloMosaic Idealize.ShloMosaic.TcCoe Idealize.SL.Sem
open Idealize.ShloMosaic.Pipeline (Dat)
open Cert.AttnRow
open Cert.AttnRefIdeal.Meaning (rot unrot seen)

/-- The rotated queries of the head group `h`, and its sinks. -/
abbrev queriesB (x : Fin 128 → Fin 16 → Fin 64 → EReal) (cf sf : Fin 128 → Fin 8 → EReal) (h : Fin 4) (i : Fin 128) (g : Fin 4) (d : Fin 64) : EReal :=
  rot (x i ⟨h.val * 4 + g.val, by omega⟩) (cf i) (sf i) d
abbrev sinksB (s : Fin 16 → EReal) (h g : Fin 4) : EReal := s ⟨h.val * 4 + g.val, by omega⟩

/-- What the body's loads of one grid point are, in terms of the block's queries `x`, sinks `s` and rotation tables. -/
structure Loads (n : Fin 16) (x : Fin 128 → Fin 16 → Fin 64 → EReal) (s : Fin 16 → EReal) (cf sf : Fin 128 → Fin 8 → EReal)
    (M : IVec S256x256 1) (K V : FVec Ideal S256x256 .f32) (K00 K01 V00 V01 : FVec Ideal S256x128 .bf16) (C6 C7 C8 Q0 Q1 Q2 Q3 Q4 Q5 Q6 Q7 : FVec Ideal S128x128 .f32)
    (Z0 Z1 Z2 Z3 Z4 Z5 Z6 Z7 Z8 Z9 Z10 Z11 Z12 Z13 Z14 Z15 : EReal) : Prop where
  mask : IsMask M (seen n)
  k0 : IsHalf 0 K00 (lanes K 0)
  k1 : IsHalf 1 K01 (lanes K 0)
  v0 : IsHalf 0 V00 (lanes V 0)
  v1 : IsHalf 1 V01 (lanes V 0)
  tables : IsTables (w := 128) C6 C7 C8 cf sf
  q0 : IsRows (k0_pay20 C6 C7 C8 Q0 Q1) (queriesB x cf sf 0)
  q1 : IsRows (k0_pay20 C6 C7 C8 Q2 Q3) (queriesB x cf sf 1)
  q2 : IsRows (k0_pay20 C6 C7 C8 Q4 Q5) (queriesB x cf sf 2)
  q3 : IsRows (k0_pay20 C6 C7 C8 Q6 Q7) (queriesB x cf sf 3)
  z00 : IsSink 0 (k0_pay22 (F := Ideal) Z0 Z2) (sinksB s 0)
  z01 : IsSink 1 (k0_pay22 (F := Ideal) Z1 Z3) (sinksB s 0)
  z10 : IsSink 0 (k0_pay22 (F := Ideal) Z4 Z6) (sinksB s 1)
  z11 : IsSink 1 (k0_pay22 (F := Ideal) Z5 Z7) (sinksB s 1)
  z20 : IsSink 0 (k0_pay22 (F := Ideal) Z8 Z10) (sinksB s 2)
  z21 : IsSink 1 (k0_pay22 (F := Ideal) Z9 Z11) (sinksB s 2)
  z30 : IsSink 0 (k0_pay22 (F := Ideal) Z12 Z14) (sinksB s 3)
  z31 : IsSink 1 (k0_pay22 (F := Ideal) Z13 Z15) (sinksB s 3)

section Body
variable {n : Fin 16} {x : Fin 128 → Fin 16 → Fin 64 → EReal} {s : Fin 16 → EReal} {cf sf : Fin 128 → Fin 8 → EReal}
    {M : IVec S256x256 1} {K V : FVec Ideal S256x256 .f32} {K00 K01 V00 V01 : FVec Ideal S256x128 .bf16} {C6 C7 C8 Q0 Q1 Q2 Q3 Q4 Q5 Q6 Q7 : FVec Ideal S128x128 .f32}
    {Z0 Z1 Z2 Z3 Z4 Z5 Z6 Z7 Z8 Z9 Z10 Z11 Z12 Z13 Z14 Z15 : EReal} (H : Loads n x s cf sf M K V K00 K01 V00 V01 C6 C7 C8 Q0 Q1 Q2 Q3 Q4 Q5 Q6 Q7 Z0 Z1 Z2 Z3 Z4 Z5 Z6 Z7 Z8 Z9 Z10 Z11 Z12 Z13 Z14 Z15) (W : FVec Ideal S128x1024 .bf16)
include H

theorem dk_0 : HalfSum (k0_pay33 M K00 V00 (k0_pay20 C6 C7 C8 Q0 Q1) (k0_pay21 W) (k0_pay22 Z0 Z2)) (k0_pay33 M K01 V01 (k0_pay20 C6 C7 C8 Q0 Q1) (k0_pay21 W) (k0_pay22 Z1 Z3)) (dkB (seen n) (lanes K 0) (lanes V 0) (queriesB x cf sf 0) (rowsW W 0) (sinksB s 0)) :=
  dk_sum H.mask H.k0 H.k1 H.v0 H.v1 H.q0 (rowsW0 W) H.z00 H.z01
theorem dv_0 : HalfSum (k0_pay34 M K00 (k0_pay20 C6 C7 C8 Q0 Q1) (k0_pay21 W) (k0_pay22 Z0 Z2)) (k0_pay34 M K01 (k0_pay20 C6 C7 C8 Q0 Q1) (k0_pay21 W) (k0_pay22 Z1 Z3)) (dvB (seen n) (lanes K 0) (queriesB x cf sf 0) (rowsW W 0) (sinksB s 0)) :=
  dv_sum H.mask H.k0 H.k1 H.q0 (rowsW0 W) H.z00 H.z01
theorem dz_00 (r : Fin 256) : k0_pay35 M K00 V00 (k0_pay20 C6 C7 C8 Q0 Q1) (k0_pay21 W) (k0_pay22 Z0 Z2) (ix2 0 r)
    = dzB (seen n) (lanes K 0) (lanes V 0) (queriesB x cf sf 0) (rowsW W 0) (sinksB s 0) ⟨r.val % 128, by omega⟩ ⟨2 * (r.val / 128) + 0, by omega⟩ := dz_half H.mask H.k0 H.v0 H.q0 (rowsW0 W) H.z00 r
theorem dz_01 (r : Fin 256) : k0_pay35 M K01 V01 (k0_pay20 C6 C7 C8 Q0 Q1) (k0_pay21 W) (k0_pay22 Z1 Z3) (ix2 0 r)
    = dzB (seen n) (lanes K 0) (lanes V 0) (queriesB x cf sf 0) (rowsW W 0) (sinksB s 0) ⟨r.val % 128, by omega⟩ ⟨2 * (r.val / 128) + 1, by omega⟩ := dz_half H.mask H.k1 H.v1 H.q0 (rowsW0 W) H.z01 r
theorem dk_1 : HalfSum (k0_pay33 M (k0_pay65 (k0_pay64 K)) (k0_pay68 V) (k0_pay20 C6 C7 C8 Q2 Q3) (k0_pay71 W) (k0_pay22 Z4 Z6)) (k0_pay33 M (k0_pay66 (k0_pay64 K)) (k0_pay69 V) (k0_pay20 C6 C7 C8 Q2 Q3) (k0_pay71 W) (k0_pay22 Z5 Z7)) (dkB (seen n) (lanes K 1) (lanes V 1) (queriesB x cf sf 1) (rowsW W 1) (sinksB s 1)) :=
  dk_sum H.mask (halfK10 K) (halfK11 K) (halfV10 V) (halfV11 V) H.q1 (rowsW1 W) H.z10 H.z11
theorem dv_1 : HalfSum (k0_pay34 M (k0_pay65 (k0_pay64 K)) (k0_pay20 C6 C7 C8 Q2 Q3) (k0_pay71 W) (k0_pay22 Z4 Z6)) (k0_pay34 M (k0_pay66 (k0_pay64 K)) (k0_pay20 C6 C7 C8 Q2 Q3) (k0_pay71 W) (k0_pay22 Z5 Z7)) (dvB (seen n) (lanes K 1) (queriesB x cf sf 1) (rowsW W 1) (sinksB s 1)) :=
  dv_sum H.mask (halfK10 K) (halfK11 K) H.q1 (rowsW1 W) H.z10 H.z11
theorem dz_10 (r : Fin 256) : k0_pay35 M (k0_pay65 (k0_pay64 K)) (k0_pay68 V) (k0_pay20 C6 C7 C8 Q2 Q3) (k0_pay71 W) (k0_pay22 Z4 Z6) (ix2 0 r)
    = dzB (seen n) (lanes K 1) (lanes V 1) (queriesB x cf sf 1) (rowsW W 1) (sinksB s 1) ⟨r.val % 128, by omega⟩ ⟨2 * (r.val / 128) + 0, by omega⟩ := dz_half H.mask (halfK10 K) (halfV10 V) H.q1 (rowsW1 W) H.z10 r
theorem dz_11 (r : Fin 256) : k0_pay35 M (k0_pay66 (k0_pay64 K)) (k0_pay69 V) (k0_pay20 C6 C7 C8 Q2 Q3) (k0_pay71 W) (k0_pay22 Z5 Z7) (ix2 0 r)
    = dzB (seen n) (lanes K 1) (lanes V 1) (queriesB x cf sf 1) (rowsW W 1) (sinksB s 1) ⟨r.val % 128, by omega⟩ ⟨2 * (r.val / 128) + 1, by omega⟩ := dz_half H.mask (halfK11 K) (halfV11 V) H.q1 (rowsW1 W) H.z11 r
theorem dk_2 : HalfSum (k0_pay33 M (k0_pay110 K) (k0_pay113 V) (k0_pay20 C6 C7 C8 Q4 Q5) (k0_pay122 W) (k0_pay22 Z8 Z10)) (k0_pay33 M (k0_pay111 K) (k0_pay114 V) (k0_pay20 C6 C7 C8 Q4 Q5) (k0_pay122 W) (k0_pay22 Z9 Z11)) (dkB (seen n) (lanes K 2) (lanes V 2) (queriesB x cf sf 2) (rowsW W 2) (sinksB s 2)) :=
  dk_sum H.mask (halfK20 K) (halfK21 K) (halfV20 V) (halfV21 V) H.q2 (rowsW2 W) H.z20 H.z21
theorem dv_2 : HalfSum (k0_pay34 M (k0_pay110 K) (k0_pay20 C6 C7 C8 Q4 Q5) (k0_pay122 W) (k0_pay22 Z8 Z10)) (k0_pay34 M (k0_pay111 K) (k0_pay20 C6 C7 C8 Q4 Q5) (k0_pay122 W) (k0_pay22 Z9 Z11)) (dvB (seen n) (lanes K 2) (queriesB x cf sf 2) (rowsW W 2) (sinksB s 2)) :=
  dv_sum H.mask (halfK20 K) (halfK21 K) H.q2 (rowsW2 W) H.z20 H.z21
theorem dz_20 (r : Fin 256) : k0_pay35 M (k0_pay110 K) (k0_pay113 V) (k0_pay20 C6 C7 C8 Q4 Q5) (k0_pay122 W) (k0_pay22 Z8 Z10) (ix2 0 r)
    = dzB (seen n) (lanes K 2) (lanes V 2) (queriesB x cf sf 2) (rowsW W 2) (sinksB s 2) ⟨r.val % 128, by omega⟩ ⟨2 * (r.val / 128) + 0, by omega⟩ := dz_half H.mask (halfK20 K) (halfV20 V) H.q2 (rowsW2 W) H.z20 r
theorem dz_21 (r : Fin 256) : k0_pay35 M (k0_pay111 K) (k0_pay114 V) (k0_pay20 C6 C7 C8 Q4 Q5) (k0_pay122 W) (k0_pay22 Z9 Z11) (ix2 0 r)
    = dzB (seen n) (lanes K 2) (lanes V 2) (queriesB x cf sf 2) (rowsW W 2) (sinksB s 2) ⟨r.val % 128, by omega⟩ ⟨2 * (r.val / 128) + 1, by omega⟩ := dz_half H.mask (halfK21 K) (halfV21 V) H.q2 (rowsW2 W) H.z21 r
theorem dk_3 : HalfSum (k0_pay33 M (k0_pay162 K) (k0_pay165 V) (k0_pay20 C6 C7 C8 Q6 Q7) (k0_pay172 W) (k0_pay22 Z12 Z14)) (k0_pay33 M (k0_pay163 K) (k0_pay166 V) (k0_pay20 C6 C7 C8 Q6 Q7) (k0_pay172 W) (k0_pay22 Z13 Z15)) (dkB (seen n) (lanes K 3) (lanes V 3) (queriesB x cf sf 3) (rowsW W 3) (sinksB s 3)) :=
  dk_sum H.mask (halfK30 K) (halfK31 K) (halfV30 V) (halfV31 V) H.q3 (rowsW3 W) H.z30 H.z31
theorem dv_3 : HalfSum (k0_pay34 M (k0_pay162 K) (k0_pay20 C6 C7 C8 Q6 Q7) (k0_pay172 W) (k0_pay22 Z12 Z14)) (k0_pay34 M (k0_pay163 K) (k0_pay20 C6 C7 C8 Q6 Q7) (k0_pay172 W) (k0_pay22 Z13 Z15)) (dvB (seen n) (lanes K 3) (queriesB x cf sf 3) (rowsW W 3) (sinksB s 3)) :=
  dv_sum H.mask (halfK30 K) (halfK31 K) H.q3 (rowsW3 W) H.z30 H.z31
theorem dz_30 (r : Fin 256) : k0_pay35 M (k0_pay162 K) (k0_pay165 V) (k0_pay20 C6 C7 C8 Q6 Q7) (k0_pay172 W) (k0_pay22 Z12 Z14) (ix2 0 r)
    = dzB (seen n) (lanes K 3) (lanes V 3) (queriesB x cf sf 3) (rowsW W 3) (sinksB s 3) ⟨r.val % 128, by omega⟩ ⟨2 * (r.val / 128) + 0, by omega⟩ := dz_half H.mask (halfK30 K) (halfV30 V) H.q3 (rowsW3 W) H.z30 r
theorem dz_31 (r : Fin 256) : k0_pay35 M (k0_pay163 K) (k0_pay166 V) (k0_pay20 C6 C7 C8 Q6 Q7) (k0_pay172 W) (k0_pay22 Z13 Z15) (ix2 0 r)
    = dzB (seen n) (lanes K 3) (lanes V 3) (queriesB x cf sf 3) (rowsW W 3) (sinksB s 3) ⟨r.val % 128, by omega⟩ ⟨2 * (r.val / 128) + 1, by omega⟩ := dz_half H.mask (halfK31 K) (halfV31 V) H.q3 (rowsW3 W) H.z31 r
end Body

/-- The block of query gradients, of key and of value gradients, and the row of sink gradients at one grid point. -/
def dqPoint (n : Fin 16) (x : Fin 128 → Fin 16 → Fin 64 → EReal) (s : Fin 16 → EReal) (cf sf : Fin 128 → Fin 8 → EReal) (K V : FVec Ideal S256x256 .f32) (W : FVec Ideal S128x1024 .bf16) (i : Fin 128) (q : Fin 1024) : EReal :=
  unrot (dqB (seen n) (lanes K ⟨q.val / 256, by omega⟩) (lanes V ⟨q.val / 256, by omega⟩) (queriesB x cf sf ⟨q.val / 256, by omega⟩) (rowsW W ⟨q.val / 256, by omega⟩)
    (sinksB s ⟨q.val / 256, by omega⟩) i ⟨q.val / 64 % 4, by omega⟩) (cf i) (sf i) ⟨q.val % 64, by omega⟩
def dkPoint (n : Fin 16) (x : Fin 128 → Fin 16 → Fin 64 → EReal) (s : Fin 16 → EReal) (cf sf : Fin 128 → Fin 8 → EReal) (K V : FVec Ideal S256x256 .f32) (W : FVec Ideal S128x1024 .bf16) (k q : Fin 256) : EReal :=
  dkB (seen n) (lanes K ⟨q.val / 64, by omega⟩) (lanes V ⟨q.val / 64, by omega⟩) (queriesB x cf sf ⟨q.val / 64, by omega⟩) (rowsW W ⟨q.val / 64, by omega⟩) (sinksB s ⟨q.val / 64, by omega⟩) k ⟨q.val % 64, by omega⟩
def dvPoint (n : Fin 16) (x : Fin 128 → Fin 16 → Fin 64 → EReal) (s : Fin 16 → EReal) (cf sf : Fin 128 → Fin 8 → EReal) (K : FVec Ideal S256x256 .f32) (W : FVec Ideal S128x1024 .bf16) (k q : Fin 256) : EReal :=
  dvB (seen n) (lanes K ⟨q.val / 64, by omega⟩) (queriesB x cf sf ⟨q.val / 64, by omega⟩) (rowsW W ⟨q.val / 64, by omega⟩) (sinksB s ⟨q.val / 64, by omega⟩) k ⟨q.val % 64, by omega⟩
def dzPoint (n : Fin 16) (x : Fin 128 → Fin 16 → Fin 64 → EReal) (s : Fin 16 → EReal) (cf sf : Fin 128 → Fin 8 → EReal) (K V : FVec Ideal S256x256 .f32) (W : FVec Ideal S128x1024 .bf16) (l : Fin 128) : EReal :=
  if h : l.val < 16 then 0 - ∑ i, dzB (seen n) (lanes K ⟨l.val / 4, by omega⟩) (lanes V ⟨l.val / 4, by omega⟩) (queriesB x cf sf ⟨l.val / 4, by omega⟩) (rowsW W ⟨l.val / 4, by omega⟩) (sinksB s ⟨l.val / 4, by omega⟩) i ⟨l.val % 4, by omega⟩
  else 0

theorem dqPoint_at (n : Fin 16) (x : Fin 128 → Fin 16 → Fin 64 → EReal) (s : Fin 16 → EReal) (cf sf : Fin 128 → Fin 8 → EReal) (K V : FVec Ideal S256x256 .f32) (W : FVec Ideal S128x1024 .bf16) (h : Fin 4) (b : Nat) (hb : b < 2) (u i l : Fin 128) (q : Fin 1024)
    (h0 : u.val = i.val) (h1 : q.val = h.val * 256 + b * 128 + l.val) (g : Fin 4) (hg : g.val = 2 * b + l.val / 64) :
    unrot (dqB (seen n) (lanes K h) (lanes V h) (queriesB x cf sf h) (rowsW W h) (sinksB s h) i g) (cf i) (sf i) ⟨l.val % 64, by omega⟩ = dqPoint n x s cf sf K V W u q := by
  obtain rfl := Fin.ext h0
  have e1 : (⟨q.val / 256, by omega⟩ : Fin 4) = h := Fin.ext (show q.val / 256 = h.val by omega)
  have e2 : (⟨q.val / 64 % 4, by omega⟩ : Fin 4) = g := Fin.ext (show q.val / 64 % 4 = g.val by omega)
  have e3 : (⟨q.val % 64, by omega⟩ : Fin 64) = ⟨l.val % 64, by omega⟩ := Fin.ext (show q.val % 64 = l.val % 64 by omega)
  unfold dqPoint
  rw [e1, e2, e3]

/-- The two tiles of key and of value gradients, one pair of key heads each. -/
theorem dkPoint_0 (n : Fin 16) (x : Fin 128 → Fin 16 → Fin 64 → EReal) (s : Fin 16 → EReal) (cf sf : Fin 128 → Fin 8 → EReal) (K V : FVec Ideal S256x256 .f32) (W : FVec Ideal S128x1024 .bf16) (u k : Fin 256) (hu : u = k) (l : Fin 128) (q : Fin 256) (hq : q.val = l.val) :
    (if l.val / 64 = 0 then dkB (seen n) (lanes K 0) (lanes V 0) (queriesB x cf sf 0) (rowsW W 0) (sinksB s 0) u ⟨l.val % 64, by omega⟩ else dkB (seen n) (lanes K 1) (lanes V 1) (queriesB x cf sf 1) (rowsW W 1) (sinksB s 1) u ⟨l.val % 64, by omega⟩) = dkPoint n x s cf sf K V W k q := by
  subst hu
  have e : (⟨q.val % 64, by omega⟩ : Fin 64) = ⟨l.val % 64, by omega⟩ := Fin.ext (show q.val % 64 = l.val % 64 by omega)
  unfold dkPoint
  rw [e]
  by_cases h : l.val / 64 = 0
  · rw [if_pos h, show (⟨q.val / 64, by omega⟩ : Fin 4) = 0 from Fin.ext (show q.val / 64 = 0 by omega)]
  · rw [if_neg h, show (⟨q.val / 64, by omega⟩ : Fin 4) = 1 from Fin.ext (show q.val / 64 = 1 by omega)]
theorem dkPoint_1 (n : Fin 16) (x : Fin 128 → Fin 16 → Fin 64 → EReal) (s : Fin 16 → EReal) (cf sf : Fin 128 → Fin 8 → EReal) (K V : FVec Ideal S256x256 .f32) (W : FVec Ideal S128x1024 .bf16) (u k : Fin 256) (hu : u = k) (l : Fin 128) (q : Fin 256) (hq : q.val = 128 + l.val) :
    (if l.val / 64 = 0 then dkB (seen n) (lanes K 2) (lanes V 2) (queriesB x cf sf 2) (rowsW W 2) (sinksB s 2) u ⟨l.val % 64, by omega⟩ else dkB (seen n) (lanes K 3) (lanes V 3) (queriesB x cf sf 3) (rowsW W 3) (sinksB s 3) u ⟨l.val % 64, by omega⟩) = dkPoint n x s cf sf K V W k q := by
  subst hu
  have e : (⟨q.val % 64, by omega⟩ : Fin 64) = ⟨l.val % 64, by omega⟩ := Fin.ext (show q.val % 64 = l.val % 64 by omega)
  unfold dkPoint
  rw [e]
  by_cases h : l.val / 64 = 0
  · rw [if_pos h, show (⟨q.val / 64, by omega⟩ : Fin 4) = 2 from Fin.ext (show q.val / 64 = 2 by omega)]
  · rw [if_neg h, show (⟨q.val / 64, by omega⟩ : Fin 4) = 3 from Fin.ext (show q.val / 64 = 3 by omega)]
theorem dvPoint_0 (n : Fin 16) (x : Fin 128 → Fin 16 → Fin 64 → EReal) (s : Fin 16 → EReal) (cf sf : Fin 128 → Fin 8 → EReal) (K : FVec Ideal S256x256 .f32) (W : FVec Ideal S128x1024 .bf16) (u k : Fin 256) (hu : u = k) (l : Fin 128) (q : Fin 256) (hq : q.val = l.val) :
    (if l.val / 64 = 0 then dvB (seen n) (lanes K 0) (queriesB x cf sf 0) (rowsW W 0) (sinksB s 0) u ⟨l.val % 64, by omega⟩ else dvB (seen n) (lanes K 1) (queriesB x cf sf 1) (rowsW W 1) (sinksB s 1) u ⟨l.val % 64, by omega⟩) = dvPoint n x s cf sf K W k q := by
  subst hu
  have e : (⟨q.val % 64, by omega⟩ : Fin 64) = ⟨l.val % 64, by omega⟩ := Fin.ext (show q.val % 64 = l.val % 64 by omega)
  unfold dvPoint
  rw [e]
  by_cases h : l.val / 64 = 0
  · rw [if_pos h, show (⟨q.val / 64, by omega⟩ : Fin 4) = 0 from Fin.ext (show q.val / 64 = 0 by omega)]
  · rw [if_neg h, show (⟨q.val / 64, by omega⟩ : Fin 4) = 1 from Fin.ext (show q.val / 64 = 1 by omega)]
theorem dvPoint_1 (n : Fin 16) (x : Fin 128 → Fin 16 → Fin 64 → EReal) (s : Fin 16 → EReal) (cf sf : Fin 128 → Fin 8 → EReal) (K : FVec Ideal S256x256 .f32) (W : FVec Ideal S128x1024 .bf16) (u k : Fin 256) (hu : u = k) (l : Fin 128) (q : Fin 256) (hq : q.val = 128 + l.val) :
    (if l.val / 64 = 0 then dvB (seen n) (lanes K 2) (queriesB x cf sf 2) (rowsW W 2) (sinksB s 2) u ⟨l.val % 64, by omega⟩ else dvB (seen n) (lanes K 3) (queriesB x cf sf 3) (rowsW W 3) (sinksB s 3) u ⟨l.val % 64, by omega⟩) = dvPoint n x s cf sf K W k q := by
  subst hu
  have e : (⟨q.val % 64, by omega⟩ : Fin 64) = ⟨l.val % 64, by omega⟩ := Fin.ext (show q.val % 64 = l.val % 64 by omega)
  unfold dvPoint
  rw [e]
  by_cases h : l.val / 64 = 0
  · rw [if_pos h, show (⟨q.val / 64, by omega⟩ : Fin 4) = 2 from Fin.ext (show q.val / 64 = 2 by omega)]
  · rw [if_neg h, show (⟨q.val / 64, by omega⟩ : Fin 4) = 3 from Fin.ext (show q.val / 64 = 3 by omega)]

/-- The upper and the lower half of the rows. -/
theorem rows_top (X : FVec Ideal S256x128 .f32) (i l : Fin 128) : k0_pay212 X (ix2 i l) = X (ix2 ⟨i.val, by omega⟩ l) := by pointwise [k0_pay212]
theorem rows_low (X : FVec Ideal S256x128 .f32) (i l : Fin 128) : k0_pay213 X (ix2 i l) = X (ix2 ⟨128 + i.val, by omega⟩ l) := by pointwise [k0_pay213]

/-- The block's queries, sinks and rotation tables, read off the blocks of the windows. -/
abbrev xOf (X : FVec Ideal S128x1024 .f32) (i : Fin 128) (h : Fin 16) (d : Fin 64) : EReal := X (ix2 i ⟨h.val * 64 + d.val, by omega⟩)
abbrev sOf (X : FVec Ideal S1x16 .f32) (h : Fin 16) : EReal := X (ix2 0 h)
abbrev cOf (X : FVec Ideal S128x256 .f32) (i : Fin 128) (j : Fin 8) : EReal := X (ix2 i ⟨j.val, by omega⟩)
abbrev snOf (X : FVec Ideal S128x256 .f32) (i : Fin 128) (j : Fin 8) : EReal := X (ix2 i ⟨8 + j.val, by omega⟩)

section Blocks
variable (I : grid0.Coords) (X0 : FVec Ideal S1x16 .f32) (X1 : FVec Ideal S128x1024 .f32) (X2 X3 X4 X5 X6 X7 X8 X9 X10 X11 : FVec Ideal S128x256 .f32)

theorem loads_of (n : Fin 16) (hn : (I 0).val = n.val) (hT : IsTables (w := 256) X6 X7 X8 (cOf X6) (snOf X8)) :
    Loads n (xOf X1) (sOf X0) (cOf X6) (snOf X8)
      (k0_pay2 I)
      (k0_pay6 (k0_pay3 X2 X9 X10 X11) X3 (k0_pay4 X6) (k0_pay5 X7) X8)
      (k0_pay7 X4 X5)
      (k0_pay14 (k0_pay3 X2 X9 X10 X11) X3 (k0_pay4 X6) (k0_pay5 X7) X8)
      (k0_pay15 (k0_pay3 X2 X9 X10 X11) X3 (k0_pay4 X6) (k0_pay5 X7) X8)
      (k0_pay18 (k0_pay16 X4 X5) (iota Kind.tc S256x128 32 [1] iota_S256x128_d1_w32) 64#32)
      (k0_pay19 (k0_pay16 X4 X5) (iota Kind.tc S256x128 32 [1] iota_S256x128_d1_w32) 64#32)
      (View.ld (Val := Elt Ideal) (e' := .f32) X6 (Rect.unit ![0, 0] ![128, 128] inb_S128x256_S128x128_0_0))
      (View.ld (Val := Elt Ideal) (e' := .f32) X7 (Rect.unit ![0, 0] ![128, 128] inb_S128x256_S128x128_0_0))
      (View.ld (Val := Elt Ideal) (e' := .f32) X8 (Rect.unit ![0, 0] ![128, 128] inb_S128x256_S128x128_0_0))
      (View.ld (Val := Elt Ideal) (e' := .f32) X1 (Rect.unit ![0, 0] ![128, 128] inb_S128x1024_S128x128_0_0))
      (View.ld (Val := Elt Ideal) (e' := .f32) X1 (Rect.unit ![0, 128] ![128, 128] inb_S128x1024_S128x128_0_128))
      (View.ld (Val := Elt Ideal) (e' := .f32) X1 (Rect.unit ![0, 256] ![128, 128] inb_S128x1024_S128x128_0_256))
      (View.ld (Val := Elt Ideal) (e' := .f32) X1 (Rect.unit ![0, 384] ![128, 128] inb_S128x1024_S128x128_0_384))
      (View.ld (Val := Elt Ideal) (e' := .f32) X1 (Rect.unit ![0, 512] ![128, 128] inb_S128x1024_S128x128_0_512))
      (View.ld (Val := Elt Ideal) (e' := .f32) X1 (Rect.unit ![0, 640] ![128, 128] inb_S128x1024_S128x128_0_640))
      (View.ld (Val := Elt Ideal) (e' := .f32) X1 (Rect.unit ![0, 768] ![128, 128] inb_S128x1024_S128x128_0_768))
      (View.ld (Val := Elt Ideal) (e' := .f32) X1 (Rect.unit ![0, 896] ![128, 128] inb_S128x1024_S128x128_0_896))
      (View.ld (Val := Elt Ideal) (e' := .f32) X0 (Rect.unit ![0, 0] ![1, 1] inb_S1x16_S1x1_0_0) (Shape.Idx.first (by show 0 < S1x1.numel; decide)))
      (View.ld (Val := Elt Ideal) (e' := .f32) X0 (Rect.unit ![0, 1] ![1, 1] inb_S1x16_S1x1_0_1) (Shape.Idx.first (by show 0 < S1x1.numel; decide)))
      (View.ld (Val := Elt Ideal) (e' := .f32) X0 (Rect.unit ![0, 2] ![1, 1] inb_S1x16_S1x1_0_2) (Shape.Idx.first (by show 0 < S1x1.numel; decide)))
      (View.ld (Val := Elt Ideal) (e' := .f32) X0 (Rect.unit ![0, 3] ![1, 1] inb_S1x16_S1x1_0_3) (Shape.Idx.first (by show 0 < S1x1.numel; decide)))
      (View.ld (Val := Elt Ideal) (e' := .f32) X0 (Rect.unit ![0, 4] ![1, 1] inb_S1x16_S1x1_0_4) (Shape.Idx.first (by show 0 < S1x1.numel; decide)))
      (View.ld (Val := Elt Ideal) (e' := .f32) X0 (Rect.unit ![0, 5] ![1, 1] inb_S1x16_S1x1_0_5) (Shape.Idx.first (by show 0 < S1x1.numel; decide)))
      (View.ld (Val := Elt Ideal) (e' := .f32) X0 (Rect.unit ![0, 6] ![1, 1] inb_S1x16_S1x1_0_6) (Shape.Idx.first (by show 0 < S1x1.numel; decide)))
      (View.ld (Val := Elt Ideal) (e' := .f32) X0 (Rect.unit ![0, 7] ![1, 1] inb_S1x16_S1x1_0_7) (Shape.Idx.first (by show 0 < S1x1.numel; decide)))
      (View.ld (Val := Elt Ideal) (e' := .f32) X0 (Rect.unit ![0, 8] ![1, 1] inb_S1x16_S1x1_0_8) (Shape.Idx.first (by show 0 < S1x1.numel; decide)))
      (View.ld (Val := Elt Ideal) (e' := .f32) X0 (Rect.unit ![0, 9] ![1, 1] inb_S1x16_S1x1_0_9) (Shape.Idx.first (by show 0 < S1x1.numel; decide)))
      (View.ld (Val := Elt Ideal) (e' := .f32) X0 (Rect.unit ![0, 10] ![1, 1] inb_S1x16_S1x1_0_10) (Shape.Idx.first (by show 0 < S1x1.numel; decide)))
      (View.ld (Val := Elt Ideal) (e' := .f32) X0 (Rect.unit ![0, 11] ![1, 1] inb_S1x16_S1x1_0_11) (Shape.Idx.first (by show 0 < S1x1.numel; decide)))
      (View.ld (Val := Elt Ideal) (e' := .f32) X0 (Rect.unit ![0, 12] ![1, 1] inb_S1x16_S1x1_0_12) (Shape.Idx.first (by show 0 < S1x1.numel; decide)))
      (View.ld (Val := Elt Ideal) (e' := .f32) X0 (Rect.unit ![0, 13] ![1, 1] inb_S1x16_S1x1_0_13) (Shape.Idx.first (by show 0 < S1x1.numel; decide)))
      (View.ld (Val := Elt Ideal) (e' := .f32) X0 (Rect.unit ![0, 14] ![1, 1] inb_S1x16_S1x1_0_14) (Shape.Idx.first (by show 0 < S1x1.numel; decide)))
      (View.ld (Val := Elt Ideal) (e' := .f32) X0 (Rect.unit ![0, 15] ![1, 1] inb_S1x16_S1x1_0_15) (Shape.Idx.first (by show 0 < S1x1.numel; decide))) := by
  have hC : IsTables (w := 128) (View.ld (Val := Elt Ideal) (e' := .f32) X6 (Rect.unit ![0, 0] ![128, 128] inb_S128x256_S128x128_0_0)) (View.ld (Val := Elt Ideal) (e' := .f32) X7 (Rect.unit ![0, 0] ![128, 128] inb_S128x256_S128x128_0_0))
      (View.ld (Val := Elt Ideal) (e' := .f32) X8 (Rect.unit ![0, 0] ![128, 128] inb_S128x256_S128x128_0_0)) (cOf X6) (snOf X8) := by
    have e : ∀ (X : S128x256.Idx → EReal) (i l : Fin 128), View.ld (Val := Elt Ideal) (e' := .f32) X (Rect.unit (s := S128x256) ![0, 0] ![128, 128] inb_S128x256_S128x128_0_0) (ix2 i l) = X (ix2 i ⟨l.val, by omega⟩) := fun X i l =>
      View.ld_unit_apply_of _ _ _ _ _ _ (Fin.forall_fin_two.mpr ⟨by show i.val = 0 + i.val; omega, by show l.val = 0 + l.val; omega⟩)
    exact ⟨fun i l => (e _ i l).trans (hT.1 i ⟨l.val, by omega⟩), fun i l => (e _ i l).trans (hT.2.1 i ⟨l.val, by omega⟩), fun i l => (e _ i l).trans (hT.2.2 i ⟨l.val, by omega⟩)⟩
  have hQ : ∀ (o : ℕ) (inb : _) (i l : Fin 128) (h : Fin 16) (d : Fin 64), h.val * 64 + d.val = o + l.val →
      View.ld (Val := Elt Ideal) (e' := .f32) X1 (Rect.unit (s := S128x1024) ![0, o] ![128, 128] inb) (ix2 i l) = xOf X1 i h d := fun o inb i l h d e =>
    View.ld_unit_apply_of _ _ _ _ _ _ (Fin.forall_fin_two.mpr ⟨by show i.val = 0 + i.val; omega, e⟩)
  have hZ : ∀ (o : ℕ) (q : Fin 16) (inb : _) (h), q.val = o → View.ld (Val := Elt Ideal) (e' := .f32) X0 (Rect.unit (s := S1x16) ![0, o] ![1, 1] inb) (Shape.Idx.first h) = sOf X0 q := by
    intro o q inb h e
    subst e
    refine View.ld_unit_apply_of _ _ _ _ _ _ (Fin.forall_fin_two.mpr ⟨?_, ?_⟩)
    · exact rfl
    · show q.val = q.val + _
      exact rfl
  have hq : ∀ (o o' : ℕ) (inb inb' : _) (h : Fin 4), o = h.val * 256 → o' = h.val * 256 + 128 →
      IsRows (k0_pay20 (View.ld (Val := Elt Ideal) (e' := .f32) X6 (Rect.unit ![0, 0] ![128, 128] inb_S128x256_S128x128_0_0)) (View.ld (Val := Elt Ideal) (e' := .f32) X7 (Rect.unit ![0, 0] ![128, 128] inb_S128x256_S128x128_0_0))
        (View.ld (Val := Elt Ideal) (e' := .f32) X8 (Rect.unit ![0, 0] ![128, 128] inb_S128x256_S128x128_0_0)) (View.ld (Val := Elt Ideal) (e' := .f32) X1 (Rect.unit (s := S128x1024) ![0, o] ![128, 128] inb))
        (View.ld (Val := Elt Ideal) (e' := .f32) X1 (Rect.unit (s := S128x1024) ![0, o'] ![128, 128] inb'))) (queriesB (xOf X1) (cOf X6) (snOf X8) h) := by
    intro o o' inb inb' h ho ho'
    refine rows_q hC _ _ (fun i g d => xOf X1 i ⟨h.val * 4 + g.val, by omega⟩ d) (fun i l => hQ o inb i l _ _ ?_) (fun i l => hQ o' inb' i l _ _ ?_)
    · show (h.val * 4 + l.val / 64) * 64 + l.val % 64 = o + l.val; omega
    · show (h.val * 4 + (2 + l.val / 64)) * 64 + l.val % 64 = o' + l.val; omega
  refine ⟨mask_at _ n hn, halfK00 _ _ _ _ _, halfK01 _ _ _ _ _, halfV00 _ _, halfV01 _ _, hC, hq 0 128 _ _ 0 rfl rfl, hq 256 384 _ _ 1 rfl rfl, hq 512 640 _ _ 2 rfl rfl, hq 768 896 _ _ 3 rfl rfl, ?_, ?_, ?_, ?_, ?_, ?_, ?_, ?_⟩
  · exact sink_at 0 (sinksB (sOf X0) 0) _ _ (hZ 0 _ _ _ rfl) (hZ 2 _ _ _ rfl)
  · exact sink_at 1 (sinksB (sOf X0) 0) _ _ (hZ 1 _ _ _ rfl) (hZ 3 _ _ _ rfl)
  · exact sink_at 0 (sinksB (sOf X0) 1) _ _ (hZ 4 _ _ _ rfl) (hZ 6 _ _ _ rfl)
  · exact sink_at 1 (sinksB (sOf X0) 1) _ _ (hZ 5 _ _ _ rfl) (hZ 7 _ _ _ rfl)
  · exact sink_at 0 (sinksB (sOf X0) 2) _ _ (hZ 8 _ _ _ rfl) (hZ 10 _ _ _ rfl)
  · exact sink_at 1 (sinksB (sOf X0) 2) _ _ (hZ 9 _ _ _ rfl) (hZ 11 _ _ _ rfl)
  · exact sink_at 0 (sinksB (sOf X0) 3) _ _ (hZ 12 _ _ _ rfl) (hZ 14 _ _ _ rfl)
  · exact sink_at 1 (sinksB (sOf X0) 3) _ _ (hZ 13 _ _ _ rfl) (hZ 15 _ _ _ rfl)
end Blocks

variable (m : (ℓ : Loc nD τ sig) → Buf (Elt Ideal) ℓ) (c : Dev nD) (t : Fin cfg0.N)

/-- The block's queries, sinks and rotation tables at a grid point. -/
abbrev xB (i : Fin 128) (h : Fin 16) (d : Fin 64) : EReal := xOf (X0_1 m c t) i h d
abbrev sB (h : Fin 16) : EReal := sOf (iblk m c 0 t) h
abbrev cB (i : Fin 128) (j : Fin 8) : EReal := cOf (iblk m c 6 t) i j
abbrev snB (i : Fin 128) (j : Fin 8) : EReal := snOf (iblk m c 8 t) i j

/-- The keys, the values and the output's gradient of one grid point. -/
abbrev kB : FVec Ideal S256x256 .f32 := (k0_pay6 (k0_pay3 (iblk m c 2 t) (iblk m c 9 t) (iblk m c 10 t) (iblk m c 11 t)) (iblk m c 3 t) (k0_pay4 (iblk m c 6 t)) (k0_pay5 (iblk m c 7 t)) (iblk m c 8 t))
abbrev vB : FVec Ideal S256x256 .f32 := (k0_pay7 (iblk m c 4 t) (iblk m c 5 t))
abbrev oB : FVec Ideal S128x1024 .bf16 := (k0_pay8 (iblk m c 12 t) (iblk m c 13 t))

set_option maxHeartbeats 4000000 in
/-- What one grid point leaves in the five gradient blocks. -/
theorem outs (n : Fin 16) (hn : (grid0.coords t 0).val = n.val) (hT : IsTables (w := 256) (iblk m c 6 t) (iblk m c 7 t) (iblk m c 8 t) (cB m c t) (snB m c t)) :
    (∀ y, (outsAt0 m c t.val t.isLt).1 y = dqPoint n (xB m c t) (sB m c t) (cB m c t) (snB m c t) (kB m c t) (vB m c t) (oB m c t) (y 0) (y 1)) ∧
    (∀ y (k : Fin 256), k.val = (y 0).val → (outsAt0 m c t.val t.isLt).2.1 y = dkPoint n (xB m c t) (sB m c t) (cB m c t) (snB m c t) (kB m c t) (vB m c t) (oB m c t) k (y 1)) ∧
    (∀ y (k : Fin 256), k.val = 128 + (y 0).val → (outsAt0 m c t.val t.isLt).2.2.1 y = dkPoint n (xB m c t) (sB m c t) (cB m c t) (snB m c t) (kB m c t) (vB m c t) (oB m c t) k (y 1)) ∧
    (∀ y (k : Fin 256), k.val = (y 0).val → (outsAt0 m c t.val t.isLt).2.2.2.1 y = dvPoint n (xB m c t) (sB m c t) (cB m c t) (snB m c t) (kB m c t) (oB m c t) k (y 1)) ∧
    (∀ y (k : Fin 256), k.val = 128 + (y 0).val → (outsAt0 m c t.val t.isLt).2.2.2.2.1 y = dvPoint n (xB m c t) (sB m c t) (cB m c t) (snB m c t) (kB m c t) (oB m c t) k (y 1)) := by
  have H := loads_of (grid0.coords t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) n hn hT
  have hN := lt_of_lt_of_eq t.isLt N_0
  unfold kB vB oB
  by_cases h : t.val % 16 = 0
  rw [outsAt0_A m c t h (by omega)]
  rotate_left
  rw [outsAt0_B m c t h (by omega)]
  all_goals
    frame_out
    generalize View.ld (iblk m c 0 t) (Rect.unit ![0, 15] ![1, 1] inb_S1x16_S1x1_0_15) (Shape.Idx.first (by show 0 < S1x1.numel; decide)) = Z15 at H ⊢
    generalize View.ld (iblk m c 0 t) (Rect.unit ![0, 14] ![1, 1] inb_S1x16_S1x1_0_14) (Shape.Idx.first (by show 0 < S1x1.numel; decide)) = Z14 at H ⊢
    generalize View.ld (iblk m c 0 t) (Rect.unit ![0, 13] ![1, 1] inb_S1x16_S1x1_0_13) (Shape.Idx.first (by show 0 < S1x1.numel; decide)) = Z13 at H ⊢
    generalize View.ld (iblk m c 0 t) (Rect.unit ![0, 12] ![1, 1] inb_S1x16_S1x1_0_12) (Shape.Idx.first (by show 0 < S1x1.numel; decide)) = Z12 at H ⊢
    generalize View.ld (iblk m c 0 t) (Rect.unit ![0, 11] ![1, 1] inb_S1x16_S1x1_0_11) (Shape.Idx.first (by show 0 < S1x1.numel; decide)) = Z11 at H ⊢
    generalize View.ld (iblk m c 0 t) (Rect.unit ![0, 10] ![1, 1] inb_S1x16_S1x1_0_10) (Shape.Idx.first (by show 0 < S1x1.numel; decide)) = Z10 at H ⊢
    generalize View.ld (iblk m c 0 t) (Rect.unit ![0, 9] ![1, 1] inb_S1x16_S1x1_0_9) (Shape.Idx.first (by show 0 < S1x1.numel; decide)) = Z9 at H ⊢
    generalize View.ld (iblk m c 0 t) (Rect.unit ![0, 8] ![1, 1] inb_S1x16_S1x1_0_8) (Shape.Idx.first (by show 0 < S1x1.numel; decide)) = Z8 at H ⊢
    generalize View.ld (iblk m c 0 t) (Rect.unit ![0, 7] ![1, 1] inb_S1x16_S1x1_0_7) (Shape.Idx.first (by show 0 < S1x1.numel; decide)) = Z7 at H ⊢
    generalize View.ld (iblk m c 0 t) (Rect.unit ![0, 6] ![1, 1] inb_S1x16_S1x1_0_6) (Shape.Idx.first (by show 0 < S1x1.numel; decide)) = Z6 at H ⊢
    generalize View.ld (iblk m c 0 t) (Rect.unit ![0, 5] ![1, 1] inb_S1x16_S1x1_0_5) (Shape.Idx.first (by show 0 < S1x1.numel; decide)) = Z5 at H ⊢
    generalize View.ld (iblk m c 0 t) (Rect.unit ![0, 4] ![1, 1] inb_S1x16_S1x1_0_4) (Shape.Idx.first (by show 0 < S1x1.numel; decide)) = Z4 at H ⊢
    generalize View.ld (iblk m c 0 t) (Rect.unit ![0, 3] ![1, 1] inb_S1x16_S1x1_0_3) (Shape.Idx.first (by show 0 < S1x1.numel; decide)) = Z3 at H ⊢
    generalize View.ld (iblk m c 0 t) (Rect.unit ![0, 2] ![1, 1] inb_S1x16_S1x1_0_2) (Shape.Idx.first (by show 0 < S1x1.numel; decide)) = Z2 at H ⊢
    generalize View.ld (iblk m c 0 t) (Rect.unit ![0, 1] ![1, 1] inb_S1x16_S1x1_0_1) (Shape.Idx.first (by show 0 < S1x1.numel; decide)) = Z1 at H ⊢
    generalize View.ld (iblk m c 0 t) (Rect.unit ![0, 0] ![1, 1] inb_S1x16_S1x1_0_0) (Shape.Idx.first (by show 0 < S1x1.numel; decide)) = Z0 at H ⊢
    generalize View.ld (X0_1 m c t) (Rect.unit ![0, 896] ![128, 128] inb_S128x1024_S128x128_0_896) = Q7 at H ⊢
    generalize View.ld (X0_1 m c t) (Rect.unit ![0, 768] ![128, 128] inb_S128x1024_S128x128_0_768) = Q6 at H ⊢
    generalize View.ld (X0_1 m c t) (Rect.unit ![0, 640] ![128, 128] inb_S128x1024_S128x128_0_640) = Q5 at H ⊢
    generalize View.ld (X0_1 m c t) (Rect.unit ![0, 512] ![128, 128] inb_S128x1024_S128x128_0_512) = Q4 at H ⊢
    generalize View.ld (X0_1 m c t) (Rect.unit ![0, 384] ![128, 128] inb_S128x1024_S128x128_0_384) = Q3 at H ⊢
    generalize View.ld (X0_1 m c t) (Rect.unit ![0, 256] ![128, 128] inb_S128x1024_S128x128_0_256) = Q2 at H ⊢
    generalize View.ld (X0_1 m c t) (Rect.unit ![0, 128] ![128, 128] inb_S128x1024_S128x128_0_128) = Q1 at H ⊢
    generalize View.ld (X0_1 m c t) (Rect.unit ![0, 0] ![128, 128] inb_S128x1024_S128x128_0_0) = Q0 at H ⊢
    generalize View.ld (iblk m c 8 t) (Rect.unit ![0, 0] ![128, 128] inb_S128x256_S128x128_0_0) = C8 at H ⊢
    generalize View.ld (iblk m c 7 t) (Rect.unit ![0, 0] ![128, 128] inb_S128x256_S128x128_0_0) = C7 at H ⊢
    generalize View.ld (iblk m c 6 t) (Rect.unit ![0, 0] ![128, 128] inb_S128x256_S128x128_0_0) = C6 at H ⊢
    generalize k0_pay19 (k0_pay16 (iblk m c 4 t) (iblk m c 5 t)) (iota Kind.tc S256x128 32 [1] iota_S256x128_d1_w32) 64#32 = V01 at H ⊢
    generalize k0_pay18 (k0_pay16 (iblk m c 4 t) (iblk m c 5 t)) (iota Kind.tc S256x128 32 [1] iota_S256x128_d1_w32) 64#32 = V00 at H ⊢
    generalize k0_pay15 (k0_pay3 (iblk m c 2 t) (iblk m c 9 t) (iblk m c 10 t) (iblk m c 11 t)) (iblk m c 3 t) (k0_pay4 (iblk m c 6 t)) (k0_pay5 (iblk m c 7 t)) (iblk m c 8 t) = K01 at H ⊢
    generalize k0_pay14 (k0_pay3 (iblk m c 2 t) (iblk m c 9 t) (iblk m c 10 t) (iblk m c 11 t)) (iblk m c 3 t) (k0_pay4 (iblk m c 6 t)) (k0_pay5 (iblk m c 7 t)) (iblk m c 8 t) = K00 at H ⊢
    generalize k0_pay7 (iblk m c 4 t) (iblk m c 5 t) = V at H ⊢
    generalize k0_pay6 (k0_pay3 (iblk m c 2 t) (iblk m c 9 t) (iblk m c 10 t) (iblk m c 11 t)) (iblk m c 3 t) (k0_pay4 (iblk m c 6 t)) (k0_pay5 (iblk m c 7 t)) (iblk m c 8 t) = K at H ⊢
    generalize k0_pay2 (grid0.coords t) = M at H ⊢
    generalize k0_pay8 (iblk m c 12 t) (iblk m c 13 t) = O
    refine ⟨fun y => ?_, fun y k hk => ?_, fun y k hk => ?_, fun y k hk => ?_, fun y k hk => ?_⟩
    · canon_tiles
      all_goals obtain ⟨i, l, rfl⟩ : ∃ (i l : Fin 128), x = ix2 i l := ⟨x 0, x 1, ValueIdx.eq_ix2 x⟩
      · exact (tile_lower H.mask (halfK30 K) (halfK31 K) (halfV30 V) (halfV31 V) H.q3 (rowsW3 O) H.z30 H.z31 (tables_cast H.tables) i l).trans (dqPoint_at n _ _ _ _ K V O 3 1 (by decide) _ i l _ h0 h1 _ rfl)
      · exact (tile_upper H.mask (halfK30 K) (halfK31 K) (halfV30 V) (halfV31 V) H.q3 (rowsW3 O) H.z30 H.z31 (tables_cast H.tables) i l).trans (dqPoint_at n _ _ _ _ K V O 3 0 (by decide) _ i l _ h0 h1 _ (Nat.zero_add _).symm)
      · exact (tile_lower H.mask (halfK20 K) (halfK21 K) (halfV20 V) (halfV21 V) H.q2 (rowsW2 O) H.z20 H.z21 (tables_cast H.tables) i l).trans (dqPoint_at n _ _ _ _ K V O 2 1 (by decide) _ i l _ h0 h1 _ rfl)
      · exact (tile_upper H.mask (halfK20 K) (halfK21 K) (halfV20 V) (halfV21 V) H.q2 (rowsW2 O) H.z20 H.z21 (tables_cast H.tables) i l).trans (dqPoint_at n _ _ _ _ K V O 2 0 (by decide) _ i l _ h0 h1 _ (Nat.zero_add _).symm)
      · exact (tile_lower H.mask (halfK10 K) (halfK11 K) (halfV10 V) (halfV11 V) H.q1 (rowsW1 O) H.z10 H.z11 (tables_cast H.tables) i l).trans (dqPoint_at n _ _ _ _ K V O 1 1 (by decide) _ i l _ h0 h1 _ rfl)
      · exact (tile_upper H.mask (halfK10 K) (halfK11 K) (halfV10 V) (halfV11 V) H.q1 (rowsW1 O) H.z10 H.z11 (tables_cast H.tables) i l).trans (dqPoint_at n _ _ _ _ K V O 1 0 (by decide) _ i l _ h0 h1 _ (Nat.zero_add _).symm)
      · exact (tile_lower H.mask H.k0 H.k1 H.v0 H.v1 H.q0 (rowsW0 O) H.z00 H.z01 (tables_cast H.tables) i l).trans (dqPoint_at n _ _ _ _ K V O 0 1 (by decide) _ i l _ h0 h1 _ rfl)
      · exact (tile_upper H.mask H.k0 H.k1 H.v0 H.v1 H.q0 (rowsW0 O) H.z00 H.z01 (tables_cast H.tables) i l).trans (dqPoint_at n _ _ _ _ K V O 0 0 (by decide) _ i l _ h0 (h1.trans (show l.val = 0 * 256 + 0 * 128 + l.val by omega)) _ (Nat.zero_add _).symm)
    · canon_tiles
      all_goals obtain ⟨i, l, rfl⟩ : ∃ (i l : Fin 128), x = ix2 i l := ⟨x 0, x 1, ValueIdx.eq_ix2 x⟩
      · exact (rows_top _ i l).trans ((kpair_at (dk_2 H O) (dk_3 H O) _ l).trans (dkPoint_1 n _ _ _ _ K V O _ k (Fin.ext (show i.val = k.val by have e : (y 0).val = i.val := h0; have e' := hk; omega)) l _ h1))
      · exact (rows_top _ i l).trans ((kpair_at (dk_0 H O) (dk_1 H O) _ l).trans (dkPoint_0 n _ _ _ _ K V O _ k (Fin.ext (show i.val = k.val by have e : (y 0).val = i.val := h0; have e' := hk; omega)) l _ h1))
    · canon_tiles
      all_goals obtain ⟨i, l, rfl⟩ : ∃ (i l : Fin 128), x = ix2 i l := ⟨x 0, x 1, ValueIdx.eq_ix2 x⟩
      · exact (rows_low _ i l).trans ((kpair_at (dk_2 H O) (dk_3 H O) _ l).trans (dkPoint_1 n _ _ _ _ K V O _ k (Fin.ext (show 128 + i.val = k.val by have e : (y 0).val = i.val := h0; have e' := hk; omega)) l _ h1))
      · exact (rows_low _ i l).trans ((kpair_at (dk_0 H O) (dk_1 H O) _ l).trans (dkPoint_0 n _ _ _ _ K V O _ k (Fin.ext (show 128 + i.val = k.val by have e : (y 0).val = i.val := h0; have e' := hk; omega)) l _ h1))
    · canon_tiles
      all_goals obtain ⟨i, l, rfl⟩ : ∃ (i l : Fin 128), x = ix2 i l := ⟨x 0, x 1, ValueIdx.eq_ix2 x⟩
      · exact (rows_top _ i l).trans ((vpair_at (dv_2 H O) (dv_3 H O) _ l).trans (dvPoint_1 n _ _ _ _ K O _ k (Fin.ext (show i.val = k.val by have e : (y 0).val = i.val := h0; have e' := hk; omega)) l _ h1))
      · exact (rows_top _ i l).trans ((vpair_at (dv_0 H O) (dv_1 H O) _ l).trans (dvPoint_0 n _ _ _ _ K O _ k (Fin.ext (show i.val = k.val by have e : (y 0).val = i.val := h0; have e' := hk; omega)) l _ h1))
    · canon_tiles
      all_goals obtain ⟨i, l, rfl⟩ : ∃ (i l : Fin 128), x = ix2 i l := ⟨x 0, x 1, ValueIdx.eq_ix2 x⟩
      · exact (rows_low _ i l).trans ((vpair_at (dv_2 H O) (dv_3 H O) _ l).trans (dvPoint_1 n _ _ _ _ K O _ k (Fin.ext (show 128 + i.val = k.val by have e : (y 0).val = i.val := h0; have e' := hk; omega)) l _ h1))
      · exact (rows_low _ i l).trans ((vpair_at (dv_0 H O) (dv_1 H O) _ l).trans (dvPoint_0 n _ _ _ _ K O _ k (Fin.ext (show 128 + i.val = k.val by have e : (y 0).val = i.val := h0; have e' := hk; omega)) l _ h1))

end Cert.AttnIdeal.Value

end
-- ==== Proof.Attn.Sinks.lean ====
/-
  The attention's backward kernel: the row of sink gradients one grid point adds.
-/
module

public import proofs.«01_k».proof.Proof.Attn.Value

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnRow
open Cert.AttnRefIdeal.Meaning (rot unrot seen)

/-- The two heads of a pair lie one after the other in the 256 lanes of a half. -/
theorem pair_lanes (S : Fin 128 → Fin 4 → EReal) (p : Nat) (hp : p < 2) (l : Fin 128) (A : EReal) (c : Nat) :
    A + atLane l c (fun x => (fun r : Fin 256 => S ⟨r.val % 128, by omega⟩ ⟨2 * (r.val / 128) + p, by omega⟩) ⟨x.val, by omega⟩)
      + atLane l (c + 2) (fun x => (fun r : Fin 256 => S ⟨r.val % 128, by omega⟩ ⟨2 * (r.val / 128) + p, by omega⟩) ⟨128 + x.val, by omega⟩)
      = A + atLane l c (fun x => S x ⟨p, by omega⟩) + atLane l (c + 2) (fun x => S x ⟨2 + p, by omega⟩) := by
  have e1 : ∀ x : Fin 128, (⟨x.val % 128, by omega⟩ : Fin 128) = x := fun x => Fin.ext (show x.val % 128 = x.val by omega)
  have e2 : ∀ x : Fin 128, (⟨(128 + x.val) % 128, by omega⟩ : Fin 128) = x := fun x => Fin.ext (show (128 + x.val) % 128 = x.val by omega)
  have e3 : ∀ x : Fin 128, (⟨2 * (x.val / 128) + p, by omega⟩ : Fin 4) = ⟨p, by omega⟩ := fun x => Fin.ext (show 2 * (x.val / 128) + p = p by omega)
  have e4 : ∀ x : Fin 128, (⟨2 * ((128 + x.val) / 128) + p, by omega⟩ : Fin 4) = ⟨2 + p, by omega⟩ := fun x => Fin.ext (show 2 * ((128 + x.val) / 128) + p = 2 + p by omega)
  simp only [e1, e2, e3, e4]

theorem pay1_at (X : FVec Ideal S1x128 .f32) (P : FVec Ideal S1x128 .f32) (l : Fin 128) : k0_pay1 X P (ix2 0 l) = P (ix2 0 l) + X (ix2 0 l) := by pointwise [k0_pay1]
theorem pay9_at (l : Fin 128) : k0_pay9 (F := Ideal) (ix2 0 l) = 0 := by pointwise [k0_pay9]

variable (m : (ℓ : Loc nD τ sig) → Buf (Elt Ideal) ℓ) (c : Dev nD) (t : Fin cfg0.N)

set_option maxHeartbeats 4000000 in
theorem out19 (n : Fin 16) (hn : (grid0.coords t 0).val = n.val) (hT : IsTables (w := 256) (iblk m c 6 t) (iblk m c 7 t) (iblk m c 8 t) (cB m c t) (snB m c t)) (l : Fin 128) :
    (outsAt0 m c t.val t.isLt).2.2.2.2.2 (ix2 0 l) = (if t.val % 16 = 0 then 0 else (outsAt0 m c (t.val - 1) (lt_of_le_of_lt (Nat.sub_le _ _) t.isLt)).2.2.2.2.2 (ix2 0 l))
      + dzPoint n (xB m c t) (sB m c t) (cB m c t) (snB m c t) (kB m c t) (vB m c t) (oB m c t) l := by
  have H := loads_of (grid0.coords t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) n hn hT
  have hN := lt_of_lt_of_eq t.isLt N_0
  by_cases h : t.val % 16 = 0
  rw [outsAt0_A m c t h (by omega), if_pos h, zero_add]
  rotate_left
  rw [outsAt0_B m c t h (by omega), if_neg h]
  frame_out
  refine (pay1_at _ _ l).trans (congrArg (fun z => _ + z) ?_)
  rotate_left
  frame_out
  all_goals
    refine ((step_3b (l := l) (hA := ((step_3a (l := l) (hA :=
      ((step_2b (l := l) (hA := ((step_2a (l := l) (hA :=
      ((step_1b (l := l) (hA := ((step_1a (l := l) (hA :=
      ((step_0b (l := l) (hA := ((step_0a (l := l) (hA := pay9_at l) (hD := dz_00 H (oB m c t))).trans (pair_lanes _ 0 (by decide) l _ 0))) (hD := dz_01 H (oB m c t))).trans (pair_lanes _ 1 (by decide) l _ 1))) (hD := dz_10 H (oB m c t))).trans (pair_lanes _ 0 (by decide) l _ 4))) (hD := dz_11 H (oB m c t))).trans (pair_lanes _ 1 (by decide) l _ 5))) (hD := dz_20 H (oB m c t))).trans (pair_lanes _ 0 (by decide) l _ 8))) (hD := dz_21 H (oB m c t))).trans (pair_lanes _ 1 (by decide) l _ 9))) (hD := dz_30 H (oB m c t))).trans (pair_lanes _ 0 (by decide) l _ 12))) (hD := dz_31 H (oB m c t))).trans (pair_lanes _ 1 (by decide) l _ 13)).trans ?_
    unfold dzPoint
    exact lanes_total (fun j i => dzB (seen n) (lanes (kB m c t) ⟨j.val / 4, by omega⟩) (lanes (vB m c t) ⟨j.val / 4, by omega⟩) (queriesB (xB m c t) (cB m c t) (snB m c t) ⟨j.val / 4, by omega⟩) (rowsW (oB m c t) ⟨j.val / 4, by omega⟩) (sinksB (sB m c t) ⟨j.val / 4, by omega⟩) i ⟨j.val % 4, by omega⟩) l 0 rfl

end Cert.AttnIdeal.Value

end
-- ==== Proof.Attn.Meet.lean ====
/-
  The attention's backward kernel: one grid point's blocks are the reference's gradients of that band of keys.
-/
module

public import proofs.«01_k».proof.Proof.Attn.Sinks

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnRow Cert.RealValues
open Cert.AttnRefIdeal.Meaning (rot unrot seen band keyR queryR valueR sinkR outR probR score cosT sinT dqR dkR dvR dzR dsR pR isReal_score isReal_probR)

variable (P : FVec Ideal S2048x6656 .f32) (S : FVec Ideal S1x16 .f32) (W : FVec Ideal S1024x1024 .f32) (D : FVec Ideal S2048x1024 .f32)

/-- The block of one grid point, read off the four arguments. -/
structure Meets (n : Fin 16) (x : Fin 128 → Fin 16 → Fin 64 → EReal) (s : Fin 16 → EReal) (cf sf : Fin 128 → Fin 8 → EReal) (K V : FVec Ideal S256x256 .f32) (O : FVec Ideal S128x1024 .bf16) : Prop where
  queries : ∀ i h d, x i h d = P (ix2 ⟨n.val * 128 + i.val, by omega⟩ ⟨3072 + (h.val * 64 + d.val), by omega⟩)
  sinks : ∀ h, s h = S (ix2 0 h)
  cosines : ∀ i j, cf i j = cosT (ix2 ⟨n.val * 128 + i.val, by omega⟩ j)
  sines : ∀ i j, sf i j = sinT (ix2 ⟨n.val * 128 + i.val, by omega⟩ j)
  keys : ∀ h k d, 128 ≤ n.val * 128 + k.val → lanes K h k d = band (fun r => keyR P r h d) n k
  values : ∀ h k d, 128 ≤ n.val * 128 + k.val → lanes V h k d = band (fun r => valueR P r h d) n k
  out : ∀ i q, O (ix2 i q) = outR W D ⟨n.val * 128 + i.val, by omega⟩ q

/-- The tables' lanes of the first head are the tables. -/
theorem cOf_eq {c u v : FVec Ideal S128x256 .f32} {cf sf : Fin 128 → Fin 8 → EReal} (T : IsTables (w := 256) c u v cf sf) (i : Fin 128) (j : Fin 8) : cOf c i j = cf i j := by
  refine (T.1 i ⟨j.val, by omega⟩).trans ?_
  have e : (⟨j.val % 8, by omega⟩ : Fin 8) = j := Fin.ext (show j.val % 8 = j.val by omega)
  rw [if_pos (show j.val % 64 < 16 by omega)]
  simp only [e]
theorem snOf_eq {c u v : FVec Ideal S128x256 .f32} {cf sf : Fin 128 → Fin 8 → EReal} (T : IsTables (w := 256) c u v cf sf) (i : Fin 128) (j : Fin 8) : snOf v i j = sf i j := by
  refine (T.2.2 i ⟨8 + j.val, by omega⟩).trans ?_
  have e : (⟨(8 + j.val) % 8, by omega⟩ : Fin 8) = j := Fin.ext (show (8 + j.val) % 8 = j.val by omega)
  rw [if_pos (show 8 ≤ (8 + j.val) % 64 ∧ (8 + j.val) % 64 < 16 by omega)]
  simp only [e]
theorem tables_of {c u v : FVec Ideal S128x256 .f32} {cf sf : Fin 128 → Fin 8 → EReal} (T : IsTables (w := 256) c u v cf sf) : IsTables (w := 256) c u v (cOf c) (snOf v) := by
  rw [show cOf c = cf from funext fun i => funext (cOf_eq T i), show snOf v = sf from funext fun i => funext (snOf_eq T i)]
  exact T

variable {P S W D} in
/-- The blocks of a grid point, read off the arguments and the tables, are the arguments' block. -/
theorem meets_of (n : Fin 16) {X0 : FVec Ideal S1x16 .f32} {X1 : FVec Ideal S128x1024 .f32} {X2 X3 X4 X5 X6 X7 X8 X9 X10 X11 : FVec Ideal S128x256 .f32} {O : FVec Ideal S128x1024 .bf16}
    (h0 : ∀ h, X0 (ix2 0 h) = S (ix2 0 h)) (h1 : ∀ i j, X1 (ix2 i j) = P (ix2 ⟨n.val * 128 + i.val, by omega⟩ ⟨3072 + j.val, by omega⟩))
    (h2 : ∀ i j, X2 (ix2 i j) = P (ix2 ⟨(n.val - 1) * 128 + i.val, by omega⟩ ⟨4096 + j.val, by omega⟩)) (h3 : ∀ i j, X3 (ix2 i j) = P (ix2 ⟨n.val * 128 + i.val, by omega⟩ ⟨4096 + j.val, by omega⟩))
    (h4 : ∀ i j, X4 (ix2 i j) = P (ix2 ⟨(n.val - 1) * 128 + i.val, by omega⟩ ⟨4352 + j.val, by omega⟩)) (h5 : ∀ i j, X5 (ix2 i j) = P (ix2 ⟨n.val * 128 + i.val, by omega⟩ ⟨4352 + j.val, by omega⟩))
    (T : IsTables (w := 256) X6 X7 X8 (fun i j => cosT (ix2 ⟨n.val * 128 + i.val, by omega⟩ j)) (fun i j => sinT (ix2 ⟨n.val * 128 + i.val, by omega⟩ j)))
    (T' : IsTables (w := 256) X9 X10 X11 (fun i j => cosT (ix2 ⟨(n.val - 1) * 128 + i.val, by omega⟩ j)) (fun i j => sinT (ix2 ⟨(n.val - 1) * 128 + i.val, by omega⟩ j)))
    (hO : ∀ i q, O (ix2 i q) = outR W D ⟨n.val * 128 + i.val, by omega⟩ q) :
    Meets P S W D n (xOf X1) (sOf X0) (cOf X6) (snOf X8) (k0_pay6 (k0_pay3 X2 X9 X10 X11) X3 (k0_pay4 X6) (k0_pay5 X7) X8) (k0_pay7 X4 X5) O where
  queries i h d := h1 i _
  sinks h := h0 h
  cosines := cOf_eq T
  sines := snOf_eq T
  keys h k d q := by
    refine (keys_at _ _ _ _ _ _ _ _ T' T h k d).trans ?_
    refine Eq.trans ?_ (dif_neg (show ¬n.val * 128 + k.val < 128 by omega)).symm
    by_cases u : k.val < 128
    · have e : (⟨(n.val - 1) * 128 + k.val, by omega⟩ : Fin 2048) = ⟨n.val * 128 + k.val - 128, by omega⟩ := Fin.ext (show (n.val - 1) * 128 + k.val = n.val * 128 + k.val - 128 by omega)
      rw [dif_pos u]
      simp only [h2, e]
    · have e : (⟨n.val * 128 + (k.val - 128), by omega⟩ : Fin 2048) = ⟨n.val * 128 + k.val - 128, by omega⟩ := Fin.ext (show n.val * 128 + (k.val - 128) = n.val * 128 + k.val - 128 by omega)
      rw [dif_neg u]
      simp only [h3, e]
  values h k d q := by
    refine (values_at _ _ h k d).trans ?_
    refine Eq.trans ?_ (dif_neg (show ¬n.val * 128 + k.val < 128 by omega)).symm
    by_cases u : k.val < 128
    · rw [dif_pos u, h4]
      exact congrArg (fun r => P (ix2 r _)) (Fin.ext (show (n.val - 1) * 128 + k.val = n.val * 128 + k.val - 128 by omega))
    · rw [dif_neg u, h5]
      exact congrArg (fun r => P (ix2 r _)) (Fin.ext (show n.val * 128 + (k.val - 128) = n.val * 128 + k.val - 128 by omega))
  out := hO

section
variable {P S W D} {n : Fin 16} {x : Fin 128 → Fin 16 → Fin 64 → EReal} {s : Fin 16 → EReal} {cf sf : Fin 128 → Fin 8 → EReal} {K V : FVec Ideal S256x256 .f32} {O : FVec Ideal S128x1024 .bf16}
  (M : Meets P S W D n x s cf sf K V O)
include M

theorem queries_eq (i : Fin 128) (h g : Fin 4) (d : Fin 64) : queriesB x cf sf h i g d = queryR P ⟨n.val * 128 + i.val, by omega⟩ ⟨h.val * 4 + g.val, by omega⟩ d := by
  unfold queriesB queryR
  rw [show x i ⟨h.val * 4 + g.val, by omega⟩ = _ from funext (M.queries i _), show cf i = _ from funext (M.cosines i), show sf i = _ from funext (M.sines i)]

theorem score_eq (i : Fin 128) (h g : Fin 4) : scoreB (seen n) (lanes K h) (queriesB x cf sf h) i g = score P n i h g := by
  funext k
  unfold scoreB score
  by_cases q : seen n i k
  · rw [if_pos q, if_pos q]
    refine congrArg (· * _) (Finset.sum_congr rfl fun d _ => ?_)
    rw [M.keys h k d q.2.2, queries_eq M]
  · rw [if_neg q, if_neg q]

theorem seen_of_score (i : Fin 128) (h g : Fin 4) (k : Fin 256) (e : score P n i h g k ≠ ⊥) : seen n i k := by
  by_contra q
  exact e (by unfold score; rw [if_neg q])

theorem prob_eq_seen (i : Fin 128) (h g : Fin 4) (k : Fin 256) (e : score P n i h g k ≠ ⊥) : probB (lanes V h) (rowsW O h) i g k = probR P W D n i h g k := by
  have q := seen_of_score M i h g k e
  refine Finset.sum_congr rfl fun d _ => ?_
  rw [M.values h k d q.2.2, rowsW, M.out, mul_comm]

theorem dvPoint_eq (k q : Fin 256) : dvPoint n x s cf sf K O k q = dvR P S W D n k ⟨q.val / 64, by omega⟩ ⟨q.val % 64, by omega⟩ := by
  unfold dvPoint dvB dvR
  rw [Finset.sum_comm]
  refine Finset.sum_congr rfl fun g _ => Finset.sum_congr rfl fun i _ => ?_
  rw [score_eq M, rowsW, M.out, sinksB, M.sinks, mul_comm]

variable (hP : ∀ j, IsReal (P j)) (hz : ∀ j, IsReal (S j))
include hP hz

theorem ds_meet (i : Fin 128) (h g : Fin 4) (k : Fin 256) :
    ds (scoreB (seen n) (lanes K h) (queriesB x cf sf h) i g) (sinksB s h g) (probB (lanes V h) (rowsW O h) i g) k = dsR P S W D n i h g k := by
  rw [score_eq M, sinksB, M.sinks]
  exact ds_congr (isReal_score n i h g hP) (hz _) (prob_eq_seen M i h g) k

theorem dkPoint_eq (k q : Fin 256) : dkPoint n x s cf sf K V O k q = dkR P S W D n k ⟨q.val / 64, by omega⟩ ⟨q.val % 64, by omega⟩ := by
  unfold dkPoint dkB dkR
  refine Finset.sum_congr rfl fun i _ => Finset.sum_congr rfl fun g _ => ?_
  rw [ds_meet M hP hz, queries_eq M]

theorem dqPoint_eq (i : Fin 128) (q : Fin 1024) : dqPoint n x s cf sf K V O i q
    = unrot (dqR P S W D n i ⟨q.val / 64 / 4, by omega⟩ ⟨q.val / 64 % 4, by omega⟩) (fun j => cosT (ix2 ⟨n.val * 128 + i.val, by omega⟩ j)) (fun j => sinT (ix2 ⟨n.val * 128 + i.val, by omega⟩ j)) ⟨q.val % 64, by omega⟩ := by
  have e : (⟨q.val / 256, by omega⟩ : Fin 4) = ⟨q.val / 64 / 4, by omega⟩ := Fin.ext (show q.val / 256 = q.val / 64 / 4 by omega)
  unfold dqPoint
  rw [e, show cf i = _ from funext (M.cosines i), show sf i = _ from funext (M.sines i)]
  refine congrArg (fun f => unrot f _ _ _) (funext fun d => ?_)
  unfold dqB dqR
  refine Finset.sum_congr rfl fun k _ => ?_
  rw [ds_meet M hP hz]
  by_cases u : score P n i ⟨q.val / 64 / 4, by omega⟩ ⟨q.val / 64 % 4, by omega⟩ k = ⊥
  · rw [show dsR P S W D n i ⟨q.val / 64 / 4, by omega⟩ ⟨q.val / 64 % 4, by omega⟩ k = 0 from ds_unseen (isReal_score n i _ _ hP) (hz _) k u, zero_mul, zero_mul]
  · rw [M.keys _ k d (seen_of_score M i _ _ k u).2.2]

theorem dzPoint_eq (hW : ∀ j, IsReal (W j)) (hD : ∀ j, IsReal (D j)) (l : Fin 128) : dzPoint n x s cf sf K V O l
    = if h : l.val < 16 then ∑ i, -dzR P S W D n i ⟨l.val / 4, by omega⟩ ⟨l.val % 4, by omega⟩ else 0 := by
  unfold dzPoint
  by_cases h : l.val < 16
  · rw [dif_pos h, dif_pos h]
    have e : ∀ i : Fin 128, dzB (seen n) (lanes K ⟨l.val / 4, by omega⟩) (lanes V ⟨l.val / 4, by omega⟩) (queriesB x cf sf ⟨l.val / 4, by omega⟩) (rowsW O ⟨l.val / 4, by omega⟩) (sinksB s ⟨l.val / 4, by omega⟩) i ⟨l.val % 4, by omega⟩
        = dzR P S W D n i ⟨l.val / 4, by omega⟩ ⟨l.val % 4, by omega⟩ := fun i => by
      unfold dzB dzR dz
      rw [score_eq M, sinksB, M.sinks]
      rw [delta_congr (isReal_score n i _ _ hP) (hz _) (prob_eq_seen M i _ _)]
    simp only [e]
    have r : ∀ i : Fin 128, IsReal (dzR P S W D n i ⟨l.val / 4, by omega⟩ ⟨l.val % 4, by omega⟩) := fun i =>
      isReal_dz (isReal_score n i _ _ hP) (hz _) (isReal_probR n i _ _ hP hW hD)
    choose a ha using r
    simp only [ha, ← EReal.coe_neg, coe_sum, zero_sub]
    rw [Finset.sum_neg_distrib]
  · rw [dif_neg h, dif_neg h]

end

/-- The first block has no keys before it. -/
theorem dvR_first (hP : ∀ j, IsReal (P j)) (hz : ∀ j, IsReal (S j)) (n : Fin 16) (hn : n.val = 0) (k : Fin 256) (hk : k.val < 128) (h : Fin 4) (d : Fin 64) : dvR P S W D n k h d = 0 := by
  refine Finset.sum_eq_zero fun g _ => Finset.sum_eq_zero fun i _ => ?_
  rw [show pR P S n i h g k = 0 from prob_unseen (isReal_score n i h g hP) (hz _) k (by unfold score; exact if_neg fun q => absurd q.2.2 (by omega)), mul_zero]
theorem dkR_first (hP : ∀ j, IsReal (P j)) (hz : ∀ j, IsReal (S j)) (n : Fin 16) (hn : n.val = 0) (k : Fin 256) (hk : k.val < 128) (h : Fin 4) (d : Fin 64) : dkR P S W D n k h d = 0 := by
  refine Finset.sum_eq_zero fun i _ => Finset.sum_eq_zero fun g _ => ?_
  rw [show dsR P S W D n i h g k = 0 from ds_unseen (isReal_score n i h g hP) (hz _) k (by unfold score; exact if_neg fun q => absurd q.2.2 (by omega)), zero_mul]

end Cert.AttnIdeal.Value

end
-- ==== Proof.Attn.Windows.lean ====
/-
  The attention's backward kernel: the blocks of its windows, the rotation tables its host lines make, and its six results.
-/
module

public import proofs.«01_k».proof.Proof.Attn.Meet
public import Idealize.ShloMosaic.Lib.StableHlo.ReadAt

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnRow Cert.RealValues
open Cert.AttnRefIdeal.Meaning (rot unrot seen band keyR queryR valueR sinkR outR probR score cosT sinT dqR dkR dvR dzR dsR pR shifted dqr_at dvo_at dvp_at dko_at dkp_at sinks_at)

variable (m : (ℓ : Loc nD τ sig) → Buf (Elt Ideal) ℓ) (c : Dev nD) (t : Fin cfg0.N)

/-- Where each window's block sits at a grid point, and the point's number. -/
theorem idx : ∀ t : Fin cfg0.N,
    win0_0.index t = ![0, 0] ∧ win0_1.index t = ![t.val, 3] ∧ win0_2.index t = ![t.val - 1, 16] ∧ win0_3.index t = ![t.val, 16]
      ∧ win0_4.index t = ![t.val - 1, 17] ∧ win0_5.index t = ![t.val, 17] ∧ win0_6.index t = ![t.val, 0]
      ∧ win0_7.index t = ![t.val, 0] ∧ win0_8.index t = ![t.val, 0] ∧ win0_9.index t = ![t.val - 1, 0]
      ∧ win0_10.index t = ![t.val - 1, 0] ∧ win0_11.index t = ![t.val - 1, 0] ∧ win0_12.index t = ![t.val, 0] ∧ win0_13.index t = ![0, 0]
      ∧ win0_14.index t = ![t.val, 0] ∧ win0_15.index t = ![(t.val + 15) % 16, 0] ∧ win0_16.index t = ![t.val, 0]
      ∧ win0_17.index t = ![(t.val + 15) % 16, 0] ∧ win0_18.index t = ![t.val, 0] ∧ win0_19.index t = ![0, 0] ∧ (grid0.coords t 0).val = t.val ∧ t.val < 16 :=
  (by decide +kernel : ∀ t : Fin grid0.N, _)
open Cert.AttnRefIdeal.Read (val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_cst val_main_cst_0 val_main_cst_1 val_main_cst_2)

/-- The rotation angles' cosines and sines, opened. -/
theorem cos_at (r : Fin 2048) (j : Fin 8) : cosT (ix2 r j) = Ideal.cos (FloatOps.sitofp (F := Ideal) FTy.f32 (BitVec.ofNat 32 r.val) * Ideal.pow (Ideal.ofBits FTy.f32 1223959552#32) (Ideal.div (-(Ideal.ofBits FTy.f32 1073741824#32 * FloatOps.sitofp (F := Ideal) FTy.f32 (BitVec.ofNat 32 j.val))) (Ideal.ofBits FTy.f32 1098907648#32))) := by
  pointwise [cosT, val_main_v25, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2]
theorem sin_at (r : Fin 2048) (j : Fin 8) : sinT (ix2 r j) = Ideal.sin (FloatOps.sitofp (F := Ideal) FTy.f32 (BitVec.ofNat 32 r.val) * Ideal.pow (Ideal.ofBits FTy.f32 1223959552#32) (Ideal.div (-(Ideal.ofBits FTy.f32 1073741824#32 * FloatOps.sitofp (F := Ideal) FTy.f32 (BitVec.ofNat 32 j.val))) (Ideal.ofBits FTy.f32 1098907648#32))) := by
  pointwise [sinT, val_main_v26, val_main_v24, val_main_v23, val_main_v22, val_main_v21, val_main_v20, val_main_v19, val_main_v18, val_main_v17, val_main_v16, val_main_v15, val_main_v14, val_main_v13, val_main_v12, val_main_v11, val_main_v10, val_main_v9, val_main_cst, val_main_cst_0, val_main_cst_1, val_main_cst_2]
/-- The three rotation tables the host lines hand to the kernel. -/
theorem tabC (r : Fin 2048) (l : Fin 256) : V m c main_v29 (ix2 r l) = if l.val % 64 < 16 then cosT (ix2 r ⟨l.val % 8, by omega⟩) else 1 := by
  unfold V
  after_reads_at
  have h0 : ∀ j, StableHlo.upto hostOps0 (fun b => m (c, b)) 30 (Proc.tc.devRef main_v18) (ix2 r j) = cosT (ix2 r j) := by
    intro j
    after_reads_at
    simp only [cos_at, sin_at]
  have h1 : ∀ j, StableHlo.upto hostOps0 (fun b => m (c, b)) 30 (Proc.tc.devRef main_v20) (ix2 r j) = (1 : EReal) := by
    intro j
    after_reads_at
  simp only [h0, h1]
  by_cases q : l.val % 64 < 8
  · have e : l.val % 64 = l.val % 8 := by omega
    simp only [dif_pos q]
    rw [if_pos (show l.val % 64 < 16 by omega)]
    simp only [e]
  · by_cases q' : l.val % 64 - 8 < 8
    · have e : l.val % 64 - 8 = l.val % 8 := by omega
      simp only [dif_neg q, dif_pos q']
      rw [if_pos (show l.val % 64 < 16 by omega)]
      simp only [e]
    · simp only [dif_neg q, dif_neg q']
      rw [if_neg (show ¬l.val % 64 < 16 by omega)]
theorem tabU (r : Fin 2048) (l : Fin 256) : V m c main_v32 (ix2 r l) = if l.val % 64 < 8 then -sinT (ix2 r ⟨l.val % 8, by omega⟩) else 0 := by
  unfold V
  after_reads_at
  have h0 : ∀ j, StableHlo.upto hostOps0 (fun b => m (c, b)) 32 (Proc.tc.devRef main_v24) (ix2 r j) = -sinT (ix2 r j) := by
    intro j
    after_reads_at
    simp only [cos_at, sin_at]
  have h1 : ∀ j, StableHlo.upto hostOps0 (fun b => m (c, b)) 32 (Proc.tc.devRef main_v22) (ix2 r j) = (0 : EReal) := by
    intro j
    after_reads_at
  have h2 : ∀ j, StableHlo.upto hostOps0 (fun b => m (c, b)) 32 (Proc.tc.devRef main_v21) (ix2 r j) = (0 : EReal) := by
    intro j
    after_reads_at
  simp only [h0, h1, h2]
  by_cases q : l.val % 64 < 8
  · have e : l.val % 64 = l.val % 8 := by omega
    simp only [dif_pos q]
    rw [if_pos q]
    simp only [e]
  · by_cases q' : l.val % 64 - 8 < 8
    · have e : l.val % 64 - 8 = l.val % 8 := by omega
      simp only [dif_neg q, dif_pos q']
      rw [if_neg q]
    · simp only [dif_neg q, dif_neg q']
      rw [if_neg q]
theorem tabV (r : Fin 2048) (l : Fin 256) : V m c main_v35 (ix2 r l) = if 8 ≤ l.val % 64 ∧ l.val % 64 < 16 then sinT (ix2 r ⟨l.val % 8, by omega⟩) else 0 := by
  unfold V
  after_reads_at
  have h0 : ∀ j, StableHlo.upto hostOps0 (fun b => m (c, b)) 33 (Proc.tc.devRef main_v22) (ix2 r j) = (0 : EReal) := by
    intro j
    after_reads_at
  have h1 : ∀ j, StableHlo.upto hostOps0 (fun b => m (c, b)) 33 (Proc.tc.devRef main_v19) (ix2 r j) = sinT (ix2 r j) := by
    intro j
    after_reads_at
    simp only [cos_at, sin_at]
  have h2 : ∀ j, StableHlo.upto hostOps0 (fun b => m (c, b)) 33 (Proc.tc.devRef main_v21) (ix2 r j) = (0 : EReal) := by
    intro j
    after_reads_at
  simp only [h0, h1, h2]
  by_cases q : l.val % 64 < 8
  · have e : l.val % 64 = l.val % 8 := by omega
    simp only [dif_pos q]
    rw [if_neg (show ¬(8 ≤ l.val % 64 ∧ l.val % 64 < 16) by omega)]
  · by_cases q' : l.val % 64 - 8 < 8
    · have e : l.val % 64 - 8 = l.val % 8 := by omega
      simp only [dif_neg q, dif_pos q']
      rw [if_pos (show 8 ≤ l.val % 64 ∧ l.val % 64 < 16 by omega)]
      simp only [e]
    · simp only [dif_neg q, dif_neg q']
      rw [if_neg (show ¬(8 ≤ l.val % 64 ∧ l.val % 64 < 16) by omega)]
/-- The row of the whole array that a block's row is, and that of the block before it. -/
abbrev row (i : Fin 128) : Fin 2048 := ⟨t.val * 128 + i.val, by have := lt_of_lt_of_eq t.isLt N_0; omega⟩
abbrev back (i : Fin 128) : Fin 2048 := ⟨(t.val - 1) * 128 + i.val, by have := lt_of_lt_of_eq t.isLt N_0; omega⟩

theorem win0 (h : Fin 16) : iblk m c 0 t (ix2 0 h) = m ((c : Thread nD τ).loc main_arg1) (ix2 0 h) := by
  blk_point [iblk, V, idx t]
theorem win1 (i : Fin 128) (j : Fin 1024) : X0_1 m c t (ix2 i j) = m ((c : Thread nD τ).loc main_arg0) (ix2 (row t i) ⟨3072 + j.val, by omega⟩) := by
  unfold X0_1 Pipeline.Window.fill
  rw [dif_pos (moved0_1 t _)]
  blk_point [iblk, V, idx t]
theorem win2 (i : Fin 128) (j : Fin 256) : iblk m c 2 t (ix2 i j) = m ((c : Thread nD τ).loc main_arg0) (ix2 (back t i) ⟨4096 + j.val, by omega⟩) := by
  blk_point [iblk, V, idx t]
theorem win3 (i : Fin 128) (j : Fin 256) : iblk m c 3 t (ix2 i j) = m ((c : Thread nD τ).loc main_arg0) (ix2 (row t i) ⟨4096 + j.val, by omega⟩) := by
  blk_point [iblk, V, idx t]
theorem win4 (i : Fin 128) (j : Fin 256) : iblk m c 4 t (ix2 i j) = m ((c : Thread nD τ).loc main_arg0) (ix2 (back t i) ⟨4352 + j.val, by omega⟩) := by
  blk_point [iblk, V, idx t]
theorem win5 (i : Fin 128) (j : Fin 256) : iblk m c 5 t (ix2 i j) = m ((c : Thread nD τ).loc main_arg0) (ix2 (row t i) ⟨4352 + j.val, by omega⟩) := by
  blk_point [iblk, V, idx t]
theorem win6 (i : Fin 128) (l : Fin 256) : iblk m c 6 t (ix2 i l) = V m c main_v29 (ix2 (row t i) l) := by
  blk_point [iblk, idx t]
theorem win7 (i : Fin 128) (l : Fin 256) : iblk m c 7 t (ix2 i l) = V m c main_v32 (ix2 (row t i) l) := by
  blk_point [iblk, idx t]
theorem win8 (i : Fin 128) (l : Fin 256) : iblk m c 8 t (ix2 i l) = V m c main_v35 (ix2 (row t i) l) := by
  blk_point [iblk, idx t]
theorem win9 (i : Fin 128) (l : Fin 256) : iblk m c 9 t (ix2 i l) = V m c main_v29 (ix2 (back t i) l) := by
  blk_point [iblk, idx t]
theorem win10 (i : Fin 128) (l : Fin 256) : iblk m c 10 t (ix2 i l) = V m c main_v32 (ix2 (back t i) l) := by
  blk_point [iblk, idx t]
theorem win11 (i : Fin 128) (l : Fin 256) : iblk m c 11 t (ix2 i l) = V m c main_v35 (ix2 (back t i) l) := by
  blk_point [iblk, idx t]
theorem win12 (i : Fin 128) (j : Fin 1024) : iblk m c 12 t (ix2 i j) = m ((c : Thread nD τ).loc main_arg3) (ix2 (row t i) j) := by
  blk_point [iblk, V, idx t]
theorem win13 (i : Fin 1024) (j : Fin 1024) : iblk m c 13 t (ix2 i j) = m ((c : Thread nD τ).loc main_arg2) (ix2 i j) := by
  blk_point [iblk, V, idx t]

theorem tables_row : IsTables (w := 256) (iblk m c 6 t) (iblk m c 7 t) (iblk m c 8 t) (fun i j => cosT (ix2 (row t i) j)) (fun i j => sinT (ix2 (row t i) j)) :=
  ⟨fun i l => (win6 m c t i l).trans (tabC m c _ l), fun i l => (win7 m c t i l).trans (tabU m c _ l), fun i l => (win8 m c t i l).trans (tabV m c _ l)⟩
theorem tables_back : IsTables (w := 256) (iblk m c 9 t) (iblk m c 10 t) (iblk m c 11 t) (fun i j => cosT (ix2 (back t i) j)) (fun i j => sinT (ix2 (back t i) j)) :=
  ⟨fun i l => (win9 m c t i l).trans (tabC m c _ l), fun i l => (win10 m c t i l).trans (tabU m c _ l), fun i l => (win11 m c t i l).trans (tabV m c _ l)⟩

theorem tables_at : IsTables (w := 256) (iblk m c 6 t) (iblk m c 7 t) (iblk m c 8 t) (cB m c t) (snB m c t) := tables_of (tables_row m c t)

theorem oB_eq (i : Fin 128) (q : Fin 1024) : oB m c t (ix2 i q) = outR (m ((c : Thread nD τ).loc main_arg2)) (m ((c : Thread nD τ).loc main_arg3)) (row t i) q := by
  pointwise [oB, k0_pay8, outR]
  refine Finset.sum_congr rfl fun j _ => ?_
  rw [win12, win13]

/-- The block of every grid point is the arguments' block. -/
theorem meets (n : Fin 16) (hn : t.val = n.val) :
    Meets (m ((c : Thread nD τ).loc main_arg0)) (m ((c : Thread nD τ).loc main_arg1)) (m ((c : Thread nD τ).loc main_arg2)) (m ((c : Thread nD τ).loc main_arg3))
      n (xB m c t) (sB m c t) (cB m c t) (snB m c t) (kB m c t) (vB m c t) (oB m c t) := by
  obtain rfl : n = ⟨t.val, lt_of_lt_of_eq t.isLt N_0⟩ := Fin.ext hn.symm
  exact meets_of _ (win0 m c t) (win1 m c t) (win2 m c t) (win3 m c t) (win4 m c t) (win5 m c t) (tables_row m c t) (tables_back m c t) (oB_eq m c t)

end Cert.AttnIdeal.Value

end
-- ==== Proof.Attn.Finals.lean ====
/-
  The attention's backward kernel: its six results are the reference's.
-/
module

public import proofs.«01_k».proof.Proof.Attn.Windows

@[expose] public section

set_option maxRecDepth 16384

noncomputable section

namespace Cert.AttnIdeal.Value

open Cert.AttnIdeal Cert.AttnIdeal.Gen Idealize.ShloMosaic Idealize.ShloMosaic.TcCoe Idealize.SL.Sem
open Cert.AttnRow Cert.RealValues
open Cert.AttnRefIdeal.Meaning (rot unrot cosT sinT dqR dkR dvR dzR shifted dqr_at dvo_at dvp_at dko_at dkp_at sinks_at)
open Cert.AttnRefIdeal.Read (val_main_v225 val_main_v226 val_main_v227 val_main_v228 val_main_v251 val_main_v252)

variable (m : (ℓ : Loc nD τ sig) → Buf (Elt Ideal) ℓ) (c : Dev nD)

/-- The four arguments. -/
abbrev a0 : FVec Ideal S2048x6656 .f32 := m ((c : Thread nD τ).loc main_arg0)
abbrev a1 : FVec Ideal S1x16 .f32 := m ((c : Thread nD τ).loc main_arg1)
abbrev a2 : FVec Ideal S1024x1024 .f32 := m ((c : Thread nD τ).loc main_arg2)
abbrev a3 : FVec Ideal S2048x1024 .f32 := m ((c : Thread nD τ).loc main_arg3)

/-- A grid point's number, and the rows its blocks of before-the-block gradients go to. -/
abbrev num (t : Fin cfg0.N) : Fin 16 := ⟨t.val, lt_of_lt_of_eq t.isLt N_0⟩
abbrev wrap (t : Fin cfg0.N) (i : Fin 128) : Fin 2048 := ⟨(t.val + 15) % 16 * 128 + i.val, by omega⟩

theorem coords_num (t : Fin cfg0.N) : (grid0.coords t 0).val = (num t).val := by
  obtain ⟨_, _, _, _, _, _, _, _, _, _, _, _, _, _, _, _, _, _, _, _, h, _⟩ := idx t
  exact h

theorem emb14 (t : Fin cfg0.N) (y : ((cfg0.win 14).xblock (cfg0.grid.coords t)).Idx) : ((cfg0.win 14).blk t).view.emb y = ix2 (row t (y 0)) (y 1 : Fin 1024) := by
  apply Shape.idx_ext₂ <;> blk_simp [idx t]
theorem emb15 (t : Fin cfg0.N) (y : ((cfg0.win 15).xblock (cfg0.grid.coords t)).Idx) : ((cfg0.win 15).blk t).view.emb y = ix2 (wrap t (y 0)) (y 1 : Fin 256) := by
  apply Shape.idx_ext₂ <;> blk_simp [idx t]
theorem emb16 (t : Fin cfg0.N) (y : ((cfg0.win 16).xblock (cfg0.grid.coords t)).Idx) : ((cfg0.win 16).blk t).view.emb y = ix2 (row t (y 0)) (y 1 : Fin 256) := by
  apply Shape.idx_ext₂ <;> blk_simp [idx t]
theorem emb17 (t : Fin cfg0.N) (y : ((cfg0.win 17).xblock (cfg0.grid.coords t)).Idx) : ((cfg0.win 17).blk t).view.emb y = ix2 (wrap t (y 0)) (y 1 : Fin 256) := by
  apply Shape.idx_ext₂ <;> blk_simp [idx t]
theorem emb18 (t : Fin cfg0.N) (y : ((cfg0.win 18).xblock (cfg0.grid.coords t)).Idx) : ((cfg0.win 18).blk t).view.emb y = ix2 (row t (y 0)) (y 1 : Fin 256) := by
  apply Shape.idx_ext₂ <;> blk_simp [idx t]

/-- A gradient of the keys before a block lies one block up, and the first block's is zero. -/
theorem shifted_wrap (f : Fin 16 → Fin 256 → EReal) (t : Fin cfg0.N) (i : Fin 128) (hf : (num t).val = 0 → f (num t) ⟨i.val, by omega⟩ = 0) :
    f (num t) ⟨i.val, by omega⟩ = shifted f (wrap t i) := by
  have hN := lt_of_lt_of_eq t.isLt N_0
  unfold shifted
  by_cases h : t.val = 0
  · rw [hf h, dif_neg (show ¬(t.val + 15) % 16 * 128 + i.val < 1920 by omega)]
  · rw [dif_pos (show (t.val + 15) % 16 * 128 + i.val < 1920 by omega)]
    congr 1
    · exact Fin.ext (show t.val = ((t.val + 15) % 16 * 128 + i.val) / 128 + 1 by omega)
    · exact Fin.ext (show i.val = ((t.val + 15) % 16 * 128 + i.val) % 128 by omega)

theorem row_div (t : Fin cfg0.N) (i : Fin 128) : (⟨(row t i).val / 128, by omega⟩ : Fin 16) = num t := Fin.ext (show (t.val * 128 + i.val) / 128 = t.val by omega)
theorem row_mod (t : Fin cfg0.N) (i : Fin 128) : (⟨(row t i).val % 128, by omega⟩ : Fin 128) = i := Fin.ext (show (t.val * 128 + i.val) % 128 = i.val by omega)
theorem row_low (t : Fin cfg0.N) (i : Fin 128) : (⟨128 + (row t i).val % 128, by omega⟩ : Fin 256) = ⟨128 + i.val, by omega⟩ := Fin.ext (show 128 + (t.val * 128 + i.val) % 128 = 128 + i.val by omega)

variable (hP : ∀ j, IsReal (a0 m c j)) (hz : ∀ j, IsReal (a1 m c j)) (hW : ∀ j, IsReal (a2 m c j)) (hD : ∀ j, IsReal (a3 m c j))
include hP hz

theorem final16 (hW : ∀ j, IsReal (a2 m c j)) (hD : ∀ j, IsReal (a3 m c j)) : (dats m 0 c).arrAt 16 (cfgs 0).N = val_main_v227 (F := Ideal) (a0 m c) (a1 m c) (a2 m c) (a3 m c) := by
  refine (dats m 0 c).arrAt_eq_of_covers 16 _ (by decide +kernel) fun t _ y => ?_
  obtain ⟨i, hi⟩ : ∃ i : Fin 128, i = y 0 := ⟨_, rfl⟩
  rw [emb16 t y, ← hi]
  blk_simp
  rw [after0_16]
  refine ((outs m c t (num t) (coords_num t) (tables_at m c t)).2.2.1 _ ⟨128 + i.val, by omega⟩ (congrArg (fun z : Fin 128 => 128 + z.val) hi)).trans ((dkPoint_eq (meets m c t (num t) rfl) hP hz _ _).trans ?_)
  refine Eq.trans ?_ (dko_at hP hz hW hD _ _).symm
  rw [row_div, row_low]

theorem final18 (hW : ∀ j, IsReal (a2 m c j)) (hD : ∀ j, IsReal (a3 m c j)) : (dats m 0 c).arrAt 18 (cfgs 0).N = val_main_v225 (F := Ideal) (a0 m c) (a1 m c) (a2 m c) (a3 m c) := by
  refine (dats m 0 c).arrAt_eq_of_covers 18 _ (by decide +kernel) fun t _ y => ?_
  obtain ⟨i, hi⟩ : ∃ i : Fin 128, i = y 0 := ⟨_, rfl⟩
  rw [emb18 t y, ← hi]
  blk_simp
  rw [after0_18]
  refine ((outs m c t (num t) (coords_num t) (tables_at m c t)).2.2.2.2 _ ⟨128 + i.val, by omega⟩ (congrArg (fun z : Fin 128 => 128 + z.val) hi)).trans ((dvPoint_eq (meets m c t (num t) rfl) _ _).trans ?_)
  refine Eq.trans ?_ (dvo_at hP hz hW hD _ _).symm
  rw [row_div, row_low]

theorem final15 (hW : ∀ j, IsReal (a2 m c j)) (hD : ∀ j, IsReal (a3 m c j)) : (dats m 0 c).arrAt 15 (cfgs 0).N = val_main_v228 (F := Ideal) (a0 m c) (a1 m c) (a2 m c) (a3 m c) := by
  refine (dats m 0 c).arrAt_eq_of_covers 15 _ (by decide +kernel) fun t _ y => ?_
  obtain ⟨i, hi⟩ : ∃ i : Fin 128, i = y 0 := ⟨_, rfl⟩
  rw [emb15 t y, ← hi]
  blk_simp
  rw [after0_15]
  refine ((outs m c t (num t) (coords_num t) (tables_at m c t)).2.1 _ ⟨i.val, by omega⟩ (congrArg Fin.val hi)).trans ((dkPoint_eq (meets m c t (num t) rfl) hP hz _ _).trans ?_)
  refine Eq.trans ?_ (dkp_at hP hz hW hD _ _).symm
  exact shifted_wrap (fun n k => dkR (a0 m c) (a1 m c) (a2 m c) (a3 m c) n k _ _) t i fun h => dkR_first _ _ _ _ hP hz (num t) h ⟨i.val, by omega⟩ i.isLt _ _

theorem final17 (hW : ∀ j, IsReal (a2 m c j)) (hD : ∀ j, IsReal (a3 m c j)) : (dats m 0 c).arrAt 17 (cfgs 0).N = val_main_v226 (F := Ideal) (a0 m c) (a1 m c) (a2 m c) (a3 m c) := by
  refine (dats m 0 c).arrAt_eq_of_covers 17 _ (by decide +kernel) fun t _ y => ?_
  obtain ⟨i, hi⟩ : ∃ i : Fin 128, i = y 0 := ⟨_, rfl⟩
  rw [emb17 t y, ← hi]
  blk_simp
  rw [after0_17]
  refine ((outs m c t (num t) (coords_num t) (tables_at m c t)).2.2.2.1 _ ⟨i.val, by omega⟩ (congrArg Fin.val hi)).trans ((dvPoint_eq (meets m c t (num t) rfl) _ _).trans ?_)
  refine Eq.trans ?_ (dvp_at hP hz hW hD _ _).symm
  exact shifted_wrap (fun n k => dvR (a0 m c) (a1 m c) (a2 m c) (a3 m c) n k _ _) t i fun h => dvR_first _ _ _ _ hP hz (num t) h ⟨i.val, by omega⟩ i.isLt _ _

theorem final14 (hW : ∀ j, IsReal (a2 m c j)) (hD : ∀ j, IsReal (a3 m c j)) : (dats m 0 c).arrAt 14 (cfgs 0).N = val_main_v251 (F := Ideal) (a0 m c) (a1 m c) (a2 m c) (a3 m c) := by
  refine (dats m 0 c).arrAt_eq_of_covers 14 _ (by decide +kernel) fun t _ y => ?_
  obtain ⟨i, hi⟩ : ∃ i : Fin 128, i = y 0 := ⟨_, rfl⟩
  rw [emb14 t y, ← hi]
  blk_simp
  rw [after0_14]
  refine ((outs m c t (num t) (coords_num t) (tables_at m c t)).1 _).trans ((dqPoint_eq (meets m c t (num t) rfl) hP hz _ _).trans ?_)
  refine Eq.trans ?_ (dqr_at hP hz hW hD _ _).symm
  rw [row_div, row_mod, hi]

/-- What a grid point adds to the sinks' gradient. -/
abbrev sinkTerm (l : Fin 128) (n : Fin 16) : EReal :=
  if h : l.val < 16 then ∑ i, -dzR (a0 m c) (a1 m c) (a2 m c) (a3 m c) n i ⟨l.val / 4, by omega⟩ ⟨l.val % 4, by omega⟩ else 0

theorem sink_sum (hW : ∀ j, IsReal (a2 m c j)) (hD : ∀ j, IsReal (a3 m c j)) (l : Fin 128) : ∀ (k : ℕ) (hk : k < cfg0.N),
    (outsAt0 m c k hk).2.2.2.2.2 (ix2 0 l) = ∑ j ∈ Finset.range (k + 1), if h : j < 16 then sinkTerm m c l ⟨j, h⟩ else 0
  | k, hk => by
    have hN := lt_of_lt_of_eq hk N_0
    have step := (out19 m c ⟨k, hk⟩ (num ⟨k, hk⟩) (coords_num ⟨k, hk⟩) (tables_at m c ⟨k, hk⟩) l).trans (congrArg _ (dzPoint_eq (meets m c ⟨k, hk⟩ (num ⟨k, hk⟩) rfl) hP hz hW hD l))
    rw [Finset.sum_range_succ, dif_pos hN]
    refine step.trans (congrArg (· + sinkTerm m c l ⟨k, hN⟩) ?_)
    match k with
    | 0 => rfl
    | k + 1 =>
      refine (if_neg (show ¬(k + 1) % 16 = 0 by omega)).trans ?_
      exact sink_sum hW hD l k (Nat.lt_of_succ_lt hk)

theorem final19 (hW : ∀ j, IsReal (a2 m c j)) (hD : ∀ j, IsReal (a3 m c j)) : (dats m 0 c).arrAt 19 (cfgs 0).N = val_main_v252 (F := Ideal) (a0 m c) (a1 m c) (a2 m c) (a3 m c) := by
  refine (dats m 0 c).arrAt_eq_of_after_last 19 t0_15 (by decide +kernel) _ fun j => ?_
  obtain ⟨l, rfl⟩ : ∃ l : Fin 128, j = ix2 0 l := ⟨j 1, (ValueIdx.eq_ix2 j).trans (congrArg (fun z : Fin 1 => ix2 z (j 1 : Fin 128)) (Subsingleton.elim (α := Fin 1) (j 0) 0))⟩
  blk_simp
  rw [after0_19]
  refine (sink_sum m c hP hz hW hD l 15 _).trans (Eq.trans ?_ (sinks_at hP hz hW hD l).symm)
  rw [Finset.sum_range]
  by_cases h : l.val < 16
  · rw [dif_pos h]
    exact Finset.sum_congr rfl fun n _ => (dif_pos n.isLt).trans (dif_pos h)
  · rw [dif_neg h]
    exact Finset.sum_eq_zero fun n _ => (dif_pos n.isLt).trans (dif_neg h)

end Cert.AttnIdeal.Value

end
-- ==== Proof.Attn.Pair.lean ====
/-
  The attention's backward kernel: its mask constant, and its six results against the reference's.
-/
module

public import proofs.«01_k».proof.Defs
public import proofs.«01_k».proof.Proof.Attn.Finals
public import proofs.«01_k».proof.Proof.RealValues

@[expose] public section

set_option maxRecDepth 16384

noncomputable section

namespace Cert.AttnPair

open Cert.RealValues
open Idealize.ShloMosaic Idealize.SL.Sem Idealize.ShloMosaic.TcCoe

/-- The precondition's shape facts. -/
instance preFacts : Cert.Pre_finite_attn.Facts where
  bcast_S_S2048x6656 := by decide
  bcast_S_S1x16 := by decide
  bcast_S_S1024x1024 := by decide
  bcast_S_S2048x1024 := by decide

/-- The mask's constant is read as the infinity it stands for. -/
theorem preserves : preserves_Attn_AttnIdeal :=
  IdealRules.named_const.statement Cert.AttnIdeal.κ "mask" .f32 0xF149F2CA#32 ⊥ rfl

/-- A function of the reference's arguments is that function of the kernel's. -/
theorem same {A B C D : Type} {a a' : A} {b b' : B} {d d' : C} {e e' : D} {R : Type} (h : a' = a ∧ b' = b ∧ d' = d ∧ e' = e) (f : A → B → C → D → R) : f a' b' d' e' = f a b d e := by
  rw [h.1, h.2.1, h.2.2.1, h.2.2.2]

/-- From the same arguments the kernel and the reference end with equal results. -/
theorem algebraic : algebraic_AttnIdeal_AttnRefIdeal_pre_finite_attn := by
  pair_intro
  · run_from Cert.AttnIdeal.Value.run_blocks m g
  · have hP := fun c j => isReal_of_mask (congrFun (hpre c).1 j)
    have hz := fun c j => isReal_of_mask (congrFun (hpre c).2.1 j)
    have hW := fun c j => isReal_of_mask (congrFun (hpre c).2.2.1 j)
    have hD := fun c j => isReal_of_mask (congrFun (hpre c).2.2.2 j)
    run_from Cert.AttnRefIdeal.Value.run m' g'
    · refine ((Cert.AttnRefIdeal.Read.val_main_v251_eq _).trans ?_).trans (Cert.AttnIdeal.Value.final14 m c (hP c) (hz c) (hW c) (hD c)).symm
      exact same (hagree c) _
    · refine ((Cert.AttnRefIdeal.Read.val_main_v228_eq _).trans ?_).trans (Cert.AttnIdeal.Value.final15 m c (hP c) (hz c) (hW c) (hD c)).symm
      exact same (hagree c) _
    · refine ((Cert.AttnRefIdeal.Read.val_main_v227_eq _).trans ?_).trans (Cert.AttnIdeal.Value.final16 m c (hP c) (hz c) (hW c) (hD c)).symm
      exact same (hagree c) _
    · refine ((Cert.AttnRefIdeal.Read.val_main_v226_eq _).trans ?_).trans (Cert.AttnIdeal.Value.final17 m c (hP c) (hz c) (hW c) (hD c)).symm
      exact same (hagree c) _
    · refine ((Cert.AttnRefIdeal.Read.val_main_v225_eq _).trans ?_).trans (Cert.AttnIdeal.Value.final18 m c (hP c) (hz c) (hW c) (hD c)).symm
      exact same (hagree c) _
    · refine ((Cert.AttnRefIdeal.Read.val_main_v252_eq _).trans ?_).trans (Cert.AttnIdeal.Value.final19 m c (hP c) (hz c) (hW c) (hD c)).symm
      exact same (hagree c) _

end Cert.AttnPair

end
-- ==== Proof.Kv.Value.lean ====
/-
  The key and value gradients: the two blocks' parts summed, and the keys' rotation transposed.
-/
module

public import proofs.«01_k».proof.Proof.Gen.KvIdeal.Value
public import proofs.«01_k».proof.Proof.Gen.KvRefIdeal.Run
public import proofs.«01_k».proof.Proof.Gen.KvRefIdeal.Read
public import proofs.«01_k».proof.Proof.Attn.Windows
public import Idealize.ShloMosaic.Lib.StableHlo.ReadAt
public import Idealize.ShloMosaic.Lib.Pipeline.ValueKit
public import Idealize.ShloMosaic.Lib.Claim

@[expose] public section

set_option maxRecDepth 16384

noncomputable section

namespace Cert.KvIdeal.Value

open Cert.KvIdeal Cert.KvIdeal.Gen Idealize.ShloMosaic Idealize.ShloMosaic.TcCoe Idealize.SL.Sem
open Idealize.ShloMosaic.Pipeline (Dat)
open Cert.KvRefIdeal.Read
open Cert.AttnRefIdeal.Meaning (unrot unrot_ladder cosT sinT)
open Cert.AttnIdeal.Value (cos_at sin_at unrot_sum)

variable (m : (ℓ : Loc nD τ sig) → Buf (Elt Ideal) ℓ) (c : Dev nD) (t : Fin cfg0.N)

/-- Where each window's block sits at a grid point. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ t.val < 4 :=
  (by decide +kernel : ∀ t : Fin grid0.N, _)

/-- The three rotation tables the host lines hand to the kernel. -/
theorem tabC (r : Fin 2048) (l : Fin 256) : V m c main_v27 (ix2 r l) = if l.val % 64 < 16 then cosT (ix2 r ⟨l.val % 8, by omega⟩) else 1 := by
  unfold V
  after_reads_at
  have h0 : ∀ j, StableHlo.upto hostOps0 (fun b => m (c, b)) 28 (Proc.tc.devRef main_v16) (ix2 r j) = cosT (ix2 r j) := by
    intro j
    after_reads_at
    simp only [cos_at, sin_at]
  have h1 : ∀ j, StableHlo.upto hostOps0 (fun b => m (c, b)) 28 (Proc.tc.devRef main_v18) (ix2 r j) = (1 : EReal) := by
    intro j
    after_reads_at
  simp only [h0, h1]
  by_cases q : l.val % 64 < 8
  · have e : l.val % 64 = l.val % 8 := by omega
    simp only [dif_pos q]
    rw [if_pos (show l.val % 64 < 16 by omega)]
    simp only [e]
  · by_cases q' : l.val % 64 - 8 < 8
    · have e : l.val % 64 - 8 = l.val % 8 := by omega
      simp only [dif_neg q, dif_pos q']
      rw [if_pos (show l.val % 64 < 16 by omega)]
      simp only [e]
    · simp only [dif_neg q, dif_neg q']
      rw [if_neg (show ¬l.val % 64 < 16 by omega)]
theorem tabU (r : Fin 2048) (l : Fin 256) : V m c main_v30 (ix2 r l) = if l.val % 64 < 8 then -sinT (ix2 r ⟨l.val % 8, by omega⟩) else 0 := by
  unfold V
  after_reads_at
  have h0 : ∀ j, StableHlo.upto hostOps0 (fun b => m (c, b)) 30 (Proc.tc.devRef main_v22) (ix2 r j) = -sinT (ix2 r j) := by
    intro j
    after_reads_at
    simp only [cos_at, sin_at]
  have h1 : ∀ j, StableHlo.upto hostOps0 (fun b => m (c, b)) 30 (Proc.tc.devRef main_v20) (ix2 r j) = (0 : EReal) := by
    intro j
    after_reads_at
  have h2 : ∀ j, StableHlo.upto hostOps0 (fun b => m (c, b)) 30 (Proc.tc.devRef main_v19) (ix2 r j) = (0 : EReal) := by
    intro j
    after_reads_at
  simp only [h0, h1, h2]
  by_cases q : l.val % 64 < 8
  · have e : l.val % 64 = l.val % 8 := by omega
    simp only [dif_pos q]
    rw [if_pos q]
    simp only [e]
  · by_cases q' : l.val % 64 - 8 < 8
    · have e : l.val % 64 - 8 = l.val % 8 := by omega
      simp only [dif_neg q, dif_pos q']
      rw [if_neg q]
    · simp only [dif_neg q, dif_neg q']
      rw [if_neg q]
theorem tabV (r : Fin 2048) (l : Fin 256) : V m c main_v33 (ix2 r l) = if 8 ≤ l.val % 64 ∧ l.val % 64 < 16 then sinT (ix2 r ⟨l.val % 8, by omega⟩) else 0 := by
  unfold V
  after_reads_at
  have h0 : ∀ j, StableHlo.upto hostOps0 (fun b => m (c, b)) 31 (Proc.tc.devRef main_v20) (ix2 r j) = (0 : EReal) := by
    intro j
    after_reads_at
  have h1 : ∀ j, StableHlo.upto hostOps0 (fun b => m (c, b)) 31 (Proc.tc.devRef main_v17) (ix2 r j) = sinT (ix2 r j) := by
    intro j
    after_reads_at
    simp only [cos_at, sin_at]
  have h2 : ∀ j, StableHlo.upto hostOps0 (fun b => m (c, b)) 31 (Proc.tc.devRef main_v19) (ix2 r j) = (0 : EReal) := by
    intro j
    after_reads_at
  simp only [h0, h1, h2]
  by_cases q : l.val % 64 < 8
  · have e : l.val % 64 = l.val % 8 := by omega
    simp only [dif_pos q]
    rw [if_neg (show ¬(8 ≤ l.val % 64 ∧ l.val % 64 < 16) by omega)]
  · by_cases q' : l.val % 64 - 8 < 8
    · have e : l.val % 64 - 8 = l.val % 8 := by omega
      simp only [dif_neg q, dif_pos q']
      rw [if_pos (show 8 ≤ l.val % 64 ∧ l.val % 64 < 16 by omega)]
      simp only [e]
    · simp only [dif_neg q, dif_neg q']
      rw [if_neg (show ¬(8 ≤ l.val % 64 ∧ l.val % 64 < 16) by omega)]
/-- The row of the whole array that a block's row is. -/
abbrev row (i : Fin 512) : Fin 2048 := ⟨t.val * 512 + i.val, by have := lt_of_lt_of_eq t.isLt N_0; omega⟩

theorem win0 (i : Fin 512) (j : Fin 256) : iblk m c 0 t (ix2 i j) = m ((c : Thread nD τ).loc main_arg0) (ix2 (row t i) j) := by
  blk_point [iblk, V, idx t]
theorem win1 (i : Fin 512) (j : Fin 256) : iblk m c 1 t (ix2 i j) = m ((c : Thread nD τ).loc main_arg1) (ix2 (row t i) j) := by
  blk_point [iblk, V, idx t]
theorem win2 (i : Fin 512) (j : Fin 256) : iblk m c 2 t (ix2 i j) = m ((c : Thread nD τ).loc main_arg2) (ix2 (row t i) j) := by
  blk_point [iblk, V, idx t]
theorem win3 (i : Fin 512) (j : Fin 256) : iblk m c 3 t (ix2 i j) = m ((c : Thread nD τ).loc main_arg3) (ix2 (row t i) j) := by
  blk_point [iblk, V, idx t]
theorem win4 (i : Fin 512) (l : Fin 256) : iblk m c 4 t (ix2 i l) = V m c main_v27 (ix2 (row t i) l) := by
  blk_point [iblk, idx t]
theorem win5 (i : Fin 512) (l : Fin 256) : iblk m c 5 t (ix2 i l) = V m c main_v30 (ix2 (row t i) l) := by
  blk_point [iblk, idx t]
theorem win6 (i : Fin 512) (l : Fin 256) : iblk m c 6 t (ix2 i l) = V m c main_v33 (ix2 (row t i) l) := by
  blk_point [iblk, idx t]

section Reference
variable (K0 K1 V0 V1 : FVec Ideal S2048x256 .f32) (r : Fin 2048)

theorem cos_same : val_main_v18 (F := Ideal) = cosT := rfl
theorem sin_same : val_main_v19 (F := Ideal) = sinT := rfl

/-- The keys' gradient: a head's summed parts, with the rotation transposed. -/
theorem keys_at (l : Fin 256) : val_main_v63 (F := Ideal) K0 K1 (ix2 r l)
    = unrot (fun d => K0 (ix2 r ⟨l.val / 64 * 64 + d.val, by omega⟩) + K1 (ix2 r ⟨l.val / 64 * 64 + d.val, by omega⟩))
        (fun j => cosT (ix2 r j)) (fun j => sinT (ix2 r j)) ⟨l.val % 64, by omega⟩ := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v39, val_main_v25, val_main_v24, val_main_cst_4, val_main_cst_5, val_main_cst_6, val_main_cst_7, cos_same, sin_same]
  have e : ∀ h', (⟨l.val / 64 * 64 + l.val % 64, h'⟩ : Fin 256) = l := fun _ => Fin.ext (by show l.val / 64 * 64 + l.val % 64 = l.val; omega)
  refine Eq.trans ?_ (unrot_ladder (fun d => K0 (ix2 r ⟨l.val / 64 * 64 + d.val, by omega⟩) + K1 (ix2 r ⟨l.val / 64 * 64 + d.val, by omega⟩))
    (fun j => cosT (ix2 r j)) (fun j => sinT (ix2 r j)) ⟨l.val % 64, by omega⟩ (l.val / 64 < 4) (by omega))
  simp only [e]
end Reference

/-- The reference's columns: the keys' gradient, then the values'. -/
theorem result_keys (K0 K1 V0 V1 : FVec Ideal S2048x256 .f32) (r : Fin 2048) (j : Fin 512) (l : Fin 256) (h : j.val = l.val) :
    val_main_v65 (F := Ideal) K0 K1 V0 V1 (ix2 r j) = val_main_v63 (F := Ideal) K0 K1 (ix2 r l) := by
  pointwise [val_main_v65, val_main_v64]
  rw [dif_pos (by omega)]
  simp only [h]
theorem result_values (K0 K1 V0 V1 : FVec Ideal S2048x256 .f32) (r : Fin 2048) (j : Fin 512) (l : Fin 256) (h : j.val = 256 + l.val) :
    val_main_v65 (F := Ideal) K0 K1 V0 V1 (ix2 r j) = V0 (ix2 r l) + V1 (ix2 r l) := by
  pointwise [val_main_v65, val_main_v64, val_main_v40]
  rw [dif_neg (by omega)]
  simp only [h, Nat.add_sub_cancel_left]

/-- The keys' and the values' two parts each. -/
abbrev before : FVec Ideal S2048x256 .f32 := m ((c : Thread nD τ).loc main_arg0)
abbrev own : FVec Ideal S2048x256 .f32 := m ((c : Thread nD τ).loc main_arg1)
abbrev vbefore : FVec Ideal S2048x256 .f32 := m ((c : Thread nD τ).loc main_arg2)
abbrev vown : FVec Ideal S2048x256 .f32 := m ((c : Thread nD τ).loc main_arg3)

/-- The keys' two blocks at a point. -/
abbrev own0 : FVec Ideal S512x256 .f32 := iblk m c 0 t
abbrev own1 : FVec Ideal S512x256 .f32 := iblk m c 1 t

/-- The stored keys' columns, from the blocks. -/
theorem pay1_at (i : Fin 512) (l : Fin 256) : k0_pay1 (F := Ideal) (iblk m c 1 t) (iblk m c 0 t) (iblk m c 4 t) (iblk m c 5 t) (iblk m c 6 t) (ix2 i l)
    = val_main_v63 (F := Ideal) (before m c) (own m c) (ix2 (row t i) l) := by
  rw [keys_at]
  pointwise [k0_pay1]
  rw [win4, win5, win6, tabC, tabU, tabV]
  have hx : ∀ (j : Fin 256) (d : Fin 64), j.val = l.val / 64 * 64 + d.val → own1 m c t (ix2 i j) + own0 m c t (ix2 i j)
      = before m c (ix2 (row t i) ⟨l.val / 64 * 64 + d.val, by omega⟩) + own m c (ix2 (row t i) ⟨l.val / 64 * 64 + d.val, by omega⟩) := fun j d h => by
    rw [show own0 m c t (ix2 i j) = _ from win0 m c t i j, show own1 m c t (ix2 i j) = _ from win1 m c t i j, add_comm, show j = ⟨l.val / 64 * 64 + d.val, by omega⟩ from Fin.ext h]
  exact unrot_sum _ (fun j => cosT (ix2 (row t i) j)) (fun j => sinT (ix2 (row t i) j)) l.val _ _ _ _ _ _ (hx l ⟨l.val % 64, by omega⟩ (by show l.val = l.val / 64 * 64 + l.val % 64; omega))
    (fun h => hx ⟨(l.val + 256 - 248) % 256, by omega⟩ ⟨l.val % 64 + 8, by omega⟩ (by show (l.val + 256 - 248) % 256 = l.val / 64 * 64 + (l.val % 64 + 8); omega))
    (fun h => hx ⟨(l.val + 256 - 8) % 256, by omega⟩ ⟨l.val % 64 - 8, by omega⟩ (by show (l.val + 256 - 8) % 256 = l.val / 64 * 64 + (l.val % 64 - 8); omega)) rfl rfl rfl
theorem pay2_at (i : Fin 512) (l : Fin 256) : k0_pay2 (F := Ideal) (iblk m c 3 t) (iblk m c 2 t) (ix2 i l)
    = vbefore m c (ix2 (row t i) l) + vown m c (ix2 (row t i) l) := by
  pointwise [k0_pay2]
  rw [win2, win3, add_comm]

theorem emb7 (t : Fin cfg0.N) (y : ((cfg0.win 7).xblock (cfg0.grid.coords t)).Idx) : ((cfg0.win 7).blk t).view.emb y = ix2 (row t (y 0)) (y 1 : Fin 512) := by
  apply Shape.idx_ext₂ <;> blk_simp [idx t]

theorem final7 (c : Dev nD) : (dats m 0 c).arrAt 7 (cfgs 0).N
    = val_main_v65 (F := Ideal) (before m c) (own m c) (vbefore m c) (vown m c) := by
  refine (dats m 0 c).arrAt_eq_of_covers 7 _ (by decide +kernel) fun t _ y => ?_
  obtain ⟨i, hi⟩ : ∃ i : Fin 512, i = y 0 := ⟨_, rfl⟩
  obtain ⟨j, hj⟩ : ∃ j : Fin 512, j = y 1 := ⟨_, rfl⟩
  rw [emb7 t y, ← hi, ← hj, show y = ix2 i j by rw [hi, hj]; exact ValueIdx.eq_ix2 y]
  clear hi hj y
  blk_simp
  rw [after0_7]; frame_out
  canon_tiles
  all_goals obtain ⟨p, l, rfl⟩ : ∃ (p : Fin 512) (l : Fin 256), x = ix2 p l := ⟨x 0, x 1, ValueIdx.eq_ix2 x⟩
  all_goals obtain rfl : i = p := Fin.ext h0
  · exact (pay2_at m c t i l).trans (result_values _ _ _ _ _ j l h1).symm
  · exact (pay1_at m c t i l).trans (result_keys _ _ _ _ _ j l h1).symm

end Cert.KvIdeal.Value

end
-- ==== Proof.Kv.Pair.lean ====
/-
  The key and value gradients: the kernel's result is the reference's.
-/
module

public import proofs.«01_k».proof.Defs
public import proofs.«01_k».proof.Proof.Kv.Value

@[expose] public section

set_option maxRecDepth 16384

noncomputable section

namespace Cert.KvPair

open Idealize.ShloMosaic Idealize.SL.Sem Idealize.ShloMosaic.TcCoe

/-- A function of the reference's arguments is that function of the kernel's. -/
theorem same {A R : Type} {a a' b b' d d' e e' : A} (h : a' = a ∧ b' = b ∧ d' = d ∧ e' = e) (f : A → A → A → A → R) : f a' b' d' e' = f a b d e := by
  rw [h.1, h.2.1, h.2.2.1, h.2.2.2]

/-- From the same arguments the kernel and the reference end with equal results. -/
theorem algebraic : algebraic_KvIdeal_KvRefIdeal := by
  pair_intro
  · run_from Cert.KvIdeal.Value.run_blocks m g
  · run_from Cert.KvRefIdeal.Value.run m' g'
    refine ((Cert.KvRefIdeal.Read.val_main_v65_eq _ c).trans ?_).trans (Cert.KvIdeal.Value.final7 m c).symm
    exact same (hagree c) _

end Cert.KvPair

end
-- ==== Proof.NormRow.lean ====
/-
  One row of the root-mean-square norm, differentiated: the kernels' factored form and the product rule's two equal terms agree
  on real numbers.
-/
module

public import proofs.«01_k».proof.Proof.RealValues

@[expose] public section

noncomputable section

namespace Cert.NormRow

open Idealize.ShloMosaic Cert.RealValues

/-- The mean square plus epsilon, and its reciprocal root. -/
def power (x : Fin 1024 → EReal) : EReal := Ideal.div (∑ k, x k * x k) (Ideal.ofBits .f32 0x44800000#32) + Ideal.ofBits .f32 0x3727C5AC#32
def scale (x : Fin 1024 → EReal) : EReal := Ideal.rsqrt (power x)

/-- The row's gradient as the kernels compute it, from the normed row's gradient `u`. -/
def pulled (x u : Fin 1024 → EReal) (j : Fin 1024) : EReal :=
  scale x * (u j - x j * scale x * Ideal.div (∑ k, u k * (x k * scale x)) (Ideal.ofBits .f32 0x44800000#32))

/-- What each of the square's two equal factors gets in the derivative. -/
def tilt (x u : Fin 1024 → EReal) : EReal :=
  Ideal.div ((∑ k, x k * u k) * (Ideal.ofBits .f32 0xBF000000#32 * Ideal.div (scale x) (power x))) (Ideal.ofBits .f32 0x44800000#32)

theorem bits_size : Ideal.ofBits .f32 0x44800000#32 = ((1024 : ℝ) : EReal) := by
  simp [Ideal.ofBits, Ideal.ieee, -EReal.coe_mul]; norm_num
theorem bits_minus_half : Ideal.ofBits .f32 0xBF000000#32 = ((-(1 / 2) : ℝ) : EReal) := by
  simp [Ideal.ofBits, Ideal.ieee, -EReal.coe_mul]; norm_num
theorem bits_eps : Ideal.ofBits .f32 0x3727C5AC#32 = ((10995116 / 2 ^ 40 : ℝ) : EReal) := by
  simp [Ideal.ofBits, Ideal.ieee, -EReal.coe_mul]; norm_num

theorem sum_coe (f : Fin 1024 → ℝ) : ∑ k, ((f k : ℝ) : EReal) = ((∑ k, f k : ℝ) : EReal) :=
  (map_sum (⟨⟨fun r : ℝ => (r : EReal), EReal.coe_zero⟩, EReal.coe_add⟩ : ℝ →+ EReal) f Finset.univ).symm

theorem div_size (r : ℝ) : Ideal.div (r : EReal) (Ideal.ofBits .f32 0x44800000#32) = ((r / 1024 : ℝ) : EReal) := by
  rw [bits_size, Ideal.div_coe (by norm_num), ← EReal.coe_mul, mul_one_div]

section Real
variable (a b : Fin 1024 → ℝ)

/-- The mean square plus epsilon of a real row. -/
def powerR : ℝ := (∑ k, a k * a k) / 1024 + 10995116 / 2 ^ 40
theorem powerR_pos : 0 < powerR a :=
  add_pos_of_nonneg_of_pos (div_nonneg (Finset.sum_nonneg fun k _ => mul_self_nonneg (a k)) (by norm_num)) (by norm_num)

theorem power_coe : power (fun k => (a k : EReal)) = (powerR a : EReal) := by
  unfold power powerR
  simp only [← EReal.coe_mul]
  rw [sum_coe, div_size, bits_eps, ← EReal.coe_add]
theorem scale_coe : scale (fun k => (a k : EReal)) = (((Real.sqrt (powerR a))⁻¹ : ℝ) : EReal) := by
  unfold scale
  rw [power_coe, Ideal.rsqrt_coe, if_neg (not_lt.mpr (powerR_pos a).le), if_neg (powerR_pos a).ne']

theorem pulled_coe (j : Fin 1024) : pulled (fun k => (a k : EReal)) (fun k => (b k : EReal)) j
    = (((Real.sqrt (powerR a))⁻¹ * (b j - a j * (Real.sqrt (powerR a))⁻¹ * ((∑ k, b k * (a k * (Real.sqrt (powerR a))⁻¹)) / 1024)) : ℝ) : EReal) := by
  unfold pulled
  rw [scale_coe]
  simp only [← EReal.coe_mul]
  rw [sum_coe, div_size]
  norm_cast

theorem tilt_coe : tilt (fun k => (a k : EReal)) (fun k => (b k : EReal))
    = (((∑ k, a k * b k) * (-(1 / 2) * ((Real.sqrt (powerR a))⁻¹ / powerR a)) / 1024 : ℝ) : EReal) := by
  unfold tilt
  rw [scale_coe, power_coe, bits_minus_half, Ideal.div_coe (powerR_pos a).ne']
  simp only [← EReal.coe_mul]
  rw [sum_coe, ← EReal.coe_mul, div_size, mul_one_div]

theorem pulled_real (j : Fin 1024) : (Real.sqrt (powerR a))⁻¹ * (b j - a j * (Real.sqrt (powerR a))⁻¹ * ((∑ k, b k * (a k * (Real.sqrt (powerR a))⁻¹)) / 1024))
    = b j * (Real.sqrt (powerR a))⁻¹ + a j * ((∑ k, a k * b k) * (-(1 / 2) * ((Real.sqrt (powerR a))⁻¹ / powerR a)) / 1024)
      + (∑ k, a k * b k) * (-(1 / 2) * ((Real.sqrt (powerR a))⁻¹ / powerR a)) / 1024 * a j := by
  have hs : ∑ k, b k * (a k * (Real.sqrt (powerR a))⁻¹) = (∑ k, a k * b k) * (Real.sqrt (powerR a))⁻¹ := by
    rw [Finset.sum_mul]; exact Finset.sum_congr rfl fun k _ => by ring
  have hq : (powerR a)⁻¹ = (Real.sqrt (powerR a))⁻¹ * (Real.sqrt (powerR a))⁻¹ := by
    rw [← mul_inv, Real.mul_self_sqrt (powerR_pos a).le]
  rw [hs, div_eq_mul_inv _ (powerR a), hq]
  ring
end Real

variable {x u : Fin 1024 → EReal}

theorem isReal_scale (hx : ∀ k, IsReal (x k)) : IsReal (scale x) := by
  choose a ha using hx
  rw [show x = fun k => (a k : EReal) from funext ha, scale_coe]
  exact isReal_coe _

/-- The row's gradient, as the product rule writes it. -/
theorem pulled_eq (hx : ∀ k, IsReal (x k)) (hu : ∀ k, IsReal (u k)) (j : Fin 1024) :
    pulled x u j = u j * scale x + x j * tilt x u + tilt x u * x j := by
  choose a ha using hx
  choose b hb using hu
  rw [show x = fun k => (a k : EReal) from funext ha, show u = fun k => (b k : EReal) from funext hb, pulled_coe, scale_coe, tilt_coe, pulled_real]
  norm_cast

/-- A sum over an array's rows, tile by tile. -/
theorem sum_tiles (N n T : ℕ) (hT : T = N * n) (f : Fin T → EReal) :
    ∑ r, f r = ∑ a : Fin N, ∑ b : Fin n, f ⟨a.val * n + b.val, by
      subst hT; have := Nat.mul_le_mul_right n (Nat.succ_le_of_lt a.isLt); rw [Nat.succ_mul] at this; have := b.isLt; omega⟩ := by
  subst hT
  rw [← finProdFinEquiv.sum_comp, Fintype.sum_prod_type]
  refine Finset.sum_congr rfl fun a _ => Finset.sum_congr rfl fun b _ => congrArg f (Fin.ext ?_)
  show b.val + n * a.val = a.val * n + b.val
  ring

/-- A running value that starts at its first term is the terms' sum. -/
theorem running_sum (s f : ℕ → EReal) (N : ℕ) (h0 : s 0 = f 0) (hs : ∀ k, k + 1 < N → s (k + 1) = s k + f (k + 1)) :
    ∀ k, k < N → s k = ∑ j ∈ Finset.range (k + 1), f j
  | 0, _ => by rw [Finset.sum_range_one, h0]
  | k + 1, h => by rw [Finset.sum_range_succ, hs k h, running_sum s f N h0 hs k (by omega)]

end Cert.NormRow

end
-- ==== Proof.Norm.Value.lean ====
/-
  The norm's backward call: the rows' gradient added to the residual's, its rounded copy, and the gains' gradient summed over all rows.
-/
module

public import proofs.«01_k».proof.Proof.Gen.NormIdeal.Value
public import proofs.«01_k».proof.Proof.Gen.NormRefIdeal.Run
public import proofs.«01_k».proof.Proof.Gen.NormRefIdeal.Read
public import proofs.«01_k».proof.Proof.NormRow
public import Idealize.ShloMosaic.Lib.Pipeline.ValueKit
public import Idealize.ShloMosaic.Lib.Claim

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Cert.NormRefIdeal.Read Cert.NormRow Cert.RealValues

variable (m : (ℓ : Loc nD τ sig) → Buf (Elt Ideal) ℓ)

/-- Where each window's block sits at a grid point. -/
theorem idx : ∀ t : Fin cfg0.N,
    win0_0.index t = ![t.val, 0] ∧ win0_1.index t = ![t.val, 0] ∧ win0_2.index t = ![0, 0] ∧ win0_3.index t = ![t.val, 0] ∧ win0_4.index t = ![t.val, 0] ∧ win0_5.index t = ![t.val, 0] ∧ win0_6.index t = ![0, 0] ∧ t.val < 8 :=
  (by decide +kernel : ∀ t : Fin grid0.N, _)

/-- The row of the whole array that a block's row is. -/
abbrev row (t : Fin cfg0.N) (i : Fin 256) : Fin 2048 := ⟨t.val * 256 + i.val, by have := lt_of_lt_of_eq t.isLt N_0; omega⟩

theorem in0 (c : Dev nD) (t : Fin cfg0.N) (i : Fin 256) (j : Fin 1024) : iblk m c 0 t (ix2 i j) = m ((c : Thread nD τ).loc main_arg2) (ix2 (row t i) j) := by
  blk_point [iblk, V, idx t]
theorem in1 (c : Dev nD) (t : Fin cfg0.N) (i : Fin 256) (j : Fin 1024) : iblk m c 1 t (ix2 i j) = m ((c : Thread nD τ).loc main_arg0) (ix2 (row t i) j) := by
  blk_point [iblk, V, idx t]
theorem in2 (c : Dev nD) (t : Fin cfg0.N) (j : Fin 1024) : iblk m c 2 t (ix2 0 j) = m ((c : Thread nD τ).loc main_arg1) (ix2 0 j) := by
  blk_point [iblk, V, idx t]
theorem in3 (c : Dev nD) (t : Fin cfg0.N) (i : Fin 256) (j : Fin 1024) : iblk m c 3 t (ix2 i j) = m ((c : Thread nD τ).loc main_arg3) (ix2 (row t i) j) := by
  blk_point [iblk, V, idx t]

/-- The kernel's row, from its blocks. -/
theorem dx_at (x0 x1 x3 : FVec Ideal S256x1024 .f32) (x2 : FVec Ideal S1x1024 .f32) (i : Fin 256) (j : Fin 1024) :
    k0_pay4 x1 x0 x2 x3 (ix2 i j) = x3 (ix2 i j) + pulled (fun k => x1 (ix2 i k)) (fun k => x0 (ix2 i k) * x2 (ix2 0 k)) j := by
  pointwise [k0_pay4, k0_pay3, k0_pay2, pulled, scale, power]
/-- The gains' gradient over one block's rows. -/
theorem dg_at (x0 x1 : FVec Ideal S256x1024 .f32) (j : Fin 1024) :
    k0_pay6 x1 x0 (ix2 0 j) = ∑ i : Fin 256, x0 (ix2 i j) * (x1 (ix2 i j) * scale (fun k => x1 (ix2 i k))) := by
  pointwise [k0_pay6, k0_pay3, k0_pay2, scale, power]
theorem add_at (a b : FVec Ideal S1x1024 .f32) (j : Fin 1024) : k0_pay1 a b (ix2 0 j) = b (ix2 0 j) + a (ix2 0 j) := by
  pointwise [k0_pay1]

variable (X : FVec Ideal S2048x1024 .f32) (G : FVec Ideal S1x1024 .f32) (H R : FVec Ideal S2048x1024 .f32)

/-- The reference's reciprocal root and mean square, its two results. -/
theorem power_at (r : Fin 2048) : val_main_v7 (F := Ideal) X (ix2 r 0) = power (fun k => X (ix2 r k)) := by
  pointwise [val_main_v7, val_main_v6, val_main_v5, val_main_v4, val_main_v3, val_main_v2, val_main_v1, val_main_cst, val_main_cst_0, val_main_cst_1, power]
theorem scale_at (r : Fin 2048) : val_main_v8 (F := Ideal) X (ix2 r 0) = scale (fun k => X (ix2 r k)) := by
  pointwise [val_main_v8, power_at, scale]
theorem tilt_at (r : Fin 2048) : val_main_v32 (F := Ideal) X G H (ix1 r) = tilt (fun k => X (ix2 r k)) (fun k => H (ix2 r k) * G (ix2 0 k)) := by
  pointwise [val_main_v32, val_main_v31, val_main_v30, val_main_v29, val_main_v25, val_main_v24, val_main_v23, val_main_v21, val_main_v20, val_main_v14, val_main_v0, val_main_v11, val_main_v10, val_main_v9, val_main_cst_2, val_main_cst_4, val_main_cst_5, val_main_cst_6, val_main_cst_7]
  simp only [Fin.sum_univ_one, power_at, scale_at, tilt]
theorem dxR_at (r : Fin 2048) (j : Fin 1024) : val_main_v37 (F := Ideal) X G H R (ix2 r j)
    = R (ix2 r j) + H (ix2 r j) * G (ix2 0 j) * scale (fun k => X (ix2 r k)) + X (ix2 r j) * tilt (fun k => X (ix2 r k)) (fun k => H (ix2 r k) * G (ix2 0 k))
      + tilt (fun k => X (ix2 r k)) (fun k => H (ix2 r k) * G (ix2 0 k)) * X (ix2 r j) := by
  pointwise [val_main_v37, val_main_v36, val_main_v35, val_main_v34, val_main_v33, val_main_v28, val_main_v27, val_main_v26, val_main_v21, val_main_v20, val_main_v14, val_main_v0, scale_at, tilt_at]
theorem dgR_at (j : Fin 1024) : val_main_v38 (F := Ideal) X H (ix2 0 j) = ∑ r : Fin 2048, X (ix2 r j) * scale (fun k => X (ix2 r k)) * H (ix2 r j) := by
  pointwise [val_main_v38, val_main_v22, val_main_v19, val_main_v18, val_main_v17, val_main_v13, val_main_v12, val_main_cst_3, val_main_cst_4, scale_at]
  rw [Fin.sum_univ_one]

/-- The two rows agree. -/
theorem row_eq (hX : ∀ j, IsReal (X j)) (hG : ∀ j, IsReal (G j)) (hH : ∀ j, IsReal (H j)) (r : Fin 2048) (j : Fin 1024) :
    R (ix2 r j) + pulled (fun k => X (ix2 r k)) (fun k => H (ix2 r k) * G (ix2 0 k)) j = val_main_v37 (F := Ideal) X G H R (ix2 r j) := by
  rw [dxR_at, pulled_eq (fun k => hX _) (fun k => (hH _).mul (hG _))]
  simp only [add_assoc]

section Finals
variable (c : Dev nD)
abbrev aX : FVec Ideal S2048x1024 .f32 := m ((c : Thread nD τ).loc main_arg0)
abbrev aG : FVec Ideal S1x1024 .f32 := m ((c : Thread nD τ).loc main_arg1)
abbrev aH : FVec Ideal S2048x1024 .f32 := m ((c : Thread nD τ).loc main_arg2)
abbrev aR : FVec Ideal S2048x1024 .f32 := m ((c : Thread nD τ).loc main_arg3)

theorem emb4 (t : Fin cfg0.N) (y : ((cfg0.win 4).xblock (cfg0.grid.coords t)).Idx) : ((cfg0.win 4).blk t).view.emb y = ix2 (row t (y 0)) (y 1 : Fin 1024) := by
  apply Shape.idx_ext₂ <;> blk_simp [idx t]
theorem emb5 (t : Fin cfg0.N) (y : ((cfg0.win 5).xblock (cfg0.grid.coords t)).Idx) : ((cfg0.win 5).blk t).view.emb y = ix2 (row t (y 0)) (y 1 : Fin 1024) := by
  apply Shape.idx_ext₂ <;> blk_simp [idx t]

/-- A point's stored rows, in either case of the grid. -/
theorem tile4 (t : Fin cfg0.N) (i : Fin 256) (j : Fin 1024) : (outsAt0 m c t.val t.isLt).1 (ix2 i j)
    = aR m c (ix2 (row t i) j) + pulled (fun k => aX m c (ix2 (row t i) k)) (fun k => aH m c (ix2 (row t i) k) * aG m c (ix2 0 k)) j := by
  have hN := lt_of_lt_of_eq t.isLt N_0
  by_cases h : t.val % 8 = 0
  · rw [outsAt0_A m c t h (by omega)]; frame_out
    rw [dx_at]; simp only [in0, in1, in2, in3]
  · rw [outsAt0_B m c t h (by omega)]; frame_out
    rw [dx_at]; simp only [in0, in1, in2, in3]
theorem tile5 (t : Fin cfg0.N) (i : Fin 256) (j : Fin 1024) : (outsAt0 m c t.val t.isLt).2.1 (ix2 i j)
    = aR m c (ix2 (row t i) j) + pulled (fun k => aX m c (ix2 (row t i) k)) (fun k => aH m c (ix2 (row t i) k) * aG m c (ix2 0 k)) j := by
  have hN := lt_of_lt_of_eq t.isLt N_0
  by_cases h : t.val % 8 = 0
  · rw [outsAt0_A m c t h (by omega)]; frame_out
    refine (dx_at _ _ _ _ i j).trans ?_; simp only [in0, in1, in2, in3]
  · rw [outsAt0_B m c t h (by omega)]; frame_out
    refine (dx_at _ _ _ _ i j).trans ?_; simp only [in0, in1, in2, in3]

/-- A tile's share of the gains' gradient. -/
def share (j : Fin 1024) (n : ℕ) : EReal :=
  if h : n < 8 then ∑ i : Fin 256, aH m c (ix2 ⟨n * 256 + i.val, by omega⟩ j) * (aX m c (ix2 ⟨n * 256 + i.val, by omega⟩ j) * scale (fun k => aX m c (ix2 ⟨n * 256 + i.val, by omega⟩ k)))
  else 0
theorem tile6 (j : Fin 1024) (t : Fin cfg0.N) : (outsAt0 m c t.val t.isLt).2.2 (ix2 0 j)
    = if t.val % 8 = 0 then share m c j t.val else (outsAt0 m c (t.val - 1) (lt_of_le_of_lt (Nat.sub_le _ _) t.isLt)).2.2 (ix2 0 j) + share m c j t.val := by
  have hN := lt_of_lt_of_eq t.isLt N_0
  unfold share
  rw [dif_pos hN]
  by_cases h : t.val % 8 = 0
  · rw [if_pos h, outsAt0_A m c t h (by omega)]; frame_out
    rw [dg_at]; simp only [in0, in1]
  · rw [if_neg h, outsAt0_B m c t h (by omega)]; frame_out
    rw [add_at]
    refine congrArg (fun z => _ + z) ?_
    rw [dg_at]; simp only [in0, in1]
theorem total6 (j : Fin 1024) (k : ℕ) (hk : k < 8) : (outsAt0 m c k (lt_of_lt_of_eq hk N_0.symm)).2.2 (ix2 0 j) = ∑ n ∈ Finset.range (k + 1), share m c j n := by
  induction k with
  | zero => rw [Finset.sum_range_one]; exact tile6 m c j ⟨0, lt_of_lt_of_eq hk N_0.symm⟩
  | succ k ih =>
    rw [Finset.sum_range_succ, ← ih (by omega)]
    exact (tile6 m c j ⟨k + 1, lt_of_lt_of_eq hk N_0.symm⟩).trans (if_neg (show ¬(k + 1) % 8 = 0 by omega))

variable (hX : ∀ j, IsReal (aX m c j)) (hG : ∀ j, IsReal (aG m c j)) (hH : ∀ j, IsReal (aH m c j))
include hX hG hH

theorem final4 : (dats m 0 c).arrAt 4 (cfgs 0).N = val_main_v37 (F := Ideal) (aX m c) (aG m c) (aH m c) (aR m c) := by
  refine (dats m 0 c).arrAt_eq_of_covers 4 _ (by decide +kernel) fun t _ y => ?_
  obtain ⟨i, hi⟩ : ∃ i : Fin 256, i = y 0 := ⟨_, rfl⟩
  obtain ⟨j, hj⟩ : ∃ j : Fin 1024, j = y 1 := ⟨_, rfl⟩
  rw [emb4 t y, ← hi, ← hj, show y = ix2 i j by rw [hi, hj]; exact ValueIdx.eq_ix2 y]
  blk_simp
  rw [after0_4]
  exact (tile4 m c t i j).trans (row_eq _ _ _ _ hX hG hH _ _)
theorem final5 : (dats m 0 c).arrAt 5 (cfgs 0).N = val_main_v39 (F := Ideal) (aX m c) (aG m c) (aH m c) (aR m c) := by
  refine (dats m 0 c).arrAt_eq_of_covers 5 _ (by decide +kernel) fun t _ y => ?_
  obtain ⟨i, hi⟩ : ∃ i : Fin 256, i = y 0 := ⟨_, rfl⟩
  obtain ⟨j, hj⟩ : ∃ j : Fin 1024, j = y 1 := ⟨_, rfl⟩
  rw [emb5 t y, ← hi, ← hj, show y = ix2 i j by rw [hi, hj]; exact ValueIdx.eq_ix2 y]
  blk_simp
  rw [after0_5]
  exact (tile5 m c t i j).trans (row_eq _ _ _ _ hX hG hH _ _)

omit hX hG hH in
theorem final6 : (dats m 0 c).arrAt 6 (cfgs 0).N = val_main_v38 (F := Ideal) (aX m c) (aH m c) := by
  refine (dats m 0 c).arrAt_eq_of_after_last 6 t0_7 (by decide +kernel) _ fun y => ?_
  obtain ⟨j, rfl⟩ : ∃ j : Fin 1024, y = ix2 0 j := ⟨y 1, (ValueIdx.eq_ix2 y).trans (congrArg (fun z : Fin 1 => ix2 z (y 1 : Fin 1024)) (Subsingleton.elim (α := Fin 1) (y 0) 0))⟩
  blk_simp
  rw [after0_6]
  refine (total6 m c j 7 (by omega)).trans (Eq.trans ?_ (dgR_at _ _ j).symm)
  rw [Finset.sum_range, sum_tiles 8 256 2048 rfl]
  exact Finset.sum_congr rfl fun n _ => (dif_pos n.isLt).trans (Finset.sum_congr rfl fun i _ => mul_comm _ _)
end Finals

end Cert.NormIdeal.Value

end
-- ==== Proof.Norm.Pair.lean ====
/-
  The norm's gradient: the kernel's three results are the reference's.
-/
module

public import proofs.«01_k».proof.Defs
public import proofs.«01_k».proof.Proof.Norm.Value
public import proofs.«01_k».proof.Proof.RealValues

@[expose] public section

set_option maxRecDepth 16384

noncomputable section

namespace Cert.NormPair

open Cert.RealValues
open Idealize.ShloMosaic Idealize.SL.Sem Idealize.ShloMosaic.TcCoe

/-- The precondition's shape facts. -/
instance preFacts : Cert.Pre_finite_norm.Facts where
  bcast_S_S2048x1024 := by decide
  bcast_S_S1x1024 := by decide

/-- A function of the reference's arguments is that function of the kernel's. -/
theorem same {A B C D R : Type} {a a' : A} {b b' : B} {d d' : C} {e e' : D} (h : a' = a ∧ b' = b ∧ d' = d ∧ e' = e) (f : A → B → C → D → R) : f a' b' d' e' = f a b d e := by
  rw [h.1, h.2.1, h.2.2.1, h.2.2.2]

/-- From the same arguments the kernel and the reference end with equal results. -/
theorem algebraic : algebraic_NormIdeal_NormRefIdeal_pre_finite_norm := by
  pair_intro
  · run_from Cert.NormIdeal.Value.run_blocks m g
  · have hX := fun c j => isReal_of_mask (congrFun (hpre c).1 j)
    have hG := fun c j => isReal_of_mask (congrFun (hpre c).2.1 j)
    have hH := fun c j => isReal_of_mask (congrFun (hpre c).2.2 j)
    run_from Cert.NormRefIdeal.Value.run m' g'
    · refine ((Cert.NormRefIdeal.Read.val_main_v37_eq _ c).trans ?_).trans (Cert.NormIdeal.Value.final4 m c (hX c) (hG c) (hH c)).symm
      exact same (hagree c) _
    · refine ((Cert.NormRefIdeal.Read.val_main_v39_eq _ c).trans ?_).trans (Cert.NormIdeal.Value.final5 m c (hX c) (hG c) (hH c)).symm
      exact same (hagree c) _
    · exact (Cert.NormIdeal.Value.final6 m c).symm

end Cert.NormPair

end
-- ==== Proof.Mixnorm.Value.lean ====
/-
  The norm before the mixers, backward: the same rows and gains as the other norm's call, without the rounded copy.
-/
module

public import proofs.«01_k».proof.Proof.Gen.MixnormIdeal.Value
public import proofs.«01_k».proof.Proof.Gen.MixnormRefIdeal.Run
public import proofs.«01_k».proof.Proof.Gen.MixnormRefIdeal.Read
public import proofs.«01_k».proof.Proof.Norm.Value

@[expose] public section

set_option maxRecDepth 16384

noncomputable section

namespace Cert.MixnormIdeal.Value

open Cert.MixnormIdeal Cert.MixnormIdeal.Gen Idealize.ShloMosaic Idealize.ShloMosaic.TcCoe Idealize.SL.Sem
open Idealize.ShloMosaic.Pipeline (Dat)
open Cert.MixnormRefIdeal.Read Cert.NormRow Cert.RealValues
open Cert.NormIdeal.Value (row_eq dgR_at)

variable (m : (ℓ : Loc nD τ sig) → Buf (Elt Ideal) ℓ) (c : Dev nD)

/-- The reference's two results are those of the other norm's reference. -/
theorem same_rows : val_main_v37 (F := Ideal) = Cert.NormRefIdeal.Read.val_main_v37 (F := Ideal) := rfl
theorem same_gains : val_main_v38 (F := Ideal) = Cert.NormRefIdeal.Read.val_main_v38 (F := Ideal) := rfl

/-- Where each window's block sits at a grid point. -/
theorem idx : ∀ t : Fin cfg0.N,
    win0_0.index t = ![t.val, 0] ∧ win0_1.index t = ![t.val, 0] ∧ win0_2.index t = ![0, 0] ∧ win0_3.index t = ![t.val, 0] ∧ win0_4.index t = ![t.val, 0] ∧ win0_5.index t = ![0, 0] ∧ t.val < 8 :=
  (by decide +kernel : ∀ t : Fin grid0.N, _)

/-- The row of the whole array that a block's row is. -/
abbrev row (t : Fin cfg0.N) (i : Fin 256) : Fin 2048 := ⟨t.val * 256 + i.val, by have := lt_of_lt_of_eq t.isLt N_0; omega⟩
abbrev aX : FVec Ideal S2048x1024 .f32 := m ((c : Thread nD τ).loc main_arg0)
abbrev aG : FVec Ideal S1x1024 .f32 := m ((c : Thread nD τ).loc main_arg1)
abbrev aH : FVec Ideal S2048x1024 .f32 := m ((c : Thread nD τ).loc main_arg2)
abbrev aR : FVec Ideal S2048x1024 .f32 := m ((c : Thread nD τ).loc main_arg3)

theorem in0 (t : Fin cfg0.N) (i : Fin 256) (j : Fin 1024) : iblk m c 0 t (ix2 i j) = aH m c (ix2 (row t i) j) := by
  blk_point [iblk, V, idx t]
theorem in1 (t : Fin cfg0.N) (i : Fin 256) (j : Fin 1024) : iblk m c 1 t (ix2 i j) = aX m c (ix2 (row t i) j) := by
  blk_point [iblk, V, idx t]
theorem in2 (t : Fin cfg0.N) (j : Fin 1024) : iblk m c 2 t (ix2 0 j) = aG m c (ix2 0 j) := by
  blk_point [iblk, V, idx t]
theorem in3 (t : Fin cfg0.N) (i : Fin 256) (j : Fin 1024) : iblk m c 3 t (ix2 i j) = aR m c (ix2 (row t i) j) := by
  blk_point [iblk, V, idx t]

/-- The stored row, a block's gains, and the running sum, as in the other norm's call. -/
theorem dx_at (x0 x1 x3 : FVec Ideal S256x1024 .f32) (x2 : FVec Ideal S1x1024 .f32) (i : Fin 256) (j : Fin 1024) :
    k0_pay4 x1 x0 x2 x3 (ix2 i j) = x3 (ix2 i j) + pulled (fun k => x1 (ix2 i k)) (fun k => x0 (ix2 i k) * x2 (ix2 0 k)) j :=
  Cert.NormIdeal.Value.dx_at x0 x1 x3 x2 i j
theorem dg_at (x0 x1 : FVec Ideal S256x1024 .f32) (j : Fin 1024) :
    k0_pay5 x1 x0 (ix2 0 j) = ∑ i : Fin 256, x0 (ix2 i j) * (x1 (ix2 i j) * scale (fun k => x1 (ix2 i k))) :=
  Cert.NormIdeal.Value.dg_at x0 x1 j
theorem add_at (a b : FVec Ideal S1x1024 .f32) (j : Fin 1024) : k0_pay1 a b (ix2 0 j) = b (ix2 0 j) + a (ix2 0 j) :=
  Cert.NormIdeal.Value.add_at a b j

theorem emb4 (t : Fin cfg0.N) (y : ((cfg0.win 4).xblock (cfg0.grid.coords t)).Idx) : ((cfg0.win 4).blk t).view.emb y = ix2 (row t (y 0)) (y 1 : Fin 1024) := by
  apply Shape.idx_ext₂ <;> blk_simp [idx t]

/-- A point's stored rows, in either case of the grid. -/
theorem tile4 (t : Fin cfg0.N) (i : Fin 256) (j : Fin 1024) : (outsAt0 m c t.val t.isLt).1 (ix2 i j)
    = aR m c (ix2 (row t i) j) + pulled (fun k => aX m c (ix2 (row t i) k)) (fun k => aH m c (ix2 (row t i) k) * aG m c (ix2 0 k)) j := by
  have hN := lt_of_lt_of_eq t.isLt N_0
  by_cases h : t.val % 8 = 0
  · rw [outsAt0_A m c t h (by omega)]; frame_out
    rw [dx_at]; simp only [in0, in1, in2, in3]
  · rw [outsAt0_B m c t h (by omega)]; frame_out
    rw [dx_at]; simp only [in0, in1, in2, in3]

/-- A tile's share of the gains' gradient, as the sum over the tile's rows. -/
def share (j : Fin 1024) (n : ℕ) : EReal :=
  if h : n < 8 then ∑ i : Fin 256, aH m c (ix2 ⟨n * 256 + i.val, by omega⟩ j) * (aX m c (ix2 ⟨n * 256 + i.val, by omega⟩ j) * scale (fun k => aX m c (ix2 ⟨n * 256 + i.val, by omega⟩ k)))
  else 0
theorem tile5 (j : Fin 1024) (t : Fin cfg0.N) : (outsAt0 m c t.val t.isLt).2 (ix2 0 j)
    = if t.val % 8 = 0 then share m c j t.val else (outsAt0 m c (t.val - 1) (lt_of_le_of_lt (Nat.sub_le _ _) t.isLt)).2 (ix2 0 j) + share m c j t.val := by
  have hN := lt_of_lt_of_eq t.isLt N_0
  have hs : k0_pay5 (F := Ideal) (iblk m c 1 t) (iblk m c 0 t) (ix2 0 j) = share m c j t.val := by
    unfold share
    rw [dif_pos hN, dg_at]; simp only [in0, in1]
  by_cases h : t.val % 8 = 0
  · rw [if_pos h, outsAt0_A m c t h (by omega)]; frame_out
    exact hs
  · rw [if_neg h, outsAt0_B m c t h (by omega)]; frame_out
    rw [add_at]
    exact congrArg (fun z => _ + z) hs
theorem total5 (j : Fin 1024) (k : ℕ) (hk : k < 8) : (outsAt0 m c k (lt_of_lt_of_eq hk N_0.symm)).2 (ix2 0 j) = ∑ n ∈ Finset.range (k + 1), share m c j n := by
  induction k with
  | zero => rw [Finset.sum_range_one]; exact tile5 m c j ⟨0, lt_of_lt_of_eq hk N_0.symm⟩
  | succ k ih =>
    rw [Finset.sum_range_succ, ← ih (by omega)]
    exact (tile5 m c j ⟨k + 1, lt_of_lt_of_eq hk N_0.symm⟩).trans (if_neg (show ¬(k + 1) % 8 = 0 by omega))

theorem final4 (hX : ∀ j, IsReal (aX m c j)) (hG : ∀ j, IsReal (aG m c j)) (hH : ∀ j, IsReal (aH m c j)) :
    (dats m 0 c).arrAt 4 (cfgs 0).N = val_main_v37 (F := Ideal) (aX m c) (aG m c) (aH m c) (aR m c) := by
  rw [same_rows]
  refine (dats m 0 c).arrAt_eq_of_covers 4 _ (by decide +kernel) fun t _ y => ?_
  obtain ⟨i, hi⟩ : ∃ i : Fin 256, i = y 0 := ⟨_, rfl⟩
  obtain ⟨j, hj⟩ : ∃ j : Fin 1024, j = y 1 := ⟨_, rfl⟩
  rw [emb4 t y, ← hi, ← hj, show y = ix2 i j by rw [hi, hj]; exact ValueIdx.eq_ix2 y]
  blk_simp
  rw [after0_4]
  exact (tile4 m c t i j).trans (row_eq _ _ _ _ hX hG hH _ _)
theorem final5 : (dats m 0 c).arrAt 5 (cfgs 0).N = val_main_v38 (F := Ideal) (aX m c) (aH m c) := by
  rw [same_gains]
  refine (dats m 0 c).arrAt_eq_of_after_last 5 t0_7 (by decide +kernel) _ fun y => ?_
  obtain ⟨j, rfl⟩ : ∃ j : Fin 1024, y = ix2 0 j := ⟨y 1, (ValueIdx.eq_ix2 y).trans (congrArg (fun z : Fin 1 => ix2 z (y 1 : Fin 1024)) (Subsingleton.elim (α := Fin 1) (y 0) 0))⟩
  blk_simp
  rw [after0_5]
  refine (total5 m c j 7 (by omega)).trans (Eq.trans ?_ (dgR_at _ _ j).symm)
  rw [Finset.sum_range, sum_tiles 8 256 2048 rfl]
  exact Finset.sum_congr rfl fun n _ => (dif_pos n.isLt).trans (Finset.sum_congr rfl fun i _ => mul_comm _ _)

end Cert.MixnormIdeal.Value

end
-- ==== Proof.Mixnorm.Pair.lean ====
/-
  The gradient of the norm before the mixers: the kernel's two results are the reference's.
-/
module

public import proofs.«01_k».proof.Defs
public import proofs.«01_k».proof.Proof.Mixnorm.Value
public import proofs.«01_k».proof.Proof.RealValues

@[expose] public section

set_option maxRecDepth 16384

noncomputable section

namespace Cert.MixnormPair

open Cert.RealValues
open Idealize.ShloMosaic Idealize.SL.Sem Idealize.ShloMosaic.TcCoe

/-- The precondition's shape facts. -/
instance preFacts : Cert.Pre_finite_mixnorm.Facts where
  bcast_S_S2048x1024 := by decide
  bcast_S_S1x1024 := by decide

/-- A function of the reference's arguments is that function of the kernel's. -/
theorem same {A B C D R : Type} {a a' : A} {b b' : B} {d d' : C} {e e' : D} (h : a' = a ∧ b' = b ∧ d' = d ∧ e' = e) (f : A → B → C → D → R) : f a' b' d' e' = f a b d e := by
  rw [h.1, h.2.1, h.2.2.1, h.2.2.2]

/-- From the same arguments the kernel and the reference end with equal results. -/
theorem algebraic : algebraic_MixnormIdeal_MixnormRefIdeal_pre_finite_mixnorm := by
  pair_intro
  · run_from Cert.MixnormIdeal.Value.run_blocks m g
  · have hX := fun c j => isReal_of_mask (congrFun (hpre c).1 j)
    have hG := fun c j => isReal_of_mask (congrFun (hpre c).2.1 j)
    have hH := fun c j => isReal_of_mask (congrFun (hpre c).2.2 j)
    run_from Cert.MixnormRefIdeal.Value.run m' g'
    · refine ((Cert.MixnormRefIdeal.Read.val_main_v37_eq _ c).trans ?_).trans (Cert.MixnormIdeal.Value.final4 m c (hX c) (hG c) (hH c)).symm
      exact same (hagree c) _
    · exact (Cert.MixnormIdeal.Value.final5 m c).symm

end Cert.MixnormPair

end
-- ==== Proof.Loss.Value.lean ====
/-
  The loss behind the down projection: the residual rows' gradient, its rounded copy, the final gains' gradient and the loss, both summed over all rows.
-/
module

public import proofs.«01_k».proof.Proof.Gen.LossIdeal.Value
public import proofs.«01_k».proof.Proof.Gen.LossRefIdeal.Run
public import proofs.«01_k».proof.Proof.Gen.LossRefIdeal.Read
public import proofs.«01_k».proof.Proof.NormRow
public import Idealize.ShloMosaic.Lib.Pipeline.ValueKit
public import Idealize.ShloMosaic.Lib.Claim

@[expose] public section

set_option maxRecDepth 16384

noncomputable section

namespace Cert.LossIdeal.Value

open Cert.LossIdeal Cert.LossIdeal.Gen Idealize.ShloMosaic Idealize.ShloMosaic.TcCoe Idealize.SL.Sem
open Idealize.ShloMosaic.Pipeline (Dat)
open Cert.LossRefIdeal.Read Cert.NormRow Cert.RealValues

variable (m : (ℓ : Loc nD τ sig) → Buf (Elt Ideal) ℓ)

/-- Where each window's block sits at a grid point. -/
theorem idx : ∀ t : Fin cfg0.N,
    win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] ∧ win0_7.index t = ![0, 0] ∧ win0_8.index t = ![0, 0] ∧ t.val < 4 :=
  (by decide +kernel : ∀ t : Fin grid0.N, _)

/-- The row of the whole array that a block's row is. -/
abbrev row (t : Fin cfg0.N) (i : Fin 512) : Fin 2048 := ⟨t.val * 512 + i.val, by have := lt_of_lt_of_eq t.isLt N_0; omega⟩

theorem in0 (c : Dev nD) (t : Fin cfg0.N) (i : Fin 512) (f : Fin 2816) : iblk m c 0 t (ix2 i f) = m ((c : Thread nD τ).loc main_arg0) (ix2 (row t i) f) := by
  blk_point [iblk, V, idx t]
theorem in1 (c : Dev nD) (t : Fin cfg0.N) (f : Fin 2816) (j : Fin 1024) : iblk m c 1 t (ix2 f j) = m ((c : Thread nD τ).loc main_arg1) (ix2 f j) := by
  blk_point [iblk, V, idx t]
theorem in2 (c : Dev nD) (t : Fin cfg0.N) (i : Fin 512) (j : Fin 1024) : iblk m c 2 t (ix2 i j) = m ((c : Thread nD τ).loc main_arg2) (ix2 (row t i) j) := by
  blk_point [iblk, V, idx t]
theorem in3 (c : Dev nD) (t : Fin cfg0.N) (j : Fin 1024) : iblk m c 3 t (ix2 0 j) = m ((c : Thread nD τ).loc main_arg3) (ix1 j) := by
  blk_point [iblk, V, idx t]
theorem in4 (c : Dev nD) (t : Fin cfg0.N) (i : Fin 512) (j : Fin 1024) : iblk m c 4 t (ix2 i j) = m ((c : Thread nD τ).loc main_arg4) (ix2 (row t i) j) := by
  blk_point [iblk, V, idx t]

/-- A row of the final residual, its error against the target, and the error's share of the loss's derivative. -/
abbrev resid (x : Fin 1024 → EReal) (a : Fin 2816 → EReal) (W : Fin 2816 → Fin 1024 → EReal) (j : Fin 1024) : EReal := x j + ∑ f, a f * W f j
def err (x g y : Fin 1024 → EReal) (j : Fin 1024) : EReal := x j * scale x * g j - y j
def derr (x g y : Fin 1024 → EReal) (j : Fin 1024) : EReal := err x g y j * Ideal.ofBits .f32 0x3A800000#32

section Block
variable (x0 : FVec Ideal S512x2816 .bf16) (x1 : FVec Ideal S2816x1024 .bf16) (x2 x4 : FVec Ideal S512x1024 .f32) (x3 : FVec Ideal S1x1024 .f32) (i : Fin 512) (j : Fin 1024)

abbrev rowB : Fin 1024 → EReal := resid (fun k => x2 (ix2 i k)) (fun f => x0 (ix2 i f)) (fun f k => x1 (ix2 f k))
theorem scaleB (z : Fin 1) : k0_pay8 (F := Ideal) x2 x0 x1 (ix2 i z) = scale (rowB x0 x1 x2 i) := by
  pointwise [k0_pay8, k0_pay7, scale, power]
theorem errB : k0_pay11 (F := Ideal) x2 x0 x1 x3 x4 (ix2 i j) = err (rowB x0 x1 x2 i) (fun k => x3 (ix2 0 k)) (fun k => x4 (ix2 i k)) j := by
  pointwise [k0_pay11, k0_pay10, k0_pay9, k0_pay7, scaleB, err]
theorem derrB : k0_pay13 (F := Ideal) x2 x0 x1 x3 x4 (ix2 i j) = derr (rowB x0 x1 x2 i) (fun k => x3 (ix2 0 k)) (fun k => x4 (ix2 i k)) j := by
  pointwise [k0_pay13, errB, derr]
theorem dxB : k0_pay1 (F := Ideal) (k0_pay8 x2 x0 x1) (k0_pay9 x2 x0 x1) (k0_pay14 x2 x0 x1 x3 x4) (k0_pay15 x2 x0 x1 x3 x4) (ix2 i j)
    = pulled (rowB x0 x1 x2 i) (fun k => derr (rowB x0 x1 x2 i) (fun k => x3 (ix2 0 k)) (fun k => x4 (ix2 i k)) k * x3 (ix2 0 k)) j := by
  pointwise [k0_pay1, k0_pay15, k0_pay14, k0_pay9, k0_pay10, k0_pay7, derrB, scaleB, pulled]
theorem dgB : k0_pay3 (F := Ideal) (k0_pay9 x2 x0 x1) (k0_pay13 x2 x0 x1 x3 x4) (ix2 0 j)
    = ∑ i, derr (rowB x0 x1 x2 i) (fun k => x3 (ix2 0 k)) (fun k => x4 (ix2 i k)) j * (rowB x0 x1 x2 i j * scale (rowB x0 x1 x2 i)) := by
  pointwise [k0_pay3, k0_pay9, k0_pay7, derrB, scaleB]
theorem lossB (l : Fin 128) : k0_pay4 (F := Ideal) (k0_pay12 x2 x0 x1 x3 x4) (ix2 0 l)
    = if l.val = 0 then Ideal.ofBits .f32 0x3F000000#32 * ∑ i : Fin 512, Ideal.div (∑ k, err (rowB x0 x1 x2 i) (fun k => x3 (ix2 0 k)) (fun k => x4 (ix2 i k)) k * err (rowB x0 x1 x2 i) (fun k => x3 (ix2 0 k)) (fun k => x4 (ix2 i k)) k) (Ideal.ofBits .f32 0x44800000#32) else 0 := by
  pointwise [k0_pay4, k0_pay12, errB]
  have h : ∀ l : Fin 128, IntOp.cmpi CmpIPredicate.eq (BitVec.ofNat 32 l.val) 0#32 = if l.val = 0 then 1#1 else 0#1 := by decide +kernel
  rw [h]
  by_cases hl : l.val = 0
  · rw [if_pos hl, if_pos hl]; rfl
  · rw [if_neg hl, if_neg hl]; rfl
theorem addG (a b : FVec Ideal S512x1024 .f32) (s : FVec Ideal S1x1024 .f32) : k0_pay5 (F := Ideal) a b s (ix2 0 j) = s (ix2 0 j) + k0_pay3 a b (ix2 0 j) := by
  pointwise [k0_pay5]
theorem addL (a : FVec Ideal S1x1 .f32) (s : FVec Ideal S1x128 .f32) (l : Fin 128) : k0_pay6 (F := Ideal) a s (ix2 0 l) = s (ix2 0 l) + k0_pay4 a (ix2 0 l) := by
  pointwise [k0_pay6]
end Block

section Reference
variable (A : FVec Ideal S2048x2816 .f32) (W : FVec Ideal S2816x1024 .f32) (X : FVec Ideal S2048x1024 .f32) (G : FVec Ideal S1024 .f32) (Y : FVec Ideal S2048x1024 .f32) (r : Fin 2048) (j : Fin 1024)

abbrev rowR : Fin 1024 → EReal := resid (fun k => X (ix2 r k)) (fun f => A (ix2 r f)) (fun f k => W (ix2 f k))
abbrev errR : Fin 1024 → EReal := err (rowR A W X r) (fun k => G (ix1 k)) (fun k => Y (ix2 r k))
abbrev derrR : Fin 1024 → EReal := derr (rowR A W X r) (fun k => G (ix1 k)) (fun k => Y (ix2 r k))

theorem row_at : val_main_v1 (F := Ideal) A W X (ix2 r j) = rowR A W X r j := by
  pointwise [val_main_v1, val_main_v0]
theorem power_at (z : Fin 1) : val_main_v8 (F := Ideal) A W X (ix2 r z) = power (rowR A W X r) := by
  pointwise [val_main_v8, val_main_v7, val_main_v6, val_main_v5, val_main_v4, val_main_v3, val_main_v2, val_main_cst, val_main_cst_0, val_main_cst_1, row_at, power]
theorem scale_at (z : Fin 1) : val_main_v9 (F := Ideal) A W X (ix2 r z) = scale (rowR A W X r) := by
  pointwise [val_main_v9, power_at, scale]
theorem err_at : val_main_v18 (F := Ideal) A W X G Y (ix2 r j) = errR A W X G Y r j := by
  pointwise [val_main_v18, val_main_v17, val_main_v16, val_main_v15, val_main_v14, val_main_v13, row_at, scale_at, err]
theorem bits_rate : Ideal.div (Ideal.ofBits .f32 0x3F000000#32) (Ideal.ofBits .f32 0x44800000#32) * Ideal.ofBits .f32 0x40000000#32 = Ideal.ofBits .f32 0x3A800000#32 := by
  have h1 : Ideal.ofBits .f32 0x3F000000#32 = ((1 / 2 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A800000#32 = ((1 / 1024 : ℝ) : EReal) := by simp [Ideal.ofBits, Ideal.ieee, -EReal.coe_mul]; norm_num
  rw [h1, h3, h4, div_size, ← EReal.coe_mul]
  norm_num
theorem derr_at : val_main_v32 (F := Ideal) A W X G Y (ix2 r j) = derrR A W X G Y r j := by
  pointwise [val_main_v32, val_main_v31, val_main_v30, val_main_v29, val_main_v28, val_main_v27, val_main_v21, val_main_v20, val_main_cst_3, val_main_cst_8, val_main_cst_9, val_main_cst_10, err_at]
  rw [← mul_assoc, bits_rate, mul_comm]; rfl
theorem tilt_at : val_main_v47 (F := Ideal) A W X G Y (ix1 r) = tilt (rowR A W X r) (fun k => derrR A W X G Y r k * G (ix1 k)) := by
  pointwise [val_main_v47, val_main_v46, val_main_v45, val_main_v44, val_main_v41, val_main_v40, val_main_v39, val_main_v37, val_main_v36, val_main_v15, val_main_v12, val_main_v11, val_main_v10, val_main_cst_2, val_main_cst_12, val_main_cst_13, val_main_cst_14, val_main_cst_15]
  simp only [Fin.sum_univ_one, row_at, power_at, scale_at, derr_at, tilt]
theorem dx_at : val_main_v52 (F := Ideal) A W X G Y (ix2 r j)
    = derrR A W X G Y r j * G (ix1 j) * scale (rowR A W X r) + rowR A W X r j * tilt (rowR A W X r) (fun k => derrR A W X G Y r k * G (ix1 k))
      + tilt (rowR A W X r) (fun k => derrR A W X G Y r k * G (ix1 k)) * rowR A W X r j := by
  pointwise [val_main_v52, val_main_v51, val_main_v50, val_main_v49, val_main_v48, val_main_v43, val_main_v42, val_main_v37, val_main_v36, val_main_v15, row_at, scale_at, derr_at, tilt_at]
theorem dg_at : val_main_v54 (F := Ideal) A W X G Y (ix2 0 j) = ∑ r, rowR A W X r j * scale (rowR A W X r) * derrR A W X G Y r j := by
  pointwise [val_main_v54, val_main_v38, val_main_v35, val_main_v34, val_main_v33, val_main_v14, val_main_v13, val_main_cst_11, val_main_cst_12]
  simp only [Fin.sum_univ_one, row_at, scale_at, derr_at]
theorem loss_at (l : Fin 128) : val_main_v56 (F := Ideal) A W X G Y (ix2 0 l)
    = if l.val = 0 then Ideal.ofBits .f32 0x3F000000#32 * ∑ r, Ideal.div (∑ k, errR A W X G Y r k * errR A W X G Y r k) (Ideal.ofBits .f32 0x44800000#32) else 0 := by
  pointwise [val_main_v56, val_main_v55, val_main_v26, val_main_v25, val_main_v24, val_main_v23, val_main_v22, val_main_v19, val_main_c, val_main_call0_v0, val_main_cst_4, val_main_cst_5, val_main_cst_6, val_main_cst_7, err_at]
  by_cases hl : l.val = 0
  · rw [dif_pos (by omega), if_pos hl]
  · rw [dif_neg (by omega), if_neg hl]
    show (((0#32 : BitVec 32).toInt : ℝ) : EReal) = 0
    simp
end Reference

section Finals
variable (c : Dev nD)
abbrev aA : FVec Ideal S2048x2816 .f32 := m ((c : Thread nD τ).loc main_arg0)
abbrev aW : FVec Ideal S2816x1024 .f32 := m ((c : Thread nD τ).loc main_arg1)
abbrev aX : FVec Ideal S2048x1024 .f32 := m ((c : Thread nD τ).loc main_arg2)
abbrev aG : FVec Ideal S1024 .f32 := m ((c : Thread nD τ).loc main_arg3)
abbrev aY : FVec Ideal S2048x1024 .f32 := m ((c : Thread nD τ).loc main_arg4)
abbrev rowM : Fin 2048 → Fin 1024 → EReal := rowR (aA m c) (aW m c) (aX m c)
abbrev errM : Fin 2048 → Fin 1024 → EReal := errR (aA m c) (aW m c) (aX m c) (aG m c) (aY m c)
abbrev derrM : Fin 2048 → Fin 1024 → EReal := derrR (aA m c) (aW m c) (aX m c) (aG m c) (aY m c)

theorem row_in (t : Fin cfg0.N) (i : Fin 512) : rowB (iblk m c 0 t) (iblk m c 1 t) (iblk m c 2 t) i = rowM m c (row t i) := by
  unfold rowB
  simp only [in0, in1, in2]
theorem emb5 (t : Fin cfg0.N) (y : ((cfg0.win 5).xblock (cfg0.grid.coords t)).Idx) : ((cfg0.win 5).blk t).view.emb y = ix2 (row t (y 0)) (y 1 : Fin 1024) := by
  apply Shape.idx_ext₂ <;> blk_simp [idx t]
theorem emb6 (t : Fin cfg0.N) (y : ((cfg0.win 6).xblock (cfg0.grid.coords t)).Idx) : ((cfg0.win 6).blk t).view.emb y = ix2 (row t (y 0)) (y 1 : Fin 1024) := by
  apply Shape.idx_ext₂ <;> blk_simp [idx t]

/-- A point's stored rows, in either case of the grid. -/
theorem tile5 (t : Fin cfg0.N) (i : Fin 512) (j : Fin 1024) : (outsAt0 m c t.val t.isLt).1 (ix2 i j)
    = pulled (rowM m c (row t i)) (fun k => derrM m c (row t i) k * aG m c (ix1 k)) j := by
  have hN := lt_of_lt_of_eq t.isLt N_0
  by_cases h : t.val % 4 = 0
  · rw [outsAt0_A m c t h (by omega)]; frame_out
    refine (dxB _ _ _ _ _ i j).trans ?_; simp only [row_in, in3, in4]
  · rw [outsAt0_B m c t h (by omega)]; frame_out
    refine (dxB _ _ _ _ _ i j).trans ?_; simp only [row_in, in3, in4]
theorem tile6 (t : Fin cfg0.N) (i : Fin 512) (j : Fin 1024) : (outsAt0 m c t.val t.isLt).2.1 (ix2 i j)
    = pulled (rowM m c (row t i)) (fun k => derrM m c (row t i) k * aG m c (ix1 k)) j := by
  have hN := lt_of_lt_of_eq t.isLt N_0
  by_cases h : t.val % 4 = 0
  · rw [outsAt0_A m c t h (by omega)]; frame_out
    refine (dxB _ _ _ _ _ i j).trans ?_; simp only [row_in, in3, in4]
  · rw [outsAt0_B m c t h (by omega)]; frame_out
    refine (dxB _ _ _ _ _ i j).trans ?_; simp only [row_in, in3, in4]

/-- A tile's share of the gains' gradient, and of the loss. -/
def shareG (j : Fin 1024) (n : ℕ) : EReal :=
  if h : n < 4 then ∑ i : Fin 512, derrM m c ⟨n * 512 + i.val, by omega⟩ j * (rowM m c ⟨n * 512 + i.val, by omega⟩ j * scale (rowM m c ⟨n * 512 + i.val, by omega⟩)) else 0
abbrev square (r : Fin 2048) : EReal := Ideal.div (∑ k, errM m c r k * errM m c r k) (Ideal.ofBits .f32 0x44800000#32)
def shareL (l : Fin 128) (n : ℕ) : EReal :=
  if h : n < 4 then if l.val = 0 then Ideal.ofBits .f32 0x3F000000#32 * ∑ i : Fin 512, square m c ⟨n * 512 + i.val, by omega⟩ else 0 else 0
theorem tile7 (j : Fin 1024) (t : Fin cfg0.N) : (outsAt0 m c t.val t.isLt).2.2.1 (ix2 0 j)
    = if t.val % 4 = 0 then shareG m c j t.val else (outsAt0 m c (t.val - 1) (lt_of_le_of_lt (Nat.sub_le _ _) t.isLt)).2.2.1 (ix2 0 j) + shareG m c j t.val := by
  have hN := lt_of_lt_of_eq t.isLt N_0
  unfold shareG
  rw [dif_pos hN]
  by_cases h : t.val % 4 = 0
  · rw [if_pos h, outsAt0_A m c t h (by omega)]; frame_out
    exact (dgB _ _ _ _ _ j).trans (Finset.sum_congr rfl fun x _ => by
      simp only [in3, in4]
      rw [row_in m c t x])
  · rw [if_neg h, outsAt0_B m c t h (by omega)]; frame_out
    refine (addG j _ _ _).trans (congrArg (fun z => _ + z) ?_)
    exact (dgB _ _ _ _ _ j).trans (Finset.sum_congr rfl fun x _ => by
      simp only [in3, in4]
      rw [row_in m c t x])
theorem tile8 (l : Fin 128) (t : Fin cfg0.N) : (outsAt0 m c t.val t.isLt).2.2.2 (ix2 0 l)
    = if t.val % 4 = 0 then shareL m c l t.val else (outsAt0 m c (t.val - 1) (lt_of_le_of_lt (Nat.sub_le _ _) t.isLt)).2.2.2 (ix2 0 l) + shareL m c l t.val := by
  have hN := lt_of_lt_of_eq t.isLt N_0
  unfold shareL
  rw [dif_pos hN]
  by_cases h : t.val % 4 = 0
  · rw [if_pos h, outsAt0_A m c t h (by omega)]; frame_out
    refine (lossB _ _ _ _ _ l).trans ?_; simp only [row_in, in3, in4]
  · rw [if_neg h, outsAt0_B m c t h (by omega)]; frame_out
    refine (addL _ _ l).trans (congrArg (fun z => _ + z) ?_)
    refine (lossB _ _ _ _ _ l).trans ?_; simp only [row_in, in3, in4]
theorem total7 (j : Fin 1024) (k : ℕ) (hk : k < 4) : (outsAt0 m c k (lt_of_lt_of_eq hk N_0.symm)).2.2.1 (ix2 0 j) = ∑ n ∈ Finset.range (k + 1), shareG m c j n := by
  induction k with
  | zero => rw [Finset.sum_range_one]; exact tile7 m c j ⟨0, lt_of_lt_of_eq hk N_0.symm⟩
  | succ k ih =>
    rw [Finset.sum_range_succ, ← ih (by omega)]
    exact (tile7 m c j ⟨k + 1, lt_of_lt_of_eq hk N_0.symm⟩).trans (if_neg (show ¬(k + 1) % 4 = 0 by omega))
theorem total8 (l : Fin 128) (k : ℕ) (hk : k < 4) : (outsAt0 m c k (lt_of_lt_of_eq hk N_0.symm)).2.2.2 (ix2 0 l) = ∑ n ∈ Finset.range (k + 1), shareL m c l n := by
  induction k with
  | zero => rw [Finset.sum_range_one]; exact tile8 m c l ⟨0, lt_of_lt_of_eq hk N_0.symm⟩
  | succ k ih =>
    rw [Finset.sum_range_succ, ← ih (by omega)]
    exact (tile8 m c l ⟨k + 1, lt_of_lt_of_eq hk N_0.symm⟩).trans (if_neg (show ¬(k + 1) % 4 = 0 by omega))

theorem final7 : (dats m 0 c).arrAt 7 (cfgs 0).N = val_main_v54 (F := Ideal) (aA m c) (aW m c) (aX m c) (aG m c) (aY m c) := by
  refine (dats m 0 c).arrAt_eq_of_after_last 7 t0_3 (by decide +kernel) _ fun y => ?_
  obtain ⟨j, rfl⟩ : ∃ j : Fin 1024, y = ix2 0 j := ⟨y 1, (ValueIdx.eq_ix2 y).trans (congrArg (fun z : Fin 1 => ix2 z (y 1 : Fin 1024)) (Subsingleton.elim (α := Fin 1) (y 0) 0))⟩
  blk_simp
  rw [after0_7]
  refine (total7 m c j 3 (by omega)).trans (Eq.trans ?_ (dg_at _ _ _ _ _ j).symm)
  rw [Finset.sum_range, sum_tiles 4 512 2048 rfl]
  exact Finset.sum_congr rfl fun n _ => (dif_pos n.isLt).trans (Finset.sum_congr rfl fun i _ => mul_comm _ _)

variable (hA : ∀ j, IsReal (aA m c j)) (hW : ∀ j, IsReal (aW m c j)) (hX : ∀ j, IsReal (aX m c j)) (hG : ∀ j, IsReal (aG m c j)) (hY : ∀ j, IsReal (aY m c j))
include hA hW hX hG

theorem isReal_row (r : Fin 2048) (j : Fin 1024) : IsReal (rowM m c r j) :=
  (hX _).add (IsReal.sum _ _ fun _ _ => (hA _).mul (hW _))
include hY
theorem isReal_err (r : Fin 2048) (j : Fin 1024) : IsReal (errM m c r j) :=
  (((isReal_row m c hA hW hX hG r j).mul (isReal_scale (isReal_row m c hA hW hX hG r))).mul (hG _)).sub (hY _)
theorem isReal_derr (r : Fin 2048) (j : Fin 1024) : IsReal (derrM m c r j) :=
  (isReal_err m c hA hW hX hG hY r j).mul ⟨1 / 1024, by simp [Ideal.ofBits, Ideal.ieee, -EReal.coe_mul]; norm_num⟩

/-- The two rows agree. -/
theorem row_eq (r : Fin 2048) (j : Fin 1024) : pulled (rowM m c r) (fun k => derrM m c r k * aG m c (ix1 k)) j
    = val_main_v52 (F := Ideal) (aA m c) (aW m c) (aX m c) (aG m c) (aY m c) (ix2 r j) := by
  rw [dx_at]
  exact pulled_eq (isReal_row m c hA hW hX hG r) (fun k => (isReal_derr m c hA hW hX hG hY r k).mul (hG _)) j

theorem final5 : (dats m 0 c).arrAt 5 (cfgs 0).N = val_main_v52 (F := Ideal) (aA m c) (aW m c) (aX m c) (aG m c) (aY m c) := by
  refine (dats m 0 c).arrAt_eq_of_covers 5 _ (by decide +kernel) fun t _ y => ?_
  obtain ⟨i, hi⟩ : ∃ i : Fin 512, i = y 0 := ⟨_, rfl⟩
  obtain ⟨j, hj⟩ : ∃ j : Fin 1024, j = y 1 := ⟨_, rfl⟩
  rw [emb5 t y, ← hi, ← hj, show y = ix2 i j by rw [hi, hj]; exact ValueIdx.eq_ix2 y]
  blk_simp
  rw [after0_5]
  exact (tile5 m c t i j).trans (row_eq m c hA hW hX hG hY _ _)
theorem final6 : (dats m 0 c).arrAt 6 (cfgs 0).N = val_main_v53 (F := Ideal) (aA m c) (aW m c) (aX m c) (aG m c) (aY m c) := by
  refine (dats m 0 c).arrAt_eq_of_covers 6 _ (by decide +kernel) fun t _ y => ?_
  obtain ⟨i, hi⟩ : ∃ i : Fin 512, i = y 0 := ⟨_, rfl⟩
  obtain ⟨j, hj⟩ : ∃ j : Fin 1024, j = y 1 := ⟨_, rfl⟩
  rw [emb6 t y, ← hi, ← hj, show y = ix2 i j by rw [hi, hj]; exact ValueIdx.eq_ix2 y]
  blk_simp
  rw [after0_6]
  exact (tile6 m c t i j).trans (row_eq m c hA hW hX hG hY _ _)

theorem isReal_square (r : Fin 2048) : IsReal (square m c r) := by
  obtain ⟨s, hs⟩ := IsReal.sum Finset.univ (fun k => errM m c r k * errM m c r k) fun k _ => (isReal_err m c hA hW hX hG hY r k).mul (isReal_err m c hA hW hX hG hY r k)
  exact ⟨s / 1024, by rw [square, hs, div_size]⟩

theorem final8 : (dats m 0 c).arrAt 8 (cfgs 0).N = val_main_v56 (F := Ideal) (aA m c) (aW m c) (aX m c) (aG m c) (aY m c) := by
  refine (dats m 0 c).arrAt_eq_of_after_last 8 t0_3 (by decide +kernel) _ fun y => ?_
  obtain ⟨l, rfl⟩ : ∃ l : Fin 128, y = ix2 0 l := ⟨y 1, (ValueIdx.eq_ix2 y).trans (congrArg (fun z : Fin 1 => ix2 z (y 1 : Fin 128)) (Subsingleton.elim (α := Fin 1) (y 0) 0))⟩
  blk_simp
  rw [after0_8]
  refine (total8 m c l 3 (by omega)).trans (Eq.trans ?_ (loss_at _ _ _ _ _ l).symm)
  rw [Finset.sum_range]
  by_cases hl : l.val = 0
  · rw [if_pos hl, sum_tiles 4 512 2048 rfl]
    refine Eq.trans (Finset.sum_congr rfl fun n _ => (dif_pos n.isLt).trans (if_pos hl)) ?_
    have hT : ∀ n : Fin 4, IsReal (∑ i : Fin 512, square m c ⟨n.val * 512 + i.val, by omega⟩) := fun n => IsReal.sum _ _ fun _ _ => isReal_square m c hA hW hX hG hY _
    have hb : Ideal.ofBits .f32 0x3F000000#32 = ((1 / 2 : ℝ) : EReal) := by simp [Ideal.ofBits, Ideal.ieee, -EReal.coe_mul]; norm_num
    obtain ⟨s0, h0⟩ := hT 0; obtain ⟨s1, h1⟩ := hT 1; obtain ⟨s2, h2⟩ := hT 2; obtain ⟨s3, h3⟩ := hT 3
    rw [Fin.sum_univ_four, Fin.sum_univ_four, hb]
    refine Eq.trans (b := (1 / 2 : ℝ) * (s0 : EReal) + (1 / 2 : ℝ) * (s1 : EReal) + (1 / 2 : ℝ) * (s2 : EReal) + (1 / 2 : ℝ) * (s3 : EReal)) ?_ (Eq.trans (b := (1 / 2 : ℝ) * ((s0 : EReal) + s1 + s2 + s3)) ?_ ?_)
    · rw [← h0, ← h1, ← h2, ← h3]
    · norm_cast; ring
    · rw [← h0, ← h1, ← h2, ← h3]
  · rw [if_neg hl]
    exact Finset.sum_eq_zero fun n _ => (dif_pos n.isLt).trans (if_neg hl)
end Finals

end Cert.LossIdeal.Value

end
-- ==== Proof.Loss.Pair.lean ====
/-
  The loss and its gradient through the final norm: the kernel's four results are the reference's.
-/
module

public import proofs.«01_k».proof.Defs
public import proofs.«01_k».proof.Proof.Loss.Value
public import proofs.«01_k».proof.Proof.RealValues

@[expose] public section

set_option maxRecDepth 16384

noncomputable section

namespace Cert.LossPair

open Cert.RealValues
open Idealize.ShloMosaic Idealize.SL.Sem Idealize.ShloMosaic.TcCoe

/-- The precondition's shape facts. -/
instance preFacts : Cert.Pre_finite_loss.Facts where
  bcast_S_S2048x2816 := by decide
  bcast_S_S2816x1024 := by decide
  bcast_S_S2048x1024 := by decide
  bcast_S_S1024 := by decide

/-- A function of the reference's arguments is that function of the kernel's. -/
theorem same {A B C D E R : Type} {a a' : A} {b b' : B} {x x' : C} {g g' : D} {y y' : E} (h : a' = a ∧ b' = b ∧ x' = x ∧ g' = g ∧ y' = y) (f : A → B → C → D → E → R) :
    f a' b' x' g' y' = f a b x g y := by
  rw [h.1, h.2.1, h.2.2.1, h.2.2.2.1, h.2.2.2.2]

/-- From the same arguments the kernel and the reference end with equal results. -/
theorem algebraic : algebraic_LossIdeal_LossRefIdeal_pre_finite_loss := by
  pair_intro
  · run_from Cert.LossIdeal.Value.run_blocks m g
  · have hA := fun c j => isReal_of_mask (congrFun (hpre c).1 j)
    have hW := fun c j => isReal_of_mask (congrFun (hpre c).2.1 j)
    have hX := fun c j => isReal_of_mask (congrFun (hpre c).2.2.1 j)
    have hG := fun c j => isReal_of_mask (congrFun (hpre c).2.2.2.1 j)
    have hY := fun c j => isReal_of_mask (congrFun (hpre c).2.2.2.2 j)
    run_from Cert.LossRefIdeal.Value.run m' g'
    · refine ((Cert.LossRefIdeal.Read.val_main_v52_eq _ c).trans ?_).trans (Cert.LossIdeal.Value.final5 m c (hA c) (hW c) (hX c) (hG c) (hY c)).symm
      exact same (hagree c) _
    · refine ((Cert.LossRefIdeal.Read.val_main_v53_eq _ c).trans ?_).trans (Cert.LossIdeal.Value.final6 m c (hA c) (hW c) (hX c) (hG c) (hY c)).symm
      exact same (hagree c) _
    · exact (Cert.LossIdeal.Value.final7 m c).symm
    · exact (Cert.LossIdeal.Value.final8 m c (hA c) (hW c) (hX c) (hG c) (hY c)).symm

end Cert.LossPair

end
-- ==== Proof.Attnf.Block.lean ====
/-
  The attention's forward kernel at one grid point: a head's probabilities times its values, summed over the two halves of a tile.
-/
module

public import proofs.«01_k».proof.Proof.Gen.AttnfIdeal.Value
public import proofs.«01_k».proof.Proof.Attn.Meet

@[expose] public section

set_option maxRecDepth 16384

noncomputable section

namespace Cert.AttnfIdeal.Value

open Cert.AttnfIdeal Cert.AttnfIdeal.Gen Idealize.ShloMosaic Idealize.ShloMosaic.TcCoe Idealize.SL.Sem
open Cert.AttnRow Cert.RealValues
open Cert.AttnIdeal.Value (IsMask IsHalf IsRows IsSink scoreK scoreB scoreK_eq lanes queriesB sinksB Loads Meets score_eq halfK10 halfK11 halfK20 halfK21 halfK30 halfK31 halfV10 halfV11 halfV20 halfV21 halfV30 halfV31)
open Cert.AttnRefIdeal.Meaning (seen band valueR score sinkR pR isReal_score)

/-- One half of a head's results: its probabilities' product with its values. -/
def outHalf (M : IVec S256x256 1) (K V Q : FVec Ideal S256x128 .bf16) (z : FVec Ideal S1x256 .f32) : FVec Ideal S256x128 .f32 :=
  matmul dot_S256x256_S256x128_S256x128_0_0_1_1_n_n none (truncf .bf16 (Cert.AttnIdeal.Gen.k0_pay28 (F := Ideal) M K Q z) bitsLt_bf16_f32) V (constant S256x128 .f32 0x00000000#32)

theorem outHalf_at (M : IVec S256x256 1) (K V Q : FVec Ideal S256x128 .bf16) (z : FVec Ideal S1x256 .f32) (r : Fin 256) (l : Fin 128) :
    outHalf M K V Q z (ix2 r l) = ∑ k, prob (scoreK M K Q r) (z (ix2 0 r)) k * V (ix2 k l) := by
  pointwise [outHalf, Cert.AttnIdeal.Value.prob_at]

section Rows
variable {M : IVec S256x256 1} {K K' V V' Q : FVec Ideal S256x128 .bf16} {z z' : FVec Ideal S1x256 .f32}
  {kf vf : Fin 256 → Fin 64 → EReal} {qf : Fin 128 → Fin 4 → Fin 64 → EReal} {zf : Fin 4 → EReal} {see : Fin 128 → Fin 256 → Prop} [∀ i k, Decidable (see i k)]

theorem half_at {p : Fin 2} (hM : IsMask M see) (hK : IsHalf p K kf) (hV : IsHalf p V vf) (hQ : IsRows Q qf) (hz : IsSink p z zf) (r : Fin 256) (l : Fin 128) :
    outHalf M K V Q z (ix2 r l) = if l.val / 64 = p.val then
      ∑ k, prob (scoreB see kf qf ⟨r.val % 128, by omega⟩ ⟨2 * (r.val / 128) + l.val / 64, by omega⟩) (zf ⟨2 * (r.val / 128) + l.val / 64, by omega⟩) k * vf k ⟨l.val % 64, by omega⟩ else 0 := by
  rw [outHalf_at, scoreK_eq hM hK hQ, hz]
  simp only [hV _ l]
  split
  · next e => simp only [e]
  · simp only [mul_zero, Finset.sum_const_zero]

/-- The two halves' sum is the head's result. -/
theorem sum_at (hM : IsMask M see) (hK : IsHalf 0 K kf) (hK' : IsHalf 1 K' kf) (hV : IsHalf 0 V vf) (hV' : IsHalf 1 V' vf) (hQ : IsRows Q qf) (hz : IsSink 0 z zf) (hz' : IsSink 1 z' zf)
    (b : ℕ) (i l : Fin 128) (r : Fin 256) (hr : r.val = b * 128 + i.val) (g : Fin 4) (hg : g.val = 2 * b + l.val / 64) :
    addf (outHalf M K V Q z) (outHalf M K' V' Q z') (ix2 r l) = ∑ k, prob (scoreB see kf qf i g) (zf g) k * vf k ⟨l.val % 64, by omega⟩ := by
  show outHalf M K V Q z (ix2 r l) + outHalf M K' V' Q z' (ix2 r l) = _
  rw [half_at hM hK hV hQ hz, half_at hM hK' hV' hQ hz']
  have e₁ : (⟨r.val % 128, by omega⟩ : Fin 128) = i := Fin.ext (show r.val % 128 = i.val by omega)
  have e₂ : (⟨2 * (r.val / 128) + l.val / 64, by omega⟩ : Fin 4) = g := Fin.ext (show 2 * (r.val / 128) + l.val / 64 = g.val by omega)
  simp only [e₁, e₂]
  by_cases h : l.val / 64 = 0
  · rw [if_pos (show l.val / 64 = (0 : Fin 2).val from h), if_neg (show ¬l.val / 64 = (1 : Fin 2).val from fun e => by have : l.val / 64 = 1 := e; omega), add_zero]
  · rw [if_neg (show ¬l.val / 64 = (0 : Fin 2).val from h), if_pos (show l.val / 64 = (1 : Fin 2).val from (by omega : l.val / 64 = 1)), zero_add]
end Rows

/-- The upper and the lower tile of a head's results. -/
theorem upper_at (X : FVec Ideal S256x128 .f32) (i l : Fin 128) :
    truncf .bf16 (extractStridedSlice S128x128 ![0, 0] X slices_S256x128_o0_0_S128x128) bitsLt_bf16_f32 (ix2 i l) = X (ix2 ⟨i.val, by omega⟩ l) := by
  pointwise []
theorem lower_at (X : FVec Ideal S256x128 .f32) (i l : Fin 128) :
    truncf .bf16 (extractStridedSlice S128x128 ![128, 0] X slices_S256x128_o128_0_S128x128) bitsLt_bf16_f32 (ix2 i l) = X (ix2 ⟨128 + i.val, by omega⟩ l) := by
  pointwise []

/-- The block of results at one grid point. -/
def oPoint (n : Fin 16) (x : Fin 128 → Fin 16 → Fin 64 → EReal) (s : Fin 16 → EReal) (cf sf : Fin 128 → Fin 8 → EReal) (K V : FVec Ideal S256x256 .f32) (i : Fin 128) (q : Fin 1024) : EReal :=
  ∑ k, prob (scoreB (seen n) (lanes K ⟨q.val / 256, by omega⟩) (queriesB x cf sf ⟨q.val / 256, by omega⟩) i ⟨q.val / 64 % 4, by omega⟩)
    (sinksB s ⟨q.val / 256, by omega⟩ ⟨q.val / 64 % 4, by omega⟩) k * lanes V ⟨q.val / 256, by omega⟩ k ⟨q.val % 64, by omega⟩

theorem oPoint_at (n : Fin 16) (x : Fin 128 → Fin 16 → Fin 64 → EReal) (s : Fin 16 → EReal) (cf sf : Fin 128 → Fin 8 → EReal) (K V : FVec Ideal S256x256 .f32) (h : Fin 4) (b : ℕ) (hb : b < 2) (i' i l : Fin 128) (q : Fin 1024)
    (h0 : i'.val = i.val) (h1 : q.val = h.val * 256 + b * 128 + l.val) (g : Fin 4) (hg : g.val = 2 * b + l.val / 64) :
    ∑ k, prob (scoreB (seen n) (lanes K h) (queriesB x cf sf h) i g) (sinksB s h g) k * lanes V h k ⟨l.val % 64, by omega⟩ = oPoint n x s cf sf K V i' q := by
  obtain rfl : i' = i := Fin.ext h0
  have e1 : (⟨q.val / 256, by omega⟩ : Fin 4) = h := Fin.ext (show q.val / 256 = h.val by omega)
  have e2 : (⟨q.val / 64 % 4, by omega⟩ : Fin 4) = g := Fin.ext (show q.val / 64 % 4 = g.val by omega)
  have e3 : (⟨q.val % 64, by omega⟩ : Fin 64) = ⟨l.val % 64, by omega⟩ := Fin.ext (show q.val % 64 = l.val % 64 by omega)
  unfold oPoint
  rw [e1, e2, e3]

/-- A block's result is the arguments': unseen keys have probability zero. -/
theorem oPoint_eq {P : FVec Ideal S2048x6656 .f32} {S : FVec Ideal S1x16 .f32} {W : FVec Ideal Cert.AttnIdeal.S1024x1024 .f32} {D : FVec Ideal S2048x1024 .f32} {n : Fin 16}
    {x : Fin 128 → Fin 16 → Fin 64 → EReal} {s : Fin 16 → EReal} {cf sf : Fin 128 → Fin 8 → EReal} {K V : FVec Ideal S256x256 .f32} {O : FVec Ideal S128x1024 .bf16}
    (M : Meets P S W D n x s cf sf K V O) (hP : ∀ j, IsReal (P j)) (hz : ∀ j, IsReal (S j)) (i : Fin 128) (q : Fin 1024) :
    oPoint n x s cf sf K V i q
      = ∑ k, pR P S n i ⟨q.val / 256, by omega⟩ ⟨q.val / 64 % 4, by omega⟩ k * band (fun r => valueR P r ⟨q.val / 256, by omega⟩ ⟨q.val % 64, by omega⟩) n k := by
  unfold oPoint
  refine Finset.sum_congr rfl fun k _ => ?_
  rw [score_eq M, sinksB, M.sinks]
  by_cases u : seen n i k
  · rw [M.values _ k _ u.2.2]
  · rw [show prob (score P n i ⟨q.val / 256, by omega⟩ ⟨q.val / 64 % 4, by omega⟩) (S (ix2 0 ⟨q.val / 256 * 4 + q.val / 64 % 4, by omega⟩)) k = 0 from
        prob_unseen (isReal_score n i _ _ hP) (hz _) k (if_neg u), zero_mul]
    rw [show pR P S n i ⟨q.val / 256, by omega⟩ ⟨q.val / 64 % 4, by omega⟩ k = 0 from prob_unseen (isReal_score n i _ _ hP) (hz _) k (if_neg u), zero_mul]

end Cert.AttnfIdeal.Value

end
-- ==== Proof.Attnf.Reference.lean ====
/-
  The reference of the attention's forward pass, pointwise: a query's probabilities over its band, and the values weighted by them.
-/
module

public import proofs.«01_k».proof.Proof.Gen.AttnfRefIdeal.Read
public import proofs.«01_k».proof.Proof.Attn.Rows

@[expose] public section

set_option maxRecDepth 16384

noncomputable section

namespace Cert.AttnfRefIdeal.Meaning

open Cert.AttnfRefIdeal Idealize.ShloMosaic Idealize.ShloMosaic.TcCoe Idealize.SL.Sem
open Cert.AttnfRefIdeal.Read Cert.RealValues Cert.AttnRow
open Cert.AttnRefIdeal.Meaning (rot_ladder band band_ladder seen keyR queryR valueR score sinkR pR isReal_score cosT sinT)

section
variable (x0 : FVec Ideal S2048x6656 .f32) (x1 : FVec Ideal S1x16 .f32)

/-- The rotary tables are the backward pass's, for the queries and for the keys. -/
theorem cos_q : val_main_v25 (F := Ideal) = cosT := rfl
theorem sin_q : val_main_v26 (F := Ideal) = sinT := rfl
theorem cos_k : val_main_v62 (F := Ideal) = cosT := rfl
theorem sin_k : val_main_v63 (F := Ideal) = sinT := rfl

theorem key_at (r : Fin 2048) (h : Fin 4) (d : Fin 64) : val_main_v81 (F := Ideal) x0 (ix3 r h d) = keyR x0 r h d := by
  pointwise [val_main_v81, val_main_v80, val_main_v79, val_main_v78, val_main_v77, val_main_v76, val_main_v75, val_main_v74, val_main_v73, val_main_v72, val_main_v71, val_main_v70, val_main_v69, val_main_v68, cos_k, sin_k, val_main_v67, val_main_v66, val_main_v65, val_main_v64, val_main_v45, val_main_v4]
  exact rot_ladder (fun d => x0 (ix2 r ⟨4096 + (h.val * 64 + d.val), by omega⟩)) (fun j => cosT (ix2 r j)) (fun j => sinT (ix2 r j)) d

theorem keys_at (n : Fin 16) (k : Fin 256) (h : Fin 4) (d : Fin 64) : val_main_v90 (F := Ideal) x0 (ix4 n k h d) = band (fun r => keyR x0 r h d) n k := by
  pointwise [val_main_v90, val_main_v89, val_main_v88, val_main_v87, val_main_v86, val_main_v85, val_main_cst_7, key_at]
  exact band_ladder (fun r => keyR x0 r h d) n k

theorem vals_at (n : Fin 16) (k : Fin 256) (h : Fin 4) (d : Fin 64) : val_main_v96 (F := Ideal) x0 (ix4 n k h d) = band (fun r => valueR x0 r h d) n k := by
  pointwise [val_main_v96, val_main_v95, val_main_v94, val_main_v93, val_main_v92, val_main_v91, val_main_cst_8, val_main_v82, val_main_v5]
  exact band_ladder (fun r => valueR x0 r h d) n k

theorem query_at (n : Fin 16) (i : Fin 128) (h g : Fin 4) (d : Fin 64) :
    val_main_v84 (F := Ideal) x0 (ix5 n i h g d) = queryR x0 ⟨n.val * 128 + i.val, by omega⟩ ⟨h.val * 4 + g.val, by omega⟩ d := by
  pointwise [val_main_v84, val_main_v44, val_main_v43, val_main_v42, val_main_v41, val_main_v40, val_main_v39, val_main_v38, val_main_v37, val_main_v36, val_main_v35, val_main_v34, val_main_v33, val_main_v32, val_main_v31, cos_q, sin_q, val_main_v30, val_main_v29, val_main_v28, val_main_v27, val_main_v8, val_main_v3]
  exact rot_ladder (fun d => x0 (ix2 ⟨n.val * 128 + i.val, by omega⟩ ⟨3072 + ((h.val * 4 + g.val) * 64 + d.val), by omega⟩))
    (fun j => cosT (ix2 ⟨n.val * 128 + i.val, by omega⟩ j)) (fun j => sinT (ix2 ⟨n.val * 128 + i.val, by omega⟩ j)) d

/-- Which keys are seen is the backward pass's mask. -/
theorem mask_same : val_main_v132 (F := Ideal) = Cert.AttnRefIdeal.Read.val_main_v138 (F := Ideal) := rfl
theorem mask_at (n : Fin 16) (i : Fin 128) (k : Fin 256) : val_main_v132 (F := Ideal) (ix3 n i k) = if seen n i k then 1#1 else 0#1 :=
  (congrFun mask_same _).trans (Cert.AttnRefIdeal.Meaning.mask_at n i k)

theorem score_at (n : Fin 16) (h g : Fin 4) (i : Fin 128) (k : Fin 256) : val_main_v134 (F := Ideal) x0 (ix5 n h g i k) = score x0 n i h g k := by
  pointwise [val_main_v134, val_main_call0_v1, val_main_call0_v2, val_main_call0_v0, val_main_cst_15, val_main_v133, mask_at, val_main_v100, val_main_v99, val_main_cst_9, val_main_v98, val_main_v97, keys_at, query_at]
  show Scalar.select _ _ (Ideal.ofBits .f32 0xFF800000#32) = _
  rw [Cert.AttnRefIdeal.Meaning.bot_word]
  unfold score
  by_cases hs : seen n i k
  · rw [if_pos hs, if_pos hs]; rfl
  · rw [if_neg hs, if_neg hs]; rfl

/-- The scores, and from them the probabilities, are the backward pass's. -/
theorem scores_same : val_main_v134 (F := Ideal) x0 = Cert.AttnRefIdeal.Read.val_main_v140_0 (F := Ideal) x0 := by
  funext j
  obtain ⟨n, h, g, i, k, rfl⟩ : ∃ (n : Fin 16) (h g : Fin 4) (i : Fin 128) (k : Fin 256), j = ix5 n h g i k := ⟨j 0, j 1, j 2, j 3, j 4, ValueIdx.eq_ix5 j⟩
  exact (score_at x0 n h g i k).trans (Cert.AttnRefIdeal.Meaning.score_at x0 n h g i k).symm

theorem row_same : val_main_v137 (F := Ideal) x0 x1 = Cert.AttnRefIdeal.Read.val_main_v143 (F := Ideal) x0 x1 := by
  unfold val_main_v137 Cert.AttnRefIdeal.Read.val_main_v143
  rw [scores_same]
  rfl

theorem exs_same : val_main_v144 (F := Ideal) x0 x1 = Cert.AttnRefIdeal.Read.val_main_v164 (F := Ideal) x0 x1 := by
  unfold val_main_v144 val_main_v143 val_main_v142 val_main_v141 val_main_v140 val_main_v138 Cert.AttnRefIdeal.Read.val_main_v164 Cert.AttnRefIdeal.Read.val_main_v163 Cert.AttnRefIdeal.Read.val_main_v162 Cert.AttnRefIdeal.Read.val_main_v161 Cert.AttnRefIdeal.Read.val_main_v151 Cert.AttnRefIdeal.Read.val_main_v144
  rw [row_same]
  generalize Cert.AttnRefIdeal.Read.val_main_v143 (F := Ideal) x0 x1 = A
  rfl

theorem probs_same : val_main_v149 (F := Ideal) x0 x1 = Cert.AttnRefIdeal.Read.val_main_v172 (F := Ideal) x0 x1 := by
  unfold val_main_v149 val_main_v148 val_main_v147 val_main_v146 val_main_v145 Cert.AttnRefIdeal.Read.val_main_v172 Cert.AttnRefIdeal.Read.val_main_v168 Cert.AttnRefIdeal.Read.val_main_v167 Cert.AttnRefIdeal.Read.val_main_v166 Cert.AttnRefIdeal.Read.val_main_v165
  rw [exs_same]
  generalize Cert.AttnRefIdeal.Read.val_main_v164 (F := Ideal) x0 x1 = A
  rfl
end

section
variable {x0 : FVec Ideal S2048x6656 .f32} {x1 : FVec Ideal S1x16 .f32} (hP : ∀ j, IsReal (x0 j)) (hz : ∀ j, IsReal (x1 j))
include hP hz

theorem probs_at (n : Fin 16) (h g : Fin 4) (i : Fin 128) (k : Fin 256) : val_main_v149 (F := Ideal) x0 x1 (ix5 n h g i k) = pR x0 x1 n i h g k := by
  rw [probs_same]
  exact (Cert.AttnRefIdeal.Meaning.prob_at x0 x1 n i h g k).trans (prob_eq (isReal_score n i h g hP) (hz _) k)

/-- The attention's result at a row and a column. -/
theorem out_at (n : Fin 16) (i : Fin 128) (q : Fin 1024) : val_main_v153 (F := Ideal) x0 x1 (ix2 ⟨n.val * 128 + i.val, by omega⟩ q)
    = ∑ k, pR x0 x1 n i ⟨q.val / 256, by omega⟩ ⟨q.val / 64 % 4, by omega⟩ k * band (fun r => valueR x0 r ⟨q.val / 256, by omega⟩ ⟨q.val % 64, by omega⟩) n k := by
  pointwise [val_main_v153, val_main_v152, val_main_v151, val_main_v150, probs_at hP hz, vals_at]
  exact Finset.sum_congr rfl fun k _ => mul_comm _ _
end

end Cert.AttnfRefIdeal.Meaning

end
-- ==== Proof.Attnf.Value.lean ====
/-
  The attention's forward kernel: the blocks of its windows, the rotation tables its host lines make, and its result.
-/
module

public import proofs.«01_k».proof.Proof.Attnf.Block
public import proofs.«01_k».proof.Proof.Attnf.Reference
public import proofs.«01_k».proof.Proof.Attn.Windows
public import Idealize.ShloMosaic.Lib.StableHlo.ReadAt

@[expose] public section

set_option maxRecDepth 16384

noncomputable section

namespace Cert.AttnfIdeal.Value

open Cert.AttnfIdeal Cert.AttnfIdeal.Gen Idealize.ShloMosaic Idealize.ShloMosaic.TcCoe Idealize.SL.Sem
open Idealize.ShloMosaic.Pipeline (Dat)
open Cert.AttnRow Cert.RealValues
open Cert.AttnIdeal.Value (IsTables xOf sOf cOf snOf loads_of meets_of tables_of cos_at sin_at halfK10 halfK11 halfK20 halfK21 halfK30 halfK31 halfV10 halfV11 halfV20 halfV21 halfV30 halfV31)
open Cert.AttnRefIdeal.Meaning (cosT sinT outR pR band valueR)

variable (m : (ℓ : Loc nD τ sig) → Buf (Elt Ideal) ℓ) (c : Dev nD) (t : Fin cfg0.N)

/-- Where each window's block sits at a grid point, and the point's number. -/
theorem idx : ∀ t : Fin cfg0.N,
    win0_0.index t = ![0, 0] ∧ win0_1.index t = ![t.val, 3] ∧ win0_2.index t = ![t.val - 1, 16] ∧ win0_3.index t = ![t.val, 16]
      ∧ win0_4.index t = ![t.val - 1, 17] ∧ win0_5.index t = ![t.val, 17] ∧ win0_6.index t = ![t.val, 0]
      ∧ win0_7.index t = ![t.val, 0] ∧ win0_8.index t = ![t.val, 0] ∧ win0_9.index t = ![t.val - 1, 0]
      ∧ win0_10.index t = ![t.val - 1, 0] ∧ win0_11.index t = ![t.val - 1, 0] ∧ win0_12.index t = ![t.val, 0] ∧ (grid0.coords t 0).val = t.val ∧ t.val < 16 :=
  (by decide +kernel : ∀ t : Fin grid0.N, _)
/-- The three rotation tables the host lines hand to the kernel. -/
theorem tabC (r : Fin 2048) (l : Fin 256) : V m c main_v27 (ix2 r l) = if l.val % 64 < 16 then cosT (ix2 r ⟨l.val % 8, by omega⟩) else 1 := by
  unfold V
  after_reads_at
  have h0 : ∀ j, StableHlo.upto hostOps0 (fun b => m (c, b)) 28 (Proc.tc.devRef main_v16) (ix2 r j) = cosT (ix2 r j) := by
    intro j
    after_reads_at
    simp only [cos_at, sin_at]
  have h1 : ∀ j, StableHlo.upto hostOps0 (fun b => m (c, b)) 28 (Proc.tc.devRef main_v18) (ix2 r j) = (1 : EReal) := by
    intro j
    after_reads_at
  simp only [h0, h1]
  by_cases q : l.val % 64 < 8
  · have e : l.val % 64 = l.val % 8 := by omega
    simp only [dif_pos q]
    rw [if_pos (show l.val % 64 < 16 by omega)]
    simp only [e]
  · by_cases q' : l.val % 64 - 8 < 8
    · have e : l.val % 64 - 8 = l.val % 8 := by omega
      simp only [dif_neg q, dif_pos q']
      rw [if_pos (show l.val % 64 < 16 by omega)]
      simp only [e]
    · simp only [dif_neg q, dif_neg q']
      rw [if_neg (show ¬l.val % 64 < 16 by omega)]
theorem tabU (r : Fin 2048) (l : Fin 256) : V m c main_v30 (ix2 r l) = if l.val % 64 < 8 then -sinT (ix2 r ⟨l.val % 8, by omega⟩) else 0 := by
  unfold V
  after_reads_at
  have h0 : ∀ j, StableHlo.upto hostOps0 (fun b => m (c, b)) 30 (Proc.tc.devRef main_v22) (ix2 r j) = -sinT (ix2 r j) := by
    intro j
    after_reads_at
    simp only [cos_at, sin_at]
  have h1 : ∀ j, StableHlo.upto hostOps0 (fun b => m (c, b)) 30 (Proc.tc.devRef main_v20) (ix2 r j) = (0 : EReal) := by
    intro j
    after_reads_at
  have h2 : ∀ j, StableHlo.upto hostOps0 (fun b => m (c, b)) 30 (Proc.tc.devRef main_v19) (ix2 r j) = (0 : EReal) := by
    intro j
    after_reads_at
  simp only [h0, h1, h2]
  by_cases q : l.val % 64 < 8
  · have e : l.val % 64 = l.val % 8 := by omega
    simp only [dif_pos q]
    rw [if_pos q]
    simp only [e]
  · by_cases q' : l.val % 64 - 8 < 8
    · have e : l.val % 64 - 8 = l.val % 8 := by omega
      simp only [dif_neg q, dif_pos q']
      rw [if_neg q]
    · simp only [dif_neg q, dif_neg q']
      rw [if_neg q]
theorem tabV (r : Fin 2048) (l : Fin 256) : V m c main_v33 (ix2 r l) = if 8 ≤ l.val % 64 ∧ l.val % 64 < 16 then sinT (ix2 r ⟨l.val % 8, by omega⟩) else 0 := by
  unfold V
  after_reads_at
  have h0 : ∀ j, StableHlo.upto hostOps0 (fun b => m (c, b)) 31 (Proc.tc.devRef main_v20) (ix2 r j) = (0 : EReal) := by
    intro j
    after_reads_at
  have h1 : ∀ j, StableHlo.upto hostOps0 (fun b => m (c, b)) 31 (Proc.tc.devRef main_v17) (ix2 r j) = sinT (ix2 r j) := by
    intro j
    after_reads_at
    simp only [cos_at, sin_at]
  have h2 : ∀ j, StableHlo.upto hostOps0 (fun b => m (c, b)) 31 (Proc.tc.devRef main_v19) (ix2 r j) = (0 : EReal) := by
    intro j
    after_reads_at
  simp only [h0, h1, h2]
  by_cases q : l.val % 64 < 8
  · have e : l.val % 64 = l.val % 8 := by omega
    simp only [dif_pos q]
    rw [if_neg (show ¬(8 ≤ l.val % 64 ∧ l.val % 64 < 16) by omega)]
  · by_cases q' : l.val % 64 - 8 < 8
    · have e : l.val % 64 - 8 = l.val % 8 := by omega
      simp only [dif_neg q, dif_pos q']
      rw [if_pos (show 8 ≤ l.val % 64 ∧ l.val % 64 < 16 by omega)]
      simp only [e]
    · simp only [dif_neg q, dif_neg q']
      rw [if_neg (show ¬(8 ≤ l.val % 64 ∧ l.val % 64 < 16) by omega)]
/-- A grid point's number; the row of the whole array that a block's row is, and that of the block before it. -/
abbrev num : Fin 16 := ⟨t.val, lt_of_lt_of_eq t.isLt N_0⟩
abbrev row (i : Fin 128) : Fin 2048 := ⟨t.val * 128 + i.val, by have := lt_of_lt_of_eq t.isLt N_0; omega⟩
abbrev back (i : Fin 128) : Fin 2048 := ⟨(t.val - 1) * 128 + i.val, by have := lt_of_lt_of_eq t.isLt N_0; omega⟩

theorem coords_num : (grid0.coords t 0).val = (num t).val := by
  obtain ⟨_, _, _, _, _, _, _, _, _, _, _, _, _, h, _⟩ := idx t
  exact h

/-- The two arguments. -/
abbrev proj : FVec Ideal S2048x6656 .f32 := m ((c : Thread nD τ).loc main_arg0)
abbrev sinks : FVec Ideal S1x16 .f32 := m ((c : Thread nD τ).loc main_arg1)

theorem win0 (h : Fin 16) : iblk m c 0 t (ix2 0 h) = sinks m c (ix2 0 h) := by
  blk_point [iblk, V, idx t]
theorem win1 (i : Fin 128) (j : Fin 1024) : X0_1 m c t (ix2 i j) = proj m c (ix2 (row t i) ⟨3072 + j.val, by omega⟩) := by
  unfold X0_1 Pipeline.Window.fill
  rw [dif_pos (moved0_1 t _)]
  blk_point [iblk, V, idx t]
theorem win2 (i : Fin 128) (j : Fin 256) : iblk m c 2 t (ix2 i j) = proj m c (ix2 (back t i) ⟨4096 + j.val, by omega⟩) := by
  blk_point [iblk, V, idx t]
theorem win3 (i : Fin 128) (j : Fin 256) : iblk m c 3 t (ix2 i j) = proj m c (ix2 (row t i) ⟨4096 + j.val, by omega⟩) := by
  blk_point [iblk, V, idx t]
theorem win4 (i : Fin 128) (j : Fin 256) : iblk m c 4 t (ix2 i j) = proj m c (ix2 (back t i) ⟨4352 + j.val, by omega⟩) := by
  blk_point [iblk, V, idx t]
theorem win5 (i : Fin 128) (j : Fin 256) : iblk m c 5 t (ix2 i j) = proj m c (ix2 (row t i) ⟨4352 + j.val, by omega⟩) := by
  blk_point [iblk, V, idx t]
theorem win6 (i : Fin 128) (l : Fin 256) : iblk m c 6 t (ix2 i l) = V m c main_v27 (ix2 (row t i) l) := by
  blk_point [iblk, idx t]
theorem win7 (i : Fin 128) (l : Fin 256) : iblk m c 7 t (ix2 i l) = V m c main_v30 (ix2 (row t i) l) := by
  blk_point [iblk, idx t]
theorem win8 (i : Fin 128) (l : Fin 256) : iblk m c 8 t (ix2 i l) = V m c main_v33 (ix2 (row t i) l) := by
  blk_point [iblk, idx t]
theorem win9 (i : Fin 128) (l : Fin 256) : iblk m c 9 t (ix2 i l) = V m c main_v27 (ix2 (back t i) l) := by
  blk_point [iblk, idx t]
theorem win10 (i : Fin 128) (l : Fin 256) : iblk m c 10 t (ix2 i l) = V m c main_v30 (ix2 (back t i) l) := by
  blk_point [iblk, idx t]
theorem win11 (i : Fin 128) (l : Fin 256) : iblk m c 11 t (ix2 i l) = V m c main_v33 (ix2 (back t i) l) := by
  blk_point [iblk, idx t]

theorem tables_row : IsTables (w := 256) (iblk m c 6 t) (iblk m c 7 t) (iblk m c 8 t) (fun i j => cosT (ix2 (row t i) j)) (fun i j => sinT (ix2 (row t i) j)) :=
  ⟨fun i l => (win6 m c t i l).trans (tabC m c _ l), fun i l => (win7 m c t i l).trans (tabU m c _ l), fun i l => (win8 m c t i l).trans (tabV m c _ l)⟩
theorem tables_back : IsTables (w := 256) (iblk m c 9 t) (iblk m c 10 t) (iblk m c 11 t) (fun i j => cosT (ix2 (back t i) j)) (fun i j => sinT (ix2 (back t i) j)) :=
  ⟨fun i l => (win9 m c t i l).trans (tabC m c _ l), fun i l => (win10 m c t i l).trans (tabU m c _ l), fun i l => (win11 m c t i l).trans (tabV m c _ l)⟩

/-- A grid point's queries, sinks and rotation tables, and its keys and values. -/
abbrev xB := xOf (X0_1 m c t)
abbrev sB := sOf (iblk m c 0 t)
abbrev cB := cOf (iblk m c 6 t)
abbrev snB := snOf (iblk m c 8 t)
def kB : FVec Ideal S256x256 .f32 :=
  Cert.AttnIdeal.Gen.k0_pay6 (F := Ideal) (Cert.AttnIdeal.Gen.k0_pay3 (F := Ideal) (iblk m c 2 t) (iblk m c 9 t) (iblk m c 10 t) (iblk m c 11 t)) (iblk m c 3 t) (Cert.AttnIdeal.Gen.k0_pay4 (F := Ideal) (iblk m c 6 t)) (Cert.AttnIdeal.Gen.k0_pay5 (F := Ideal) (iblk m c 7 t)) (iblk m c 8 t)
def vB : FVec Ideal S256x256 .f32 := Cert.AttnIdeal.Gen.k0_pay7 (F := Ideal) (iblk m c 4 t) (iblk m c 5 t)

/-- The stored tiles make up the block of results. -/
theorem outs (y : S128x1024.Idx) : outsAt0 m c t y = oPoint (num t) (xB m c t) (sB m c t) (cB m c t) (snB m c t) (kB m c t) (vB m c t) (y 0) (y 1) := by
  have H := loads_of (grid0.coords t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (num t) (coords_num t) (tables_of (tables_row m c t))
  have hk : kB m c t = _ := rfl
  have hv : vB m c t = _ := rfl
  unfold outsAt0
  frame_out
  canon_tiles
  all_goals obtain ⟨i, l, rfl⟩ : ∃ (i l : Fin 128), x = ix2 i l := ⟨x 0, x 1, ValueIdx.eq_ix2 x⟩
  · exact (lower_at _ i l).trans ((sum_at H.mask (halfK30 (kB m c t)) (halfK31 (kB m c t)) (halfV30 (vB m c t)) (halfV31 (vB m c t)) H.q3 H.z30 H.z31 1 i l _ (show 128 + i.val = 1 * 128 + i.val by omega) ⟨2 * 1 + l.val / 64, by omega⟩ rfl).trans (oPoint_at (num t) _ _ _ _ (kB m c t) (vB m c t) 3 1 (by decide) _ i l _ h0 h1 _ rfl))
  · exact (upper_at _ i l).trans ((sum_at H.mask (halfK30 (kB m c t)) (halfK31 (kB m c t)) (halfV30 (vB m c t)) (halfV31 (vB m c t)) H.q3 H.z30 H.z31 0 i l _ (show i.val = 0 * 128 + i.val by omega) ⟨2 * 0 + l.val / 64, by omega⟩ rfl).trans (oPoint_at (num t) _ _ _ _ (kB m c t) (vB m c t) 3 0 (by decide) _ i l _ h0 h1 _ rfl))
  · exact (lower_at _ i l).trans ((sum_at H.mask (halfK20 (kB m c t)) (halfK21 (kB m c t)) (halfV20 (vB m c t)) (halfV21 (vB m c t)) H.q2 H.z20 H.z21 1 i l _ (show 128 + i.val = 1 * 128 + i.val by omega) ⟨2 * 1 + l.val / 64, by omega⟩ rfl).trans (oPoint_at (num t) _ _ _ _ (kB m c t) (vB m c t) 2 1 (by decide) _ i l _ h0 h1 _ rfl))
  · exact (upper_at _ i l).trans ((sum_at H.mask (halfK20 (kB m c t)) (halfK21 (kB m c t)) (halfV20 (vB m c t)) (halfV21 (vB m c t)) H.q2 H.z20 H.z21 0 i l _ (show i.val = 0 * 128 + i.val by omega) ⟨2 * 0 + l.val / 64, by omega⟩ rfl).trans (oPoint_at (num t) _ _ _ _ (kB m c t) (vB m c t) 2 0 (by decide) _ i l _ h0 h1 _ rfl))
  · exact (lower_at _ i l).trans ((sum_at H.mask (halfK10 (kB m c t)) (halfK11 (kB m c t)) (halfV10 (vB m c t)) (halfV11 (vB m c t)) H.q1 H.z10 H.z11 1 i l _ (show 128 + i.val = 1 * 128 + i.val by omega) ⟨2 * 1 + l.val / 64, by omega⟩ rfl).trans (oPoint_at (num t) _ _ _ _ (kB m c t) (vB m c t) 1 1 (by decide) _ i l _ h0 h1 _ rfl))
  · exact (upper_at _ i l).trans ((sum_at H.mask (halfK10 (kB m c t)) (halfK11 (kB m c t)) (halfV10 (vB m c t)) (halfV11 (vB m c t)) H.q1 H.z10 H.z11 0 i l _ (show i.val = 0 * 128 + i.val by omega) ⟨2 * 0 + l.val / 64, by omega⟩ rfl).trans (oPoint_at (num t) _ _ _ _ (kB m c t) (vB m c t) 1 0 (by decide) _ i l _ h0 h1 _ rfl))
  · exact (lower_at _ i l).trans ((sum_at H.mask H.k0 H.k1 H.v0 H.v1 H.q0 H.z00 H.z01 1 i l _ (show 128 + i.val = 1 * 128 + i.val by omega) ⟨2 * 1 + l.val / 64, by omega⟩ rfl).trans (oPoint_at (num t) _ _ _ _ (kB m c t) (vB m c t) 0 1 (by decide) _ i l _ h0 h1 _ rfl))
  · exact (upper_at _ i l).trans ((sum_at H.mask H.k0 H.k1 H.v0 H.v1 H.q0 H.z00 H.z01 0 i l _ (show i.val = 0 * 128 + i.val by omega) ⟨2 * 0 + l.val / 64, by omega⟩ rfl).trans (oPoint_at (num t) _ _ _ _ (kB m c t) (vB m c t) 0 0 (by decide) _ i l _ h0 (h1.trans (show l.val = 0 * 256 + 0 * 128 + l.val by omega)) _ rfl))

theorem emb12 (t : Fin cfg0.N) (y : ((cfg0.win 12).xblock (cfg0.grid.coords t)).Idx) : ((cfg0.win 12).blk t).view.emb y = ix2 (row t (y 0)) (y 1 : Fin 1024) := by
  apply Shape.idx_ext₂ <;> blk_simp [idx t]

/-- The kernel's array is the reference's. -/
theorem final12 (c : Dev nD) (hP : ∀ j, IsReal (proj m c j)) (hz : ∀ j, IsReal (sinks m c j)) :
    (dats m 0 c).arrAt 12 (cfgs 0).N = Cert.AttnfRefIdeal.Read.val_main_v153 (F := Ideal) (proj m c) (sinks m c) := by
  refine (dats m 0 c).arrAt_eq_of_covers 12 _ (by decide +kernel) fun t _ y => ?_
  rw [emb12 t y]
  refine Eq.trans ?_ (Cert.AttnfRefIdeal.Meaning.out_at hP hz (num t) (y 0) (y 1)).symm
  refine Eq.trans ?_ (oPoint_eq (W := fun _ => 0) (D := fun _ => 0) (O := fun i => outR (fun _ => 0) (fun _ => 0) (row t (i 0)) (i 1))
    (meets_of (num t) (win0 m c t) (win1 m c t) (win2 m c t) (win3 m c t) (win4 m c t) (win5 m c t) (tables_row m c t) (tables_back m c t) (fun i q => rfl)) hP hz (y 0) (y 1))
  rw [after0_12]
  exact outs m c t y

end Cert.AttnfIdeal.Value

end
-- ==== Proof.Attnf.Pair.lean ====
/-
  The attention's forward kernel: its mask constant, and its result against the reference's.
-/
module

public import proofs.«01_k».proof.Defs
public import proofs.«01_k».proof.Proof.Attnf.Value
public import proofs.«01_k».proof.Proof.RealValues

@[expose] public section

set_option maxRecDepth 16384

noncomputable section

namespace Cert.AttnfPair

open Cert.RealValues
open Idealize.ShloMosaic Idealize.SL.Sem Idealize.ShloMosaic.TcCoe

/-- The precondition's shape facts. -/
instance preFacts : Cert.Pre_finite_attnf.Facts where
  bcast_S_S2048x6656 := by decide
  bcast_S_S1x16 := by decide

/-- The mask's constant is read as the infinity it stands for. -/
theorem preserves : preserves_Attnf_AttnfIdeal :=
  IdealRules.named_const.statement Cert.AttnfIdeal.κ "mask" .f32 0xF149F2CA#32 ⊥ rfl

/-- A function of the reference's arguments is that function of the kernel's. -/
theorem same {A B R : Type} {a a' : A} {b b' : B} (h : a' = a ∧ b' = b) (f : A → B → R) : f a' b' = f a b := by
  rw [h.1, h.2]

/-- From the same arguments the kernel and the reference end with equal results. -/
theorem algebraic : algebraic_AttnfIdeal_AttnfRefIdeal_pre_finite_attnf := by
  pair_intro
  · run_from Cert.AttnfIdeal.Value.run_blocks m g
  · have hP := fun c j => isReal_of_mask (congrFun (hpre c).1 j)
    have hz := fun c j => isReal_of_mask (congrFun (hpre c).2 j)
    run_from Cert.AttnfRefIdeal.Value.run m' g'
    refine ((Cert.AttnfRefIdeal.Read.val_main_v153_eq _ c).trans ?_).trans (Cert.AttnfIdeal.Value.final12 m c (hP c) (hz c)).symm
    exact same (hagree c) _

end Cert.AttnfPair

end
-- ==== Proof.Convf.Value.lean ====
/-
  The gated short convolution, forward: the first column group times the three taps' sum over the moved product of the other two.
-/
module

public import proofs.«01_k».proof.Proof.Gen.ConvfIdeal.Value
public import proofs.«01_k».proof.Proof.Gen.ConvfRefIdeal.Run
public import proofs.«01_k».proof.Proof.Gen.ConvfRefIdeal.Read
public import proofs.«01_k».proof.Proof.Conv.Value
public import Idealize.ShloMosaic.Lib.Pipeline.ValueKit
public import Idealize.ShloMosaic.Lib.Claim

@[expose] public section

set_option maxRecDepth 16384

noncomputable section

namespace Cert.ConvfIdeal.Value

open Cert.ConvfIdeal Cert.ConvfIdeal.Gen Idealize.ShloMosaic Idealize.ShloMosaic.TcCoe Idealize.SL.Sem
open Idealize.ShloMosaic.Pipeline (Dat)
open Cert.ConvfRefIdeal.Read

variable (m : (ℓ : Loc nD τ sig) → Buf (Elt Ideal) ℓ)

/-- Where each window's block sits at a grid point. -/
theorem idx : ∀ t : Fin cfg0.N,
    win0_0.index t = ![0, t.val] ∧ win0_1.index t = ![0, t.val + 4] ∧ win0_2.index t = ![0, t.val + 8] ∧ win0_3.index t = ![0, t.val] ∧ win0_4.index t = ![0, t.val] ∧ t.val < 4 :=
  (by decide +kernel : ∀ t : Fin grid0.N, _)

open Cert.ConvIdeal.Value (row_ge down mul_down down_of_lt down_of_ge)

/-- The column of the whole array that a block's column is. -/
abbrev col (t : Fin cfg0.N) (q : Fin 256) : Fin 1024 := ⟨t.val * 256 + q.val, by have := t.isLt; have : cfg0.N = 4 := rfl; omega⟩

theorem in0 (c : Dev nD) (t : Fin cfg0.N) (r : Fin 2048) (q : Fin 256) :
    iblk m c 0 t (ix2 r q) = m ((c : Thread nD τ).loc main_arg0) (ix2 r ⟨(col t q).val, by omega⟩) := by
  blk_point [iblk, V, idx t]
theorem in1 (c : Dev nD) (t : Fin cfg0.N) (r : Fin 2048) (q : Fin 256) :
    iblk m c 1 t (ix2 r q) = m ((c : Thread nD τ).loc main_arg0) (ix2 r ⟨1024 + (col t q).val, by omega⟩) := by
  blk_point [iblk, V, idx t]
theorem in2 (c : Dev nD) (t : Fin cfg0.N) (r : Fin 2048) (q : Fin 256) :
    iblk m c 2 t (ix2 r q) = m ((c : Thread nD τ).loc main_arg0) (ix2 r ⟨2048 + (col t q).val, by omega⟩) := by
  blk_point [iblk, V, idx t]
theorem in3 (c : Dev nD) (t : Fin cfg0.N) (k : Fin 3) (q : Fin 256) :
    iblk m c 3 t (ix2 k q) = m ((c : Thread nD τ).loc main_arg1) (ix2 k (col t q)) := by
  blk_point [iblk, V, idx t]
theorem emb4 (t : Fin cfg0.N) (y : ((cfg0.win 4).xblock (cfg0.grid.coords t)).Idx) :
    ((cfg0.win 4).blk t).view.emb y = ix2 (y 0 : Fin 2048) (col t (y 1)) := by
  apply Shape.idx_ext₂ <;> blk_simp [idx t]

variable (P : FVec Ideal S2048x6656 .f32) (w : FVec Ideal S3x1024 .f32) (r : Fin 2048) (c : Fin 1024)

/-- The convolution's input: the product of the projection's second and third column groups. -/
abbrev U (r : Fin 2048) (c : Fin 1024) : EReal := P (ix2 r ⟨1024 + c.val, by omega⟩) * P (ix2 r ⟨2048 + c.val, by omega⟩)

/-- The gated convolution: every tap times the input moved down. -/
abbrev gated (r : Fin 2048) (c : Fin 1024) : EReal :=
  P (ix2 r ⟨c.val, by omega⟩)
    * (down 2 (fun r => w (ix2 0 c) * U P r c) r + down 1 (fun r => w (ix2 1 c) * U P r c) r + w (ix2 2 c) * U P r c)

/-- The reference's three slices of the padded input are the input and its two moves. -/
theorem slice2 : val_main_v13 (F := Ideal) P (ix2 r c) = down 2 (fun r => U P r c) r := by
  pointwise [val_main_v13, val_main_v10, val_main_v9, val_main_cst, val_main_v8, val_main_v1, val_main_v2]
  rcases Nat.lt_or_ge r 2 with h | h
  · rw [down_of_lt _ h, dif_pos h]
  · rw [down_of_ge _ h, dif_neg (by omega)]
theorem slice1 : val_main_v19 (F := Ideal) P (ix2 r c) = down 1 (fun r => U P r c) r := by
  pointwise [val_main_v19, val_main_v10, val_main_v9, val_main_cst, val_main_v8, val_main_v1, val_main_v2]
  rcases Nat.lt_or_ge r 1 with h | h
  · rw [down_of_lt _ h, dif_pos (by omega)]
  · rw [down_of_ge _ h, dif_neg (by omega)]
    simp only [U, show 1 + r.val - 2 = r.val - 1 by omega]
theorem slice0 : val_main_v26 (F := Ideal) P (ix2 r c) = U P r c := by
  pointwise [val_main_v26, val_main_v10, val_main_v9, val_main_cst, val_main_v8, val_main_v1, val_main_v2, U]

theorem gated_at : val_main_v32 (F := Ideal) P w (ix2 r c) = gated P w r c := by
  pointwise [val_main_v32, val_main_v31, val_main_v30, val_main_v29, val_main_v28, val_main_v27, val_main_v25, val_main_v24, val_main_v23, val_main_v22, val_main_v21, val_main_v20, val_main_v18, val_main_v17, val_main_v16, val_main_v15, val_main_v14, val_main_v12, val_main_v11, val_main_v0]
  rw [slice0, slice1, slice2, mul_down, mul_down]

theorem at0 (r : Fin 2048) (q : Fin 256) : (ix2 r q : S2048x256.Idx) 0 = r := rfl
theorem at1 (r : Fin 2048) (q : Fin 256) : (ix2 r q : S2048x256.Idx) 1 = q := rfl

omit P w r c in
theorem final4 (c : Dev nD) : (dats m 0 c).arrAt 4 (cfgs 0).N
    = val_main_v32 (F := Ideal) (m ((c : Thread nD τ).loc main_arg0)) (m ((c : Thread nD τ).loc main_arg1)) := by
  refine (dats m 0 c).arrAt_eq_of_covers 4 _ (by decide +kernel) fun t _ y => ?_
  obtain ⟨r, hr⟩ : ∃ r : Fin 2048, r = y 0 := ⟨_, rfl⟩
  obtain ⟨q, hq⟩ : ∃ q : Fin 256, q = y 1 := ⟨_, rfl⟩
  rw [emb4 t y, ← hr, ← hq, show y = ix2 r q by rw [hr, hq]; exact ValueIdx.eq_ix2 y]
  refine Eq.trans ?_ (gated_at _ _ r (col t q)).symm
  blk_simp
  rw [after0_4]; frame_out
  pointwise [k0_pay1]
  simp only [at0, at1, in0, in1, in2, in3]
  rw [row_ge _ 2 r.isLt (by norm_num), row_ge _ 1 r.isLt (by norm_num)]

end Cert.ConvfIdeal.Value

end
-- ==== Proof.Convf.Pair.lean ====
/-
  The convolution with its gate: the kernel's result is the reference's.
-/
module

public import proofs.«01_k».proof.Defs
public import proofs.«01_k».proof.Proof.Convf.Value

@[expose] public section

set_option maxRecDepth 16384

noncomputable section

namespace Cert.ConvfPair

open Idealize.ShloMosaic Idealize.SL.Sem Idealize.ShloMosaic.TcCoe

/-- From the same arguments the kernel and the reference end with equal results. -/
theorem algebraic : algebraic_ConvfIdeal_ConvfRefIdeal := by
  pair_intro
  · run_from Cert.ConvfIdeal.Value.run_blocks m g
  · run_from Cert.ConvfRefIdeal.Value.run m' g'
    exact (Cert.ConvfIdeal.Value.final4 m c).symm

end Cert.ConvfPair

end
-- ==== Proof.Mergef.Value.lean ====
/-
  The two branches' merge, forward: both projected branches, and their sum under the logistic gates.
-/
module

public import proofs.«01_k».proof.Proof.Gen.MergefIdeal.Value
public import proofs.«01_k».proof.Proof.Gen.MergefRefIdeal.Run
public import proofs.«01_k».proof.Proof.Gen.MergefRefIdeal.Read
public import Idealize.ShloMosaic.Lib.Pipeline.ValueKit
public import Idealize.ShloMosaic.Lib.Claim

@[expose] public section

set_option maxRecDepth 16384

noncomputable section

namespace Cert.MergefIdeal.Value

open Cert.MergefIdeal Cert.MergefIdeal.Gen Idealize.ShloMosaic Idealize.ShloMosaic.TcCoe Idealize.SL.Sem
open Idealize.ShloMosaic.Pipeline (Dat)
open Cert.MergefRefIdeal.Read

variable (m : (ℓ : Loc nD τ sig) → Buf (Elt Ideal) ℓ)

/-- Where each window's block sits at a grid point. -/
theorem idx : ∀ t : Fin cfg0.N,
    win0_0.index t = ![t.val / 2, 0] ∧ win0_1.index t = ![t.val / 2, 0] ∧ win0_2.index t = ![0, t.val % 2] ∧ win0_3.index t = ![0, t.val % 2] ∧ win0_4.index t = ![t.val / 2, t.val % 2 + 9] ∧ win0_5.index t = ![t.val / 2, t.val % 2 + 11] ∧ win0_6.index t = ![t.val / 2, t.val % 2] ∧ win0_7.index t = ![t.val / 2, t.val % 2] ∧ win0_8.index t = ![t.val / 2, t.val % 2] ∧ t.val / 2 < 2 :=
  (by decide +kernel : ∀ t : Fin grid0.N, _)

/-- The convolution branch's projection. -/
theorem final6 (c : Dev nD) : (dats m 0 c).arrAt 6 (cfgs 0).N
    = val_main_v8 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay1, k0_pay2, k0_pay3, val_main_v8]
  blk_point [iblk, V, idx t]

/-- The attention branch's projection. -/
theorem final7 (c : Dev nD) : (dats m 0 c).arrAt 7 (cfgs 0).N
    = val_main_v9 (F := Ideal) (m ((c : Thread nD τ).loc main_arg1)) (m ((c : Thread nD τ).loc main_arg3)) := by
  refine (dats m 0 c).arrAt_eq_of_covers 7 _ (by decide +kernel) fun t _ y => ?_
  blk_simp
  rw [after0_7]; frame_out
  pointwise [k0_pay1, k0_pay2, k0_pay3, val_main_v9]
  blk_point [iblk, V, idx t]

/-- The gated sum. -/
theorem final8 (c : Dev nD) : (dats m 0 c).arrAt 8 (cfgs 0).N
    = val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; frame_out
  pointwise [k0_pay1, k0_pay2, k0_pay3, val_main_v0, val_main_v1, val_main_v2, val_main_v3, val_main_v4, val_main_v5, val_main_v6, val_main_v7, val_main_v8, val_main_v9, val_main_v10, val_main_v11, val_main_cst, val_main_v12, val_main_v13, val_main_cst_0, val_main_v14, val_main_v15, val_main_v16, val_main_v17, val_main_v18, val_main_cst_1, val_main_v19, val_main_v20, val_main_cst_2, val_main_v21, val_main_v22, val_main_v23, val_main_v24, val_main_v25, Ideal.logistic]
  blk_point [iblk, V, idx t]

end Cert.MergefIdeal.Value

end
-- ==== Proof.Mergef.Pair.lean ====
/-
  The two branches' merge: the kernel's three results are the reference's.
-/
module

public import proofs.«01_k».proof.Defs
public import proofs.«01_k».proof.Proof.Mergef.Value

@[expose] public section

set_option maxRecDepth 16384

noncomputable section

namespace Cert.MergefPair

open Idealize.ShloMosaic Idealize.SL.Sem Idealize.ShloMosaic.TcCoe

/-- From the same arguments the kernel and the reference end with equal results. -/
theorem algebraic : algebraic_MergefIdeal_MergefRefIdeal := by
  pair_intro
  · run_from Cert.MergefIdeal.Value.run_blocks m g
  · run_from Cert.MergefRefIdeal.Value.run m' g'
    · exact (Cert.MergefIdeal.Value.final6 m c).symm
    · exact (Cert.MergefIdeal.Value.final7 m c).symm
    · exact (Cert.MergefIdeal.Value.final8 m c).symm

end Cert.MergefPair

end
-- ==== Proof.Swigluf.Value.lean ====
/-
  The gated unit's forward call: the gate, the second factor, and `silu(gate) · up`.
-/
module

public import proofs.«01_k».proof.Proof.Gen.SwiglufIdeal.Value
public import proofs.«01_k».proof.Proof.Gen.SwiglufRefIdeal.Run
public import proofs.«01_k».proof.Proof.Gen.SwiglufRefIdeal.Read
public import Idealize.ShloMosaic.Lib.Pipeline.ValueKit
public import Idealize.ShloMosaic.Lib.Claim

@[expose] public section

set_option maxRecDepth 16384

noncomputable section

namespace Cert.SwiglufIdeal.Value

open Cert.SwiglufIdeal Cert.SwiglufIdeal.Gen Idealize.ShloMosaic Idealize.ShloMosaic.TcCoe Idealize.SL.Sem
open Idealize.ShloMosaic.Pipeline (Dat)
open Cert.SwiglufRefIdeal.Read

variable (m : (ℓ : Loc nD τ sig) → Buf (Elt Ideal) ℓ)

/-- Where each window's block sits at a grid point. -/
theorem idx : ∀ t : Fin cfg0.N,
    win0_0.index t = ![t.val / 2, 0] ∧ win0_1.index t = ![0, t.val % 2] ∧ win0_2.index t = ![0, t.val % 2 + 2] ∧ win0_3.index t = ![t.val / 2, t.val % 2] ∧ win0_4.index t = ![t.val / 2, t.val % 2] ∧ win0_5.index t = ![t.val / 2, t.val % 2] ∧ t.val / 2 < 4 :=
  (by decide +kernel : ∀ t : Fin grid0.N, _)

/-- The gate. -/
theorem final3 (c : Dev nD) : (dats m 0 c).arrAt 3 (cfgs 0).N
    = val_main_v1 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, k0_pay2, k0_pay3, k0_pay4, val_main_v0, val_main_v1]
  blk_point [iblk, V, idx t]

/-- The second factor. -/
theorem final4 (c : Dev nD) : (dats m 0 c).arrAt 4 (cfgs 0).N
    = val_main_v2 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, k0_pay2, k0_pay3, k0_pay4, val_main_v0, val_main_v2]
  blk_point [iblk, V, idx t]

/-- The gated unit. -/
theorem final5 (c : Dev nD) : (dats m 0 c).arrAt 5 (cfgs 0).N
    = val_main_v5 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  pointwise [k0_pay1, k0_pay2, k0_pay3, k0_pay4, val_main_v0, val_main_v1, val_main_v2, val_main_call0_v0, val_main_call0_v1, val_main_call0_cst, val_main_call0_v2, val_main_call0_v3, val_main_call0_cst_0, val_main_call0_v4, val_main_call0_v5, val_main_v3, val_main_v4, val_main_v5, Ideal.logistic]
  blk_point [iblk, V, idx t]

end Cert.SwiglufIdeal.Value

end
-- ==== Proof.Swigluf.Pair.lean ====
/-
  The gated product: the kernel's three results are the reference's.
-/
module

public import proofs.«01_k».proof.Defs
public import proofs.«01_k».proof.Proof.Swigluf.Value

@[expose] public section

set_option maxRecDepth 16384

noncomputable section

namespace Cert.SwiglufPair

open Idealize.ShloMosaic Idealize.SL.Sem Idealize.ShloMosaic.TcCoe

/-- From the same arguments the kernel and the reference end with equal results. -/
theorem algebraic : algebraic_SwiglufIdeal_SwiglufRefIdeal := by
  pair_intro
  · run_from Cert.SwiglufIdeal.Value.run_blocks m g
  · run_from Cert.SwiglufRefIdeal.Value.run m' g'
    · exact (Cert.SwiglufIdeal.Value.final3 m c).symm
    · exact (Cert.SwiglufIdeal.Value.final4 m c).symm
    · exact (Cert.SwiglufIdeal.Value.final5 m c).symm

end Cert.SwiglufPair

end
-- ==== Proof.Normf.Value.lean ====
/-
  The norm's forward call: each row times the reciprocal root of its mean square, times the gains.
-/
module

public import proofs.«01_k».proof.Proof.Gen.NormfIdeal.Value
public import proofs.«01_k».proof.Proof.Gen.NormfRefIdeal.Run
public import proofs.«01_k».proof.Proof.Gen.NormfRefIdeal.Read
public import Idealize.ShloMosaic.Lib.Pipeline.ValueKit
public import Idealize.ShloMosaic.Lib.Claim

@[expose] public section

set_option maxRecDepth 16384

noncomputable section

namespace Cert.NormfIdeal.Value

open Cert.NormfIdeal Cert.NormfIdeal.Gen Idealize.ShloMosaic Idealize.ShloMosaic.TcCoe Idealize.SL.Sem
open Idealize.ShloMosaic.Pipeline (Dat)
open Cert.NormfRefIdeal.Read

variable (m : (ℓ : Loc nD τ sig) → Buf (Elt Ideal) ℓ)

/-- Where each window's block sits at a grid point. -/
theorem idx : ∀ t : Fin cfg0.N,
    win0_0.index t = ![t.val, 0] ∧ win0_1.index t = ![0, 0] ∧ win0_2.index t = ![t.val, 0] ∧ t.val < 8 :=
  (by decide +kernel : ∀ t : Fin grid0.N, _)

/-- The normed rows. -/
theorem final2 (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]
  blk_point [iblk, V, idx t]

end Cert.NormfIdeal.Value

end
-- ==== Proof.Normf.Pair.lean ====
/-
  The norm: the kernel's result is the reference's.
-/
module

public import proofs.«01_k».proof.Defs
public import proofs.«01_k».proof.Proof.Normf.Value

@[expose] public section

set_option maxRecDepth 16384

noncomputable section

namespace Cert.NormfPair

open Idealize.ShloMosaic Idealize.SL.Sem Idealize.ShloMosaic.TcCoe

/-- From the same arguments the kernel and the reference end with equal results. -/
theorem algebraic : algebraic_NormfIdeal_NormfRefIdeal := by
  pair_intro
  · run_from Cert.NormfIdeal.Value.run_blocks m g
  · run_from Cert.NormfRefIdeal.Value.run m' g'
    exact (Cert.NormfIdeal.Value.final2 m c).symm

end Cert.NormfPair

end
-- ==== Proof.Outnorm.Value.lean ====
/-
  The output projection's call with the norm behind it: the residual sum, and its normed rows.
-/
module

public import proofs.«01_k».proof.Proof.Gen.OutnormIdeal.Value
public import proofs.«01_k».proof.Proof.Gen.OutnormRefIdeal.Run
public import proofs.«01_k».proof.Proof.Gen.OutnormRefIdeal.Read
public import Idealize.ShloMosaic.Lib.Pipeline.ValueKit
public import Idealize.ShloMosaic.Lib.Claim

@[expose] public section

set_option maxRecDepth 16384

noncomputable section

namespace Cert.OutnormIdeal.Value

open Cert.OutnormIdeal Cert.OutnormIdeal.Gen Idealize.ShloMosaic Idealize.ShloMosaic.TcCoe Idealize.SL.Sem
open Idealize.ShloMosaic.Pipeline (Dat)
open Cert.OutnormRefIdeal.Read

variable (m : (ℓ : Loc nD τ sig) → Buf (Elt Ideal) ℓ)

/-- Where each window's block sits at a grid point. -/
theorem idx : ∀ t : Fin cfg0.N,
    win0_0.index t = ![t.val, 0] ∧ win0_1.index t = ![0, 0] ∧ win0_2.index t = ![t.val, 0] ∧ win0_3.index t = ![0, 0] ∧ win0_4.index t = ![t.val, 0] ∧ win0_5.index t = ![t.val, 0] ∧ t.val < 2 :=
  (by decide +kernel : ∀ t : Fin grid0.N, _)

/-- The residual sum. -/
theorem final4 (c : Dev nD) : (dats m 0 c).arrAt 4 (cfgs 0).N
    = val_main_v1 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  pointwise [k0_pay1, val_main_v0, val_main_v1]
  blk_point [iblk, V, idx t]

/-- Its normed rows. -/
theorem final5 (c : Dev nD) : (dats m 0 c).arrAt 5 (cfgs 0).N
    = val_main_v16 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay1, k0_pay2, val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_v16]
  blk_point [iblk, V, idx t]

end Cert.OutnormIdeal.Value

end
-- ==== Proof.Outnorm.Pair.lean ====
/-
  The output projection and the norm: the kernel's two results are the reference's.
-/
module

public import proofs.«01_k».proof.Defs
public import proofs.«01_k».proof.Proof.Outnorm.Value

@[expose] public section

set_option maxRecDepth 16384

noncomputable section

namespace Cert.OutnormPair

open Idealize.ShloMosaic Idealize.SL.Sem Idealize.ShloMosaic.TcCoe

/-- From the same arguments the kernel and the reference end with equal results. -/
theorem algebraic : algebraic_OutnormIdeal_OutnormRefIdeal := by
  pair_intro
  · run_from Cert.OutnormIdeal.Value.run_blocks m g
  · run_from Cert.OutnormRefIdeal.Value.run m' g'
    · exact (Cert.OutnormIdeal.Value.final4 m c).symm
    · exact (Cert.OutnormIdeal.Value.final5 m c).symm

end Cert.OutnormPair

end
-- ==== Proof.Wdown.Value.lean ====
/-
  The gradient of the down projection's weight: one product per half of its rows.
-/
module

public import proofs.«01_k».proof.Proof.Gen.WdownIdeal.Value
public import proofs.«01_k».proof.Proof.Gen.WdownRefIdeal.Run
public import proofs.«01_k».proof.Proof.Gen.WdownRefIdeal.Read
public import Idealize.ShloMosaic.Lib.Pipeline.ValueKit
public import Idealize.ShloMosaic.Lib.Claim

@[expose] public section

set_option maxRecDepth 16384

noncomputable section

namespace Cert.WdownIdeal.Value

open Cert.WdownIdeal Cert.WdownIdeal.Gen Idealize.ShloMosaic Idealize.ShloMosaic.TcCoe Idealize.SL.Sem
open Idealize.ShloMosaic.Pipeline (Dat)
open Cert.WdownRefIdeal.Read

variable (m : (ℓ : Loc nD τ sig) → Buf (Elt Ideal) ℓ)

/-- Where each window's block sits at a grid point. -/
theorem idx : ∀ t : Fin cfg0.N,
    win0_0.index t = ![0, t.val] ∧ win0_1.index t = ![0, 0] ∧ win0_2.index t = ![t.val, 0] ∧ t.val < 2 :=
  (by decide +kernel : ∀ t : Fin grid0.N, _)

/-- The product. -/
theorem final2 (c : Dev nD) : (dats m 0 c).arrAt 2 (cfgs 0).N = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, val_main_v2, val_main_v3, val_main_v4]
  refine Finset.sum_congr (M := EReal) rfl fun k _ => (mul_comm (G := EReal) _ _).trans (congrArg₂ (fun a b : EReal => a * b) ?_ ?_) <;>
  blk_point [iblk, V, idx t]

end Cert.WdownIdeal.Value

end
-- ==== Proof.Wdown.Pair.lean ====
/-
  The down projection's weight gradient.
-/
module

public import proofs.«01_k».proof.Defs
public import proofs.«01_k».proof.Proof.Wdown.Value

@[expose] public section

set_option maxRecDepth 16384

noncomputable section

namespace Cert.WdownPair

open Idealize.ShloMosaic Idealize.SL.Sem Idealize.ShloMosaic.TcCoe

/-- From the same arguments the kernel and the reference end with equal results. -/
theorem algebraic : algebraic_WdownIdeal_WdownRefIdeal := by
  pair_intro
  · run_from Cert.WdownIdeal.Value.run_blocks m g
  · run_from Cert.WdownRefIdeal.Value.run m' g'
    · exact (Cert.WdownIdeal.Value.final2 m c).symm

end Cert.WdownPair

end
-- ==== Proof.Wgateup.Value.lean ====
/-
  The gradient of the gate and up projections' weight: the gate's columns, then the up's.
-/
module

public import proofs.«01_k».proof.Proof.Gen.WgateupIdeal.Value
public import proofs.«01_k».proof.Proof.Gen.WgateupRefIdeal.Run
public import proofs.«01_k».proof.Proof.Gen.WgateupRefIdeal.Read
public import Idealize.ShloMosaic.Lib.Pipeline.ValueKit
public import Idealize.ShloMosaic.Lib.Claim

@[expose] public section

set_option maxRecDepth 16384

noncomputable section

namespace Cert.WgateupIdeal.Value

open Cert.WgateupIdeal Cert.WgateupIdeal.Gen Idealize.ShloMosaic Idealize.ShloMosaic.TcCoe Idealize.SL.Sem
open Idealize.ShloMosaic.Pipeline (Dat)
open Cert.WgateupRefIdeal.Read

variable (m : (ℓ : Loc nD τ sig) → Buf (Elt Ideal) ℓ)

/-- Where each window's block sits at a grid point. -/
theorem idx : ∀ t : Fin cfg0.N,
    win0_0.index t = ![0, 0] ∧ win0_1.index t = ![0, min t.val 1] ∧ win0_2.index t = ![0, t.val - 2] ∧ win0_3.index t = ![0, t.val] ∧ t.val < 4 :=
  (by decide +kernel : ∀ t : Fin grid0.N, _)

theorem emb (t : Fin cfg0.N) (y : ((cfg0.win 3).xblock (cfg0.grid.coords t)).Idx) :
    ((cfg0.win 3).blk t).view.emb y = ix2 (y 0 : Fin 1024) (⟨t.val * 1408 + (show Fin 1408 from y 1).val, by have := (idx t).2.2.2.2; have := (show Fin 1408 from y 1).isLt; omega⟩ : Fin 5632) := by
  apply Shape.idx_ext₂ <;> blk_simp [idx t] <;> rfl

/-- The product. -/
theorem final3 (c : Dev nD) : (dats m 0 c).arrAt 3 (cfgs 0).N = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN := (idx t).2.2.2.2
  rw [emb t y]
  blk_simp
  rw [after0_3]
  by_cases h : t.val < 2
  · rw [outsAt0_A m c t h (by omega)]; frame_out
    pointwise [k0_pay1, val_main_v2, val_main_v3, val_main_v4, val_main_v5]
    refine Finset.sum_congr (M := EReal) rfl fun k _ => (mul_comm (G := EReal) _ _).trans (congrArg₂ (fun a b : EReal => a * b) ?_ ?_) <;>
    (blk_point [iblk, V, idx t] <;> omega)
  · rw [outsAt0_B m c t h (by omega)]; frame_out
    pointwise [k0_pay2, val_main_v2, val_main_v3, val_main_v4, val_main_v5]
    refine Finset.sum_congr (M := EReal) rfl fun k _ => (mul_comm (G := EReal) _ _).trans (congrArg₂ (fun a b : EReal => a * b) ?_ ?_) <;>
    (blk_point [iblk, V, idx t] <;> omega)

end Cert.WgateupIdeal.Value

end
-- ==== Proof.Wgateup.Pair.lean ====
/-
  The gate and up projections' weight gradient.
-/
module

public import proofs.«01_k».proof.Defs
public import proofs.«01_k».proof.Proof.Wgateup.Value

@[expose] public section

set_option maxRecDepth 16384

noncomputable section

namespace Cert.WgateupPair

open Idealize.ShloMosaic Idealize.SL.Sem Idealize.ShloMosaic.TcCoe

/-- From the same arguments the kernel and the reference end with equal results. -/
theorem algebraic : algebraic_WgateupIdeal_WgateupRefIdeal := by
  pair_intro
  · run_from Cert.WgateupIdeal.Value.run_blocks m g
  · run_from Cert.WgateupRefIdeal.Value.run m' g'
    rw [(hagree c).2.1, (hagree c).2.2]
    exact (Cert.WgateupRefIdeal.Read.val_main_v5_eq _ _ _).trans (Cert.WgateupIdeal.Value.final3 m c).symm

end Cert.WgateupPair

end
-- ==== Proof.Hin.Value.lean ====
/-
  The gradient of the rows before the input projection: the product summed over four column blocks.
-/
module

public import proofs.«01_k».proof.Proof.Gen.HinIdeal.Value
public import proofs.«01_k».proof.Proof.Gen.HinRefIdeal.Run
public import proofs.«01_k».proof.Proof.Gen.HinRefIdeal.Read
public import proofs.«01_k».proof.Proof.NormRow
public import Idealize.ShloMosaic.Lib.Pipeline.ValueKit
public import Idealize.ShloMosaic.Lib.Claim

@[expose] public section

set_option maxRecDepth 16384

noncomputable section

namespace Cert.HinIdeal.Value

open Cert.HinIdeal Cert.HinIdeal.Gen Idealize.ShloMosaic Idealize.ShloMosaic.TcCoe Idealize.SL.Sem
open Idealize.ShloMosaic.Pipeline (Dat)
open Cert.HinRefIdeal.Read Cert.NormRow

variable (m : (ℓ : Loc nD τ sig) → Buf (Elt Ideal) ℓ)

/-- Where each window's block sits at a grid point. -/
theorem idx : ∀ t : Fin cfg0.N,
    win0_0.index t = ![t.val / 4, t.val % 4] ∧ win0_1.index t = ![0, t.val % 4] ∧ win0_2.index t = ![t.val / 4, 0] ∧ t.val < 8 :=
  (by decide +kernel : ∀ t : Fin grid0.N, _)
/-- An output block is written back at its last column block. -/
theorem last_of_flush : ∀ t : Fin cfg0.N, (cfg0.win 2).flush t = true → t.val % 4 = 3 :=
  (by decide +kernel : ∀ t : Fin grid0.N, _)

/-- The row and the column of the whole arrays that a block's row and column are. -/
abbrev row (t : Fin cfg0.N) (i : Fin 1024) : Fin 2048 := ⟨t.val / 4 * 1024 + i.val, by have := lt_of_lt_of_eq t.isLt N_0; omega⟩
abbrev col (t : Fin cfg0.N) (k : Fin 1664) : Fin 6656 := ⟨t.val % 4 * 1664 + k.val, by omega⟩

theorem in0 (c : Dev nD) (t : Fin cfg0.N) (i : Fin 1024) (k : Fin 1664) : iblk m c 0 t (ix2 i k) = m ((c : Thread nD τ).loc main_arg0) (ix2 (row t i) (col t k)) := by
  blk_point [iblk, V, idx t]
theorem in1 (c : Dev nD) (t : Fin cfg0.N) (j : Fin 1024) (k : Fin 1664) : iblk m c 1 t (ix2 j k) = m ((c : Thread nD τ).loc main_arg1) (ix2 j (col t k)) := by
  blk_point [iblk, V, idx t]

/-- A block's product, alone and added to what stood there. -/
theorem dot_at (x w : FVec Ideal S1024x1664 .bf16) (i j : Fin 1024) : k0_pay1 (F := Ideal) x w (ix2 i j) = ∑ k : Fin 1664, (show EReal from x (ix2 i k)) * (show EReal from w (ix2 j k)) := by
  pointwise [k0_pay1]
theorem add_at (x w : FVec Ideal S1024x1664 .bf16) (z : FVec Ideal S1024x1024 .f32) (i j : Fin 1024) : k0_pay2 (F := Ideal) x w z (ix2 i j) = z (ix2 i j) + k0_pay1 (F := Ideal) x w (ix2 i j) := by
  pointwise [k0_pay1, k0_pay2]

/-- One column block's share of a product. -/
def share (c : Dev nD) (r : Fin 2048) (j : Fin 1024) (n : ℕ) : EReal :=
  if h : n < 4 then ∑ k : Fin 1664, (show EReal from m ((c : Thread nD τ).loc main_arg0) (ix2 r ⟨n * 1664 + k.val, by omega⟩)) * (show EReal from m ((c : Thread nD τ).loc main_arg1) (ix2 j ⟨n * 1664 + k.val, by omega⟩))
  else 0

theorem tile (c : Dev nD) (t : Fin cfg0.N) (i j : Fin 1024) : outsAt0 m c t.val t.isLt (ix2 i j)
    = if t.val % 4 = 0 then share m c (row t i) j (t.val % 4) else outsAt0 m c (t.val - 1) (lt_of_le_of_lt (Nat.sub_le _ _) t.isLt) (ix2 i j) + share m c (row t i) j (t.val % 4) := by
  have hN := lt_of_lt_of_eq t.isLt N_0
  unfold share
  rw [dif_pos (show t.val % 4 < 4 by omega)]
  by_cases h : t.val % 4 = 0
  · rw [if_pos h, outsAt0_A m c t h (by omega)]; frame_out
    rw [dot_at]; simp only [in0, in1]
  · rw [if_neg h, outsAt0_B m c t h (by omega)]; frame_out
    rw [add_at]
    refine congrArg (fun z => _ + z) ?_
    rw [dot_at]; simp only [in0, in1]

/-- What a block holds after its first column blocks. -/
theorem total (c : Dev nD) (i j : Fin 1024) (k : ℕ) (hk : k < 4) (t : Fin cfg0.N) (ht : t.val % 4 = k) :
    outsAt0 m c t.val t.isLt (ix2 i j) = ∑ n ∈ Finset.range (k + 1), share m c (row t i) j n := by
  induction k generalizing t with
  | zero => rw [Finset.sum_range_one, tile, if_pos ht, ht]
  | succ k ih =>
    rw [Finset.sum_range_succ, tile, if_neg (by omega), ht]
    refine congrArg (fun z => z + _) ?_
    have e : row ⟨t.val - 1, lt_of_le_of_lt (Nat.sub_le _ _) t.isLt⟩ i = row t i := Fin.ext (show (t.val - 1) / 4 * 1024 + i.val = t.val / 4 * 1024 + i.val by omega)
    rw [← e]
    exact ih (by omega) ⟨t.val - 1, lt_of_le_of_lt (Nat.sub_le _ _) t.isLt⟩ (show (t.val - 1) % 4 = k by omega)

theorem emb (t : Fin cfg0.N) (y : ((cfg0.win 2).xblock (cfg0.grid.coords t)).Idx) : ((cfg0.win 2).blk t).view.emb y = ix2 (row t (y 0)) (y 1 : Fin 1024) := by
  apply Shape.idx_ext₂ <;> blk_simp [idx t]

/-- The reference's product. -/
theorem ref_at (A : FVec Ideal S2048x6656 .f32) (W : FVec Ideal S1024x6656 .f32) (r : Fin 2048) (j : Fin 1024) :
    val_main_v2 (F := Ideal) A W (ix2 r j) = ∑ q : Fin 6656, A (ix2 r q) * W (ix2 j q) := by
  pointwise [val_main_v2]

/-- The product. -/
theorem final2 (c : Dev nD) : (dats m 0 c).arrAt 2 (cfgs 0).N = val_main_v2 (F := Ideal) (m ((c : Thread nD τ).loc main_arg0)) (m ((c : Thread nD τ).loc main_arg1)) := by
  refine (dats m 0 c).arrAt_eq_of_covers 2 _ (by decide +kernel) fun t hf y => ?_
  obtain ⟨i, hi⟩ : ∃ i : Fin 1024, i = y 0 := ⟨_, rfl⟩
  obtain ⟨j, hj⟩ : ∃ j : Fin 1024, j = y 1 := ⟨_, rfl⟩
  rw [emb t y, ← hi, ← hj, show y = ix2 i j by rw [hi, hj]; exact ValueIdx.eq_ix2 y]
  blk_simp
  rw [after0_2]
  refine (total m c i j 3 (by omega) t (last_of_flush t hf)).trans (Eq.trans ?_ (ref_at _ _ _ _).symm)
  rw [Finset.sum_range, sum_tiles 4 1664 6656 rfl]
  exact Finset.sum_congr rfl fun n _ => dif_pos n.isLt

end Cert.HinIdeal.Value

end
-- ==== Proof.Hin.Pair.lean ====
/-
  The input projection's row gradient.
-/
module

public import proofs.«01_k».proof.Defs
public import proofs.«01_k».proof.Proof.Hin.Value

@[expose] public section

set_option maxRecDepth 16384

noncomputable section

namespace Cert.HinPair

open Idealize.ShloMosaic Idealize.SL.Sem Idealize.ShloMosaic.TcCoe

/-- From the same arguments the kernel and the reference end with equal results. -/
theorem algebraic : algebraic_HinIdeal_HinRefIdeal := by
  pair_intro
  · run_from Cert.HinIdeal.Value.run_blocks m g
  · run_from Cert.HinRefIdeal.Value.run m' g'
    · exact (Cert.HinIdeal.Value.final2 m c).symm

end Cert.HinPair

end
-- ==== Proof.Hgateup.Value.lean ====
/-
  The gradient of the rows before the gate and up projections: the product summed over the gate's column blocks, then the up's.
-/
module

public import proofs.«01_k».proof.Proof.Gen.HgateupIdeal.Value
public import proofs.«01_k».proof.Proof.Gen.HgateupRefIdeal.Run
public import proofs.«01_k».proof.Proof.Gen.HgateupRefIdeal.Read
public import proofs.«01_k».proof.Proof.NormRow
public import Idealize.ShloMosaic.Lib.Pipeline.ValueKit
public import Idealize.ShloMosaic.Lib.Claim

@[expose] public section

set_option maxRecDepth 16384

noncomputable section

namespace Cert.HgateupIdeal.Value

open Cert.HgateupIdeal Cert.HgateupIdeal.Gen Idealize.ShloMosaic Idealize.ShloMosaic.TcCoe Idealize.SL.Sem
open Idealize.ShloMosaic.Pipeline (Dat)
open Cert.HgateupRefIdeal.Read Cert.NormRow

variable (m : (ℓ : Loc nD τ sig) → Buf (Elt Ideal) ℓ)

/-- Where each window's block sits at a grid point. -/
theorem idx : ∀ t : Fin cfg0.N,
    win0_0.index t = ![t.val / 4, min (t.val % 4) 1] ∧ win0_1.index t = ![t.val / 4, t.val % 4 - 2] ∧ win0_2.index t = ![0, t.val % 4] ∧ win0_3.index t = ![t.val / 4, 0] ∧ t.val < 8 :=
  (by decide +kernel : ∀ t : Fin grid0.N, _)
/-- An output block is written back at its last column block. -/
theorem last_of_flush : ∀ t : Fin cfg0.N, (cfg0.win 3).flush t = true → t.val % 4 = 3 :=
  (by decide +kernel : ∀ t : Fin grid0.N, _)

/-- The row and the column of the whole arrays that a block's row and column are. -/
abbrev row (t : Fin cfg0.N) (i : Fin 1024) : Fin 2048 := ⟨t.val / 4 * 1024 + i.val, by have := lt_of_lt_of_eq t.isLt N_0; omega⟩
abbrev col (t : Fin cfg0.N) (k : Fin 1408) : Fin 5632 := ⟨t.val % 4 * 1408 + k.val, by omega⟩

theorem in0 (c : Dev nD) (t : Fin cfg0.N) (h : t.val % 4 < 2) (i : Fin 1024) (k : Fin 1408) : iblk m c 0 t (ix2 i k) = val_main_v2 (F := Ideal) (m ((c : Thread nD τ).loc main_arg0)) (m ((c : Thread nD τ).loc main_arg1)) (ix2 (row t i) (col t k)) := by
  pointwise [val_main_v2]
  blk_point [iblk, V, idx t] <;> omega
theorem in1 (c : Dev nD) (t : Fin cfg0.N) (h : 2 ≤ t.val % 4) (i : Fin 1024) (k : Fin 1408) : iblk m c 1 t (ix2 i k) = val_main_v2 (F := Ideal) (m ((c : Thread nD τ).loc main_arg0)) (m ((c : Thread nD τ).loc main_arg1)) (ix2 (row t i) (col t k)) := by
  pointwise [val_main_v2]
  blk_point [iblk, V, idx t] <;> omega
theorem in2 (c : Dev nD) (t : Fin cfg0.N) (j : Fin 1024) (k : Fin 1408) : iblk m c 2 t (ix2 j k) = m ((c : Thread nD τ).loc main_arg2) (ix2 j (col t k)) := by
  blk_point [iblk, V, idx t]

/-- A block's product, alone and added to what stood there. -/
theorem dot_at (x w : FVec Ideal S1024x1408 .bf16) (i j : Fin 1024) : k0_pay1 (F := Ideal) x w (ix2 i j) = ∑ k : Fin 1408, (show EReal from x (ix2 i k)) * (show EReal from w (ix2 j k)) := by
  pointwise [k0_pay1]
theorem add_at (z : FVec Ideal S1024x1024 .f32) (x w : FVec Ideal S1024x1408 .bf16) (i j : Fin 1024) : k0_pay2 (F := Ideal) z x w (ix2 i j) = z (ix2 i j) + k0_pay1 (F := Ideal) x w (ix2 i j) := by
  pointwise [k0_pay1, k0_pay2]
theorem add_at' (z : FVec Ideal S1024x1024 .f32) (x w : FVec Ideal S1024x1408 .bf16) (i j : Fin 1024) : k0_pay3 (F := Ideal) z x w (ix2 i j) = z (ix2 i j) + k0_pay1 (F := Ideal) x w (ix2 i j) := by
  pointwise [k0_pay1, k0_pay3]

/-- One column block's share of a product. -/
def share (c : Dev nD) (r : Fin 2048) (j : Fin 1024) (n : ℕ) : EReal :=
  if h : n < 4 then ∑ k : Fin 1408, (val_main_v2 (F := Ideal) (m ((c : Thread nD τ).loc main_arg0)) (m ((c : Thread nD τ).loc main_arg1)) (ix2 r ⟨n * 1408 + k.val, by omega⟩) : EReal) * m ((c : Thread nD τ).loc main_arg2) (ix2 j ⟨n * 1408 + k.val, by omega⟩)
  else 0

theorem tile (c : Dev nD) (t : Fin cfg0.N) (i j : Fin 1024) : outsAt0 m c t.val t.isLt (ix2 i j)
    = if t.val % 4 = 0 then share m c (row t i) j (t.val % 4) else outsAt0 m c (t.val - 1) (lt_of_le_of_lt (Nat.sub_le _ _) t.isLt) (ix2 i j) + share m c (row t i) j (t.val % 4) := by
  have hN := lt_of_lt_of_eq t.isLt N_0
  unfold share
  rw [dif_pos (show t.val % 4 < 4 by omega)]
  by_cases h : t.val % 4 = 0
  · rw [if_pos h, outsAt0_A m c t h (by omega) (by omega)]; frame_out
    rw [dot_at]; simp only [in0 m c t (by omega), in2]
  · rw [if_neg h]
    by_cases h1 : t.val % 4 = 1
    · rw [outsAt0_B m c t h h1 (by omega)]; frame_out
      rw [add_at]
      refine congrArg (fun z => _ + z) ?_
      rw [dot_at]; simp only [in0 m c t (by omega), in2]
    · rw [outsAt0_C m c t h h1 (by omega)]; frame_out
      rw [add_at']
      refine congrArg (fun z => _ + z) ?_
      rw [dot_at]; simp only [in1 m c t (by omega), in2]

/-- What a block holds after its first column blocks. -/
theorem total (c : Dev nD) (i j : Fin 1024) (k : ℕ) (hk : k < 4) (t : Fin cfg0.N) (ht : t.val % 4 = k) :
    outsAt0 m c t.val t.isLt (ix2 i j) = ∑ n ∈ Finset.range (k + 1), share m c (row t i) j n := by
  induction k generalizing t with
  | zero => rw [Finset.sum_range_one, tile, if_pos ht, ht]
  | succ k ih =>
    rw [Finset.sum_range_succ, tile, if_neg (by omega), ht]
    refine congrArg (fun z => z + _) ?_
    have e : row ⟨t.val - 1, lt_of_le_of_lt (Nat.sub_le _ _) t.isLt⟩ i = row t i := Fin.ext (show (t.val - 1) / 4 * 1024 + i.val = t.val / 4 * 1024 + i.val by omega)
    rw [← e]
    exact ih (by omega) ⟨t.val - 1, lt_of_le_of_lt (Nat.sub_le _ _) t.isLt⟩ (show (t.val - 1) % 4 = k by omega)

theorem emb (t : Fin cfg0.N) (y : ((cfg0.win 3).xblock (cfg0.grid.coords t)).Idx) : ((cfg0.win 3).blk t).view.emb y = ix2 (row t (y 0)) (y 1 : Fin 1024) := by
  apply Shape.idx_ext₂ <;> blk_simp [idx t]

/-- The reference's product. -/
theorem ref_at (A B : FVec Ideal S2048x2816 .f32) (W : FVec Ideal S1024x5632 .f32) (r : Fin 2048) (j : Fin 1024) :
    val_main_v3 (F := Ideal) A B W (ix2 r j) = ∑ q : Fin 5632, val_main_v2 (F := Ideal) A B (ix2 r q) * W (ix2 j q) := by
  pointwise [val_main_v3]

/-- The product. -/
theorem final3 (c : Dev nD) : (dats m 0 c).arrAt 3 (cfgs 0).N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i, hi⟩ : ∃ i : Fin 1024, i = y 0 := ⟨_, rfl⟩
  obtain ⟨j, hj⟩ : ∃ j : Fin 1024, j = y 1 := ⟨_, rfl⟩
  rw [emb t y, ← hi, ← hj, show y = ix2 i j by rw [hi, hj]; exact ValueIdx.eq_ix2 y]
  blk_simp
  rw [after0_3]
  refine (total m c i j 3 (by omega) t (last_of_flush t hf)).trans (Eq.trans ?_ (ref_at _ _ _ _ _).symm)
  rw [Finset.sum_range, sum_tiles 4 1408 5632 rfl]
  exact Finset.sum_congr rfl fun n _ => dif_pos n.isLt

end Cert.HgateupIdeal.Value

end
-- ==== Proof.Hgateup.Pair.lean ====
/-
  The gate and up projections' row gradient.
-/
module

public import proofs.«01_k».proof.Defs
public import proofs.«01_k».proof.Proof.Hgateup.Value

@[expose] public section

set_option maxRecDepth 16384

noncomputable section

namespace Cert.HgateupPair

open Idealize.ShloMosaic Idealize.SL.Sem Idealize.ShloMosaic.TcCoe

/-- From the same arguments the kernel and the reference end with equal results. -/
theorem algebraic : algebraic_HgateupIdeal_HgateupRefIdeal := by
  pair_intro
  · run_from Cert.HgateupIdeal.Value.run_blocks m g
  · run_from Cert.HgateupRefIdeal.Value.run m' g'
    · exact (Cert.HgateupIdeal.Value.final3 m c).symm

end Cert.HgateupPair

end
-- ==== Proof.Adamw.Value.lean ====
/-
  The optimiser's call: the change of the weight, both moments, the gradient handed on.
-/
module

public import proofs.«01_k».proof.Proof.Gen.AdamwIdeal.Value
public import proofs.«01_k».proof.Proof.Gen.AdamwRefIdeal.Run
public import proofs.«01_k».proof.Proof.Gen.AdamwRefIdeal.Read
public import Idealize.ShloMosaic.Lib.Pipeline.ValueKit
public import Idealize.ShloMosaic.Lib.Claim

@[expose] public section

set_option maxRecDepth 16384

noncomputable section

namespace Cert.AdamwIdeal.Value

open Cert.AdamwIdeal Cert.AdamwIdeal.Gen Idealize.ShloMosaic Idealize.ShloMosaic.TcCoe Idealize.SL.Sem
open Idealize.ShloMosaic.Pipeline (Dat)
open Cert.AdamwRefIdeal.Read

variable (m : (ℓ : Loc nD τ sig) → Buf (Elt Ideal) ℓ)

/-- Where each window's block sits at a grid point. -/
theorem idx : ∀ t : Fin cfg0.N,
    win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ t.val < 4 :=
  (by decide +kernel : ∀ t : Fin grid0.N, _)

/-- The change of the weight. -/
theorem final4 (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, k0_pay2, k0_pay3, val_main_cst, val_main_cst_0, val_main_v0, val_main_v1, val_main_v2, val_main_v3, val_main_v4, val_main_cst_1, val_main_cst_2, val_main_v5, val_main_v6, val_main_v7, val_main_v8, val_main_v9, val_main_v10, val_main_cst_3, val_main_cst_4, val_main_cst_5, val_main_cst_6, val_main_cst_7, val_main_v11, val_main_v12, val_main_v13, val_main_v14, val_main_v15, val_main_v16, val_main_v17, val_main_v18, val_main_v19, val_main_v20, val_main_v21, val_main_v22, val_main_v23]
  blk_point [iblk, V, idx t]

/-- The first moment. -/
theorem final5 (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay1, val_main_cst, val_main_cst_0, val_main_v0, val_main_v1, val_main_v2, val_main_v3, val_main_v4]
  blk_point [iblk, V, idx t]

/-- The second moment. -/
theorem final6 (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  pointwise [k0_pay2, val_main_cst_1, val_main_cst_2, val_main_v5, val_main_v6, val_main_v7, val_main_v8, val_main_v9, val_main_v10]
  blk_point [iblk, V, idx t]

/-- The gradient. -/
theorem final7 (c : Dev nD) : (dats m 0 c).arrAt 7 (cfgs 0).N = m ((c : Thread nD τ).loc main_arg1) := by
  refine (dats m 0 c).arrAt_eq_of_covers 7 _ (by decide +kernel) fun t _ y => ?_
  blk_simp
  rw [after0_7]; frame_out
  pointwise [id]
  blk_point [iblk, V, idx t]

end Cert.AdamwIdeal.Value

end
-- ==== Proof.Adamw.Pair.lean ====
/-
  The optimiser's step.
-/
module

public import proofs.«01_k».proof.Defs
public import proofs.«01_k».proof.Proof.Adamw.Value

@[expose] public section

set_option maxRecDepth 16384

noncomputable section

namespace Cert.AdamwPair

open Idealize.ShloMosaic Idealize.SL.Sem Idealize.ShloMosaic.TcCoe

/-- From the same arguments the kernel and the reference end with equal results. -/
theorem algebraic : algebraic_AdamwIdeal_AdamwRefIdeal := by
  pair_intro
  · run_from Cert.AdamwIdeal.Value.run_blocks m g
  · run_from Cert.AdamwRefIdeal.Value.run m' g'
    · exact (Cert.AdamwIdeal.Value.final4 m c).symm
    · exact (Cert.AdamwIdeal.Value.final5 m c).symm
    · exact (Cert.AdamwIdeal.Value.final6 m c).symm
    · exact (Cert.AdamwIdeal.Value.final7 m c).symm

end Cert.AdamwPair

end
-- ==== Proof.Ssum.Value.lean ====
/-
  The sum of the eight devices' small gradients.
-/
module

public import proofs.«01_k».proof.Proof.Gen.SsumIdeal.Value
public import proofs.«01_k».proof.Proof.Gen.SsumRefIdeal.Run
public import proofs.«01_k».proof.Proof.Gen.SsumRefIdeal.Read
public import Idealize.ShloMosaic.Lib.Pipeline.ValueKit
public import Idealize.ShloMosaic.Lib.Claim

@[expose] public section

set_option maxRecDepth 16384

noncomputable section

namespace Cert.SsumIdeal.Value

open Cert.SsumIdeal Cert.SsumIdeal.Gen Idealize.ShloMosaic Idealize.ShloMosaic.TcCoe Idealize.SL.Sem
open Idealize.ShloMosaic.Pipeline (Dat)
open Cert.SsumRefIdeal.Read

variable (m : (ℓ : Loc nD τ sig) → Buf (Elt Ideal) ℓ)

/-- The sum, index by index. -/
theorem final (c : Dev nD) : G1 (F := Ideal) (m ((c : Thread nD τ).loc main_arg0)) = val_main_v0 (F := Ideal) (m ((c : Thread nD τ).loc main_arg0)) := by
  funext y
  pointwise [G1, k0_pay1, val_main_v0, val_main_cst]
  simp only [Fin.sum_univ_eight]

end Cert.SsumIdeal.Value

end
-- ==== Proof.Ssum.Pair.lean ====
/-
  The sum of the chips' small gradients.
-/
module

public import proofs.«01_k».proof.Defs
public import proofs.«01_k».proof.Proof.Ssum.Value

@[expose] public section

set_option maxRecDepth 16384

noncomputable section

namespace Cert.SsumPair

open Idealize.ShloMosaic Idealize.SL.Sem Idealize.ShloMosaic.TcCoe

/-- From the same arguments the kernel and the reference end with equal results. -/
theorem algebraic : algebraic_SsumIdeal_SsumRefIdeal := by
  pair_intro
  · run_from Cert.SsumIdeal.Value.run m g
  · refine Idealize.ShloMosaic.θ_run_mono (Cert.SsumRefIdeal.Value.run m' g') ?_
    intro r hr c
    obtain ⟨h, h'⟩ := hr c
    refine ⟨h.trans ?_, h'⟩
    rw [hagree c]
    exact (Cert.SsumRefIdeal.Read.val_main_v0_eq _).trans (Cert.SsumIdeal.Value.final m c).symm

end Cert.SsumPair

end
-- ==== Proof.Pack.Value.lean ====
/-
  The small gradients and the loss laid out as the rows of one array.
-/
module

public import proofs.«01_k».proof.Proof.Gen.PackIdeal.Value
public import proofs.«01_k».proof.Proof.Gen.PackRefIdeal.Run
public import proofs.«01_k».proof.Proof.Gen.PackRefIdeal.Read
public import Idealize.ShloMosaic.Lib.Pipeline.ValueKit
public import Idealize.ShloMosaic.Lib.Pipeline.ReadBack
public import Idealize.ShloMosaic.Lib.Claim

@[expose] public section

set_option maxRecDepth 16384

noncomputable section

namespace Cert.PackIdeal.Value

open Cert.PackIdeal Cert.PackIdeal.Gen Idealize.ShloMosaic Idealize.ShloMosaic.TcCoe Idealize.SL.Sem
open Idealize.ShloMosaic.Pipeline (Dat)
open Cert.PackRefIdeal.Read

variable (m : (ℓ : Loc nD τ sig) → Buf (Elt Ideal) ℓ)

/-- Where each window's block sits: the whole array. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem emb (t : Fin cfg0.N) (y : ((cfg0.win 6).xblock (cfg0.grid.coords t)).Idx) : ((cfg0.win 6).blk t).view.emb y = ix2 (y 0 : Fin 8) (y 1 : Fin 1024) := by
  apply Shape.idx_ext₂ <;> blk_simp [idx t]

/-- Off the rows' axis a row's index is the array's. -/
theorem along {n : ℕ} {x : (⟨2, ![n, 1024]⟩ : Shape).Idx} {r : Fin 8} {q : Fin 1024} (h : q.val = (x 1).val) (b : Fin 2) (hb : b ≠ 0) : (x b).val = (ix2 r q b).val := by
  match b with
  | 0 => exact absurd rfl hb
  | 1 => exact h.symm

/-- The array, row by row. -/
theorem final6 (c : Dev nD) : (dats m 0 c).arrAt 6 (cfgs 0).N = val_main_v3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  rw [emb t y]
  blk_simp
  rw [after0_6]; unfold outsAt0; frame_out; canon_tiles x h using View.cover_of_tiledBy _ ![1, 1024] (by sl_kernel_rfl) y
  · refine Eq.trans ?_ (concatenate_apply_piece (t := S8x1024) 0 _ _ (ix2 (y 0 : Fin 8) (y 1 : Fin 1024)) 5 (by simp) S1x1024 (val_main_v2 (F := Ideal) (m ((c : Thread nD τ).loc main_arg5))) rfl rfl 7 rfl x (along h1) (by simpa using h0.symm)).symm
    refine (congrArg (fun z => k0_pay3 (F := Ideal) z x) (read_unread_whole cc0_stg5_0 _ (iblk m c 5 t))).trans ?_
    pointwise [k0_pay1, k0_pay3, val_main_v2, val_main_v0, val_main_cst] <;> blk_point [iblk, V, idx t] <;> omega
  · refine Eq.trans ?_ (concatenate_apply_piece (t := S8x1024) 0 _ _ (ix2 (y 0 : Fin 8) (y 1 : Fin 1024)) 4 (by simp) S1x1024 (val_main_v1 (F := Ideal) (m ((c : Thread nD τ).loc main_arg4))) rfl rfl 6 rfl x (along h1) (by simpa using h0.symm)).symm
    refine (congrArg (fun z => k0_pay2 (F := Ideal) z x) (read_unread_whole cc0_stg4_0 _ (iblk m c 4 t))).trans ?_
    pointwise [k0_pay1, k0_pay2, val_main_v1, val_main_v0, val_main_cst] <;> blk_point [iblk, V, idx t] <;> omega
  · refine Eq.trans ?_ (concatenate_apply_piece (t := S8x1024) 0 _ _ (ix2 (y 0 : Fin 8) (y 1 : Fin 1024)) 3 (by simp) S3x1024 (m ((c : Thread nD τ).loc main_arg3)) rfl rfl 3 rfl x (along h1) (by simpa using h0.symm)).symm
    refine (congrFun (read_unread_whole cc0_stg3_0 _ (iblk m c 3 t)) x).trans ?_
    blk_point [iblk, V, idx t]
  · refine Eq.trans ?_ (concatenate_apply_piece (t := S8x1024) 0 _ _ (ix2 (y 0 : Fin 8) (y 1 : Fin 1024)) 2 (by simp) S1x1024 (m ((c : Thread nD τ).loc main_arg2)) rfl rfl 2 rfl x (along h1) (by simpa using h0.symm)).symm
    refine (congrFun (read_unread_whole cc0_stg2_0 _ (iblk m c 2 t)) x).trans ?_
    blk_point [iblk, V, idx t]
  · refine Eq.trans ?_ (concatenate_apply_piece (t := S8x1024) 0 _ _ (ix2 (y 0 : Fin 8) (y 1 : Fin 1024)) 1 (by simp) S1x1024 (m ((c : Thread nD τ).loc main_arg1)) rfl rfl 1 rfl x (along h1) (by simpa using h0.symm)).symm
    refine (congrFun (read_unread_whole cc0_stg1_0 _ (iblk m c 1 t)) x).trans ?_
    blk_point [iblk, V, idx t]
  · refine Eq.trans ?_ (concatenate_apply_piece (t := S8x1024) 0 _ _ (ix2 (y 0 : Fin 8) (y 1 : Fin 1024)) 0 (by simp) S1x1024 (m ((c : Thread nD τ).loc main_arg0)) rfl rfl 0 rfl x (along h1) (by simpa using h0.symm)).symm
    refine (congrFun (read_unread_whole cc0_stg0_0 _ (iblk m c 0 t)) x).trans ?_
    blk_point [iblk, V, idx t]

end Cert.PackIdeal.Value

end
-- ==== Proof.Pack.Pair.lean ====
/-
  The small gradients laid out.
-/
module

public import proofs.«01_k».proof.Defs
public import proofs.«01_k».proof.Proof.Pack.Value

@[expose] public section

set_option maxRecDepth 16384

noncomputable section

namespace Cert.PackPair

open Idealize.ShloMosaic Idealize.SL.Sem Idealize.ShloMosaic.TcCoe

/-- From the same arguments the kernel and the reference end with equal results. -/
theorem algebraic : algebraic_PackIdeal_PackRefIdeal := by
  pair_intro
  · run_from Cert.PackIdeal.Value.run_blocks m g
  · run_from Cert.PackRefIdeal.Value.run m' g'
    rw [(hagree c).2.2.2.2.1, (hagree c).2.2.2.2.2]
    exact (Cert.PackRefIdeal.Read.val_main_v3_eq _ _ _ _ _ _).trans (Cert.PackIdeal.Value.final6 m c).symm

end Cert.PackPair

end
-- ==== Proof.lean ====
/-
  The certificate's claim: each kernel runs and leaves its arguments as they were, and ends with the reference's results.
-/
module

public import proofs.«01_k».proof.Defs
public import proofs.«01_k».proof.Proof.Gen.Swiglu.Frame
public import proofs.«01_k».proof.Proof.Swiglu.Pair
public import proofs.«01_k».proof.Proof.Gen.Merge.Frame
public import proofs.«01_k».proof.Proof.Merge.Pair
public import proofs.«01_k».proof.Proof.Gen.Conv.Frame
public import proofs.«01_k».proof.Proof.Conv.Pair
public import proofs.«01_k».proof.Proof.Gen.Attn.Frame
public import proofs.«01_k».proof.Proof.Attn.Pair
public import proofs.«01_k».proof.Proof.Gen.Kv.Frame
public import proofs.«01_k».proof.Proof.Kv.Pair
public import proofs.«01_k».proof.Proof.Gen.Norm.Frame
public import proofs.«01_k».proof.Proof.Norm.Pair
public import proofs.«01_k».proof.Proof.Gen.Mixnorm.Frame
public import proofs.«01_k».proof.Proof.Mixnorm.Pair
public import proofs.«01_k».proof.Proof.Gen.Loss.Frame
public import proofs.«01_k».proof.Proof.Loss.Pair
public import proofs.«01_k».proof.Proof.Gen.Attnf.Frame
public import proofs.«01_k».proof.Proof.Attnf.Pair
public import proofs.«01_k».proof.Proof.Gen.Convf.Frame
public import proofs.«01_k».proof.Proof.Convf.Pair
public import proofs.«01_k».proof.Proof.Gen.Mergef.Frame
public import proofs.«01_k».proof.Proof.Mergef.Pair
public import proofs.«01_k».proof.Proof.Gen.Swigluf.Frame
public import proofs.«01_k».proof.Proof.Swigluf.Pair
public import proofs.«01_k».proof.Proof.Gen.Normf.Frame
public import proofs.«01_k».proof.Proof.Normf.Pair
public import proofs.«01_k».proof.Proof.Gen.Outnorm.Frame
public import proofs.«01_k».proof.Proof.Outnorm.Pair
public import proofs.«01_k».proof.Proof.Gen.Wdown.Frame
public import proofs.«01_k».proof.Proof.Wdown.Pair
public import proofs.«01_k».proof.Proof.Gen.Wgateup.Frame
public import proofs.«01_k».proof.Proof.Wgateup.Pair
public import proofs.«01_k».proof.Proof.Gen.Hin.Frame
public import proofs.«01_k».proof.Proof.Hin.Pair
public import proofs.«01_k».proof.Proof.Gen.Hgateup.Frame
public import proofs.«01_k».proof.Proof.Hgateup.Pair
public import proofs.«01_k».proof.Proof.Gen.Adamw.Frame
public import proofs.«01_k».proof.Proof.Adamw.Pair
public import proofs.«01_k».proof.Proof.Gen.Ssum.Frame
public import proofs.«01_k».proof.Proof.Ssum.Pair
public import proofs.«01_k».proof.Proof.Gen.Pack.Frame
public import proofs.«01_k».proof.Proof.Pack.Pair

@[expose] public section

set_option maxRecDepth 16384

noncomputable section

namespace Cert.Proof

open Idealize.ShloMosaic Idealize.SL.Sem Idealize.ShloMosaic.TcCoe

/-- Every conjunct, in the order of the statement: the facts, the runs, and each pair's equal results. -/
theorem claim : Cert.Claim := ⟨
  Cert.Swiglu.Gen.facts,
  Cert.SwigluIdeal.Gen.facts,
  Cert.SwigluRefIdeal.Gen.facts,
  Cert.Merge.Gen.facts,
  Cert.MergeIdeal.Gen.facts,
  Cert.MergeRefIdeal.Gen.facts,
  Cert.Conv.Gen.facts,
  Cert.ConvIdeal.Gen.facts,
  Cert.ConvRefIdeal.Gen.facts,
  Cert.Attn.Gen.facts,
  Cert.AttnIdeal.Gen.facts,
  Cert.AttnRefIdeal.Gen.facts,
  Cert.Kv.Gen.facts,
  Cert.KvIdeal.Gen.facts,
  Cert.KvRefIdeal.Gen.facts,
  Cert.Norm.Gen.facts,
  Cert.NormIdeal.Gen.facts,
  Cert.NormRefIdeal.Gen.facts,
  Cert.Mixnorm.Gen.facts,
  Cert.MixnormIdeal.Gen.facts,
  Cert.MixnormRefIdeal.Gen.facts,
  Cert.Loss.Gen.facts,
  Cert.LossIdeal.Gen.facts,
  Cert.LossRefIdeal.Gen.facts,
  Cert.Attnf.Gen.facts,
  Cert.AttnfIdeal.Gen.facts,
  Cert.AttnfRefIdeal.Gen.facts,
  Cert.Convf.Gen.facts,
  Cert.ConvfIdeal.Gen.facts,
  Cert.ConvfRefIdeal.Gen.facts,
  Cert.Mergef.Gen.facts,
  Cert.MergefIdeal.Gen.facts,
  Cert.MergefRefIdeal.Gen.facts,
  Cert.Swigluf.Gen.facts,
  Cert.SwiglufIdeal.Gen.facts,
  Cert.SwiglufRefIdeal.Gen.facts,
  Cert.Normf.Gen.facts,
  Cert.NormfIdeal.Gen.facts,
  Cert.NormfRefIdeal.Gen.facts,
  Cert.Outnorm.Gen.facts,
  Cert.OutnormIdeal.Gen.facts,
  Cert.OutnormRefIdeal.Gen.facts,
  Cert.Wdown.Gen.facts,
  Cert.WdownIdeal.Gen.facts,
  Cert.WdownRefIdeal.Gen.facts,
  Cert.Wgateup.Gen.facts,
  Cert.WgateupIdeal.Gen.facts,
  Cert.WgateupRefIdeal.Gen.facts,
  Cert.Hin.Gen.facts,
  Cert.HinIdeal.Gen.facts,
  Cert.HinRefIdeal.Gen.facts,
  Cert.Hgateup.Gen.facts,
  Cert.HgateupIdeal.Gen.facts,
  Cert.HgateupRefIdeal.Gen.facts,
  Cert.Adamw.Gen.facts,
  Cert.AdamwIdeal.Gen.facts,
  Cert.AdamwRefIdeal.Gen.facts,
  Cert.Ssum.Gen.facts,
  Cert.SsumIdeal.Gen.facts,
  Cert.SsumRefIdeal.Gen.facts,
  Cert.Pack.Gen.facts,
  Cert.PackIdeal.Gen.facts,
  Cert.PackRefIdeal.Gen.facts,
  Cert.SwigluPair.preFacts,
  Cert.AttnPair.preFacts,
  Cert.NormPair.preFacts,
  Cert.MixnormPair.preFacts,
  Cert.LossPair.preFacts,
  Cert.AttnfPair.preFacts,
  fun m g _ => Cert.Swiglu.Gen.frame m g,
  fun m g _ => Cert.SwigluIdeal.Gen.frame m g,
  fun m g _ => Cert.SwigluIdeal.Gen.frame m g,
  fun m g _ => (θ_run _ _ _).mono (fun r h => ⟨fun c => (h c).2.2, sem_eq_zero_of_no_sems (by decide) r.2⟩) (Cert.SwigluRefIdeal.Value.run m g),
  fun m g _ => (θ_run _ _ _).mono (fun r h => ⟨fun c => (h c).2.2, sem_eq_zero_of_no_sems (by decide) r.2⟩) (Cert.SwigluRefIdeal.Value.run m g),
  fun m g _ => Cert.Merge.Gen.frame m g,
  fun m g _ => Cert.MergeIdeal.Gen.frame m g,
  fun m g _ => (θ_run _ _ _).mono (fun r h => ⟨fun c => (h c).2.2.2.2, sem_eq_zero_of_no_sems (by decide) r.2⟩) (Cert.MergeRefIdeal.Value.run m g),
  fun m g _ => Cert.Conv.Gen.frame m g,
  fun m g _ => Cert.ConvIdeal.Gen.frame m g,
  fun m g _ => (θ_run _ _ _).mono (fun r h => ⟨fun c => (h c).2.2.2.2, sem_eq_zero_of_no_sems (by decide) r.2⟩) (Cert.ConvRefIdeal.Value.run m g),
  fun m g _ => Cert.Attn.Gen.frame m g,
  fun m g _ => Cert.AttnIdeal.Gen.frame m g,
  fun m g _ => Cert.AttnIdeal.Gen.frame m g,
  fun m g _ => (θ_run _ _ _).mono (fun r h => ⟨fun c => (h c).2.2.2.2.2.2, sem_eq_zero_of_no_sems (by decide) r.2⟩) (Cert.AttnRefIdeal.Value.run m g),
  fun m g _ => (θ_run _ _ _).mono (fun r h => ⟨fun c => (h c).2.2.2.2.2.2, sem_eq_zero_of_no_sems (by decide) r.2⟩) (Cert.AttnRefIdeal.Value.run m g),
  fun m g _ => Cert.Kv.Gen.frame m g,
  fun m g _ => Cert.KvIdeal.Gen.frame m g,
  fun m g _ => (θ_run _ _ _).mono (fun r h => ⟨fun c => (h c).2, sem_eq_zero_of_no_sems (by decide) r.2⟩) (Cert.KvRefIdeal.Value.run m g),
  fun m g _ => Cert.Norm.Gen.frame m g,
  fun m g _ => Cert.NormIdeal.Gen.frame m g,
  fun m g _ => Cert.NormIdeal.Gen.frame m g,
  fun m g _ => (θ_run _ _ _).mono (fun r h => ⟨fun c => (h c).2.2.2, sem_eq_zero_of_no_sems (by decide) r.2⟩) (Cert.NormRefIdeal.Value.run m g),
  fun m g _ => (θ_run _ _ _).mono (fun r h => ⟨fun c => (h c).2.2.2, sem_eq_zero_of_no_sems (by decide) r.2⟩) (Cert.NormRefIdeal.Value.run m g),
  fun m g _ => Cert.Mixnorm.Gen.frame m g,
  fun m g _ => Cert.MixnormIdeal.Gen.frame m g,
  fun m g _ => Cert.MixnormIdeal.Gen.frame m g,
  fun m g _ => (θ_run _ _ _).mono (fun r h => ⟨fun c => (h c).2.2, sem_eq_zero_of_no_sems (by decide) r.2⟩) (Cert.MixnormRefIdeal.Value.run m g),
  fun m g _ => (θ_run _ _ _).mono (fun r h => ⟨fun c => (h c).2.2, sem_eq_zero_of_no_sems (by decide) r.2⟩) (Cert.MixnormRefIdeal.Value.run m g),
  fun m g _ => Cert.Loss.Gen.frame m g,
  fun m g _ => Cert.LossIdeal.Gen.frame m g,
  fun m g _ => Cert.LossIdeal.Gen.frame m g,
  fun m g _ => (θ_run _ _ _).mono (fun r h => ⟨fun c => (h c).2.2.2.2, sem_eq_zero_of_no_sems (by decide) r.2⟩) (Cert.LossRefIdeal.Value.run m g),
  fun m g _ => (θ_run _ _ _).mono (fun r h => ⟨fun c => (h c).2.2.2.2, sem_eq_zero_of_no_sems (by decide) r.2⟩) (Cert.LossRefIdeal.Value.run m g),
  fun m g _ => Cert.Attnf.Gen.frame m g,
  fun m g _ => Cert.AttnfIdeal.Gen.frame m g,
  fun m g _ => Cert.AttnfIdeal.Gen.frame m g,
  fun m g _ => (θ_run _ _ _).mono (fun r h => ⟨fun c => (h c).2, sem_eq_zero_of_no_sems (by decide) r.2⟩) (Cert.AttnfRefIdeal.Value.run m g),
  fun m g _ => (θ_run _ _ _).mono (fun r h => ⟨fun c => (h c).2, sem_eq_zero_of_no_sems (by decide) r.2⟩) (Cert.AttnfRefIdeal.Value.run m g),
  fun m g _ => Cert.Convf.Gen.frame m g,
  fun m g _ => Cert.ConvfIdeal.Gen.frame m g,
  fun m g _ => (θ_run _ _ _).mono (fun r h => ⟨fun c => (h c).2, sem_eq_zero_of_no_sems (by decide) r.2⟩) (Cert.ConvfRefIdeal.Value.run m g),
  fun m g _ => Cert.Mergef.Gen.frame m g,
  fun m g _ => Cert.MergefIdeal.Gen.frame m g,
  fun m g _ => (θ_run _ _ _).mono (fun r h => ⟨fun c => (h c).2.2.2, sem_eq_zero_of_no_sems (by decide) r.2⟩) (Cert.MergefRefIdeal.Value.run m g),
  fun m g _ => Cert.Swigluf.Gen.frame m g,
  fun m g _ => Cert.SwiglufIdeal.Gen.frame m g,
  fun m g _ => (θ_run _ _ _).mono (fun r h => ⟨fun c => (h c).2.2.2, sem_eq_zero_of_no_sems (by decide) r.2⟩) (Cert.SwiglufRefIdeal.Value.run m g),
  fun m g _ => Cert.Normf.Gen.frame m g,
  fun m g _ => Cert.NormfIdeal.Gen.frame m g,
  fun m g _ => (θ_run _ _ _).mono (fun r h => ⟨fun c => (h c).2, sem_eq_zero_of_no_sems (by decide) r.2⟩) (Cert.NormfRefIdeal.Value.run m g),
  fun m g _ => Cert.Outnorm.Gen.frame m g,
  fun m g _ => Cert.OutnormIdeal.Gen.frame m g,
  fun m g _ => (θ_run _ _ _).mono (fun r h => ⟨fun c => (h c).2.2, sem_eq_zero_of_no_sems (by decide) r.2⟩) (Cert.OutnormRefIdeal.Value.run m g),
  fun m g _ => Cert.Wdown.Gen.frame m g,
  fun m g _ => Cert.WdownIdeal.Gen.frame m g,
  fun m g _ => (θ_run _ _ _).mono (fun r h => ⟨fun c => (h c).2, sem_eq_zero_of_no_sems (by decide) r.2⟩) (Cert.WdownRefIdeal.Value.run m g),
  fun m g _ => Cert.Wgateup.Gen.frame m g,
  fun m g _ => Cert.WgateupIdeal.Gen.frame m g,
  fun m g _ => (θ_run _ _ _).mono (fun r h => ⟨fun c => (h c).2, sem_eq_zero_of_no_sems (by decide) r.2⟩) (Cert.WgateupRefIdeal.Value.run m g),
  fun m g _ => Cert.Hin.Gen.frame m g,
  fun m g _ => Cert.HinIdeal.Gen.frame m g,
  fun m g _ => (θ_run _ _ _).mono (fun r h => ⟨fun c => (h c).2, sem_eq_zero_of_no_sems (by decide) r.2⟩) (Cert.HinRefIdeal.Value.run m g),
  fun m g _ => Cert.Hgateup.Gen.frame m g,
  fun m g _ => Cert.HgateupIdeal.Gen.frame m g,
  fun m g _ => (θ_run _ _ _).mono (fun r h => ⟨fun c => (h c).2, sem_eq_zero_of_no_sems (by decide) r.2⟩) (Cert.HgateupRefIdeal.Value.run m g),
  fun m g _ => Cert.Adamw.Gen.frame m g,
  fun m g _ => Cert.AdamwIdeal.Gen.frame m g,
  fun m g _ => (θ_run _ _ _).mono (fun r h => ⟨fun c => (h c).2.2.2.2, sem_eq_zero_of_no_sems (by decide) r.2⟩) (Cert.AdamwRefIdeal.Value.run m g),
  fun m g _ => Cert.Ssum.Gen.frame m g,
  fun m g _ => Cert.SsumIdeal.Gen.frame m g,
  fun m g _ => (θ_run _ _ _).mono (fun r h => ⟨fun c => (h c).2, sem_eq_zero_of_no_sems (by decide) r.2⟩) (Cert.SsumRefIdeal.Value.run m g),
  fun m g _ => Cert.Pack.Gen.frame m g,
  fun m g _ => Cert.PackIdeal.Gen.frame m g,
  fun m g _ => (θ_run _ _ _).mono (fun r h => ⟨fun c => (h c).2, sem_eq_zero_of_no_sems (by decide) r.2⟩) (Cert.PackRefIdeal.Value.run m g),
  trivial,
  Cert.SwigluPair.algebraic,
  trivial,
  Cert.MergePair.algebraic,
  trivial,
  Cert.ConvPair.algebraic,
  Cert.AttnPair.preserves,
  Cert.AttnPair.algebraic,
  trivial,
  Cert.KvPair.algebraic,
  trivial,
  Cert.NormPair.algebraic,
  trivial,
  Cert.MixnormPair.algebraic,
  trivial,
  Cert.LossPair.algebraic,
  Cert.AttnfPair.preserves,
  Cert.AttnfPair.algebraic,
  trivial,
  Cert.ConvfPair.algebraic,
  trivial,
  Cert.MergefPair.algebraic,
  trivial,
  Cert.SwiglufPair.algebraic,
  trivial,
  Cert.NormfPair.algebraic,
  trivial,
  Cert.OutnormPair.algebraic,
  trivial,
  Cert.WdownPair.algebraic,
  trivial,
  Cert.WgateupPair.algebraic,
  trivial,
  Cert.HinPair.algebraic,
  trivial,
  Cert.HgateupPair.algebraic,
  trivial,
  Cert.AdamwPair.algebraic,
  trivial,
  Cert.SsumPair.algebraic,
  trivial,
  Cert.PackPair.algebraic⟩

end Cert.Proof

end
